-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "k0_k1" .f32 0x3D122279#32 ((80338380498831 / 2251799813685248 : ℝ) : EReal)
  ∧ IdealRules.named_const.Statement Cert.KernelIdeal.κ "three_k0_k1" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v243) = v1 c
          ∧ r.2.mem ((c.tc : Thread Cert.ReferenceIdeal.nD Cert.ReferenceIdeal.τ).loc Cert.ReferenceIdeal.main_v299) = v2 c
          ∧ r.2.mem ((c.tc : Thread Cert.ReferenceIdeal.nD Cert.ReferenceIdeal.τ).loc Cert.ReferenceIdeal.main_v300) = v3 c
          ∧ r.2.mem ((c.tc : Thread Cert.ReferenceIdeal.nD Cert.ReferenceIdeal.τ).loc Cert.ReferenceIdeal.main_v301) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_v302) = v6 c
          ∧ r.2.mem ((c.tc : Thread Cert.ReferenceIdeal.nD Cert.ReferenceIdeal.τ).loc Cert.ReferenceIdeal.main_v303) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v57) = v1 c
          ∧ r.2.mem ((c.tc : Thread Cert.Reference4Ideal.nD Cert.Reference4Ideal.τ).loc Cert.Reference4Ideal.main_v58) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x512x1024 : Shape := ⟨3, ![4, 512, 1024]⟩
abbrev S_ : Shape := ⟨0, ![]⟩

class Facts : Prop where
  bcast_S_S4096x1536 : S_.BroadcastsInDim S4096x1536 (![] : Fin 0 → Fin S4096x1536.rank)
  bcast_S_S4096x1024 : S_.BroadcastsInDim S4096x1024 (![] : Fin 0 → Fin S4096x1024.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S512 : S_.BroadcastsInDim S512 (![] : Fin 0 → Fin S512.rank)

variable [Facts]

def fn_part1 {F : FTy → Type} [FloatOps F] (main_arg6 : FVec F S4x128x128 .f32) (main_arg8 : FVec F S512 .f32) (main_v2 : IVec S4096x1536 1) (main_v5 : IVec S4096x1024 1) (main_v8 : IVec S4x128x128 1) (main_v11 : IVec S4x128 1) (main_v14 : IVec S512 1) (main_v17 : IVec S512 1) : IVec S4096x1536 1 × IVec S4096x1024 1 × IVec S4x128x128 1 × IVec S4x128 1 × IVec S512 1 × IVec S512 1 × IVec S4x128x128 1 × IVec S512 1 :=
  let main_v18 : FVec F S4x128x128 .f32 := Host.absf main_arg6
  let main_cst_5 : FVec F S_ .f32 := constant S_ .f32 0x7F800000#32
  let main_v19 : FVec F S4x128x128 .f32 := broadcastInDim S4x128x128 ![] bcast_S_S4x128x128 main_cst_5
  let main_v20 : IVec S4x128x128 1 := cmpf .olt main_v18 main_v19
  let main_v21 : FVec F S512 .f32 := Host.absf main_arg8
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  (main_v2, main_v5, main_v8, main_v11, main_v14, main_v17, main_v20, main_v23)

def fn {F : FTy → Type} [FloatOps F] (main_arg0 : FVec F S4096x1536 .f32) (main_arg1 : FVec F S4096x1024 .f32) (main_arg2 : FVec F S4x128x128 .f32) (main_arg3 : FVec F S4x128 .f32) (main_arg4 : FVec F S512 .f32) (main_arg5 : FVec F S512 .f32) (main_arg6 : FVec F S4x128x128 .f32) (main_arg7 : FVec F S4x128 .f32) (main_arg8 : FVec F S512 .f32) (main_arg9 : FVec F S4x512x1024 .bf16) : IVec S4096x1536 1 × IVec S4096x1024 1 × IVec S4x128x128 1 × IVec S4x128 1 × IVec S512 1 × IVec S512 1 × IVec S4x128x128 1 × IVec S512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg8 main_v2 main_v5 main_v8 main_v11 main_v14 main_v17
-- ==== Kernel.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x512x1024 : Shape := ⟨3, ![4, 512, 1024]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S4x128x1 : Shape := ⟨3, ![4, 128, 1]⟩
abbrev S512x1536 : Shape := ⟨2, ![512, 1536]⟩
abbrev S16x512 : Shape := ⟨2, ![16, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S512x1 : Shape := ⟨2, ![512, 1]⟩
abbrev S1x128x1 : Shape := ⟨3, ![1, 128, 1]⟩
abbrev S128x1 : Shape := ⟨2, ![128, 1]⟩
abbrev S128 : Shape := ⟨1, ![128]⟩
abbrev S528x512 : Shape := ⟨2, ![528, 512]⟩
abbrev S544x512 : Shape := ⟨2, ![544, 512]⟩
abbrev S544x128 : Shape := ⟨2, ![544, 128]⟩
abbrev S528x1 : Shape := ⟨2, ![528, 1]⟩
abbrev S528x128 : Shape := ⟨2, ![528, 128]⟩
abbrev S512x128 : Shape := ⟨2, ![512, 128]⟩
abbrev S1x128 : Shape := ⟨2, ![1, 128]⟩

abbrev nBuf : Space → Nat
  | .hbm => 25
  | .vmem => 28
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4x128x128, .f32⟩
  | .hbm, ⟨3, _⟩ => ⟨S4x128, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S512, .f32⟩
  | .hbm, ⟨9, _⟩ => ⟨S4x512x1024, .bf16⟩
  | .hbm, ⟨10, _⟩ => ⟨S128x4, .f32⟩
  | .hbm, ⟨11, _⟩ => ⟨S128x4x128, .f32⟩
  | .hbm, ⟨12, _⟩ => ⟨S128x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S4096x1536, .bf16⟩
  | .hbm, ⟨18, _⟩ => ⟨S4x128x128, .f32⟩
  | .hbm, ⟨19, _⟩ => ⟨S4x128x1, .f32⟩
  | .hbm, ⟨20, _⟩ => ⟨S1x512, .f32⟩
  | .hbm, ⟨21, _⟩ => ⟨S1x512, .f32⟩
  | .hbm, ⟨22, _⟩ => ⟨S4x128x128, .f32⟩
  | .hbm, ⟨23, _⟩ => ⟨S1x512, .f32⟩
  | .hbm, ⟨24, _⟩ => ⟨S1x512, .f32⟩
  | .local _ .vmem, ⟨0, _⟩ => ⟨S512x1536, .f32⟩
  | .local _ .vmem, ⟨1, _⟩ => ⟨S512x1536, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S512x1024, .f32⟩
  | .local _ .vmem, ⟨7, _⟩ => ⟨S512x1024, .f32⟩
  | .local _ .vmem, ⟨8, _⟩ => ⟨S16x512, .f32⟩
  | .local _ .vmem, ⟨9, _⟩ => ⟨S16x512, .f32⟩
  | .local _ .vmem, ⟨10, _⟩ => ⟨S4x128x128, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S1x512, .f32⟩
  | .local _ .vmem, ⟨16, _⟩ => ⟨S1x512, .f32⟩
  | .local _ .vmem, ⟨17, _⟩ => ⟨S512x1536, .bf16⟩
  | .local _ .vmem, ⟨18, _⟩ => ⟨S512x1536, .bf16⟩
  | .local _ .vmem, ⟨19, _⟩ => ⟨S4x128x128, .f32⟩
  | .local _ .vmem, ⟨20, _⟩ => ⟨S4x128x1, .f32⟩
  | .local _ .vmem, ⟨21, _⟩ => ⟨S1x512, .f32⟩
  | .local _ .vmem, ⟨22, _⟩ => ⟨S1x512, .f32⟩
  | .local _ .vmem, ⟨23, _⟩ => ⟨S4x128x128, .f32⟩
  | .local _ .vmem, ⟨24, _⟩ => ⟨S1x512, .f32⟩
  | .local _ .vmem, ⟨25, _⟩ => ⟨S1x512, .f32⟩
  | .local _ .vmem, ⟨26, _⟩ => ⟨S512x512, .f32⟩
  | .local _ .vmem, ⟨27, _⟩ => ⟨S512x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev main_v7_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "k0_k1" => some ((80338380498831 / 2251799813685248 : ℝ) : EReal)
  | "three_k0_k1" => some ((241015141496493 / 2251799813685248 : ℝ) : EReal)
  | _ => none
-- ==== ReferenceIdeal.lean ====
abbrev S4096x1536 : Shape := ⟨2, ![4096, 1536]⟩
abbrev S4096x1024 : Shape := ⟨2, ![4096, 1024]⟩
abbrev S4x128x128 : Shape := ⟨3, ![4, 128, 128]⟩
abbrev S4x128 : Shape := ⟨2, ![4, 128]⟩
abbrev S512 : Shape := ⟨1, ![512]⟩
abbrev S4x512x1024 : Shape := ⟨3, ![4, 512, 1024]⟩
abbrev S1x4096x1536 : Shape := ⟨3, ![1, 4096, 1536]⟩
abbrev S1x4096x1024 : Shape := ⟨3, ![1, 4096, 1024]⟩
abbrev S_ : Shape := ⟨0, ![]⟩
abbrev S1x4096x512 : Shape := ⟨3, ![1, 4096, 512]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4096x4x128 : Shape := ⟨4, ![1, 4096, 4, 128]⟩
abbrev S1x1x4x128 : Shape := ⟨4, ![1, 1, 4, 128]⟩
abbrev S1x4097x4x128 : Shape := ⟨4, ![1, 4097, 4, 128]⟩
abbrev S4096 : Shape := ⟨1, ![4096]⟩
abbrev S1x4097x1x128 : Shape := ⟨4, ![1, 4097, 1, 128]⟩
abbrev S1x4097x128 : Shape := ⟨3, ![1, 4097, 128]⟩
abbrev S1x1x128 : Shape := ⟨3, ![1, 1, 128]⟩
abbrev S1x4095x128 : Shape := ⟨3, ![1, 4095, 128]⟩
abbrev S1x4096x128 : Shape := ⟨3, ![1, 4096, 128]⟩
abbrev S1x3x128 : Shape := ⟨3, ![1, 3, 128]⟩
abbrev S1x4093x128 : Shape := ⟨3, ![1, 4093, 128]⟩
abbrev S1x7x128 : Shape := ⟨3, ![1, 7, 128]⟩
abbrev S1x4089x128 : Shape := ⟨3, ![1, 4089, 128]⟩
abbrev S1x15x128 : Shape := ⟨3, ![1, 15, 128]⟩
abbrev S1x4081x128 : Shape := ⟨3, ![1, 4081, 128]⟩
abbrev S1x4096x1x128 : Shape := ⟨4, ![1, 4096, 1, 128]⟩
abbrev S4x128x1x4096 : Shape := ⟨4, ![4, 128, 1, 4096]⟩
abbrev S1x512 : Shape := ⟨2, ![1, 512]⟩
abbrev S1x4x128 : Shape := ⟨3, ![1, 4, 128]⟩
abbrev S4x1x4096x128 : Shape := ⟨4, ![4, 1, 4096, 128]⟩
abbrev S1x128x4 : Shape := ⟨3, ![1, 128, 4]⟩
abbrev S4x128x1 : Shape := ⟨3, ![4, 128, 1]⟩

abbrev nBuf : Space → Nat
  | .hbm => 397
  | .vmem => 0
  | .smem => 0
  | _ => 0

abbrev hbmTy0_0 (i : Nat) : BufTy := match i % 128 with
  | 0 => ⟨S4096x1536, .f32⟩
  | 1 => ⟨S4096x1024, .f32⟩
  | 2 => ⟨S4x128x128, .f32⟩
  | 3 => ⟨S4x128, .f32⟩
  | 4 => ⟨S512, .f32⟩
  | 5 => ⟨S512, .f32⟩
  | 6 => ⟨S4x128x128, .f32⟩
  | 7 => ⟨S4x128, .f32⟩
  | 8 => ⟨S512, .f32⟩
  | 9 => ⟨S4x512x1024, .bf16⟩
  | 10 => ⟨S1x4096x1536, .f32⟩
  | 11 => ⟨S1x4096x1024, .f32⟩
  | 12 => ⟨S1x4096x1024, .f32⟩
  | 13 => ⟨S1x4096x1024, .f32⟩
  | 14 => ⟨S1x4096x1024, .f32⟩
  | 15 => ⟨S_, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S1x4096x1024, .f32⟩
  | 22 => ⟨S_, .f32⟩
  | 23 => ⟨S1x4096x1024, .f32⟩
  | 24 => ⟨S1x4096x1024, .f32⟩
  | 25 => ⟨S1x4096x1024, .f32⟩
  | 26 => ⟨S_, .f32⟩
  | 27 => ⟨S1x4096x1024, .f32⟩
  | 28 => ⟨S1x4096x1024, .f32⟩
  | 29 => ⟨S_, .f32⟩
  | 30 => ⟨S1x4096x1024, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S1x4096x1024, .f32⟩
  | 40 => ⟨S1x4096x512, .f32⟩
  | 41 => ⟨S1x4096x512, .f32⟩
  | 42 => ⟨S_, .f32⟩
  | 43 => ⟨S1x4096, .f32⟩
  | 44 => ⟨S1x4096x1, .f32⟩
  | 45 => ⟨S_, .f32⟩
  | 46 => ⟨S1x4096x1, .f32⟩
  | 47 => ⟨S1x4096x1, .f32⟩
  | 48 => ⟨S1x4096x512, .f32⟩
  | 49 => ⟨S1x4096x512, .f32⟩
  | 50 => ⟨S1x4096x512, .f32⟩
  | 51 => ⟨S_, .f32⟩
  | 52 => ⟨S1x4096x512, .f32⟩
  | 53 => ⟨S1x4096x512, .f32⟩
  | 54 => ⟨S_, .f32⟩
  | 55 => ⟨S1x4096, .f32⟩
  | 56 => ⟨S1x4096x1, .f32⟩
  | 57 => ⟨S_, .f32⟩
  | 58 => ⟨S1x4096x1, .f32⟩
  | 59 => ⟨S1x4096x1, .f32⟩
  | 60 => ⟨S1x4096x512, .f32⟩
  | 61 => ⟨S1x4096x512, .f32⟩
  | 62 => ⟨S_, .f32⟩
  | 63 => ⟨S1x4096x1, .f32⟩
  | 64 => ⟨S1x4096x1, .f32⟩
  | 65 => ⟨S1x4096x1, .f32⟩
  | 66 => ⟨S1x4096x1, .f32⟩
  | 67 => ⟨S_, .f32⟩
  | 68 => ⟨S1x4096x1, .f32⟩
  | 69 => ⟨S1x4096x1, .f32⟩
  | 70 => ⟨S1x4096x512, .f32⟩
  | 71 => ⟨S1x4096x512, .f32⟩
  | 72 => ⟨S1x1x512, .f32⟩
  | 73 => ⟨S1x4096x512, .f32⟩
  | 74 => ⟨S1x4096x512, .f32⟩
  | 75 => ⟨S1x1x512, .f32⟩
  | 76 => ⟨S1x4096x512, .f32⟩
  | 77 => ⟨S1x4096x512, .f32⟩
  | 78 => ⟨S1x32x128x4x128, .f32⟩
  | 79 => ⟨S_, .f32⟩
  | 80 => ⟨S128x128, .f32⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .f32⟩
  | 88 => ⟨S128x128, .f32⟩
  | 89 => ⟨S128x128, .f32⟩
  | 90 => ⟨S1x128x128, .f32⟩
  | 91 => ⟨S4x128x128, .f32⟩
  | 92 => ⟨S4x128x128, .f32⟩
  | 93 => ⟨S4x1x32x128x128, .f32⟩
  | 94 => ⟨S1x32x128x4x128, .f32⟩
  | 95 => ⟨S128x4, .f32⟩
  | 96 => ⟨S128x4x1, .f32⟩
  | 97 => ⟨S1x1x128x4x1, .f32⟩
  | 98 => ⟨S1x32x128x4x128, .f32⟩
  | 99 => ⟨S1x32x128x4x128, .f32⟩
  | 100 => ⟨S1x4096x512, .f32⟩
  | 101 => ⟨S1x4096x512, .f32⟩
  | 102 => ⟨S1x4096x512, .f32⟩
  | 103 => ⟨S1x4096x4x128, .f32⟩
  | 104 => ⟨S_, .f32⟩
  | 105 => ⟨S1x1x4x128, .f32⟩
  | 106 => ⟨S_, .f32⟩
  | 107 => ⟨S_, .f32⟩
  | 108 => ⟨S1x4096x4x128, .f32⟩
  | 109 => ⟨S1x4097x4x128, .f32⟩
  | 110 => ⟨S_, .f32⟩
  | 111 => ⟨S1x1x4x128, .f32⟩
  | 112 => ⟨S4096, .f32⟩
  | 113 => ⟨S1x4097x1x128, .f32⟩
  | 114 => ⟨S1x4097x128, .f32⟩
  | 115 => ⟨S_, .f32⟩
  | 116 => ⟨S1x1x128, .f32⟩
  | 117 => ⟨S1x4095x128, .f32⟩
  | 118 => ⟨S1x4096x128, .f32⟩
  | 119 => ⟨S_, .f32⟩
  | 120 => ⟨S1x1x128, .f32⟩
  | 121 => ⟨S_, .f32⟩
  | 122 => ⟨S4096, .f32⟩
  | 123 => ⟨S4096, .f32⟩
  | 124 => ⟨S_, .f32⟩
  | 125 => ⟨S4096, .f32⟩
  | 126 => ⟨S4096, .f32⟩
  | 127 => ⟨S1x4096x1, .f32⟩
  | _ => ⟨S4096x1536, .f32⟩

abbrev hbmTy0_1 (i : Nat) : BufTy := match i % 128 with
  | 0 => ⟨S1x4096x128, .f32⟩
  | 1 => ⟨S1x4096x128, .f32⟩
  | 2 => ⟨S1x4096x128, .f32⟩
  | 3 => ⟨S1x4096x128, .f32⟩
  | 4 => ⟨S1x4097x1x128, .f32⟩
  | 5 => ⟨S1x4097x128, .f32⟩
  | 6 => ⟨S_, .f32⟩
  | 7 => ⟨S1x3x128, .f32⟩
  | 8 => ⟨S1x4093x128, .f32⟩
  | 9 => ⟨S1x4096x128, .f32⟩
  | 10 => ⟨S_, .f32⟩
  | 11 => ⟨S1x3x128, .f32⟩
  | 12 => ⟨S_, .f32⟩
  | 13 => ⟨S4096, .f32⟩
  | 14 => ⟨S4096, .f32⟩
  | 15 => ⟨S_, .f32⟩
  | 16 => ⟨S4096, .f32⟩
  | 17 => ⟨S4096, .f32⟩
  | 18 => ⟨S1x4096x1, .f32⟩
  | 19 => ⟨S1x4096x128, .f32⟩
  | 20 => ⟨S1x4096x128, .f32⟩
  | 21 => ⟨S1x4096x128, .f32⟩
  | 22 => ⟨S1x4096x128, .f32⟩
  | 23 => ⟨S1x4097x1x128, .f32⟩
  | 24 => ⟨S1x4097x128, .f32⟩
  | 25 => ⟨S_, .f32⟩
  | 26 => ⟨S1x7x128, .f32⟩
  | 27 => ⟨S1x4089x128, .f32⟩
  | 28 => ⟨S1x4096x128, .f32⟩
  | 29 => ⟨S_, .f32⟩
  | 30 => ⟨S1x7x128, .f32⟩
  | 31 => ⟨S_, .f32⟩
  | 32 => ⟨S4096, .f32⟩
  | 33 => ⟨S4096, .f32⟩
  | 34 => ⟨S_, .f32⟩
  | 35 => ⟨S4096, .f32⟩
  | 36 => ⟨S4096, .f32⟩
  | 37 => ⟨S1x4096x1, .f32⟩
  | 38 => ⟨S1x4096x128, .f32⟩
  | 39 => ⟨S1x4096x128, .f32⟩
  | 40 => ⟨S1x4096x128, .f32⟩
  | 41 => ⟨S1x4096x128, .f32⟩
  | 42 => ⟨S1x4097x1x128, .f32⟩
  | 43 => ⟨S1x4097x128, .f32⟩
  | 44 => ⟨S_, .f32⟩
  | 45 => ⟨S1x15x128, .f32⟩
  | 46 => ⟨S1x4081x128, .f32⟩
  | 47 => ⟨S1x4096x128, .f32⟩
  | 48 => ⟨S_, .f32⟩
  | 49 => ⟨S1x15x128, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .f32⟩
  | 56 => ⟨S1x4096x1, .f32⟩
  | 57 => ⟨S1x4096x128, .f32⟩
  | 58 => ⟨S1x4096x128, .f32⟩
  | 59 => ⟨S1x4096x128, .f32⟩
  | 60 => ⟨S1x4096x128, .f32⟩
  | 61 => ⟨S1x4096x1x128, .f32⟩
  | 62 => ⟨S1x4096x1x128, .f32⟩
  | 63 => ⟨S1x4096x1x128, .f32⟩
  | 64 => ⟨S1x4096x1x128, .f32⟩
  | 65 => ⟨S1x4096x4x128, .f32⟩
  | 66 => ⟨S1x4096x4x128, .f32⟩
  | 67 => ⟨S4x128x1x4096, .f32⟩
  | 68 => ⟨S1x4096x4x128, .f32⟩
  | 69 => ⟨S1x1x4x128, .f32⟩
  | 70 => ⟨S1x4096x4x128, .f32⟩
  | 71 => ⟨S1x4096x4x128, .f32⟩
  | 72 => ⟨S1x4096x512, .f32⟩
  | 73 => ⟨S1x1x512, .f32⟩
  | 74 => ⟨S1x4096x512, .f32⟩
  | 75 => ⟨S1x4096x512, .f32⟩
  | 76 => ⟨S1x4096x1024, .f32⟩
  | 77 => ⟨S4096x1024, .f32⟩
  | 78 => ⟨S1x4096x1024, .f32⟩
  | 79 => ⟨S1x4096x512, .f32⟩
  | 80 => ⟨S1x4096x512, .f32⟩
  | 81 => ⟨S1x4096x512, .f32⟩
  | 82 => ⟨S_, .f32⟩
  | 83 => ⟨S1x512, .f32⟩
  | 84 => ⟨S1x1x512, .f32⟩
  | 85 => ⟨S1x4096x512, .f32⟩
  | 86 => ⟨S1x4096x512, .f32⟩
  | 87 => ⟨S_, .f32⟩
  | 88 => ⟨S512, .f32⟩
  | 89 => ⟨S1x4096x4x128, .f32⟩
  | 90 => ⟨S_, .f32⟩
  | 91 => ⟨S1x4x128, .f32⟩
  | 92 => ⟨S1x1x4x128, .f32⟩
  | 93 => ⟨S_, .f32⟩
  | 94 => ⟨S4x128, .f32⟩
  | 95 => ⟨S4x128x1x4096, .f32⟩
  | 96 => ⟨S4x1x4096x128, .f32⟩
  | 97 => ⟨S1x4096x4x128, .f32⟩
  | 98 => ⟨S4x128x128, .f32⟩
  | 99 => ⟨S4x128x128, .f32⟩
  | 100 => ⟨S1x4096x4x128, .f32⟩
  | 101 => ⟨S1x4096x1x128, .f32⟩
  | 102 => ⟨S1x4096x128, .f32⟩
  | 103 => ⟨S1x4096x1x128, .f32⟩
  | 104 => ⟨S1x4096x128, .f32⟩
  | 105 => ⟨S1x4096x1x128, .f32⟩
  | 106 => ⟨S1x4096x128, .f32⟩
  | 107 => ⟨S1x4096x1x128, .f32⟩
  | 108 => ⟨S1x4096x128, .f32⟩
  | 109 => ⟨S1x4096x128, .f32⟩
  | 110 => ⟨S1x4096x128, .f32⟩
  | 111 => ⟨S1x4096x128, .f32⟩
  | 112 => ⟨S_, .f32⟩
  | 113 => ⟨S1x4097x128, .f32⟩
  | 114 => ⟨S1x15x128, .f32⟩
  | 115 => ⟨S1x4081x128, .f32⟩
  | 116 => ⟨S_, .f32⟩
  | 117 => ⟨S1x4097x128, .f32⟩
  | 118 => ⟨S1x4097x128, .f32⟩
  | 119 => ⟨S1x4097x1x128, .f32⟩
  | 120 => ⟨S_, .f32⟩
  | 121 => ⟨S1x4097x4x128, .f32⟩
  | 122 => ⟨S1x4096x128, .f32⟩
  | 123 => ⟨S1x4096x128, .f32⟩
  | 124 => ⟨S1x4096x128, .f32⟩
  | 125 => ⟨S_, .f32⟩
  | 126 => ⟨S1x4097x128, .f32⟩
  | 127 => ⟨S1x7x128, .f32⟩
  | _ => ⟨S4096x1536, .f32⟩

abbrev hbmTy0_2 (i : Nat) : BufTy := match i % 128 with
  | 0 => ⟨S1x4089x128, .f32⟩
  | 1 => ⟨S_, .f32⟩
  | 2 => ⟨S1x4097x128, .f32⟩
  | 3 => ⟨S1x4097x128, .f32⟩
  | 4 => ⟨S1x4097x1x128, .f32⟩
  | 5 => ⟨S_, .f32⟩
  | 6 => ⟨S1x4097x4x128, .f32⟩
  | 7 => ⟨S1x4097x4x128, .f32⟩
  | 8 => ⟨S1x4096x128, .f32⟩
  | 9 => ⟨S1x4096x128, .f32⟩
  | 10 => ⟨S1x4096x128, .f32⟩
  | 11 => ⟨S_, .f32⟩
  | 12 => ⟨S1x4097x128, .f32⟩
  | 13 => ⟨S1x3x128, .f32⟩
  | 14 => ⟨S1x4093x128, .f32⟩
  | 15 => ⟨S_, .f32⟩
  | 16 => ⟨S1x4097x128, .f32⟩
  | 17 => ⟨S1x4097x128, .f32⟩
  | 18 => ⟨S1x4097x1x128, .f32⟩
  | 19 => ⟨S_, .f32⟩
  | 20 => ⟨S1x4097x4x128, .f32⟩
  | 21 => ⟨S1x4097x4x128, .f32⟩
  | 22 => ⟨S1x4096x128, .f32⟩
  | 23 => ⟨S1x4096x128, .f32⟩
  | 24 => ⟨S1x4096x128, .f32⟩
  | 25 => ⟨S_, .f32⟩
  | 26 => ⟨S1x4097x128, .f32⟩
  | 27 => ⟨S1x1x128, .f32⟩
  | 28 => ⟨S1x4095x128, .f32⟩
  | 29 => ⟨S_, .f32⟩
  | 30 => ⟨S1x4097x128, .f32⟩
  | 31 => ⟨S1x4097x128, .f32⟩
  | 32 => ⟨S1x4097x1x128, .f32⟩
  | 33 => ⟨S_, .f32⟩
  | 34 => ⟨S1x4097x4x128, .f32⟩
  | 35 => ⟨S1x4097x4x128, .f32⟩
  | 36 => ⟨S1x1x4x128, .f32⟩
  | 37 => ⟨S1x4096x4x128, .f32⟩
  | 38 => ⟨S_, .f32⟩
  | 39 => ⟨S_, .f32⟩
  | 40 => ⟨S1x4096x4x128, .f32⟩
  | 41 => ⟨S1x4096x4x128, .f32⟩
  | 42 => ⟨S1x4096x512, .f32⟩
  | 43 => ⟨S_, .f32⟩
  | 44 => ⟨S1x4096x1536, .f32⟩
  | 45 => ⟨S1x4096x512, .f32⟩
  | 46 => ⟨S1x4096x512, .f32⟩
  | 47 => ⟨S1x32x128x4x128, .f32⟩
  | 48 => ⟨S_, .f32⟩
  | 49 => ⟨S1x128x4, .f32⟩
  | 50 => ⟨S1x1x128x4x1, .f32⟩
  | 51 => ⟨S_, .f32⟩
  | 52 => ⟨S128x4, .f32⟩
  | 53 => ⟨S128x4x1, .f32⟩
  | 54 => ⟨S_, .f32⟩
  | 55 => ⟨S128x4, .f32⟩
  | 56 => ⟨S4x128, .f32⟩
  | 57 => ⟨S4x1x32x128x128, .f32⟩
  | 58 => ⟨S4x128x128, .f32⟩
  | 59 => ⟨S4x1x32x128x128, .f32⟩
  | 60 => ⟨S1x32x128x4x128, .f32⟩
  | 61 => ⟨S4x128x128, .f32⟩
  | 62 => ⟨S4x128x128, .f32⟩
  | 63 => ⟨S1x4096x512, .f32⟩
  | 64 => ⟨S_, .f32⟩
  | 65 => ⟨S1x512, .f32⟩
  | 66 => ⟨S1x1x512, .f32⟩
  | 67 => ⟨S_, .f32⟩
  | 68 => ⟨S512, .f32⟩
  | 69 => ⟨S1x4096x512, .f32⟩
  | 70 => ⟨S_, .f32⟩
  | 71 => ⟨S1x512, .f32⟩
  | 72 => ⟨S1x1x512, .f32⟩
  | 73 => ⟨S1x4096x512, .f32⟩
  | 74 => ⟨S1x4096x512, .f32⟩
  | 75 => ⟨S_, .f32⟩
  | 76 => ⟨S512, .f32⟩
  | 77 => ⟨S1x4096x512, .f32⟩
  | 78 => ⟨S_, .f32⟩
  | 79 => ⟨S1x4096, .f32⟩
  | 80 => ⟨S1x4096x1, .f32⟩
  | 81 => ⟨S1x4096x512, .f32⟩
  | 82 => ⟨S1x4096x512, .f32⟩
  | 83 => ⟨S1x4096x1, .f32⟩
  | 84 => ⟨S1x4096x512, .f32⟩
  | 85 => ⟨S_, .f32⟩
  | 86 => ⟨S1x4096, .f32⟩
  | 87 => ⟨S1x4096x1, .f32⟩
  | 88 => ⟨S_, .f32⟩
  | 89 => ⟨S1x4096x1, .f32⟩
  | 90 => ⟨S1x4096x1, .f32⟩
  | 91 => ⟨S_, .f32⟩
  | 92 => ⟨S4096, .f32⟩
  | 93 => ⟨S1x4096, .f32⟩
  | 94 => ⟨S1x4096x512, .f32⟩
  | 95 => ⟨S1x4096x512, .f32⟩
  | 96 => ⟨S1x4096x512, .f32⟩
  | 97 => ⟨S_, .f32⟩
  | 98 => ⟨S1x4096, .f32⟩
  | 99 => ⟨S1x4096x1, .f32⟩
  | 100 => ⟨S1x4096x512, .f32⟩
  | 101 => ⟨S1x4096x1, .f32⟩
  | 102 => ⟨S_, .f32⟩
  | 103 => ⟨S1x4096x1, .f32⟩
  | 104 => ⟨S1x4096x1, .f32⟩
  | 105 => ⟨S_, .f32⟩
  | 106 => ⟨S4096, .f32⟩
  | 107 => ⟨S1x4096, .f32⟩
  | 108 => ⟨S1x4096x512, .f32⟩
  | 109 => ⟨S1x4096x512, .f32⟩
  | 110 => ⟨S_, .f32⟩
  | 111 => ⟨S1x4096x1024, .f32⟩
  | 112 => ⟨S_, .f32⟩
  | 113 => ⟨S1x4096x1024, .f32⟩
  | 114 => ⟨S1x4096x1024, .f32⟩
  | 115 => ⟨S1x4096x1024, .f32⟩
  | 116 => ⟨S1x4096x1024, .f32⟩
  | 117 => ⟨S_, .f32⟩
  | 118 => ⟨S1x4096x1024, .f32⟩
  | 119 => ⟨S1x4096x1024, .f32⟩
  | 120 => ⟨S1x4096x1024, .f32⟩
  | 121 => ⟨S_, .f32⟩
  | 122 => ⟨S1x4096x1024, .f32⟩
  | 123 => ⟨S1x4096x1024, .f32⟩
  | 124 => ⟨S1x4096x1024, .f32⟩
  | 125 => ⟨S_, .f32⟩
  | 126 => ⟨S1x4096x1024, .f32⟩
  | 127 => ⟨S1x4096x1024, .f32⟩
  | _ => ⟨S4096x1536, .f32⟩

abbrev hbmTy0_3 (i : Nat) : BufTy := match i % 128 with
  | 0 => ⟨S1x4096x1024, .f32⟩
  | 1 => ⟨S1x4096x1024, .f32⟩
  | 2 => ⟨S_, .f32⟩
  | 3 => ⟨S1x4096x1536, .f32⟩
  | 4 => ⟨S1x4096x1536, .f32⟩
  | 5 => ⟨S_, .f32⟩
  | 6 => ⟨S4096x1536, .f32⟩
  | 7 => ⟨S4096x1536, .bf16⟩
  | 8 => ⟨S4x128x1, .f32⟩
  | 9 => ⟨S1x512, .f32⟩
  | 10 => ⟨S1x512, .f32⟩
  | 11 => ⟨S1x512, .f32⟩
  | 12 => ⟨S1x512, .f32⟩
  | _ => ⟨S4096x1536, .f32⟩

abbrev hbmTy (i : Nat) : BufTy := match i / 128 with
  | 0 => hbmTy0_0 i
  | 1 => hbmTy0_1 i
  | 2 => hbmTy0_2 i
  | 3 => hbmTy0_3 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_cst : Ref sig .tc := ⟨.hbm, 87, rfl⟩
abbrev main_call0_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_call1_call0_cst : Ref sig .tc := ⟨.hbm, 106, rfl⟩
abbrev main_call1_call0_v0 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_cst_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_24 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_28 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_29 : Ref sig .tc := ⟨.hbm, 176, rfl⟩
abbrev main_v126 : Ref sig .tc := ⟨.hbm, 177, rfl⟩
abbrev main_cst_30 : Ref sig .tc := ⟨.hbm, 178, rfl⟩
abbrev main_v127 : Ref sig .tc := ⟨.hbm, 179, rfl⟩
abbrev main_v128 : Ref sig .tc := ⟨.hbm, 180, rfl⟩
abbrev main_cst_31 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_32 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_33 : Ref sig .tc := ⟨.hbm, 215, rfl⟩
abbrev main_v161 : Ref sig .tc := ⟨.hbm, 216, rfl⟩
abbrev main_v162 : Ref sig .tc := ⟨.hbm, 217, rfl⟩
abbrev main_cst_34 : Ref sig .tc := ⟨.hbm, 218, rfl⟩
abbrev main_v163 : Ref sig .tc := ⟨.hbm, 219, rfl⟩
abbrev main_v164 : Ref sig .tc := ⟨.hbm, 220, rfl⟩
abbrev main_cst_35 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_cst_36 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_cst_37 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_38 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_39 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_40 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_41 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_cst_42 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_cst_43 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_cst_44 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_cst_45 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_cst_46 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_cst_47 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_call2_call0_cst : Ref sig .tc := ⟨.hbm, 294, rfl⟩
abbrev main_call2_call0_v0 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_cst_48 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_cst_49 : Ref sig .tc := ⟨.hbm, 304, rfl⟩
abbrev main_v232 : Ref sig .tc := ⟨.hbm, 305, rfl⟩
abbrev main_v233 : Ref sig .tc := ⟨.hbm, 306, rfl⟩
abbrev main_cst_50 : Ref sig .tc := ⟨.hbm, 307, rfl⟩
abbrev main_v234 : Ref sig .tc := ⟨.hbm, 308, rfl⟩
abbrev main_v235 : Ref sig .tc := ⟨.hbm, 309, rfl⟩
abbrev main_cst_51 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_v240 : Ref sig .tc := ⟨.hbm, 315, rfl⟩
abbrev main_v241 : Ref sig .tc := ⟨.hbm, 316, rfl⟩
abbrev main_v242 : Ref sig .tc := ⟨.hbm, 317, rfl⟩
abbrev main_v243 : Ref sig .tc := ⟨.hbm, 318, rfl⟩
abbrev main_v244 : Ref sig .tc := ⟨.hbm, 319, rfl⟩
abbrev main_cst_52 : Ref sig .tc := ⟨.hbm, 320, rfl⟩
abbrev main_v245 : Ref sig .tc := ⟨.hbm, 321, rfl⟩
abbrev main_v246 : Ref sig .tc := ⟨.hbm, 322, rfl⟩
abbrev main_cst_53 : Ref sig .tc := ⟨.hbm, 323, rfl⟩
abbrev main_v247 : Ref sig .tc := ⟨.hbm, 324, rfl⟩
abbrev main_v248 : Ref sig .tc := ⟨.hbm, 325, rfl⟩
abbrev main_cst_54 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_cst_55 : Ref sig .tc := ⟨.hbm, 331, rfl⟩
abbrev main_v253 : Ref sig .tc := ⟨.hbm, 332, rfl⟩
abbrev main_v254 : Ref sig .tc := ⟨.hbm, 333, rfl⟩
abbrev main_cst_56 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_cst_57 : Ref sig .tc := ⟨.hbm, 341, rfl⟩
abbrev main_v261 : Ref sig .tc := ⟨.hbm, 342, rfl⟩
abbrev main_v262 : Ref sig .tc := ⟨.hbm, 343, rfl⟩
abbrev main_cst_58 : Ref sig .tc := ⟨.hbm, 344, rfl⟩
abbrev main_v263 : Ref sig .tc := ⟨.hbm, 345, rfl⟩
abbrev main_v264 : Ref sig .tc := ⟨.hbm, 346, rfl⟩
abbrev main_cst_59 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_cst_60 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_cst_61 : Ref sig .tc := ⟨.hbm, 358, rfl⟩
abbrev main_v274 : Ref sig .tc := ⟨.hbm, 359, rfl⟩
abbrev main_v275 : Ref sig .tc := ⟨.hbm, 360, rfl⟩
abbrev main_cst_62 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩
abbrev main_v279 : Ref sig .tc := ⟨.hbm, 365, rfl⟩
abbrev main_cst_63 : Ref sig .tc := ⟨.hbm, 366, rfl⟩
abbrev main_v280 : Ref sig .tc := ⟨.hbm, 367, rfl⟩
abbrev main_cst_64 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_cst_65 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_cst_66 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_cst_67 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_cst_68 : Ref sig .tc := ⟨.hbm, 386, rfl⟩
abbrev main_v295 : Ref sig .tc := ⟨.hbm, 387, rfl⟩
abbrev main_v296 : Ref sig .tc := ⟨.hbm, 388, rfl⟩
abbrev main_cst_69 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S4x2x512x1024 : Shape := ⟨4, ![4, 2, 512, 1024]⟩
abbrev S512x1024 : Shape := ⟨2, ![512, 1024]⟩
abbrev S512x4096 : Shape := ⟨2, ![512, 4096]⟩
abbrev S4 : Shape := ⟨1, ![4]⟩
abbrev S1x2x512x1024 : Shape := ⟨4, ![1, 2, 512, 1024]⟩
abbrev S2x512x1024 : Shape := ⟨3, ![2, 512, 1024]⟩
abbrev S1024x1024 : Shape := ⟨2, ![1024, 1024]⟩
abbrev S1 : Shape := ⟨1, ![1]⟩
abbrev S1x1024x1024 : Shape := ⟨3, ![1, 1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4x1024x1024, .f32⟩
  | .hbm, ⟨9, _⟩ => ⟨S4x1024x1024, .bf16⟩
  | .hbm, ⟨10, _⟩ => ⟨S4096x4096, .bf16⟩
  | .hbm, ⟨11, _⟩ => ⟨S4x2x512x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x4096, .bf16⟩
  | .local _ .vmem, ⟨6, _⟩ => ⟨S512x4096, .bf16⟩
  | .local _ .vmem, ⟨7, _⟩ => ⟨S4x2x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S4x2x512x1024 : Shape := ⟨4, ![4, 2, 512, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S1024x4096, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4x2x512x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S6x1024 : Shape := ⟨2, ![6, 1024]⟩
abbrev S1024 : Shape := ⟨1, ![1024]⟩
abbrev S1x1024 : Shape := ⟨2, ![1, 1024]⟩
abbrev S4x1024x1024 : Shape := ⟨3, ![4, 1024, 1024]⟩
abbrev S1x1 : Shape := ⟨2, ![1, 1]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1 : Shape := ⟨1, ![1]⟩

abbrev nBuf : Space → Nat
  | .hbm => 13
  | .vmem => 15
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4x1024x1024, .f32⟩
  | .hbm, ⟨8, _⟩ => ⟨S4x1024x1024, .bf16⟩
  | .hbm, ⟨9, _⟩ => ⟨S4096x1024, .f32⟩
  | .hbm, ⟨10, _⟩ => ⟨S4096x1024, .bf16⟩
  | .hbm, ⟨11, _⟩ => ⟨S1x1, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S1x1024, .f32⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1, .f32⟩
  | .local _ .vmem, ⟨14, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x4096 : Shape := ⟨2, ![4096, 4096]⟩
abbrev S4096x1024 : Shape := ⟨2, ![4096, 1024]⟩
abbrev S6x1024 : Shape := ⟨2, ![6, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S6x1024, .f32⟩
  | .hbm, ⟨4, _⟩ => ⟨S1024, .f32⟩
  | .hbm, ⟨5, _⟩ => ⟨S4096x1024, .f32⟩
  | .hbm, ⟨6, _⟩ => ⟨S4096x4096, .f32⟩
  | .hbm, ⟨7, _⟩ => ⟨S4096x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S1x1, .f32⟩
  | .hbm, ⟨82, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_cst_8 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.Arr.lean ====
/- Arrays of extended reals that hold real numbers. `Re2 v f` says that the rank-two array `v` holds the real number
   `f row column` at every index; each operation the kernel's body uses maps such arrays to such arrays, and its lemma
   says which real function results. A proof about the body then composes these lemmas along the printed term. -/
module

public import Idealize.ShloMosaic.PureOps.Ideal.Laws
public import Idealize.ShloMosaic.Lib.ValueIdx
public import Idealize.ShloMosaic.Lib.Pipeline.Value
public import Idealize.ShloMosaic.Lib.KernelVsHost
public import Idealize.ShloMosaic.Lib.IdealHost

@[expose] public section

noncomputable section

namespace Cert.Arr

open Idealize.ShloMosaic Idealize.ShloMosaic.ValueIdx
open scoped BigOperators

/-- The rank-two array `v` holds the real numbers `f row column`. -/
def Re2 {n m : ℕ} {φ : FTy} (v : FVec Ideal ⟨2, ![n, m]⟩ φ) (f : ℕ → ℕ → ℝ) : Prop :=
  ∀ i : (⟨2, ![n, m]⟩ : Shape).Idx, v i = ((f (i 0).val (i 1).val : ℝ) : EReal)

/-- The rank-three array `v` holds the real numbers `f plane row column`. -/
def Re3 {n m k : ℕ} {φ : FTy} (v : FVec Ideal ⟨3, ![n, m, k]⟩ φ) (f : ℕ → ℕ → ℕ → ℝ) : Prop :=
  ∀ i : (⟨3, ![n, m, k]⟩ : Shape).Idx, v i = ((f (i 0).val (i 1).val (i 2).val : ℝ) : EReal)

/-- The scalar `x` is the real number `r`. -/
def Re0 {φ : FTy} (x : Ideal φ) (r : ℝ) : Prop := x = ((r : ℝ) : EReal)

/-- The rank-two array `v` holds the values `f row column`, of any type. -/
def At2 {n m : ℕ} {α : Type} (v : (⟨2, ![n, m]⟩ : Shape).Idx → α) (f : ℕ → ℕ → α) : Prop :=
  ∀ i : (⟨2, ![n, m]⟩ : Shape).Idx, v i = f (i 0).val (i 1).val

section Scalars

theorem coe_div (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem coe_rsqrt (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 hx.le), if_neg hx.ne']

theorem coe_tanh (x : ℝ) : Ideal.tanh (x : EReal) = ((Real.tanh x : ℝ) : EReal) := rfl

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem coe_sum_fin {n : ℕ} (f : ℕ → ℝ) : (∑ k : Fin n, ((f k.val : ℝ) : EReal)) = ((∑ k ∈ Finset.range n, f k : ℝ) : EReal) := by
  rw [coe_sum, Fin.sum_univ_eq_sum_range (fun k => f k)]

end Scalars

namespace Re2

variable {n m k n' m' : ℕ} {φ ψ : FTy}

theorem congr {v : FVec Ideal ⟨2, ![n, m]⟩ φ} {f g : ℕ → ℕ → ℝ} (h : Re2 v f) (e : ∀ r c, r < n → c < m → f r c = g r c) : Re2 v g :=
  fun i => (h i).trans (by rw [e _ _ (idx2_lt0 i) (idx2_lt1 i)])

theorem add {a b : FVec Ideal ⟨2, ![n, m]⟩ φ} {f g : ℕ → ℕ → ℝ} (ha : Re2 a f) (hb : Re2 b g) :
    Re2 (addf a b) fun r c => f r c + g r c := fun i => by
  rw [addf_apply, ha i, hb i, EReal.coe_add]

theorem sub {a b : FVec Ideal ⟨2, ![n, m]⟩ φ} {f g : ℕ → ℕ → ℝ} (ha : Re2 a f) (hb : Re2 b g) :
    Re2 (subf a b) fun r c => f r c - g r c := fun i => by
  rw [subf_apply, ha i, hb i, EReal.coe_sub]

theorem mul {a b : FVec Ideal ⟨2, ![n, m]⟩ φ} {f g : ℕ → ℕ → ℝ} (ha : Re2 a f) (hb : Re2 b g) :
    Re2 (mulf a b) fun r c => f r c * g r c := fun i => by
  rw [mulf_apply, ha i, hb i, EReal.coe_mul]

theorem div {a b : FVec Ideal ⟨2, ![n, m]⟩ φ} {f g : ℕ → ℕ → ℝ} (ha : Re2 a f) (hb : Re2 b g)
    (h0 : ∀ r c, r < n → c < m → g r c ≠ 0) : Re2 (divf a b) fun r c => f r c / g r c := fun i => by
  rw [divf_apply, ha i, hb i, coe_div _ _ (h0 _ _ (idx2_lt0 i) (idx2_lt1 i))]

theorem min {a b : FVec Ideal ⟨2, ![n, m]⟩ φ} {f g : ℕ → ℕ → ℝ} (ha : Re2 a f) (hb : Re2 b g) :
    Re2 (minimumf a b) fun r c => Min.min (f r c) (g r c) := fun i => by
  rw [minimumf_apply, ha i, hb i]
  exact (EReal.coe_strictMono.monotone.map_min).symm

theorem tanh {a : FVec Ideal ⟨2, ![n, m]⟩ φ} {f : ℕ → ℕ → ℝ} (ha : Re2 a f) :
    Re2 (Idealize.ShloMosaic.tanh a) fun r c => Real.tanh (f r c) := fun i => by
  show Ideal.tanh (a i) = _
  rw [ha i]; rfl

theorem rsqrt {a : FVec Ideal ⟨2, ![n, m]⟩ φ} {f : ℕ → ℕ → ℝ} (ha : Re2 a f) (h0 : ∀ r c, r < n → c < m → 0 < f r c) :
    Re2 (Idealize.ShloMosaic.rsqrt a) fun r c => (Real.sqrt (f r c))⁻¹ := fun i => by
  show Ideal.rsqrt (a i) = _
  rw [ha i, coe_rsqrt _ (h0 _ _ (idx2_lt0 i) (idx2_lt1 i))]

theorem trunc {a : FVec Ideal ⟨2, ![n, m]⟩ φ} {f : ℕ → ℕ → ℝ} (ha : Re2 a f) (h : ψ.bits < φ.bits) :
    Re2 (truncf ψ a h) f := fun i => (truncf_apply a h i).trans (ha i)

theorem splat {x : Ideal φ} {r : ℝ} (hx : Re0 x r) : Re2 (broadcast ⟨2, ![n, m]⟩ x) fun _ _ => r := fun _ => hx

/-- A slice reads the operand at the offsets. -/
theorem slice {a : FVec Ideal ⟨2, ![n, m]⟩ φ} {f : ℕ → ℕ → ℝ} (ha : Re2 a f) (o p : ℕ) (h : Shape.Slices ⟨2, ![n, m]⟩ ![o, p] ⟨2, ![n', m']⟩) :
    Re2 (extractStridedSlice ⟨2, ![n', m']⟩ ![o, p] a h) fun r c => f (o + r) (p + c) := fun j => by
  have h0 : o + n' ≤ n := h.2 0
  have h1 : p + m' ≤ m := h.2 1
  have j0 := idx2_lt0 j
  have j1 := idx2_lt1 j
  rw [extractStridedSlice_apply ![o, p] a h j (ix2 ⟨o + (j 0).val, by omega⟩ ⟨p + (j 1).val, by omega⟩)
    (fun x => by match x with | ⟨0, _⟩ => rfl | ⟨1, _⟩ => rfl)]
  exact ha _

/-- A row spread over `n` rows. -/
theorem ofRow {a : FVec Ideal ⟨2, ![1, m]⟩ φ} {f : ℕ → ℕ → ℝ} (ha : Re2 a f) (h : Shape.Broadcasts ⟨2, ![1, m]⟩ ⟨2, ![n, m]⟩) :
    Re2 (broadcastTo ⟨2, ![n, m]⟩ a h) fun _ c => f 0 c := fun j => by
  have j1 := idx2_lt1 j
  rw [broadcastTo_apply a h j (ix2 ⟨0, Nat.one_pos⟩ (j 1)) (fun x => by
    match x with
    | ⟨0, _⟩ => rfl
    | ⟨1, _⟩ =>
      show (j 1).val = if m = 1 then 0 else (j 1).val
      split <;> omega)]
  exact ha _

/-- A column spread over `m` columns. -/
theorem ofCol {a : FVec Ideal ⟨2, ![n, 1]⟩ φ} {f : ℕ → ℕ → ℝ} (ha : Re2 a f) (h : Shape.Broadcasts ⟨2, ![n, 1]⟩ ⟨2, ![n, m]⟩) :
    Re2 (broadcastTo ⟨2, ![n, m]⟩ a h) fun r _ => f r 0 := fun j => by
  have j0 := idx2_lt0 j
  rw [broadcastTo_apply a h j (ix2 (j 0) ⟨0, Nat.one_pos⟩) (fun x => by
    match x with
    | ⟨0, _⟩ =>
      show (j 0).val = if n = 1 then 0 else (j 0).val
      split <;> omega
    | ⟨1, _⟩ => rfl)]
  exact ha _

/-- A shape cast to the same shape. -/
theorem cast {a : FVec Ideal ⟨2, ![n, m]⟩ φ} {f : ℕ → ℕ → ℝ} (ha : Re2 a f) (h : Shape.ShapeCasts ⟨2, ![n, m]⟩ ⟨2, ![n, m]⟩) :
    Re2 (shapeCast ⟨2, ![n, m]⟩ a h) f := by
  rw [shapeCast_self]; exact ha

/-- The sums along the rows, kept as a column. -/
theorem rowSum {a : FVec Ideal ⟨2, ![n, m]⟩ φ} {f : ℕ → ℕ → ℝ} (ha : Re2 a f) (acc : BitVec φ.bits)
    (h : Shape.Reduces ⟨2, ![n, m]⟩ [1] ⟨1, ![n]⟩) (hφ : FKind.Formats φ) (hacc : acc = FKind.add.neutral φ hφ)
    (hc : Shape.ShapeCasts ⟨1, ![n]⟩ ⟨2, ![n, 1]⟩) :
    Re2 (shapeCast ⟨2, ![n, 1]⟩ (multiReduction .add [1] ⟨1, ![n]⟩ a acc h hφ hacc) hc) fun r _ => ∑ c ∈ Finset.range m, f r c := fun j => by
  rw [shapeCast_apply _ hc j (ix1 (j 0)) (by
    have j1 := idx2_lt1 j
    rw [Shape.rowMajor_val_one, Shape.rowMajor_val_two]
    show (j 0).val = (j 0).val * 1 + (j 1).val
    omega)]
  rw [Ideal.multiReduction_add_single]
  have e : ∀ q : Fin m, a (h.lift (ix1 (j 0)) q) = ((f (j 0).val q.val : ℝ) : EReal) := fun q => by
    rw [ha]
    have e0 : (h.lift (ix1 (j 0)) q 0).val = (j 0).val := rfl
    have e1 : (h.lift (ix1 (j 0)) q 1).val = q.val := rfl
    rw [e0, e1]
  exact (Finset.sum_congr rfl fun q _ => e q).trans (coe_sum_fin fun q => f (j 0).val q)

/-- The sums along the columns, kept as a row. -/
theorem colSum {a : FVec Ideal ⟨2, ![n, m]⟩ φ} {f : ℕ → ℕ → ℝ} (ha : Re2 a f) (acc : BitVec φ.bits)
    (h : Shape.Reduces ⟨2, ![n, m]⟩ [0] ⟨1, ![m]⟩) (hφ : FKind.Formats φ) (hacc : acc = FKind.add.neutral φ hφ)
    (hc : Shape.ShapeCasts ⟨1, ![m]⟩ ⟨2, ![1, m]⟩) :
    Re2 (shapeCast ⟨2, ![1, m]⟩ (multiReduction .add [0] ⟨1, ![m]⟩ a acc h hφ hacc) hc) fun _ c => ∑ r ∈ Finset.range n, f r c := fun j => by
  rw [shapeCast_apply _ hc j (ix1 (j 1)) (by
    have j0 := idx2_lt0 j
    rw [Shape.rowMajor_val_one, Shape.rowMajor_val_two]
    show (j 1).val = (j 0).val * m + (j 1).val
    have : (j 0).val = 0 := by omega
    rw [this]; omega)]
  rw [Ideal.multiReduction_add_single]
  have e : ∀ q : Fin n, a (h.lift (ix1 (j 1)) q) = ((f q.val (j 1).val : ℝ) : EReal) := fun q => by
    rw [ha]
    have e0 : (h.lift (ix1 (j 1)) q 0).val = q.val := rfl
    have e1 : (h.lift (ix1 (j 1)) q 1).val = (j 1).val := rfl
    rw [e0, e1]
  exact (Finset.sum_congr rfl fun q _ => e q).trans (coe_sum_fin fun q => f q (j 1).val)

/-- Two blocks of rows, one above the other. -/
theorem cat {n₁ n₂ : ℕ} {a : FVec Ideal ⟨2, ![n₁, m]⟩ φ} {b : FVec Ideal ⟨2, ![n₂, m]⟩ φ} {f g : ℕ → ℕ → ℝ} (ha : Re2 a f) (hb : Re2 b g)
    (h : Shape.Concatenates [(⟨2, ![n₁, m]⟩ : Shape), ⟨2, ![n₂, m]⟩] ⟨2, ![n, m]⟩ 0) :
    Re2 (concatenate ⟨2, ![n, m]⟩ 0 [⟨⟨2, ![n₁, m]⟩, a⟩, ⟨⟨2, ![n₂, m]⟩, b⟩] h) fun r c => if r < n₁ then f r c else g (r - n₁) c := fun j => by
  have j0 := idx2_lt0 j
  have hs : n₁ + n₂ = n := by simpa [Shape.Concatenates] using h.2.2
  by_cases hr : (j 0).val < n₁
  · rw [concatenate_pair_apply_left 0 a b h j rfl (ix2 ⟨(j 0).val, hr⟩ (j 1)) (fun x => by
      match x with | ⟨0, _⟩ => rfl | ⟨1, _⟩ => rfl), ha]
    show ((f (j 0).val (j 1).val : ℝ) : EReal) = _
    beta_reduce; rw [if_pos hr]
  · rw [concatenate_pair_apply_right 0 a b h j rfl rfl (ix2 ⟨(j 0).val - n₁, by omega⟩ (j 1)) (fun x hx => by
      match x with | ⟨0, _⟩ => exact absurd rfl hx | ⟨1, _⟩ => rfl) (by
      show (j 0).val - n₁ + n₁ = (j 0).val
      omega), hb]
    show ((g ((j 0).val - n₁) (j 1).val : ℝ) : EReal) = _
    beta_reduce; rw [if_neg hr]

/-- A rotation of the rows by `s`. -/
theorem rot {a : FVec Ideal ⟨2, ![n, m]⟩ φ} {f : ℕ → ℕ → ℝ} (ha : Re2 a f) (sb : BitVec 32) (s : ℕ) (hs : sb.toNat % n = s)
    (h : Shape.Rotates ⟨2, ![n, m]⟩ 0 none) :
    Re2 (dynamicRotate 0 sb none a h) fun r c => f ((r + n - s) % n) c := fun j => by
  unfold dynamicRotate
  rw [ha]
  show ((f (((j 0).val + n - (sb.toNat + 0) % n) % n) (j 1).val : ℝ) : EReal) = _
  rw [Nat.add_zero, hs]

end Re2

/-- The two matrix products and the transposed ones, read at an index, for any dimension numbers that contract one axis. -/
theorem Re2.dot {n m K n₁ m₁ n₂ m₂ : ℕ} {φ ψ : FTy} {a : FVec Ideal ⟨2, ![n₁, m₁]⟩ φ} {b : FVec Ideal ⟨2, ![n₂, m₂]⟩ ψ}
    {f g : ℕ → ℕ → ℝ} (ha : Re2 a f) (hb : Re2 b g) (D : DotDims ⟨2, ![n₁, m₁]⟩ ⟨2, ![n₂, m₂]⟩ ⟨2, ![n, m]⟩) (prec : Option ContractPrecision)
    (hr : D.contr.rank = 1) (hs : D.contr.size ⟨0, by omega⟩ = K) (F G : ℕ → ℕ → ℕ → ℝ)
    (hl : ∀ (j : (⟨2, ![n, m]⟩ : Shape).Idx) (k : D.contr.Idx), f (D.lhsIdx j k 0).val (D.lhsIdx j k 1).val = F (j 0).val (j 1).val (k ⟨0, by omega⟩).val)
    (hg : ∀ (j : (⟨2, ![n, m]⟩ : Shape).Idx) (k : D.contr.Idx), g (D.rhsIdx j k 0).val (D.rhsIdx j k 1).val = G (j 0).val (j 1).val (k ⟨0, by omega⟩).val) :
    Re2 (matmul D prec a b (constant ⟨2, ![n, m]⟩ .f32 0x00000000#32)) fun r c => ∑ k ∈ Finset.range K, F r c k * G r c k := fun j => by
  show FloatOps.matmul D prec a b (constant ⟨2, ![n, m]⟩ .f32 0x00000000#32) j = _
  rw [Ideal.matmul_constant_zero_apply, ← Equiv.sum_comp (contrEquiv1 D K hr hs).symm]
  have e : ∀ q : Fin K, a (D.lhsIdx j ((contrEquiv1 D K hr hs).symm q)) * b (D.rhsIdx j ((contrEquiv1 D K hr hs).symm q))
      = ((F (j 0).val (j 1).val q.val * G (j 0).val (j 1).val q.val : ℝ) : EReal) := fun q => by
    rw [ha, hb, hl, hg, contrEquiv1_symm_val, EReal.coe_mul]
  exact (Finset.sum_congr rfl fun q _ => e q).trans (coe_sum_fin fun q => F (j 0).val (j 1).val q * G (j 0).val (j 1).val q)

/-- A one-plane block seen as a matrix. -/
theorem Re3.drop {n m : ℕ} {φ : FTy} {a : FVec Ideal ⟨3, ![1, n, m]⟩ φ} {f : ℕ → ℕ → ℕ → ℝ} (ha : Re3 a f)
    (h : Shape.ShapeCasts ⟨3, ![1, n, m]⟩ ⟨2, ![n, m]⟩) : Re2 (shapeCast ⟨2, ![n, m]⟩ a h) (f 0) := fun j => by
  rw [shapeCast_dropUnit_apply ![n, m] a h j]
  exact ha _

/-- A matrix seen as a one-plane block. -/
theorem Re2.lift {n m : ℕ} {φ : FTy} {a : FVec Ideal ⟨2, ![n, m]⟩ φ} {f : ℕ → ℕ → ℝ} (ha : Re2 a f)
    (h : Shape.ShapeCasts ⟨2, ![n, m]⟩ ⟨3, ![1, n, m]⟩) : Re3 (shapeCast ⟨3, ![1, n, m]⟩ a h) (fun _ => f) := fun j => by
  rw [shapeCast_addUnit_apply ![n, m] a h j]
  exact ha _

/-- Loads through unit-stride rectangles read at the offsets. -/
theorem Re2.ld {n m n' m' : ℕ} {X : Vec Ideal ⟨2, ![n, m]⟩ .f32} {f : ℕ → ℕ → ℝ} (hX : Re2 (φ := .f32) X f) (o p : ℕ)
    (inb : ∀ a, (![o, p] : Fin 2 → ℕ) a + (![n', m'] : Fin 2 → ℕ) a ≤ (⟨2, ![n, m]⟩ : Shape).size a) :
    Re2 (n := n') (m := m') (φ := .f32) (View.ld (Val := Elt Ideal) X (Rect.unit (s := ⟨2, ![n, m]⟩) ![o, p] ![n', m'] inb)) fun r c => f (o + r) (p + c) := fun j => by
  refine (hX _).trans ?_
  have u : ∀ a : Fin 2, (((Rect.unit (s := ⟨2, ![n, m]⟩) ![o, p] ![n', m'] inb).emb j) a).val = (![o, p] : Fin 2 → ℕ) a + (j a).val :=
    fun a => congrArg ((![o, p] : Fin 2 → ℕ) a + ·) (Nat.one_mul (j a).val)
  exact congrArg (fun x : ℝ => (x : EReal)) (congrArg₂ f (u 0) (u 1))

theorem At2.ld {n m n' m' : ℕ} {X : Vec Ideal ⟨2, ![n, m]⟩ .f32} {f : ℕ → ℕ → EReal} (hX : At2 X f) (o p : ℕ)
    (inb : ∀ a, (![o, p] : Fin 2 → ℕ) a + (![n', m'] : Fin 2 → ℕ) a ≤ (⟨2, ![n, m]⟩ : Shape).size a) :
    At2 (n := n') (m := m') (View.ld (Val := Elt Ideal) X (Rect.unit (s := ⟨2, ![n, m]⟩) ![o, p] ![n', m'] inb)) fun r c => f (o + r) (p + c) := fun j => by
  refine (hX _).trans ?_
  have u : ∀ a : Fin 2, (((Rect.unit (s := ⟨2, ![n, m]⟩) ![o, p] ![n', m'] inb).emb j) a).val = (![o, p] : Fin 2 → ℕ) a + (j a).val :=
    fun a => congrArg ((![o, p] : Fin 2 → ℕ) a + ·) (Nat.one_mul (j a).val)
  exact congrArg₂ f (u 0) (u 1)

theorem Re3.ld {k n m k' n' m' : ℕ} {X : Vec Ideal ⟨3, ![k, n, m]⟩ .f32} {f : ℕ → ℕ → ℕ → ℝ} (hX : Re3 (φ := .f32) X f) (q o p : ℕ)
    (inb : ∀ a, (![q, o, p] : Fin 3 → ℕ) a + (![k', n', m'] : Fin 3 → ℕ) a ≤ (⟨3, ![k, n, m]⟩ : Shape).size a) :
    Re3 (n := k') (m := n') (k := m') (φ := .f32) (View.ld (Val := Elt Ideal) X (Rect.unit (s := ⟨3, ![k, n, m]⟩) ![q, o, p] ![k', n', m'] inb))
      fun h r c => f (q + h) (o + r) (p + c) := fun j => by
  refine (hX _).trans ?_
  have u : ∀ a : Fin 3, (((Rect.unit (s := ⟨3, ![k, n, m]⟩) ![q, o, p] ![k', n', m'] inb).emb j) a).val = (![q, o, p] : Fin 3 → ℕ) a + (j a).val :=
    fun a => congrArg ((![q, o, p] : Fin 3 → ℕ) a + ·) (Nat.one_mul (j a).val)
  refine congrArg (fun x : ℝ => (x : EReal)) ?_
  exact (congrFun (congrArg₂ f (u 0) (u 1)) _).trans (congrArg _ (u 2))

namespace At2

variable {n m n' m' : ℕ} {α : Type}

theorem slice {a : (⟨2, ![n, m]⟩ : Shape).Idx → α} {f : ℕ → ℕ → α} (ha : At2 a f) (o p : ℕ) (h : Shape.Slices ⟨2, ![n, m]⟩ ![o, p] ⟨2, ![n', m']⟩) :
    At2 (extractStridedSlice ⟨2, ![n', m']⟩ ![o, p] a h) fun r c => f (o + r) (p + c) := fun j => by
  have h0 : o + n' ≤ n := h.2 0
  have h1 : p + m' ≤ m := h.2 1
  have j0 := idx2_lt0 j
  have j1 := idx2_lt1 j
  rw [extractStridedSlice_apply ![o, p] a h j (ix2 ⟨o + (j 0).val, by omega⟩ ⟨p + (j 1).val, by omega⟩)
    (fun x => by match x with | ⟨0, _⟩ => rfl | ⟨1, _⟩ => rfl)]
  exact ha _

theorem ofRow {a : (⟨2, ![1, m]⟩ : Shape).Idx → α} {f : ℕ → ℕ → α} (ha : At2 a f) (h : Shape.Broadcasts ⟨2, ![1, m]⟩ ⟨2, ![n, m]⟩) :
    At2 (broadcastTo ⟨2, ![n, m]⟩ a h) fun _ c => f 0 c := fun j => by
  have j1 := idx2_lt1 j
  rw [broadcastTo_apply a h j (ix2 ⟨0, Nat.one_pos⟩ (j 1)) (fun x => by
    match x with
    | ⟨0, _⟩ => rfl
    | ⟨1, _⟩ =>
      show (j 1).val = if m = 1 then 0 else (j 1).val
      split <;> omega)]
  exact ha _

theorem ofCol {a : (⟨2, ![n, 1]⟩ : Shape).Idx → α} {f : ℕ → ℕ → α} (ha : At2 a f) (h : Shape.Broadcasts ⟨2, ![n, 1]⟩ ⟨2, ![n, m]⟩) :
    At2 (broadcastTo ⟨2, ![n, m]⟩ a h) fun r _ => f r 0 := fun j => by
  have j0 := idx2_lt0 j
  rw [broadcastTo_apply a h j (ix2 (j 0) ⟨0, Nat.one_pos⟩) (fun x => by
    match x with
    | ⟨0, _⟩ =>
      show (j 0).val = if n = 1 then 0 else (j 0).val
      split <;> omega
    | ⟨1, _⟩ => rfl)]
  exact ha _

theorem cast {a : (⟨2, ![n, m]⟩ : Shape).Idx → α} {f : ℕ → ℕ → α} (ha : At2 a f) (h : Shape.ShapeCasts ⟨2, ![n, m]⟩ ⟨2, ![n, m]⟩) :
    At2 (shapeCast ⟨2, ![n, m]⟩ a h) f := by
  rw [shapeCast_self]; exact ha

/-- Four blocks of columns, side by side. -/
theorem cat4 {a b c d : (⟨2, ![n, m]⟩ : Shape).Idx → α} {f : ℕ → ℕ → ℕ → α} (ha : At2 a (f 0)) (hb : At2 b (f 1)) (hc : At2 c (f 2)) (hd : At2 d (f 3))
    (h : Shape.Concatenates [(⟨2, ![n, m]⟩ : Shape), ⟨2, ![n, m]⟩, ⟨2, ![n, m]⟩, ⟨2, ![n, m]⟩] ⟨2, ![n, m']⟩ 1) :
    At2 (concatenate ⟨2, ![n, m']⟩ 1 [⟨⟨2, ![n, m]⟩, a⟩, ⟨⟨2, ![n, m]⟩, b⟩, ⟨⟨2, ![n, m]⟩, c⟩, ⟨⟨2, ![n, m]⟩, d⟩] h)
      fun r k => f (k / m) r (k % m) := fun j => by
  have j1 := idx2_lt1 j
  have hs : m + (m + (m + m)) = m' := by simpa [Shape.Concatenates] using h.2.2
  have hm : 0 < m := by omega
  have key : ∀ (q : ℕ) (hq : q < 4) (x : (⟨2, ![n, m]⟩ : Shape).Idx → α) (_ : [(⟨⟨2, ![n, m]⟩, a⟩ : (s : Shape) × (s.Idx → α)), ⟨⟨2, ![n, m]⟩, b⟩, ⟨⟨2, ![n, m]⟩, c⟩, ⟨⟨2, ![n, m]⟩, d⟩][q] = ⟨⟨2, ![n, m]⟩, x⟩)
      (_ : At2 x (f q)) (_ : q * m ≤ (j 1).val) (_ : (j 1).val < q * m + m),
      concatenate ⟨2, ![n, m']⟩ 1 [⟨⟨2, ![n, m]⟩, a⟩, ⟨⟨2, ![n, m]⟩, b⟩, ⟨⟨2, ![n, m]⟩, c⟩, ⟨⟨2, ![n, m]⟩, d⟩] h j = f ((j 1).val / m) (j 0).val ((j 1).val % m) := by
    intro q hq x hx hf lo hi
    have e1 : (j 1).val / m = q := by
      apply Nat.div_eq_of_lt_le <;> nlinarith
    have e2 : (j 1).val % m = (j 1).val - q * m := by
      have := Nat.div_add_mod (j 1).val m
      rw [e1, Nat.mul_comm] at this; omega
    rw [concatenate_apply_piece 1 [⟨⟨2, ![n, m]⟩, a⟩, ⟨⟨2, ![n, m]⟩, b⟩, ⟨⟨2, ![n, m]⟩, c⟩, ⟨⟨2, ![n, m]⟩, d⟩] h j q hq ⟨2, ![n, m]⟩ x hx rfl (q * m) (by
        interval_cases q <;> simp <;> ring) (ix2 (j 0) ⟨(j 1).val - q * m, by omega⟩) (fun y hy => by
        match y with | ⟨0, _⟩ => rfl | ⟨1, _⟩ => exact absurd rfl hy) (by
        show q * m + ((j 1).val - q * m) = (j 1).val
        omega), hf, e1, e2]
    rfl
  rcases Nat.lt_or_ge (j 1).val m with h0 | h0
  · exact key 0 (by omega) a rfl ha (by omega) (by omega)
  rcases Nat.lt_or_ge (j 1).val (2 * m) with h1 | h1
  · exact key 1 (by omega) b rfl hb (by omega) (by omega)
  rcases Nat.lt_or_ge (j 1).val (3 * m) with h2 | h2
  · exact key 2 (by omega) c rfl hc (by omega) (by omega)
  · exact key 3 (by omega) d rfl hd (by omega) (by omega)

end At2

/-- The sums along the columns of extended reals, kept as a row. -/
theorem colSumE {n m : ℕ} {φ : FTy} {a : FVec Ideal ⟨2, ![n, m]⟩ φ} {f : ℕ → ℕ → EReal} (ha : At2 a f) (acc : BitVec φ.bits)
    (h : Shape.Reduces ⟨2, ![n, m]⟩ [0] ⟨1, ![m]⟩) (hφ : FKind.Formats φ) (hacc : acc = FKind.add.neutral φ hφ)
    (hc : Shape.ShapeCasts ⟨1, ![m]⟩ ⟨2, ![1, m]⟩) :
    At2 (shapeCast ⟨2, ![1, m]⟩ (multiReduction .add [0] ⟨1, ![m]⟩ a acc h hφ hacc) hc) fun _ c => ∑ r ∈ Finset.range n, f r c := fun j => by
  rw [shapeCast_apply _ hc j (ix1 (j 1)) (by
    have j0 := idx2_lt0 j
    rw [Shape.rowMajor_val_one, Shape.rowMajor_val_two]
    show (j 1).val = (j 0).val * m + (j 1).val
    have : (j 0).val = 0 := by omega
    rw [this]; omega)]
  rw [Ideal.multiReduction_add_single]
  have e : ∀ q : Fin n, a (h.lift (ix1 (j 1)) q) = f q.val (j 1).val := fun q => by
    rw [ha]
    have e0 : (h.lift (ix1 (j 1)) q 0).val = q.val := rfl
    have e1 : (h.lift (ix1 (j 1)) q 1).val = (j 1).val := rfl
    rw [e0, e1]
  exact (Finset.sum_congr rfl fun q _ => e q).trans (Fin.sum_univ_eq_sum_range (fun q => f q (j 1).val) n)

/-- Reading a buffer all of whose elements its writes cover: the writes that agree with one function `g`. -/
theorem At2.readCov {n m : ℕ} {sig : RefSig} {κ : Kind} {sp : Space} (v : View sig κ sp ⟨2, ![n, m]⟩ .f32) (g : ℕ → ℕ → EReal)
    (L : List (View.Piece (Elt Ideal) ⟨2, ![n, m]⟩ .f32)) (hcov : ∀ y, ∃ p ∈ L, y ∈ p.1.set)
    (hL : ∀ p ∈ L, ∀ x : p.1.shape.Idx, p.2 x = g (p.1.emb x 0).val (p.1.emb x 1).val)
    (inb : ∀ a, (![0, 0] : Fin 2 → ℕ) a + (![n, m] : Fin 2 → ℕ) a ≤ (⟨2, ![n, m]⟩ : Shape).size a) :
    At2 (n := n) (m := m) (v.readCov (Val := Elt Ideal) L (Rect.unit (s := ⟨2, ![n, m]⟩) ![0, 0] ![n, m] inb).toLoadRect) g := fun i => by
  have e := View.readCov_eq_canon_ld (Val := Elt Ideal) v L (Rect.unit (s := ⟨2, ![n, m]⟩) ![0, 0] ![n, m] inb) hcov
  have z : (![0, 0] : Fin 2 → ℕ) = fun _ => 0 := by funext a; fin_cases a <;> rfl
  rw [e]
  refine (congrFun (View.ld_unit_zero (Val := Elt Ideal) (S := ⟨2, ![n, m]⟩) z inb _) i).trans ?_
  exact View.canon_apply_of_pieces (Val := Elt Ideal) (fun y : (⟨2, ![n, m]⟩ : Shape).Idx => g (y 0).val (y 1).val) L hL i (hcov i)

/-- A stored block whose values are `f` at its place. -/
theorem Re2.piece {n m n' m' : ℕ} {φ : FTy} {w : FVec Ideal ⟨2, ![n', m']⟩ φ} {f : ℕ → ℕ → ℝ} (o p : ℕ) (hw : Re2 w fun r c => f (o + r) (p + c))
    (inb : ∀ a, (![o, p] : Fin 2 → ℕ) a + (![n', m'] : Fin 2 → ℕ) a ≤ (⟨2, ![n, m]⟩ : Shape).size a)
    (x : (Rect.unit (s := ⟨2, ![n, m]⟩) ![o, p] ![n', m'] inb).shape.Idx) :
    w x = ((f ((Rect.unit (s := ⟨2, ![n, m]⟩) ![o, p] ![n', m'] inb).emb x 0).val ((Rect.unit (s := ⟨2, ![n, m]⟩) ![o, p] ![n', m'] inb).emb x 1).val : ℝ) : EReal) := by
  refine (hw x).trans ?_
  have u : ∀ a : Fin 2, (((Rect.unit (s := ⟨2, ![n, m]⟩) ![o, p] ![n', m'] inb).emb x) a).val = (![o, p] : Fin 2 → ℕ) a + (x a).val :=
    fun a => congrArg ((![o, p] : Fin 2 → ℕ) a + ·) (Nat.one_mul (x a).val)
  exact congrArg (fun y : ℝ => (y : EReal)) (congrArg₂ f (u 0) (u 1)).symm

theorem At2.piece {n m n' m' : ℕ} {α : Type} {w : (⟨2, ![n', m']⟩ : Shape).Idx → α} {f : ℕ → ℕ → α} (o p : ℕ) (hw : At2 w fun r c => f (o + r) (p + c))
    (inb : ∀ a, (![o, p] : Fin 2 → ℕ) a + (![n', m'] : Fin 2 → ℕ) a ≤ (⟨2, ![n, m]⟩ : Shape).size a)
    (x : (Rect.unit (s := ⟨2, ![n, m]⟩) ![o, p] ![n', m'] inb).shape.Idx) :
    w x = f ((Rect.unit (s := ⟨2, ![n, m]⟩) ![o, p] ![n', m'] inb).emb x 0).val ((Rect.unit (s := ⟨2, ![n, m]⟩) ![o, p] ![n', m'] inb).emb x 1).val := by
  refine (hw x).trans ?_
  have u : ∀ a : Fin 2, (((Rect.unit (s := ⟨2, ![n, m]⟩) ![o, p] ![n', m'] inb).emb x) a).val = (![o, p] : Fin 2 → ℕ) a + (x a).val :=
    fun a => congrArg ((![o, p] : Fin 2 → ℕ) a + ·) (Nat.one_mul (x a).val)
  exact (congrArg₂ f (u 0) (u 1)).symm

theorem Re3.piece {k n m k' n' m' : ℕ} {φ : FTy} {w : FVec Ideal ⟨3, ![k', n', m']⟩ φ} {f : ℕ → ℕ → ℕ → ℝ} (q o p : ℕ) (hw : Re3 w fun h r c => f (q + h) (o + r) (p + c))
    (inb : ∀ a, (![q, o, p] : Fin 3 → ℕ) a + (![k', n', m'] : Fin 3 → ℕ) a ≤ (⟨3, ![k, n, m]⟩ : Shape).size a)
    (x : (Rect.unit (s := ⟨3, ![k, n, m]⟩) ![q, o, p] ![k', n', m'] inb).shape.Idx) :
    w x = ((f ((Rect.unit (s := ⟨3, ![k, n, m]⟩) ![q, o, p] ![k', n', m'] inb).emb x 0).val ((Rect.unit (s := ⟨3, ![k, n, m]⟩) ![q, o, p] ![k', n', m'] inb).emb x 1).val
      ((Rect.unit (s := ⟨3, ![k, n, m]⟩) ![q, o, p] ![k', n', m'] inb).emb x 2).val : ℝ) : EReal) := by
  refine (hw x).trans ?_
  have u : ∀ a : Fin 3, (((Rect.unit (s := ⟨3, ![k, n, m]⟩) ![q, o, p] ![k', n', m'] inb).emb x) a).val = (![q, o, p] : Fin 3 → ℕ) a + (x a).val :=
    fun a => congrArg ((![q, o, p] : Fin 3 → ℕ) a + ·) (Nat.one_mul (x a).val)
  refine congrArg (fun y : ℝ => (y : EReal)) ?_
  exact ((congrFun (congrArg₂ f (u 0) (u 1)) _).trans (congrArg _ (u 2))).symm

end Cert.Arr

end
-- ==== Proof.Spec.lean ====
/- The mathematics of the mixer's backward step over the real numbers: what both programs compute. Every array is a
   function of natural-number coordinates; rows are the 4096 positions, columns the features. The gating half
   (a causal spatial product inside each block of 128 positions, four heads) comes first, the pooling half (four groups of
   128 features, trailing means over 2, 4, 8 and 16 positions) second. -/
module

public import proofs.«01_k».proof.Proof.Arr

@[expose] public section

noncomputable section

namespace Cert.Spec

open scoped BigOperators

/-- The two constants of the tanh form of the activation, as the real numbers their float words hold, and the products of
    them the derivative uses. -/
def K0 : ℝ := 6693141 / 8388608
def K1 : ℝ := 12003091 / 268435456
def eps : ℝ := 8796093 / 8796093022208

def tt (x : ℝ) : ℝ := Real.tanh (x * (K0 + K0 * K1 * (x * x)))
def uu (x : ℝ) : ℝ := 1 / 2 * tt x + 1 / 2
/-- The activation and its derivative. -/
def gl (x : ℝ) : ℝ := x * uu x
def dgl (x : ℝ) : ℝ := uu x + 1 / 2 * x * (1 - tt x * tt x) * (K0 + 3 * K0 * K1 * (x * x))

section Gate

variable (z : ℕ → ℕ → ℝ) (dy : ℕ → ℕ → ℝ) (ga be : ℕ → ℝ) (ws : ℕ → ℕ → ℕ → ℝ) (bs : ℕ → ℕ → ℝ)

def U (r c : ℕ) : ℝ := gl (z r c)
def V (r c : ℕ) : ℝ := gl (z r (512 + c))
def mu (r : ℕ) : ℝ := (∑ c ∈ Finset.range 512, V z r c) / 512
def VC (r c : ℕ) : ℝ := V z r c - mu z r
def var (r : ℕ) : ℝ := (∑ c ∈ Finset.range 512, VC z r c * VC z r c) / 512
def rs (r : ℕ) : ℝ := (Real.sqrt (var z r + eps))⁻¹
def VH (r c : ℕ) : ℝ := VC z r c * rs z r
def VN (r c : ℕ) : ℝ := VH z r c * ga c + be c
/-- The causal part of a head's spatial weights. -/
def W (h t s : ℕ) : ℝ := ws h t s * (if s ≤ t then 1 else 0)
def MIX (r c : ℕ) : ℝ := (∑ s ∈ Finset.range 128, W ws (c / 128) (r % 128) s * VN z ga be (r / 128 * 128 + s) c) + bs (c / 128) (r % 128)
def DU (r c : ℕ) : ℝ := dy r c * MIX z ga be ws bs r c
def DM (r c : ℕ) : ℝ := dy r c * U z r c
def DVN (r c : ℕ) : ℝ := ∑ t ∈ Finset.range 128, W ws (c / 128) t (r % 128) * DM z dy (r / 128 * 128 + t) c
def DVH (r c : ℕ) : ℝ := DVN z dy ws r c * ga c
def DV (r c : ℕ) : ℝ := rs z r * (DVH z dy ga ws r c - (∑ k ∈ Finset.range 512, DVH z dy ga ws r k) / 512
  - VH z r c * ((∑ k ∈ Finset.range 512, DVH z dy ga ws r k * VH z r k) / 512))
def dzU (r c : ℕ) : ℝ := DU z dy ga be ws bs r c * dgl (z r c)
def dzV (r c : ℕ) : ℝ := DV z dy ga ws r c * dgl (z r (512 + c))

/-- The spatial weights' gradient over `N` blocks of positions, and the bias's. -/
def dWS (N h t s : ℕ) : ℝ := (∑ n ∈ Finset.range N, ∑ d ∈ Finset.range 128,
  DM z dy (128 * n + t) (128 * h + d) * VN z ga be (128 * n + s) (128 * h + d)) * (if s ≤ t then 1 else 0)
def dBS (N h t : ℕ) : ℝ := ∑ n ∈ Finset.range N, ∑ d ∈ Finset.range 128, DM z dy (128 * n + t) (128 * h + d)
/-- The normalisation's gain and bias gradients over `R` rows. -/
def dGA (R c : ℕ) : ℝ := ∑ r ∈ Finset.range R, DVN z dy ws r c * VH z r c
def dBE (R c : ℕ) : ℝ := ∑ r ∈ Finset.range R, DVN z dy ws r c

end Gate

section Pool

variable (zb : ℕ → ℕ → ℝ) (dy : ℕ → ℕ → ℝ) (ps : ℕ → ℝ) (wp : ℕ → ℕ → ℕ → ℝ)

/-- The window of a feature's group, and how many positions it holds at row `r`. -/
def win (c : ℕ) : ℕ := 2 ^ (c / 128 + 1)
def cnt (r c : ℕ) : ℝ := min ((r : ℝ) + 1) (win c)
def WSUM (r c : ℕ) : ℝ := ∑ j ∈ Finset.range (win c), if j ≤ r then zb (r - j) c else 0
def DF (r c : ℕ) : ℝ := WSUM zb r c / cnt r c - zb r c
def DL (r c : ℕ) : ℝ := dy r c * ps c
def LIN (r c : ℕ) : ℝ := ∑ k ∈ Finset.range 128, DF zb r (128 * (c / 128) + k) * wp (c / 128) k (c % 128)
def DD (r c : ℕ) : ℝ := ∑ k ∈ Finset.range 128, DL dy ps r (128 * (c / 128) + k) * wp (c / 128) (c % 128) k
def SC (r c : ℕ) : ℝ := if r < 4096 then DD dy ps wp r c / cnt r c else 0
def dzP (r c : ℕ) : ℝ := (∑ j ∈ Finset.range (win c), SC dy ps wp (r + j) c) - DD dy ps wp r c
/-- The pooling weights', bias's and scale's gradients over `R` rows. -/
def dWP (R g a b : ℕ) : ℝ := ∑ r ∈ Finset.range R, DF zb r (128 * g + a) * DL dy ps r (128 * g + b)
def dBP (R c : ℕ) : ℝ := ∑ r ∈ Finset.range R, DL dy ps r c
def dPS (bp : ℕ → EReal) (R c : ℕ) : EReal := ∑ r ∈ Finset.range R, ((dy r c : ℝ) : EReal) * (((LIN zb wp r c : ℝ) : EReal) + bp c)

end Pool

theorem var_nonneg (z : ℕ → ℕ → ℝ) (r : ℕ) : 0 ≤ var z r :=
  div_nonneg (Finset.sum_nonneg fun c _ => mul_self_nonneg _) (by norm_num)

theorem eps_pos : 0 < eps := by unfold eps; norm_num

theorem var_eps_pos (z : ℕ → ℕ → ℝ) (r : ℕ) : 0 < var z r + eps := add_pos_of_nonneg_of_pos (var_nonneg z r) eps_pos

theorem cnt_pos (r c : ℕ) : 0 < cnt r c := lt_min (by positivity) (by unfold win; positivity)

theorem cnt_ne (r c : ℕ) : cnt r c ≠ 0 := (cnt_pos r c).ne'

end Cert.Spec

end
-- ==== Proof.Words.lean ====
/- The float words the body writes, and the real numbers they hold; the two named constants. -/
module

public import proofs.«01_k».proof.Proof.Spec
public import proofs.«01_k».proof.Proof.Gen.KernelIdeal.Skeleton

@[expose] public section

noncomputable section

namespace Cert.Words

open Idealize.ShloMosaic Cert.Arr Cert.Spec

theorem w_half : Re0 (φ := .f32) (Scalar.ofBits .f32 0x3F000000#32) (1 / 2) := by
  show Ideal.ofBits .f32 0x3F000000#32 = _
  simp [Ideal.ofBits, Ideal.ieee, -EReal.coe_mul]; norm_num

theorem w_one : Re0 (φ := .f32) (Scalar.ofBits .f32 0x3F800000#32) 1 := by
  show Ideal.ofBits .f32 0x3F800000#32 = _
  simp [Ideal.ofBits, Ideal.ieee, -EReal.coe_mul]; norm_num

theorem w_two : Re0 (φ := .f32) (Scalar.ofBits .f32 0x40000000#32) 2 := by
  show Ideal.ofBits .f32 0x40000000#32 = _
  simp [Ideal.ofBits, Ideal.ieee, -EReal.coe_mul]; norm_num

theorem w_four : Re0 (φ := .f32) (Scalar.ofBits .f32 0x40800000#32) 4 := by
  show Ideal.ofBits .f32 0x40800000#32 = _
  simp [Ideal.ofBits, Ideal.ieee, -EReal.coe_mul]; norm_num

theorem w_eight : Re0 (φ := .f32) (Scalar.ofBits .f32 0x41000000#32) 8 := by
  show Ideal.ofBits .f32 0x41000000#32 = _
  simp [Ideal.ofBits, Ideal.ieee, -EReal.coe_mul]; norm_num

theorem w_sixteen : Re0 (φ := .f32) (Scalar.ofBits .f32 0x41800000#32) 16 := by
  show Ideal.ofBits .f32 0x41800000#32 = _
  simp [Ideal.ofBits, Ideal.ieee, -EReal.coe_mul]; norm_num

theorem w_512 : Re0 (φ := .f32) (Scalar.ofBits .f32 0x44000000#32) 512 := by
  show Ideal.ofBits .f32 0x44000000#32 = _
  simp [Ideal.ofBits, Ideal.ieee, -EReal.coe_mul]; norm_num

theorem w_4096 : Re0 (φ := .f32) (Scalar.ofBits .f32 0x45800000#32) 4096 := by
  show Ideal.ofBits .f32 0x45800000#32 = _
  simp [Ideal.ofBits, Ideal.ieee, -EReal.coe_mul]; norm_num

theorem w_zero : Re0 (φ := .f32) (Scalar.ofBits .f32 0x00000000#32) 0 := by
  show Ideal.ofBits .f32 0x00000000#32 = _
  simp [Ideal.ofBits, Ideal.ieee]

theorem w_eps : Re0 (φ := .f32) (Scalar.ofBits .f32 0x358637BD#32) eps := by
  show Ideal.ofBits .f32 0x358637BD#32 = _
  unfold eps
  simp [Ideal.ofBits, Ideal.ieee, -EReal.coe_mul]; norm_num

theorem w_K0 : Re0 (φ := .f32) (Scalar.ofBits .f32 0x3F4C422A#32) K0 := by
  show Ideal.ofBits .f32 0x3F4C422A#32 = _
  unfold K0
  simp [Ideal.ofBits, Ideal.ieee, -EReal.coe_mul]; norm_num

theorem w_K1 : Re0 (φ := .f32) (Scalar.ofBits .f32 0x3D372713#32) K1 := by
  show Ideal.ofBits .f32 0x3D372713#32 = _
  unfold K1
  simp [Ideal.ofBits, Ideal.ieee, -EReal.coe_mul]; norm_num

theorem w_K01 : Re0 (φ := .f32) (Named.named Cert.KernelIdeal.κ "k0_k1" 0x3D122279#32) (K0 * K1) := by
  have h := IdealRules.named_const.ideal_named_scalar Cert.KernelIdeal.κ "k0_k1" (φ := .f32) 0x3D122279#32 _ rfl
  refine h.trans (congrArg (fun x : ℝ => (x : EReal)) ?_)
  unfold K0 K1; norm_num

theorem w_3K01 : Re0 (φ := .f32) (Named.named Cert.KernelIdeal.κ "three_k0_k1" 0x3DDB33B6#32) (3 * K0 * K1) := by
  have h := IdealRules.named_const.ideal_named_scalar Cert.KernelIdeal.κ "three_k0_k1" (φ := .f32) 0x3DDB33B6#32 _ rfl
  refine h.trans (congrArg (fun x : ℝ => (x : EReal)) ?_)
  unfold K0 K1; norm_num

end Cert.Words

end
-- ==== Proof.Gate.lean ====
/- The gating half of the body on one tile of 512 rows: each value the body forms is the real-number one, given real
   inputs. -/
module

public import proofs.«01_k».proof.Proof.Words
public import Idealize.ShloMosaic.Lib.WordCmp

@[expose] public section

noncomputable section

namespace Cert.Gate

open Idealize.ShloMosaic Idealize.ShloMosaic.ValueIdx Cert.Arr Cert.Spec Cert.Words Cert.KernelIdeal Cert.KernelIdeal.Gen
open scoped BigOperators

theorem tril : Re2 (k0_pay10 (F := Ideal)) fun r c => if c ≤ r then 1 else 0 := fun i => by
  have h0 := idx2_lt0 i
  have h1 := idx2_lt1 i
  show FloatOps.sitofp (F := Ideal) .f32 ((IntOp.cmpi .sle (iota .tc S128x128 32 [1] _ i) (iota .tc S128x128 32 [0] _ i)).setWidth 32) = _
  rw [iota_single_apply, iota_single_apply, WordCmp.cmpi_sle_ofNat (by norm_num; omega) (by norm_num; omega)]
  show (((BitVec.ofBool (decide ((i 1).val ≤ (i 0).val))).setWidth 32).toInt : ℝ) = (_ : EReal)
  by_cases h : (i 1).val ≤ (i 0).val
  · rw [decide_eq_true h]; simp [h]
  · rw [decide_eq_false h]; simp [h]

section

variable {z dy : ℕ → ℕ → ℝ} {ga be : ℕ → ℝ} {ws : ℕ → ℕ → ℕ → ℝ} {bf : ℕ → ℕ → ℝ}

theorem p18 {v26 : Vec Ideal S512x1024 .f32} (h : Re2 (φ := .f32) v26 z) : Re2 (k0_pay18 v26) fun r c => tt (z r c) :=
  (h.mul ((Re2.splat w_K0).add ((Re2.splat w_K01).mul (h.mul h)))).tanh

theorem p19 {v35 : FVec Ideal S512x1024 .f32} {t : ℕ → ℕ → ℝ} (h : Re2 v35 t) : Re2 (k0_pay19 v35) fun r c => 1 / 2 * t r c + 1 / 2 :=
  ((Re2.splat w_half).mul h).add (Re2.splat w_half)

theorem p20 {v26 : Vec Ideal S512x1024 .f32} {v35 : FVec Ideal S512x1024 .f32} (h : Re2 (φ := .f32) v26 z) (h35 : Re2 v35 fun r c => tt (z r c)) :
    Re2 (k0_pay20 v26 v35) fun r c => gl (z r c) :=
  h.mul (p19 h35)

theorem p21 {v26 : Vec Ideal S512x1024 .f32} {v35 : FVec Ideal S512x1024 .f32} (h : Re2 (φ := .f32) v26 z) (h35 : Re2 v35 fun r c => tt (z r c)) :
    Re2 (k0_pay21 v26 (k0_pay17 v26) v35) fun r c => dgl (z r c) :=
  (p19 h35).add ((((Re2.splat w_half).mul h).mul ((Re2.splat w_one).sub (h35.mul h35))).mul
    ((Re2.splat w_K0).add ((Re2.splat w_3K01).mul (h.mul h))))

theorem p22 {v26 : Vec Ideal S512x1024 .f32} {v35 : FVec Ideal S512x1024 .f32} (h : Re2 (φ := .f32) v26 z) (h35 : Re2 v35 fun r c => tt (z r c)) :
    Re2 (k0_pay22 v26 v35) (U z) :=
  ((p20 h h35).slice 0 0 slices_S512x1024_o0_0_S512x512).congr fun r c _ _ => by simp only [Nat.zero_add]; rfl

theorem p23 {v26 : Vec Ideal S512x1024 .f32} {v35 : FVec Ideal S512x1024 .f32} (h : Re2 (φ := .f32) v26 z) (h35 : Re2 v35 fun r c => tt (z r c)) :
    Re2 (k0_pay23 v26 v35) (VC z) := by
  have hv : Re2 (extractStridedSlice S512x512 ![0, 512] (k0_pay20 v26 v35) slices_S512x1024_o0_512_S512x512) (V z) :=
    ((p20 h h35).slice 0 512 _).congr fun r c _ _ => by simp only [Nat.zero_add]; rfl
  exact hv.sub ((Re2.div (hv.rowSum _ _ _ _ _) (Re2.splat w_512) fun _ _ _ _ => by norm_num).ofCol _)

theorem p24 {v26 : Vec Ideal S512x1024 .f32} {v35 : FVec Ideal S512x1024 .f32} (h : Re2 (φ := .f32) v26 z) (h35 : Re2 v35 fun r c => tt (z r c)) :
    Re2 (k0_pay24 v26 v35) fun r _ => rs z r :=
  (Re2.add (Re2.div (Re2.rowSum ((p23 h h35).mul (p23 h h35)) _ _ _ _ _) (Re2.splat w_512) fun _ _ _ _ => by norm_num) (Re2.splat w_eps)).rsqrt
    fun r _ _ _ => var_eps_pos z r

theorem p25 {v26 : Vec Ideal S512x1024 .f32} {v35 : FVec Ideal S512x1024 .f32} (h : Re2 (φ := .f32) v26 z) (h35 : Re2 v35 fun r c => tt (z r c)) :
    Re2 (k0_pay25 v26 v35) (VH z) :=
  (p23 h h35).mul ((p24 h h35).ofCol _)

theorem p26 {v25 v28 : FVec Ideal S1x512 .f32} {v26 : Vec Ideal S512x1024 .f32} {v35 : FVec Ideal S512x1024 .f32} (h : Re2 (φ := .f32) v26 z)
    (h35 : Re2 v35 fun r c => tt (z r c)) (hg : Re2 v25 fun _ c => ga c) (hb : Re2 v28 fun _ c => be c) :
    Re2 (k0_pay26 v25 v26 v28 v35) (VN z ga be) :=
  (((p25 h h35).mul (hg.ofRow _)).add (hb.ofRow _)).trunc _

/-- A head's causal weights. -/
theorem p11 {v8 : Vec Ideal S1x128x128 .f32} {w : ℕ → ℕ → ℝ} (h : Re3 (φ := .f32) v8 fun _ => w) :
    Re2 (k0_pay11 v8) fun t s => w t s * (if s ≤ t then 1 else 0) :=
  ((h.drop _).mul tril).trunc _

/-- A head's product with a block of 128 rows, and its transposed and gradient forms. -/
theorem dotNN {a : FVec Ideal S128x128 .bf16} {b : FVec Ideal S128x128 .bf16} {f g : ℕ → ℕ → ℝ} (ha : Re2 a f) (hb : Re2 b g) :
    Re2 (matmul dot_S128x128_S128x128_S128x128_1_0_0_1_n_n none a b (constant S128x128 .f32 0x00000000#32)) fun r c => ∑ k ∈ Finset.range 128, f r k * g k c :=
  Re2.dot ha hb _ _ rfl rfl (fun r _ k => f r k) (fun _ c k => g k c) (fun _ _ => rfl) (fun _ _ => rfl)

theorem dotTN {a : FVec Ideal S128x128 .bf16} {b : FVec Ideal S128x128 .bf16} {f g : ℕ → ℕ → ℝ} (ha : Re2 a f) (hb : Re2 b g) :
    Re2 (matmul dot_S128x128_S128x128_S128x128_0_0_1_1_n_n none a b (constant S128x128 .f32 0x00000000#32)) fun r c => ∑ k ∈ Finset.range 128, f k r * g k c :=
  Re2.dot ha hb _ _ rfl rfl (fun r _ k => f k r) (fun _ c k => g k c) (fun _ _ => rfl) (fun _ _ => rfl)

theorem dotNT {a : FVec Ideal S128x128 .bf16} {b : FVec Ideal S128x128 .bf16} {f g : ℕ → ℕ → ℝ} (ha : Re2 a f) (hb : Re2 b g) :
    Re2 (matmul dot_S128x128_S128x128_S128x128_1_1_0_0_n_n none a b (constant S128x128 .f32 0x00000000#32)) fun r c => ∑ k ∈ Finset.range 128, f r k * g c k :=
  Re2.dot ha hb _ _ rfl rfl (fun r _ k => f r k) (fun _ c k => g c k) (fun _ _ => rfl) (fun _ _ => rfl)

end

end Cert.Gate

end
-- ==== Proof.GateOut.lean ====
/- The gating half of the body, continued: the blocks it writes to its two scratch arrays and reads back whole, and what it
   stores or adds to each result. -/
module

public import proofs.«01_k».proof.Proof.Gate
public import Idealize.ShloMosaic.Lib.Claim
public import proofs.«01_k».proof.Proof.Gen.KernelIdeal.Frame.Runs

@[expose] public section

set_option maxRecDepth 16384

noncomputable section

namespace Cert.Gate

open Idealize.ShloMosaic Idealize.ShloMosaic.ValueIdx Idealize.ShloMosaic.TcCoe Idealize.ShloMosaic.Tactic Cert.Arr Cert.Spec Cert.Words Cert.KernelIdeal Cert.KernelIdeal.Gen
open scoped BigOperators

theorem sum4 (f : ℕ → ℝ) : ∑ n ∈ Finset.range 4, f n = f 0 + f 1 + f 2 + f 3 := by
  simp [Finset.sum_range_succ]

variable {z dy : ℕ → ℕ → ℝ} {ga be : ℕ → ℝ} {ws : ℕ → ℕ → ℕ → ℝ} {bs : ℕ → ℕ → ℝ}

theorem div128 {h c : ℕ} (hc : c < 128) : (128 * h + c) / 128 = h := by omega
theorem mod128 {h c : ℕ} (hc : c < 128) : (128 * h + c) % 128 = c := by omega

/-- One head's mixed block: the causal weights times the block's normalised rows, plus the head's bias. -/
theorem mixPiece (n h : ℕ) {o p : ℕ} (ho : o = 128 * n) (hp : p = 128 * h) {w : FVec Ideal S128x128 .bf16} {v : FVec Ideal S512x512 .bf16} {b : FVec Ideal S128x128 .f32}
    (hw : Re2 w (W ws h)) (hv : Re2 v (VN z ga be)) (hb : Re2 b fun r c => bs ((p + c) / 128) (0 + r))
    (hs : S512x512.Slices ![o, p] S128x128) (hc : S128x128.ShapeCasts S128x128) :
    Re2 (addf (matmul dot_S128x128_S128x128_S128x128_1_0_0_1_n_n none w (extractStridedSlice S128x128 ![o, p] v hs) (constant S128x128 .f32 0x00000000#32)) (shapeCast S128x128 b hc))
      fun r c => MIX z ga be ws bs (o + r) (p + c) := by
  subst ho hp
  refine ((dotNN hw (hv.slice _ _ hs)).add (hb.cast hc)).congr fun r c hr hc => ?_
  unfold MIX
  rw [div128 hc, div128 hr, mod128 hr, Nat.zero_add, Nat.mul_comm n]

/-- One head's block of the gradient of the normalised rows. -/
theorem dvnPiece (n h : ℕ) {o p : ℕ} (ho : o = 128 * n) (hp : p = 128 * h) {w : FVec Ideal S128x128 .bf16} {v : FVec Ideal S512x512 .bf16}
    (hw : Re2 w (W ws h)) (hv : Re2 v (DM z dy)) (hs : S512x512.Slices ![o, p] S128x128) (hc : S128x128.ShapeCasts S128x128) :
    Re2 (shapeCast S128x128 (matmul dot_S128x128_S128x128_S128x128_0_0_1_1_n_n none w (extractStridedSlice S128x128 ![o, p] v hs) (constant S128x128 .f32 0x00000000#32)) hc)
      fun r c => DVN z dy ws (o + r) (p + c) := by
  subst ho hp
  refine ((dotTN hw (hv.slice _ _ hs)).cast hc).congr fun r c hr hc => ?_
  unfold DVN
  rw [div128 hc, div128 hr, mod128 hr, Nat.mul_comm n]

/-- What one tile adds to a head's weights' gradient. -/
theorem dwsPiece (h : ℕ) {p : ℕ} (hp : p = 128 * h) {d v : FVec Ideal S512x512 .bf16} {m : FVec Ideal S128x128 .f32} {old : FVec Ideal S1x128x128 .f32} {f : ℕ → ℕ → ℝ}
    (hd : Re2 d (DM z dy)) (hv : Re2 v (VN z ga be)) (hm : Re2 m fun r c => if c ≤ r then 1 else 0) (ho : Re3 old fun _ => f)
    (h0 : S512x512.Slices ![0, p] S128x128) (h1 : S512x512.Slices ![128, p] S128x128) (h2 : S512x512.Slices ![256, p] S128x128) (h3 : S512x512.Slices ![384, p] S128x128)
    (hc : S1x128x128.ShapeCasts S128x128) (hc' : S128x128.ShapeCasts S1x128x128) :
    Re3 (shapeCast S1x128x128 (addf (shapeCast S128x128 old hc) (mulf (addf (addf (addf
      (matmul dot_S128x128_S128x128_S128x128_1_1_0_0_n_n none (extractStridedSlice S128x128 ![0, p] d h0) (extractStridedSlice S128x128 ![0, p] v h0) (constant S128x128 .f32 0x00000000#32))
      (matmul dot_S128x128_S128x128_S128x128_1_1_0_0_n_n none (extractStridedSlice S128x128 ![128, p] d h1) (extractStridedSlice S128x128 ![128, p] v h1) (constant S128x128 .f32 0x00000000#32)))
      (matmul dot_S128x128_S128x128_S128x128_1_1_0_0_n_n none (extractStridedSlice S128x128 ![256, p] d h2) (extractStridedSlice S128x128 ![256, p] v h2) (constant S128x128 .f32 0x00000000#32)))
      (matmul dot_S128x128_S128x128_S128x128_1_1_0_0_n_n none (extractStridedSlice S128x128 ![384, p] d h3) (extractStridedSlice S128x128 ![384, p] v h3) (constant S128x128 .f32 0x00000000#32))) m)) hc')
      fun _ r c => f r c + dWS z dy ga be 4 h r c := by
  subst hp
  refine Re2.lift (((ho.drop hc).add (((((dotNT (hd.slice _ _ h0) (hv.slice _ _ h0)).add (dotNT (hd.slice _ _ h1) (hv.slice _ _ h1))).add
    (dotNT (hd.slice _ _ h2) (hv.slice _ _ h2))).add (dotNT (hd.slice _ _ h3) (hv.slice _ _ h3))).mul hm)).congr fun r c _ _ => ?_) hc'
  unfold dWS
  rw [sum4]

/-- What one tile adds to a head's bias gradient. -/
theorem dbsPiece (h : ℕ) {p : ℕ} (hp : p = 128 * h) {d : FVec Ideal S512x512 .f32} {old : FVec Ideal S1x128x1 .f32} {f : ℕ → ℕ → ℝ}
    (hd : Re2 d (DM z dy)) (ho : Re3 old fun _ => f) (hs : S128x512.Slices ![0, p] S128x128) (acc : BitVec 32) (hr) (hφ) (ha) (hcc)
    (h0 : S512x512.Slices ![0, 0] S128x512) (h1 : S512x512.Slices ![128, 0] S128x512) (h2 : S512x512.Slices ![256, 0] S128x512) (h3 : S512x512.Slices ![384, 0] S128x512)
    (hc : S1x128x1.ShapeCasts S128x1) (hc' : S128x1.ShapeCasts S1x128x1) :
    Re3 (shapeCast S1x128x1 (addf (shapeCast S128x1 old hc) (shapeCast S128x1 (multiReduction (φ := .f32) .add [1] S128 (extractStridedSlice S128x128 ![0, p]
      (addf (addf (addf (extractStridedSlice S128x512 ![0, 0] d h0) (extractStridedSlice S128x512 ![128, 0] d h1)) (extractStridedSlice S128x512 ![256, 0] d h2))
        (extractStridedSlice S128x512 ![384, 0] d h3)) hs) acc hr hφ ha) hcc)) hc')
      fun _ r c => f r c + dBS z dy 4 h r := by
  subst hp
  refine Re2.lift (((ho.drop hc).add (Re2.rowSum (((((hd.slice _ _ h0).add (hd.slice _ _ h1)).add (hd.slice _ _ h2)).add (hd.slice _ _ h3)).slice _ _ hs) acc hr hφ ha hcc)).congr
    fun r c _ _ => ?_) hc'
  unfold dBS
  simp only [sum4, Nat.zero_add, Finset.sum_add_distrib, Nat.mul_zero, Nat.mul_one, Nat.reduceMul]

theorem p85 {vh : FVec Ideal S512x512 .f32} {v : Vec Ideal S512x512 .f32} {old : Vec Ideal S1x512 .f32} {f : ℕ → ℝ} (hvh : Re2 vh (VH z)) (hv : Re2 (φ := .f32) v (DVN z dy ws))
    (ho : Re2 (φ := .f32) old fun _ => f) : Re2 (k0_pay85 vh v old) fun _ c => f c + dGA z dy ws 512 c :=
  (Re2.cast ho _).add (Re2.colSum (Re2.mul (φ := .f32) hv hvh) _ _ _ _ _)

theorem p87 {v : Vec Ideal S512x512 .f32} {old : FVec Ideal S1x512 .f32} {f : ℕ → ℝ} (hv : Re2 (φ := .f32) v (DVN z dy ws))
    (ho : Re2 old fun _ => f) : Re2 (k0_pay87 v old) fun _ c => f c + dBE z dy ws 512 c :=
  ho.add (Re2.colSum (φ := .f32) hv _ _ _ _ _)

theorem p88 {v26 : Vec Ideal S512x1024 .f32} {v52 : FVec Ideal S512x1024 .f32} {d mx : Vec Ideal S512x512 .f32} (h52 : Re2 v52 fun r c => dgl (z r c))
    (hd : Re2 (φ := .f32) d dy) (hm : Re2 (φ := .f32) mx (MIX z ga be ws bs)) : Re2 (k0_pay88 v52 (k0_pay47 d mx)) (dzU z dy ga be ws bs) :=
  (((Re2.mul (φ := .f32) hd hm).mul (h52.slice 0 0 slices_S512x1024_o0_0_S512x512)).trunc _).congr fun r c _ _ => by
    simp only [Nat.zero_add]; rfl

theorem p89 {v25 : FVec Ideal S1x512 .f32} {v52 : FVec Ideal S512x1024 .f32} {v68 : FVec Ideal S512x1 .f32} {v70 : FVec Ideal S512x512 .f32} {v : Vec Ideal S512x512 .f32}
    (hg : Re2 v25 fun _ => ga) (h52 : Re2 v52 fun r c => dgl (z r c)) (h68 : Re2 v68 fun r _ => rs z r) (h70 : Re2 v70 (VH z)) (hv : Re2 (φ := .f32) v (DVN z dy ws)) :
    Re2 (k0_pay89 v25 v52 v68 v70 v) (dzV z dy ga ws) := by
  have h440 := Re2.mul (φ := .f32) hv (hg.ofRow (n := 512) broadcasts_S1x512_S512x512)
  have m1 := (Re2.div (h440.rowSum 0x00000000#32 reduces_S512x512_S512 (.inl rfl) rfl shapeCasts_S512_S512x1) (Re2.splat w_512) fun _ _ _ _ => by norm_num).ofCol (m := 512) broadcasts_S512x1_S512x512
  have m2 := (Re2.div ((h440.mul h70).rowSum 0x00000000#32 reduces_S512x512_S512 (.inl rfl) rfl shapeCasts_S512_S512x1) (Re2.splat w_512) fun _ _ _ _ => by norm_num).ofCol (m := 512) broadcasts_S512x1_S512x512
  refine ((((h68.ofCol (m := 512) broadcasts_S512x1_S512x512).mul ((h440.sub m1).sub (h70.mul m2))).mul (h52.slice 0 512 slices_S512x1024_o0_512_S512x512)).trunc _).congr fun r c _ _ => ?_
  simp only [Nat.zero_add]
  rfl

/-- The mixed rows, read back from the sixteen blocks written. -/
theorem mixRead {sp : Space} (v : View sig .tc sp S512x512 .f32) {w0 w1 w2 w3 : FVec Ideal S128x128 .bf16} {v25 v28 : FVec Ideal S1x512 .f32} {v26 : Vec Ideal S512x1024 .f32}
    {v35 : FVec Ideal S512x1024 .f32} {b0 b1 b2 b3 : Vec Ideal S128x128 .f32} {v75 : FVec Ideal S512x512 .bf16} (e75 : k0_pay26 v25 v26 v28 v35 = v75)
    (h0 : Re2 w0 (W ws 0)) (h1 : Re2 w1 (W ws 1)) (h2 : Re2 w2 (W ws 2)) (h3 : Re2 w3 (W ws 3)) (h75 : Re2 v75 (VN z ga be))
    (hb0 : Re2 (φ := .f32) b0 fun r c => bs ((0 + c) / 128) (0 + r)) (hb1 : Re2 (φ := .f32) b1 fun r c => bs ((128 + c) / 128) (0 + r)) (hb2 : Re2 (φ := .f32) b2 fun r c => bs ((256 + c) / 128) (0 + r)) (hb3 : Re2 (φ := .f32) b3 fun r c => bs ((384 + c) / 128) (0 + r))
    (inb : ∀ a, (![0, 0] : Fin 2 → ℕ) a + (![512, 512] : Fin 2 → ℕ) a ≤ S512x512.size a) :
    Re2 (φ := .f32) (v.readCov (Val := Elt Ideal) [⟨Rect.unit (s := S512x512) ![384, 384] ![128, 128] inb_S512x512_S128x128_384_384, k0_pay46 w3 v75 b3⟩,
      ⟨Rect.unit (s := S512x512) ![384, 256] ![128, 128] inb_S512x512_S128x128_384_256, k0_pay45 w2 v75 b2⟩,
      ⟨Rect.unit (s := S512x512) ![384, 128] ![128, 128] inb_S512x512_S128x128_384_128, k0_pay44 (k0_pay42 w1 v75) (k0_pay43 b1)⟩,
      ⟨Rect.unit (s := S512x512) ![384, 0] ![128, 128] inb_S512x512_S128x128_384_0, k0_pay41 w0 v75 b0⟩,
      ⟨Rect.unit (s := S512x512) ![256, 384] ![128, 128] inb_S512x512_S128x128_256_384, k0_pay40 w3 v75 b3⟩,
      ⟨Rect.unit (s := S512x512) ![256, 256] ![128, 128] inb_S512x512_S128x128_256_256, k0_pay39 w2 v75 b2⟩,
      ⟨Rect.unit (s := S512x512) ![256, 128] ![128, 128] inb_S512x512_S128x128_256_128, k0_pay38 (k0_pay37 w1 v75) b1⟩,
      ⟨Rect.unit (s := S512x512) ![256, 0] ![128, 128] inb_S512x512_S128x128_256_0, k0_pay36 w0 v75 b0⟩,
      ⟨Rect.unit (s := S512x512) ![128, 384] ![128, 128] inb_S512x512_S128x128_128_384, k0_pay35 w3 v75 b3⟩,
      ⟨Rect.unit (s := S512x512) ![128, 256] ![128, 128] inb_S512x512_S128x128_128_256, k0_pay34 w2 v75 b2⟩,
      ⟨Rect.unit (s := S512x512) ![128, 128] ![128, 128] inb_S512x512_S128x128_128_128, k0_pay33 w1 v75 b1⟩,
      ⟨Rect.unit (s := S512x512) ![128, 0] ![128, 128] inb_S512x512_S128x128_128_0, k0_pay32 w0 v75 b0⟩,
      ⟨Rect.unit (s := S512x512) ![0, 384] ![128, 128] inb_S512x512_S128x128_0_384, k0_pay31 w3 v75 b3⟩,
      ⟨Rect.unit (s := S512x512) ![0, 256] ![128, 128] inb_S512x512_S128x128_0_256, k0_pay30 w2 v75 b2⟩,
      ⟨Rect.unit (s := S512x512) ![0, 128] ![128, 128] inb_S512x512_S128x128_0_128, k0_pay29 w1 v75 b1⟩,
      ⟨Rect.unit (s := S512x512) ![0, 0] ![128, 128] inb_S512x512_S128x128_0_0, k0_pay28 (k0_pay27 w0 v25 v26 v28 v35 b0)⟩] (Rect.unit (s := S512x512) ![0, 0] ![512, 512] inb).toLoadRect) (MIX z ga be ws bs) := by
  have h75' : Re2 (k0_pay26 v25 v26 v28 v35) (VN z ga be) := e75 ▸ h75
  refine At2.readCov v (fun r c => ((MIX z ga be ws bs r c : ℝ) : EReal)) _ (fun y => View.cover_of_tiledL (s := S512x512) _ ![128, 128] (by sl_kernel_rfl) y) ?_ inb
  simp only [List.forall_mem_cons]
  refine ⟨?_, ?_, ?_, ?_, ?_, ?_, ?_, ?_, ?_, ?_, ?_, ?_, ?_, ?_, ?_, ?_, fun p hp => absurd hp List.not_mem_nil⟩
  · exact Re2.piece 384 384 (Re2.cast (mixPiece 3 3 rfl rfl h3 h75 hb3 _ shapeCasts_S128x128_S128x128) shapeCasts_S128x128_S128x128) _
  · exact Re2.piece 384 256 (Re2.cast (mixPiece 3 2 rfl rfl h2 h75 hb2 _ shapeCasts_S128x128_S128x128) shapeCasts_S128x128_S128x128) _
  · exact Re2.piece 384 128 (Re2.cast (mixPiece 3 1 rfl rfl h1 h75 hb1 _ shapeCasts_S128x128_S128x128) shapeCasts_S128x128_S128x128) _
  · exact Re2.piece 384 0 (Re2.cast (mixPiece 3 0 rfl rfl h0 h75 hb0 _ shapeCasts_S128x128_S128x128) shapeCasts_S128x128_S128x128) _
  · exact Re2.piece 256 384 (Re2.cast (mixPiece 2 3 rfl rfl h3 h75 hb3 _ shapeCasts_S128x128_S128x128) shapeCasts_S128x128_S128x128) _
  · exact Re2.piece 256 256 (Re2.cast (mixPiece 2 2 rfl rfl h2 h75 hb2 _ shapeCasts_S128x128_S128x128) shapeCasts_S128x128_S128x128) _
  · exact Re2.piece 256 128 (Re2.cast (mixPiece 2 1 rfl rfl h1 h75 hb1 _ shapeCasts_S128x128_S128x128) shapeCasts_S128x128_S128x128) _
  · exact Re2.piece 256 0 (Re2.cast (mixPiece 2 0 rfl rfl h0 h75 hb0 _ shapeCasts_S128x128_S128x128) shapeCasts_S128x128_S128x128) _
  · exact Re2.piece 128 384 (Re2.cast (mixPiece 1 3 rfl rfl h3 h75 hb3 _ shapeCasts_S128x128_S128x128) shapeCasts_S128x128_S128x128) _
  · exact Re2.piece 128 256 (Re2.cast (mixPiece 1 2 rfl rfl h2 h75 hb2 _ shapeCasts_S128x128_S128x128) shapeCasts_S128x128_S128x128) _
  · exact Re2.piece 128 128 (Re2.cast (mixPiece 1 1 rfl rfl h1 h75 hb1 _ shapeCasts_S128x128_S128x128) shapeCasts_S128x128_S128x128) _
  · exact Re2.piece 128 0 (Re2.cast (mixPiece 1 0 rfl rfl h0 h75 hb0 _ shapeCasts_S128x128_S128x128) shapeCasts_S128x128_S128x128) _
  · exact Re2.piece 0 384 (Re2.cast (mixPiece 0 3 rfl rfl h3 h75 hb3 _ shapeCasts_S128x128_S128x128) shapeCasts_S128x128_S128x128) _
  · exact Re2.piece 0 256 (Re2.cast (mixPiece 0 2 rfl rfl h2 h75 hb2 _ shapeCasts_S128x128_S128x128) shapeCasts_S128x128_S128x128) _
  · exact Re2.piece 0 128 (Re2.cast (mixPiece 0 1 rfl rfl h1 h75 hb1 _ shapeCasts_S128x128_S128x128) shapeCasts_S128x128_S128x128) _
  · exact Re2.piece 0 0 (Re2.cast (mixPiece 0 0 rfl rfl h0 h75' hb0 _ shapeCasts_S128x128_S128x128) shapeCasts_S128x128_S128x128) _

/-- The gradient of the normalised rows, read back from the sixteen blocks written. -/
theorem dvnRead {sp : Space} (v : View sig .tc sp S512x512 .f32) {w0 w1 w2 w3 : FVec Ideal S128x128 .bf16} {dm : FVec Ideal S512x512 .bf16}
    (h0 : Re2 w0 (W ws 0)) (h1 : Re2 w1 (W ws 1)) (h2 : Re2 w2 (W ws 2)) (h3 : Re2 w3 (W ws 3)) (hd : Re2 dm (DM z dy))
    (inb : ∀ a, (![0, 0] : Fin 2 → ℕ) a + (![512, 512] : Fin 2 → ℕ) a ≤ S512x512.size a) :
    Re2 (φ := .f32) (v.readCov (Val := Elt Ideal) [⟨Rect.unit (s := S512x512) ![384, 384] ![128, 128] inb_S512x512_S128x128_384_384, k0_pay83 w3 dm⟩,
      ⟨Rect.unit (s := S512x512) ![256, 384] ![128, 128] inb_S512x512_S128x128_256_384, k0_pay82 w3 dm⟩,
      ⟨Rect.unit (s := S512x512) ![128, 384] ![128, 128] inb_S512x512_S128x128_128_384, k0_pay79 w3 dm⟩,
      ⟨Rect.unit (s := S512x512) ![0, 384] ![128, 128] inb_S512x512_S128x128_0_384, k0_pay77 w3 dm⟩,
      ⟨Rect.unit (s := S512x512) ![384, 256] ![128, 128] inb_S512x512_S128x128_384_256, k0_pay74 w2 dm⟩,
      ⟨Rect.unit (s := S512x512) ![256, 256] ![128, 128] inb_S512x512_S128x128_256_256, k0_pay72 w2 dm⟩,
      ⟨Rect.unit (s := S512x512) ![128, 256] ![128, 128] inb_S512x512_S128x128_128_256, k0_pay71 w2 dm⟩,
      ⟨Rect.unit (s := S512x512) ![0, 256] ![128, 128] inb_S512x512_S128x128_0_256, k0_pay70 w2 dm⟩,
      ⟨Rect.unit (s := S512x512) ![384, 128] ![128, 128] inb_S512x512_S128x128_384_128, k0_pay66 w1 dm⟩,
      ⟨Rect.unit (s := S512x512) ![256, 128] ![128, 128] inb_S512x512_S128x128_256_128, k0_pay65 w1 dm⟩,
      ⟨Rect.unit (s := S512x512) ![128, 128] ![128, 128] inb_S512x512_S128x128_128_128, k0_pay64 (k0_pay63 w1 dm)⟩,
      ⟨Rect.unit (s := S512x512) ![0, 128] ![128, 128] inb_S512x512_S128x128_0_128, k0_pay61 w1 dm⟩,
      ⟨Rect.unit (s := S512x512) ![384, 0] ![128, 128] inb_S512x512_S128x128_384_0, k0_pay58 w0 (k0_pay57 dm)⟩,
      ⟨Rect.unit (s := S512x512) ![256, 0] ![128, 128] inb_S512x512_S128x128_256_0, k0_pay55 w0 dm⟩,
      ⟨Rect.unit (s := S512x512) ![128, 0] ![128, 128] inb_S512x512_S128x128_128_0, k0_pay54 w0 dm⟩,
      ⟨Rect.unit (s := S512x512) ![0, 0] ![128, 128] inb_S512x512_S128x128_0_0, k0_pay53 w0 dm⟩] (Rect.unit (s := S512x512) ![0, 0] ![512, 512] inb).toLoadRect) (DVN z dy ws) := by
  refine At2.readCov v (fun r c => ((DVN z dy ws r c : ℝ) : EReal)) _ (fun y => View.cover_of_tiledL (s := S512x512) _ ![128, 128] (by sl_kernel_rfl) y) ?_ inb
  simp only [List.forall_mem_cons]
  refine ⟨?_, ?_, ?_, ?_, ?_, ?_, ?_, ?_, ?_, ?_, ?_, ?_, ?_, ?_, ?_, ?_, fun p hp => absurd hp List.not_mem_nil⟩
  · exact Re2.piece 384 384 (dvnPiece 3 3 rfl rfl h3 hd _ shapeCasts_S128x128_S128x128) _
  · exact Re2.piece 256 384 (dvnPiece 2 3 rfl rfl h3 hd _ shapeCasts_S128x128_S128x128) _
  · exact Re2.piece 128 384 (dvnPiece 1 3 rfl rfl h3 hd _ shapeCasts_S128x128_S128x128) _
  · exact Re2.piece 0 384 (dvnPiece 0 3 rfl rfl h3 hd _ shapeCasts_S128x128_S128x128) _
  · exact Re2.piece 384 256 (dvnPiece 3 2 rfl rfl h2 hd _ shapeCasts_S128x128_S128x128) _
  · exact Re2.piece 256 256 (dvnPiece 2 2 rfl rfl h2 hd _ shapeCasts_S128x128_S128x128) _
  · exact Re2.piece 128 256 (dvnPiece 1 2 rfl rfl h2 hd _ shapeCasts_S128x128_S128x128) _
  · exact Re2.piece 0 256 (dvnPiece 0 2 rfl rfl h2 hd _ shapeCasts_S128x128_S128x128) _
  · exact Re2.piece 384 128 (dvnPiece 3 1 rfl rfl h1 hd _ shapeCasts_S128x128_S128x128) _
  · exact Re2.piece 256 128 (dvnPiece 2 1 rfl rfl h1 hd _ shapeCasts_S128x128_S128x128) _
  · exact Re2.piece 128 128 (dvnPiece 1 1 rfl rfl h1 hd _ shapeCasts_S128x128_S128x128) _
  · exact Re2.piece 0 128 (dvnPiece 0 1 rfl rfl h1 hd _ shapeCasts_S128x128_S128x128) _
  · exact Re2.piece 384 0 (dvnPiece 3 0 rfl rfl h0 hd slices_S512x512_o384_0_S128x128 shapeCasts_S128x128_S128x128) _
  · exact Re2.piece 256 0 (dvnPiece 2 0 rfl rfl h0 hd _ shapeCasts_S128x128_S128x128) _
  · exact Re2.piece 128 0 (dvnPiece 1 0 rfl rfl h0 hd _ shapeCasts_S128x128_S128x128) _
  · exact Re2.piece 0 0 (dvnPiece 0 0 rfl rfl h0 hd _ shapeCasts_S128x128_S128x128) _

end Cert.Gate

end
-- ==== Proof.Pool.lean ====
/- The pooling half of the body on one tile of 512 rows with the 16 rows before it and the 16 rows after it: trailing window
   sums by rotations, the group products, and their adjoints. -/
module

public import proofs.«01_k».proof.Proof.Words

@[expose] public section

noncomputable section

namespace Cert.Pool

open Idealize.ShloMosaic Idealize.ShloMosaic.ValueIdx Cert.Arr Cert.Spec Cert.Words Cert.KernelIdeal Cert.KernelIdeal.Gen
open scoped BigOperators

/-- Doubling a trailing window by one rotation. -/
theorem fwd {n w : ℕ} (hw : 1 ≤ w) {g f : ℕ → ℝ} (h : ∀ r, w - 1 ≤ r → r < n → f r = ∑ j ∈ Finset.range w, g (r - j)) (r : ℕ)
    (h0 : 2 * w - 1 ≤ r) (hr : r < n) : f r + f ((r + n - w) % n) = ∑ j ∈ Finset.range (2 * w), g (r - j) := by
  have e : (r + n - w) % n = r - w := by
    rw [show r + n - w = (r - w) + n by omega, Nat.add_mod_right, Nat.mod_eq_of_lt (by omega)]
  rw [e, h r (by omega) hr, h (r - w) (by omega) (by omega), Nat.two_mul, Finset.sum_range_add]
  simp only [Nat.sub_sub]

/-- Doubling a leading window by one rotation the other way. -/
theorem bwd {n w s : ℕ} (hs : s = n - w) (hw : w ≤ n) {g f : ℕ → ℝ} (h : ∀ r, r + w ≤ n → f r = ∑ j ∈ Finset.range w, g (r + j)) (r : ℕ)
    (hr : r + 2 * w ≤ n) (hp : 1 ≤ w) : f r + f ((r + n - s) % n) = ∑ j ∈ Finset.range (2 * w), g (r + j) := by
  have e : (r + n - s) % n = r + w := by
    rw [show r + n - s = r + w by omega, Nat.mod_eq_of_lt (by omega)]
  rw [e, h r (by omega), h (r + w) (by omega), Nat.two_mul, Finset.sum_range_add]
  simp only [Nat.add_assoc]

theorem select_ofBool {α : Type} (p : Prop) [Decidable p] (a b : α) : Scalar.select (BitVec.ofBool (decide p)) a b = if p then a else b := by
  by_cases h : p
  · simp [h, Scalar.select]
  · simp [h, Scalar.select]

variable {t : ℕ} {zb dy P N E : ℕ → ℕ → ℝ} {ps : ℕ → ℝ} {bp : ℕ → EReal} {wp : ℕ → ℕ → ℕ → ℝ}

/-- The rows before the tile: zero before the first. -/
def prev (t : ℕ) (P : ℕ → ℕ → ℝ) (k c : ℕ) : ℝ := if t = 0 then 0 else P k c

/-- The tile's rows with the 16 after it, and with the 16 before it as well. -/
def ext (t : ℕ) (zb N : ℕ → ℕ → ℝ) (r c : ℕ) : ℝ := if r < 512 then zb (512 * t + r) c else N (r - 512) c
def full (t : ℕ) (zb P N : ℕ → ℕ → ℝ) (r c : ℕ) : ℝ := if r < 16 then prev t P r c else ext t zb N (r - 16) c

theorem p90 {x : Vec Ideal S512x512 .f32} {y : Vec Ideal S16x512 .f32} (hx : Re2 (φ := .f32) x fun r c => zb (512 * t + r) c) (hy : Re2 (φ := .f32) y N) :
    Re2 (k0_pay90 x y) (ext t zb N) :=
  Re2.cat (φ := .f32) hx hy concatenates_S512x512_S16x512_S528x512_d0

theorem p104 {x : Vec Ideal S512x512 .f32} {y : Vec Ideal S16x512 .f32} (hx : Re2 (φ := .f32) x fun r c => dy (512 * t + r) c) (hy : Re2 (φ := .f32) y N) :
    Re2 (k0_pay104 x y) (ext t dy N) :=
  Re2.cat (φ := .f32) hx hy concatenates_S512x512_S16x512_S528x512_d0

theorem p91 (ht : t < 8) {x : Vec Ideal S512x512 .f32} {w y : Vec Ideal S16x512 .f32} (hx : Re2 (φ := .f32) x fun r c => zb (512 * t + r) c)
    (hw : Re2 (φ := .f32) w P) (hy : Re2 (φ := .f32) y N) : Re2 (k0_pay91 (BitVec.ofNat 32 t) x w y) (full t zb P N) := by
  have hs : Re2 (φ := .f32) (Scalar.select (Scalar.cmpi .eq (BitVec.ofNat 32 t) 0#32) (broadcast S16x512 (Scalar.ofBits (F := Ideal) .f32 0x00000000#32)) w) (prev t P) := by
    have e : Scalar.cmpi .eq (BitVec.ofNat 32 t) 0#32 = BitVec.ofBool (decide (t = 0)) := by
      interval_cases t <;> rfl
    rw [e, select_ofBool]
    by_cases h : t = 0
    · rw [if_pos h]
      exact (Re2.splat w_zero).congr fun r c _ _ => by unfold prev; rw [if_pos h]
    · rw [if_neg h]
      exact Re2.congr hw fun r c _ _ => by unfold prev; rw [if_neg h]
  exact Re2.cat hs (p90 hx hy) concatenates_S16x512_S528x512_S544x512_d0

/-- What the tile's window rows hold: the earlier rows, and zero before the first. -/
theorem full_eq (hP : t ≠ 0 → ∀ k c, P k c = zb (512 * t - 16 + k) c) {r : ℕ} (hr : r < 528) (c : ℕ) :
    full t zb P N r c = if 16 ≤ 512 * t + r then zb (512 * t + r - 16) c else 0 := by
  unfold full
  split
  · rename_i h
    unfold prev
    split
    · rename_i h0
      rw [if_neg (by omega)]
    · rename_i h0
      rw [if_pos (by omega), hP h0]
      congr 1; omega
  · rename_i h
    unfold ext
    rw [if_pos (by omega), if_pos (by omega)]
    congr 1; omega

/-- The window sums after one, two, three and four rotations. -/
def s1 (f : ℕ → ℕ → ℝ) (r c : ℕ) : ℝ := f r c + f ((r + 544 - 1) % 544) c
def s2 (f : ℕ → ℕ → ℝ) (r c : ℕ) : ℝ := s1 f r c + s1 f ((r + 544 - 2) % 544) c
def s3 (f : ℕ → ℕ → ℝ) (r c : ℕ) : ℝ := s2 f r c + s2 f ((r + 544 - 4) % 544) c
def s4 (f : ℕ → ℕ → ℝ) (r c : ℕ) : ℝ := s3 f r c + s3 f ((r + 544 - 8) % 544) c

section

variable {v : FVec Ideal S544x512 .f32} {f : ℕ → ℕ → ℝ}

theorem p92 (h : Re2 v f) : Re2 (k0_pay92 v) (s1 f) := h.add (h.rot 1#32 1 rfl _)
theorem p94 (h : Re2 v f) : Re2 (k0_pay94 v) (s2 f) := (p92 h).add ((p92 h).rot 2#32 2 rfl _)
theorem p96 (h : Re2 v f) : Re2 (k0_pay96 v) (s3 f) := (p94 h).add ((p94 h).rot 4#32 4 rfl _)
theorem p98 (h : Re2 v f) : Re2 (k0_pay98 v) fun r c => s4 f (0 + r) (384 + c) := ((p96 h).add ((p96 h).rot 8#32 8 rfl rotates_S544x512_d0)).slice 0 384 slices_S544x512_o0_384_S544x128
theorem p93 (h : Re2 v f) : Re2 (k0_pay93 v) fun r c => s1 f (0 + r) (0 + c) := (p92 h).slice 0 0 slices_S544x512_o0_0_S544x128
theorem p95 (h : Re2 v f) : Re2 (k0_pay95 v) fun r c => s2 f (0 + r) (128 + c) := (p94 h).slice 0 128 slices_S544x512_o0_128_S544x128
theorem p97 (h : Re2 v f) : Re2 (k0_pay97 v) fun r c => s3 f (0 + r) (256 + c) := (p96 h).slice 0 256 slices_S544x512_o0_256_S544x128

theorem s1_eq (c r : ℕ) (h0 : 1 ≤ r) (hr : r < 544) : s1 f r c = ∑ j ∈ Finset.range 2, f (r - j) c :=
  fwd (n := 544) (w := 1) le_rfl (g := fun r => f r c) (f := fun r => f r c) (fun r _ _ => by simp) r h0 hr
theorem s2_eq (c r : ℕ) (h0 : 3 ≤ r) (hr : r < 544) : s2 f r c = ∑ j ∈ Finset.range 4, f (r - j) c :=
  fwd (n := 544) (w := 2) (by norm_num) (g := fun r => f r c) (f := fun r => s1 f r c) (fun r h h' => s1_eq c r h h') r h0 hr
theorem s3_eq (c r : ℕ) (h0 : 7 ≤ r) (hr : r < 544) : s3 f r c = ∑ j ∈ Finset.range 8, f (r - j) c :=
  fwd (n := 544) (w := 4) (by norm_num) (g := fun r => f r c) (f := fun r => s2 f r c) (fun r h h' => s2_eq c r h h') r h0 hr
theorem s4_eq (c r : ℕ) (h0 : 15 ≤ r) (hr : r < 544) : s4 f r c = ∑ j ∈ Finset.range 16, f (r - j) c :=
  fwd (n := 544) (w := 8) (by norm_num) (g := fun r => f r c) (f := fun r => s3 f r c) (fun r h h' => s3_eq c r h h') r h0 hr

end

/-- A sum over a window of the extended rows is the sum over the window of the whole array's rows. -/
theorem win_full (hP : t ≠ 0 → ∀ k c, P k c = zb (512 * t - 16 + k) c) {r w : ℕ} (hr : r < 512) (hw : w ≤ 16) (c : ℕ) :
    ∑ j ∈ Finset.range w, full t zb P N (16 + r - j) c = ∑ j ∈ Finset.range w, if j ≤ 512 * t + r then zb (512 * t + r - j) c else 0 := by
  refine Finset.sum_congr rfl fun j hj => ?_
  have := Finset.mem_range.1 hj
  rw [full_eq hP (by omega)]
  by_cases h : j ≤ 512 * t + r
  · rw [if_pos h, if_pos (by omega)]
    congr 1; omega
  · rw [if_neg h, if_neg (by omega)]

/-- The row's position, as the real number. -/
theorem p99 (ht : t < 8) : Re2 (k0_pay99 (F := Ideal) (BitVec.ofNat 32 t)) fun r _ => ((512 * t + r : ℕ) : ℝ) := fun i => by
  have h0 := idx2_lt0 i
  show FloatOps.sitofp (F := Ideal) .f32 (Scalar.muli (BitVec.ofNat 32 t) 512#32 + iota .tc S528x1 32 [0] _ i) = _
  rw [iota_single_apply]
  have e : Scalar.muli (BitVec.ofNat 32 t) 512#32 + BitVec.ofNat 32 (i 0).val = BitVec.ofNat 32 (512 * t + (i 0).val) := by
    show BitVec.ofNat 32 t * BitVec.ofNat 32 512 + BitVec.ofNat 32 (i 0).val = _
    rw [← BitVec.ofNat_mul, ← BitVec.ofNat_add, Nat.mul_comm]
  rw [e]
  show (((BitVec.ofNat 32 (512 * t + (i 0).val)).toInt : ℝ) : EReal) = _
  have e2 : (BitVec.ofNat 32 (512 * t + (i 0).val)).toInt = ((512 * t + (i 0).val : ℕ) : ℤ) := by
    rw [BitVec.toInt_eq_toNat_of_lt (by rw [BitVec.toNat_ofNat, Nat.mod_eq_of_lt (by omega)]; omega), BitVec.toNat_ofNat, Nat.mod_eq_of_lt (by omega)]
  rw [e2]
  norm_cast

def inv (t : ℕ) (w : ℝ) (r _c : ℕ) : ℝ := 1 / min (((512 * t + r : ℕ) : ℝ) + 1) w

theorem inv_ne {w : ℝ} (hw : 0 < w) (r : ℕ) : min (((512 * t + r : ℕ) : ℝ) + 1) w ≠ 0 :=
  (lt_min (by positivity) hw).ne'

theorem p100 (ht : t < 8) : Re2 (k0_pay100 (F := Ideal) (BitVec.ofNat 32 t)) (inv t 2) :=
  (Re2.splat w_one).div (((p99 ht).add (Re2.splat w_one)).min (Re2.splat w_two)) fun r _ _ _ => inv_ne (by norm_num) r
theorem p101 (ht : t < 8) : Re2 (k0_pay101 (F := Ideal) (BitVec.ofNat 32 t)) (inv t 4) :=
  (Re2.splat w_one).div (((p99 ht).add (Re2.splat w_one)).min (Re2.splat w_four)) fun r _ _ _ => inv_ne (by norm_num) r
theorem p102 (ht : t < 8) : Re2 (k0_pay102 (F := Ideal) (BitVec.ofNat 32 t)) (inv t 8) :=
  (Re2.splat w_one).div (((p99 ht).add (Re2.splat w_one)).min (Re2.splat w_eight)) fun r _ _ _ => inv_ne (by norm_num) r
theorem p103 (ht : t < 8) : Re2 (k0_pay103 (F := Ideal) (BitVec.ofNat 32 t)) (inv t 16) :=
  (Re2.splat w_one).div (((p99 ht).add (Re2.splat w_one)).min (Re2.splat w_sixteen)) fun r _ _ _ => inv_ne (by norm_num) r

theorem win_eq {g c : ℕ} (hc : c < 128) : win (128 * g + c) = 2 ^ (g + 1) := by
  unfold win; rw [show (128 * g + c) / 128 = g by omega]

/-- One group's trailing mean less the row itself, on the tile's rows. -/
theorem diffPiece (g : ℕ) {p : ℕ} (hp : p = 128 * g) {wd : ℝ} (hwd : wd = ((2 ^ (g + 1) : ℕ) : ℝ)) {S : FVec Ideal S544x128 .f32} {x : FVec Ideal S528x512 .f32} {iv : FVec Ideal S528x1 .f32}
    {Sf : ℕ → ℕ → ℝ} (hS : Re2 S fun r c => Sf (0 + r) (p + c))
    (hSf : ∀ r c, r < 512 → Sf (16 + r) c = ∑ j ∈ Finset.range (2 ^ (g + 1)), if j ≤ 512 * t + r then zb (512 * t + r - j) c else 0)
    (hx : Re2 x (ext t zb N)) (hiv : Re2 iv (inv t wd)) (h1 : S544x128.Slices ![16, 0] S528x128) (h2 : S528x1.Broadcasts S528x128) (h3 : S528x512.Slices ![0, p] S528x128) (h4)
    (h5 : S528x128.Slices ![0, 0] S512x128) :
    Re2 (extractStridedSlice S512x128 ![0, 0] (truncf .bf16 (subf (mulf (extractStridedSlice S528x128 ![16, 0] S h1) (broadcastTo S528x128 iv h2)) (extractStridedSlice S528x128 ![0, p] x h3)) h4) h5)
      fun r c => DF zb (512 * t + r) (p + c) := by
  subst hp hwd
  refine (((((hS.slice 16 0 h1).mul (hiv.ofCol h2)).sub (hx.slice _ _ h3)).trunc h4).slice 0 0 h5).congr fun r c hr hc => ?_
  simp only [Nat.zero_add]
  rw [hSf r _ hr]
  unfold DF WSUM cnt inv ext
  rw [if_pos hr, win_eq hc, mul_one_div]

/-- One group's product on the tile's rows, with its bias. -/
theorem linPiece (g : ℕ) {p : ℕ} (hp : p = 128 * g) {d : FVec Ideal S512x128 .bf16} {w : FVec Ideal S128x128 .bf16} {b : FVec Ideal S1x128 .f32}
    (hd : Re2 d fun r c => DF zb (512 * t + r) (p + c)) (hw : Re2 w (wp g)) (hb : At2 b fun _ c => bp (p + c)) (hc : S1x128.ShapeCasts S1x128) (hbc : S1x128.Broadcasts S512x128) :
    At2 (addf (matmul dot_S512x128_S128x128_S512x128_1_0_0_1_n_n none d w (constant S512x128 .f32 0x00000000#32)) (broadcastTo S512x128 (shapeCast S1x128 b hc) hbc))
      fun r c => ((LIN zb wp (512 * t + r) (p + c) : ℝ) : EReal) + bp (p + c) := fun i => by
  subst hp
  have h1 := idx2_lt1 i
  have hdot := Re2.dot (n := 512) (m := 128) (K := 128) hd hw dot_S512x128_S128x128_S512x128_1_0_0_1_n_n none rfl rfl (fun r _ k => DF zb (512 * t + r) (128 * g + k)) (fun _ c k => wp g k c)
    (fun _ _ => rfl) (fun _ _ => rfl)
  rw [addf_apply, hdot i, ((hb.cast hc).ofRow hbc) i]
  unfold LIN
  beta_reduce
  rw [show (128 * g + (i 1).val) / 128 = g by omega, show (128 * g + (i 1).val) % 128 = (i 1).val by omega]

theorem p105 {x : Vec Ideal S512x512 .f32} {y : Vec Ideal S16x512 .f32} {s : Vec Ideal S1x512 .f32} (hx : Re2 (φ := .f32) x fun r c => dy (512 * t + r) c) (hy : Re2 (φ := .f32) y N)
    (hs : Re2 (φ := .f32) s fun _ => ps) : Re2 (k0_pay105 x y s) fun r c => ext t dy N r c * ps c :=
  (p104 hx hy).mul ((Re2.cast hs _).ofRow _)

theorem ext_lt {r : ℕ} (hr : r < 512) (c : ℕ) : ext t dy N r c = dy (512 * t + r) c := by unfold ext; rw [if_pos hr]

theorem p106 {x : Vec Ideal S512x512 .f32} {y : Vec Ideal S16x512 .f32} {s old : Vec Ideal S1x512 .f32} {f : ℕ → ℝ} (hx : Re2 (φ := .f32) x fun r c => dy (512 * t + r) c) (hy : Re2 (φ := .f32) y N)
    (hs : Re2 (φ := .f32) s fun _ => ps) (ho : Re2 (φ := .f32) old fun _ => f) : Re2 (k0_pay106 x y s old) fun _ c => f c + ∑ r ∈ Finset.range 512, DL dy ps (512 * t + r) c :=
  (Re2.cast ho _).add (Re2.colSum (((p105 hx hy hs).slice 0 0 slices_S528x512_o0_0_S512x512).congr fun r c hr _ => by
    simp only [Nat.zero_add]; rw [ext_lt hr]; rfl) _ _ _ _ _)

/-- What one tile adds to a group's weights' gradient. -/
theorem dwpPiece (g : ℕ) {p : ℕ} (_hp : p = 128 * g) {d : FVec Ideal S512x128 .bf16} {l : FVec Ideal S528x512 .f32} {old : FVec Ideal S1x128x128 .f32} {f : ℕ → ℕ → ℝ}
    (hd : Re2 d fun r c => DF zb (512 * t + r) (p + c)) (hl : Re2 l fun r c => ext t dy N r c * ps c) (ho : Re3 old fun _ => f)
    (hc : S1x128x128.ShapeCasts S128x128) (h1 : S528x512.Slices ![0, p] S528x128) (h2) (h3 : S528x128.Slices ![0, 0] S512x128) (hc' : S128x128.ShapeCasts S1x128x128) :
    Re3 (shapeCast S1x128x128 (addf (shapeCast S128x128 old hc) (matmul dot_S512x128_S512x128_S128x128_0_0_1_1_n_n none d
      (extractStridedSlice S512x128 ![0, 0] (truncf .bf16 (extractStridedSlice S528x128 ![0, p] l h1) h2) h3) (constant S128x128 .f32 0x00000000#32))) hc')
      fun _ a b => f a b + ∑ r ∈ Finset.range 512, DF zb (512 * t + r) (p + a) * DL dy ps (512 * t + r) (p + b) := by
  have hl' : Re2 (extractStridedSlice S512x128 ![0, 0] (truncf .bf16 (extractStridedSlice S528x128 ![0, p] l h1) h2) h3) fun r c => DL dy ps (512 * t + r) (p + c) :=
    (((hl.slice _ _ h1).trunc h2).slice 0 0 h3).congr fun r c hr _ => by
      simp only [Nat.zero_add]; rw [ext_lt hr]; rfl
  exact Re2.lift ((ho.drop hc).add (Re2.dot (n := 128) (m := 128) (K := 512) hd hl' dot_S512x128_S512x128_S128x128_0_0_1_1_n_n none rfl rfl
    (fun a _ k => DF zb (512 * t + k) (p + a)) (fun _ b k => DL dy ps (512 * t + k) (p + b)) (fun _ _ => rfl) (fun _ _ => rfl))) hc'

/-- One group's gradient through its weights, on the tile's rows and the 16 after. -/
theorem ddPiece (g : ℕ) {p : ℕ} {l : FVec Ideal S528x512 .f32} {w : FVec Ideal S128x128 .bf16}
    (hl : Re2 l fun r c => ext t dy N r c * ps c) (hw : Re2 w (wp g)) (h1 : S528x512.Slices ![0, p] S528x128) (h2) :
    Re2 (matmul dot_S528x128_S128x128_S528x128_1_1_0_0_n_n none (truncf .bf16 (extractStridedSlice S528x128 ![0, p] l h1) h2) w (constant S528x128 .f32 0x00000000#32))
      fun r c => ∑ k ∈ Finset.range 128, (ext t dy N (0 + r) (p + k) * ps (p + k)) * wp g c k :=
  Re2.dot (n := 528) (m := 128) (K := 128) ((hl.slice _ _ h1).trunc h2) hw dot_S528x128_S128x128_S528x128_1_1_0_0_n_n none rfl rfl
    (fun r _ k => ext t dy N (0 + r) (p + k) * ps (p + k)) (fun _ c k => wp g c k) (fun _ _ => rfl) (fun _ _ => rfl)

theorem dd_eq {g p : ℕ} (hp : p = 128 * g) (hN : t < 7 → ∀ k c, k < 16 → N k c = dy (512 * t + 512 + k) c) {r c : ℕ} (hr : r < 528) (h4 : 512 * t + r < 4096) (hc : c < 128) :
    ∑ k ∈ Finset.range 128, (ext t dy N r (p + k) * ps (p + k)) * wp g c k = DD dy ps wp (512 * t + r) (p + c) := by
  subst hp
  unfold DD DL
  rw [show (128 * g + c) / 128 = g by omega, show (128 * g + c) % 128 = c by omega]
  refine Finset.sum_congr rfl fun k _ => ?_
  have e : ext t dy N r (128 * g + k) = dy (512 * t + r) (128 * g + k) := by
    unfold ext
    split
    · rfl
    · rw [hN (by omega) _ _ (by omega)]
      congr 1; omega
  rw [e]

/-- One group's gradient, divided by the counts and cut at the last row. -/
theorem scPiece (ht : t < 8) (g : ℕ) {p : ℕ} (hp : p = 128 * g) {wd : ℝ} (hwd : wd = ((2 ^ (g + 1) : ℕ) : ℝ)) (hN : t < 7 → ∀ k c, k < 16 → N k c = dy (512 * t + 512 + k) c)
    {dd : FVec Ideal S528x128 .f32} {iv : FVec Ideal S528x1 .f32}
    (hdd : Re2 dd fun r c => ∑ k ∈ Finset.range 128, (ext t dy N (0 + r) (p + k) * ps (p + k)) * wp g c k) (hiv : Re2 iv (inv t wd))
    (hc : S528x1.ShapeCasts S528x1) (hb : S528x1.Broadcasts S528x128) :
    Re2 (φ := .f32) (select (broadcastTo S528x128 (shapeCast S528x1 (cmpf .olt (k0_pay99 (F := Ideal) (BitVec.ofNat 32 t)) (broadcast S528x1 (Scalar.ofBits .f32 0x45800000#32))) hc) hb)
      (mulf dd (broadcastTo S528x128 iv hb)) (broadcast S528x128 (Scalar.ofBits (F := Ideal) .f32 0x00000000#32)))
      fun r c => SC dy ps wp (512 * t + r) (p + c) := fun i => by
  subst hwd
  have h0 := idx2_lt0 i
  have h1 := idx2_lt1 i
  have hm : At2 (cmpf .olt (k0_pay99 (F := Ideal) (BitVec.ofNat 32 t)) (broadcast S528x1 (Scalar.ofBits .f32 0x45800000#32)))
      (fun r _ => BitVec.ofBool (decide (512 * t + r < 4096))) := fun j => by
    rw [cmpf_apply, p99 ht j]
    show Ideal.cmp .olt _ (Scalar.ofBits (F := Ideal) .f32 0x45800000#32) = _
    rw [w_4096]
    show BitVec.ofBool (decide (((_ : ℝ) : EReal) < ((_ : ℝ) : EReal))) = _
    congr 1
    refine decide_eq_decide.2 ?_
    rw [EReal.coe_lt_coe_iff]
    beta_reduce
    exact_mod_cast Iff.rfl
  rw [select_apply, ((hm.cast hc).ofCol hb) i, select_ofBool]
  unfold SC
  beta_reduce
  by_cases h : 512 * t + (i 0).val < 4096
  · rw [if_pos h, if_pos h, (hdd.mul (hiv.ofCol hb)) i]
    simp only [Nat.zero_add]
    rw [dd_eq hp hN h0 h h1]
    unfold inv cnt
    subst hp
    rw [win_eq h1, mul_one_div]
  · rw [if_neg h, if_neg h]
    exact w_zero

section

variable {f : ℕ → ℕ → ℝ}

/-- The leading window sums after one, two, three and four rotations the other way. -/
def b1 (f : ℕ → ℕ → ℝ) (r c : ℕ) : ℝ := f r c + f ((r + 528 - 527) % 528) c
def b2 (f : ℕ → ℕ → ℝ) (r c : ℕ) : ℝ := b1 f r c + b1 f ((r + 528 - 526) % 528) c
def b3 (f : ℕ → ℕ → ℝ) (r c : ℕ) : ℝ := b2 f r c + b2 f ((r + 528 - 524) % 528) c
def b4 (f : ℕ → ℕ → ℝ) (r c : ℕ) : ℝ := b3 f r c + b3 f ((r + 528 - 520) % 528) c

theorem b1_eq (c r : ℕ) (hr : r + 2 ≤ 528) : b1 f r c = ∑ j ∈ Finset.range 2, f (r + j) c :=
  bwd (n := 528) (w := 1) (s := 527) rfl (by norm_num) (g := fun r => f r c) (f := fun r => f r c) (fun r _ => by simp) r hr le_rfl
theorem b2_eq (c r : ℕ) (hr : r + 4 ≤ 528) : b2 f r c = ∑ j ∈ Finset.range 4, f (r + j) c :=
  bwd (n := 528) (w := 2) (s := 526) rfl (by norm_num) (g := fun r => f r c) (f := fun r => b1 f r c) (fun r h => b1_eq c r h) r hr (by norm_num)
theorem b3_eq (c r : ℕ) (hr : r + 8 ≤ 528) : b3 f r c = ∑ j ∈ Finset.range 8, f (r + j) c :=
  bwd (n := 528) (w := 4) (s := 524) rfl (by norm_num) (g := fun r => f r c) (f := fun r => b2 f r c) (fun r h => b2_eq c r h) r hr (by norm_num)
theorem b4_eq (c r : ℕ) (hr : r + 16 ≤ 528) : b4 f r c = ∑ j ∈ Finset.range 16, f (r + j) c :=
  bwd (n := 528) (w := 8) (s := 520) rfl (by norm_num) (g := fun r => f r c) (f := fun r => b3 f r c) (fun r h => b3_eq c r h) r hr (by norm_num)

variable {v0 v1 v2 v3 : FVec Ideal S528x128 .f32}

theorem p139 (h0 : Re2 v0 fun r c => f r (0 + c)) (h1 : Re2 v1 fun r c => f r (128 + c)) (h2 : Re2 v2 fun r c => f r (256 + c)) (h3 : Re2 v3 fun r c => f r (384 + c)) :
    Re2 (k0_pay139 v0 v1 v2 v3) (b1 f) := by
  have h : Re2 (concatenate S528x512 1 [⟨S528x128, v0⟩, ⟨S528x128, v1⟩, ⟨S528x128, v2⟩, ⟨S528x128, v3⟩] concatenates_S528x128_S528x128_S528x128_S528x128_S528x512_d1) f :=
    Re2.congr (f := fun r c => f r (128 * (c / 128) + c % 128))
      (fun i => At2.cat4 (f := fun g r c => ((f r (128 * g + c) : ℝ) : EReal)) (fun i => h0 i) (fun i => h1 i) (fun i => h2 i) (fun i => h3 i) _ i)
      fun r c _ _ => by rw [Nat.div_add_mod]
  exact h.add (h.rot 527#32 527 rfl _)

theorem p140 (h0 : Re2 v0 fun r c => f r (0 + c)) (h1 : Re2 v1 fun r c => f r (128 + c)) (h2 : Re2 v2 fun r c => f r (256 + c)) (h3 : Re2 v3 fun r c => f r (384 + c)) :
    Re2 (k0_pay140 v0 v1 v2 v3) (b2 f) := (p139 h0 h1 h2 h3).add ((p139 h0 h1 h2 h3).rot 526#32 526 rfl _)

theorem p141 (h0 : Re2 v0 fun r c => f r (0 + c)) (h1 : Re2 v1 fun r c => f r (128 + c)) (h2 : Re2 v2 fun r c => f r (256 + c)) (h3 : Re2 v3 fun r c => f r (384 + c)) :
    Re2 (k0_pay141 v0 v1 v2 v3) (b3 f) := (p140 h0 h1 h2 h3).add ((p140 h0 h1 h2 h3).rot 524#32 524 rfl _)

end

/-- One group's share of the input's gradient. -/
theorem dzPiece (ht : t < 8) (g : ℕ) {p : ℕ} (hp : p = 128 * g) (hN : t < 7 → ∀ k c, k < 16 → N k c = dy (512 * t + 512 + k) c)
    {B : FVec Ideal S528x512 .f32} {dd : FVec Ideal S528x128 .f32} {Bf : ℕ → ℕ → ℝ} (hB : Re2 B Bf)
    (hBf : ∀ r c, r < 512 → Bf r c = ∑ j ∈ Finset.range (2 ^ (g + 1)), SC dy ps wp (512 * t + (r + j)) c)
    (hdd : Re2 dd fun r c => ∑ k ∈ Finset.range 128, (ext t dy N (0 + r) (p + k) * ps (p + k)) * wp g c k)
    (h1 : S528x512.Slices ![0, p] S528x128) (h2 : S528x128.Slices ![0, 0] S512x128) (h3) :
    Re2 (truncf .bf16 (subf (extractStridedSlice S512x128 ![0, 0] (extractStridedSlice S528x128 ![0, p] B h1) h2) (extractStridedSlice S512x128 ![0, 0] dd h2)) h3)
      fun r c => dzP dy ps wp (512 * t + r) (p + c) := by
  refine (((((hB.slice _ _ h1).slice 0 0 h2)).sub (hdd.slice 0 0 h2)).trunc h3).congr fun r c hr hc => ?_
  simp only [Nat.zero_add]
  rw [hBf r _ hr, dd_eq hp hN (by omega) (by omega) hc]
  subst hp
  unfold dzP
  rw [win_eq hc]
  simp only [Nat.add_assoc]

/-- The fourth group's leading window sums. -/
theorem p142 {f : ℕ → ℕ → ℝ} {v0 v1 v2 v3 : FVec Ideal S528x128 .f32} (h0 : Re2 v0 fun r c => f r (0 + c)) (h1 : Re2 v1 fun r c => f r (128 + c)) (h2 : Re2 v2 fun r c => f r (256 + c)) (h3 : Re2 v3 fun r c => f r (384 + c)) :
    Re2 (k0_pay142 v0 v1 v2 v3) fun r c => b4 f (0 + r) (384 + c) :=
  ((p141 h0 h1 h2 h3).add ((p141 h0 h1 h2 h3).rot 520#32 520 rfl rotates_S528x512_d0)).slice 0 384 slices_S528x512_o0_384_S528x128

/-- What one tile adds to the scale's gradient. -/
theorem dpsPiece {old : Vec Ideal S1x512 .f32} {x : FVec Ideal S528x512 .f32} {a0 a1 a2 a3 : FVec Ideal S512x128 .f32} {f : ℕ → EReal} (ho : At2 old fun _ => f)
    (hx : Re2 x (ext t dy N)) (h0 : At2 a0 fun r c => ((LIN zb wp (512 * t + r) (0 + c) : ℝ) : EReal) + bp (0 + c))
    (h1 : At2 a1 fun r c => ((LIN zb wp (512 * t + r) (128 + c) : ℝ) : EReal) + bp (128 + c)) (h2 : At2 a2 fun r c => ((LIN zb wp (512 * t + r) (256 + c) : ℝ) : EReal) + bp (256 + c))
    (h3 : At2 a3 fun r c => ((LIN zb wp (512 * t + r) (384 + c) : ℝ) : EReal) + bp (384 + c)) :
    At2 (k0_pay138 (shapeCast S1x512 old shapeCasts_S1x512_S1x512) (mulf (extractStridedSlice S512x512 ![0, 0] x slices_S528x512_o0_0_S512x512)
      (concatenate S512x512 1 [⟨S512x128, a0⟩, ⟨S512x128, a1⟩, ⟨S512x128, a2⟩, ⟨S512x128, a3⟩] concatenates_S512x128_S512x128_S512x128_S512x128_S512x512_d1)))
      fun _ c => f c + ∑ r ∈ Finset.range 512, ((dy (512 * t + r) c : ℝ) : EReal) * (((LIN zb wp (512 * t + r) c : ℝ) : EReal) + bp c) := fun i => by
  have hk := At2.cat4 (f := fun g r c => ((LIN zb wp (512 * t + r) (128 * g + c) : ℝ) : EReal) + bp (128 * g + c)) h0 h1 h2 h3
    concatenates_S512x128_S512x128_S512x128_S512x128_S512x512_d1
  have hm : At2 (mulf (extractStridedSlice S512x512 ![0, 0] x slices_S528x512_o0_0_S512x512)
      (concatenate S512x512 1 [⟨S512x128, a0⟩, ⟨S512x128, a1⟩, ⟨S512x128, a2⟩, ⟨S512x128, a3⟩] concatenates_S512x128_S512x128_S512x128_S512x128_S512x512_d1))
      fun r c => ((dy (512 * t + r) c : ℝ) : EReal) * (((LIN zb wp (512 * t + r) c : ℝ) : EReal) + bp c) := fun j => by
    have hj := idx2_lt0 j
    rw [mulf_apply, hk j, (hx.slice 0 0 slices_S528x512_o0_0_S512x512) j]
    beta_reduce
    rw [Nat.div_add_mod, Nat.zero_add, Nat.zero_add, ext_lt hj]
  exact (addf_apply _ _ i).trans (congrArg₂ (· + ·) ((ho.cast _) i) ((Cert.Arr.colSumE hm _ _ _ _ _) i))

end Cert.Pool

end
-- ==== Proof.Reads.lean ====
/- What the body's loads read: from an argument's whole block, and from a block some planes of which have been written. -/
module

public import proofs.«01_k».proof.Proof.Arr

@[expose] public section

noncomputable section

namespace Cert.Arr

open Idealize.ShloMosaic Idealize.ShloMosaic.ValueIdx
open scoped BigOperators

variable {sig : RefSig} {κ : Kind} {sp : Space}

theorem readAt_unread {s : Shape} {a : Memref sig κ sp s .f32} (ha : a.IsWhole) (x : Vec Ideal s .f32) (r : Rect s) :
    View.readAt (Elt Ideal) a.view r.toLoadRect (ha.unread x) = View.ld x r := by
  rw [View.readAt_eq_ld, ha.read_unread]

theorem Re2.rd {n m n' m' : ℕ} {a : Memref sig κ sp ⟨2, ![n, m]⟩ .f32} (ha : a.IsWhole) {X : Vec Ideal ⟨2, ![n, m]⟩ .f32} {f : ℕ → ℕ → ℝ} (hX : Re2 (φ := .f32) X f) (o p : ℕ)
    (inb : ∀ a, (![o, p] : Fin 2 → ℕ) a + (![n', m'] : Fin 2 → ℕ) a ≤ (⟨2, ![n, m]⟩ : Shape).size a) :
    Re2 (n := n') (m := m') (φ := .f32) (View.readAt (Elt Ideal) a.view (Rect.unit (s := ⟨2, ![n, m]⟩) ![o, p] ![n', m'] inb).toLoadRect (ha.unread X)) fun r c => f (o + r) (p + c) := by
  rw [readAt_unread]; exact hX.ld o p inb

theorem Re2.rdc {n m n' m' : ℕ} {a : Memref sig κ sp ⟨2, ![n, m]⟩ .f32} (ha : a.IsWhole) {X : Vec Ideal ⟨2, ![n, m]⟩ .f32} {f f' : ℕ → ℕ → ℝ} (hX : Re2 (φ := .f32) X f) (o p : ℕ)
    (inb : ∀ a, (![o, p] : Fin 2 → ℕ) a + (![n', m'] : Fin 2 → ℕ) a ≤ (⟨2, ![n, m]⟩ : Shape).size a) (hf : ∀ r c, r < n' → c < m' → f (o + r) (p + c) = f' r c) :
    Re2 (n := n') (m := m') (φ := .f32) (View.readAt (Elt Ideal) a.view (Rect.unit (s := ⟨2, ![n, m]⟩) ![o, p] ![n', m'] inb).toLoadRect (ha.unread X)) f' :=
  (Re2.rd ha hX o p inb).congr hf

theorem At2.rd {n m n' m' : ℕ} {a : Memref sig κ sp ⟨2, ![n, m]⟩ .f32} (ha : a.IsWhole) {X : Vec Ideal ⟨2, ![n, m]⟩ .f32} {f : ℕ → ℕ → EReal} (hX : At2 X f) (o p : ℕ)
    (inb : ∀ a, (![o, p] : Fin 2 → ℕ) a + (![n', m'] : Fin 2 → ℕ) a ≤ (⟨2, ![n, m]⟩ : Shape).size a) :
    At2 (n := n') (m := m') (View.readAt (Elt Ideal) a.view (Rect.unit (s := ⟨2, ![n, m]⟩) ![o, p] ![n', m'] inb).toLoadRect (ha.unread X)) fun r c => f (o + r) (p + c) := by
  rw [readAt_unread]; exact hX.ld o p inb

/-- One plane of a block of planes. -/
theorem Re3.rd {k n m : ℕ} {a : Memref sig κ sp ⟨3, ![k, n, m]⟩ .f32} (ha : a.IsWhole) {X : Vec Ideal ⟨3, ![k, n, m]⟩ .f32} {f : ℕ → ℕ → ℕ → ℝ} (hX : Re3 (φ := .f32) X f) (q : ℕ)
    (inb : ∀ a, (![q, 0, 0] : Fin 3 → ℕ) a + (![1, n, m] : Fin 3 → ℕ) a ≤ (⟨3, ![k, n, m]⟩ : Shape).size a) :
    Re3 (n := 1) (m := n) (k := m) (φ := .f32) (View.readAt (Elt Ideal) a.view (Rect.unit (s := ⟨3, ![k, n, m]⟩) ![q, 0, 0] ![1, n, m] inb).toLoadRect (ha.unread X)) fun _ => f q := by
  rw [readAt_unread]
  refine fun i => (hX.ld q 0 0 inb i).trans ?_
  have h0 : (i 0).val < 1 := (i 0).isLt
  simp only [Nat.zero_add, show (i 0).val = 0 by omega, Nat.add_zero]

/-- Plane `h` of what the stores `L` left holds `f`. -/
def Plane {k n m : ℕ} (L : List (View.Piece (Elt Ideal) ⟨3, ![k, n, m]⟩ .f32)) (h : ℕ) (f : ℕ → ℕ → ℝ) : Prop :=
  ∀ y : (⟨3, ![k, n, m]⟩ : Shape).Idx, (y 0).val = h → View.canon L y = ((f (y 1).val (y 2).val : ℝ) : EReal)

theorem Plane.base {k n m : ℕ} {w : Vec Ideal ⟨3, ![k, n, m]⟩ .f32} {f : ℕ → ℕ → ℝ} (hw : Re3 (φ := .f32) w fun _ => f) (h : ℕ)
    (inb : ∀ a, (![0, 0, 0] : Fin 3 → ℕ) a + (⟨3, ![k, n, m]⟩ : Shape).size a ≤ (⟨3, ![k, n, m]⟩ : Shape).size a) :
    Plane [(⟨Rect.unit (s := ⟨3, ![k, n, m]⟩) ![0, 0, 0] (⟨3, ![k, n, m]⟩ : Shape).size inb, w⟩ : View.Piece (Elt Ideal) ⟨3, ![k, n, m]⟩ .f32)] h f := fun y _ => by
  rw [View.canon_cons_unit_zero (Val := Elt Ideal) (by funext a; fin_cases a <;> rfl) inb w []]
  exact hw y

theorem Plane.skip {k n m : ℕ} {L : List (View.Piece (Elt Ideal) ⟨3, ![k, n, m]⟩ .f32)} {h : ℕ} {f : ℕ → ℕ → ℝ} (hL : Plane L h f) {q : ℕ} (hq : q ≠ h)
    (w : Vec Ideal ⟨3, ![1, n, m]⟩ .f32) (inb : ∀ a, (![q, 0, 0] : Fin 3 → ℕ) a + (![1, n, m] : Fin 3 → ℕ) a ≤ (⟨3, ![k, n, m]⟩ : Shape).size a) :
    Plane ((⟨Rect.unit (s := ⟨3, ![k, n, m]⟩) ![q, 0, 0] ![1, n, m] inb, w⟩ : View.Piece (Elt Ideal) ⟨3, ![k, n, m]⟩ .f32) :: L) h f := fun y hy => by
  rw [View.canon_cons_of_not_mem (Val := Elt Ideal)]
  · exact hL y hy
  · intro hm
    have h2 := ((Rect.mem_set_unit (inb := inb)).1 hm) 0
    have a : (![q, 0, 0] : Fin 3 → ℕ) 0 = q := rfl
    have b : (![1, n, m] : Fin 3 → ℕ) 0 = 1 := rfl
    rw [a, b] at h2
    omega

theorem Plane.hit {k n m : ℕ} (L : List (View.Piece (Elt Ideal) ⟨3, ![k, n, m]⟩ .f32)) {h : ℕ} {f : ℕ → ℕ → ℝ}
    {w : Vec Ideal ⟨3, ![1, n, m]⟩ .f32} (hw : Re3 (φ := .f32) w fun _ => f) (inb : ∀ a, (![h, 0, 0] : Fin 3 → ℕ) a + (![1, n, m] : Fin 3 → ℕ) a ≤ (⟨3, ![k, n, m]⟩ : Shape).size a) :
    Plane ((⟨Rect.unit (s := ⟨3, ![k, n, m]⟩) ![h, 0, 0] ![1, n, m] inb, w⟩ : View.Piece (Elt Ideal) ⟨3, ![k, n, m]⟩ .f32) :: L) h f := fun y hy => by
  have hm : y ∈ (Rect.unit (s := ⟨3, ![k, n, m]⟩) ![h, 0, 0] ![1, n, m] inb).set := Rect.mem_set_unit.2 fun a => by
    fin_cases a
    · exact ⟨hy.ge, by show (y 0).val < h + 1; omega⟩
    · exact ⟨Nat.zero_le _, by show (y 1).val < 0 + n; rw [Nat.zero_add]; exact (y 1).isLt⟩
    · exact ⟨Nat.zero_le _, by show (y 2).val < 0 + m; rw [Nat.zero_add]; exact (y 2).isLt⟩
  obtain ⟨x, rfl⟩ := (Rect.unit (s := ⟨3, ![k, n, m]⟩) ![h, 0, 0] ![1, n, m] inb).exists_idx_of_mem hm
  exact (View.canon_cons_emb (Val := Elt Ideal) _ w L x).trans (Re3.piece (f := fun _ => f) h 0 0 (by simpa only [Nat.zero_add] using hw) inb x)

/-- A load of plane `h` after stores that cover the block. -/
theorem Plane.readCov {k n m : ℕ} (v : View sig κ sp ⟨3, ![k, n, m]⟩ .f32) {L : List (View.Piece (Elt Ideal) ⟨3, ![k, n, m]⟩ .f32)} {h : ℕ} {f : ℕ → ℕ → ℝ} (hL : Plane L h f)
    (hcov : ∀ y, ∃ p ∈ L, y ∈ p.1.set) (inb : ∀ a, (![h, 0, 0] : Fin 3 → ℕ) a + (![1, n, m] : Fin 3 → ℕ) a ≤ (⟨3, ![k, n, m]⟩ : Shape).size a) :
    Re3 (n := 1) (m := n) (k := m) (φ := .f32) (v.readCov (Val := Elt Ideal) L (Rect.unit (s := ⟨3, ![k, n, m]⟩) ![h, 0, 0] ![1, n, m] inb).toLoadRect) fun _ => f := fun i => by
  have e := congrFun (View.readCov_eq_canon_ld (Val := Elt Ideal) v L (Rect.unit (s := ⟨3, ![k, n, m]⟩) ![h, 0, 0] ![1, n, m] inb) hcov) i
  refine e.trans ?_
  have u : ∀ a : Fin 3, (((Rect.unit (s := ⟨3, ![k, n, m]⟩) ![h, 0, 0] ![1, n, m] inb).emb i) a).val = (![h, 0, 0] : Fin 3 → ℕ) a + (i a).val :=
    fun a => congrArg ((![h, 0, 0] : Fin 3 → ℕ) a + ·) (Nat.one_mul (i a).val)
  have h0 : (i 0).val < 1 := (i 0).isLt
  refine (hL ((Rect.unit (s := ⟨3, ![k, n, m]⟩) ![h, 0, 0] ![1, n, m] inb).emb i) ((u 0).trans (by show h + (i 0).val = h; omega))).trans ?_
  refine congrArg (fun x : ℝ => (x : EReal)) (congrArg₂ f ((u 1).trans ?_) ((u 2).trans ?_))
  · exact Nat.zero_add _
  · exact Nat.zero_add _

theorem cov_last {S : Shape} {off : Fin S.rank → ℕ} (h : off = fun _ => 0) (inb : ∀ a, off a + S.size a ≤ S.size a) (w : Vec Ideal S .f32)
    (L : List (View.Piece (Elt Ideal) S .f32)) (hL : (⟨Rect.unit off S.size inb, w⟩ : View.Piece (Elt Ideal) S .f32) ∈ L) (y : S.Idx) : ∃ p ∈ L, y ∈ p.1.set :=
  ⟨_, hL, (Rect.mem_set_unit (inb := inb)).2 fun a => by subst h; exact ⟨Nat.zero_le _, by rw [Nat.zero_add]; exact (y a).isLt⟩⟩

theorem lt4 {h : ℕ} (hh : h < 4) : h = 0 ∨ h = 1 ∨ h = 2 ∨ h = 3 := by omega

/-- What a block holds after its stores, plane by plane. -/
theorem Re3.out {k n m : ℕ} (v : View sig κ sp ⟨3, ![k, n, m]⟩ .f32) (L : List (View.Piece (Elt Ideal) ⟨3, ![k, n, m]⟩ .f32)) {f : ℕ → ℕ → ℕ → ℝ}
    (hL : ∀ h, h < k → Plane L h (f h)) : Re3 (φ := .f32) (v.read (Elt Ideal) (v.writes (Elt Ideal) v.junk L)) f := fun i => by
  rw [View.read_writes_junk_eq_canon]
  exact hL _ (i 0).isLt i rfl

theorem Re3.out4 {n m : ℕ} (v : View sig κ sp ⟨3, ![4, n, m]⟩ .f32) (L : List (View.Piece (Elt Ideal) ⟨3, ![4, n, m]⟩ .f32)) {f : ℕ → ℕ → ℕ → ℝ}
    (h0 : Plane L 0 (f 0)) (h1 : Plane L 1 (f 1)) (h2 : Plane L 2 (f 2)) (h3 : Plane L 3 (f 3)) : Re3 (φ := .f32) (v.read (Elt Ideal) (v.writes (Elt Ideal) v.junk L)) f :=
  Re3.out v L fun h hh => by
    obtain rfl | rfl | rfl | rfl := lt4 hh
    · exact h0
    · exact h1
    · exact h2
    · exact h3

theorem Re2.out {n m : ℕ} (v : View sig κ sp ⟨2, ![n, m]⟩ .f32) {w : Vec Ideal ⟨2, ![n, m]⟩ .f32} {f : ℕ → ℕ → ℝ} (hw : Re2 (φ := .f32) w f)
    (L : List (View.Piece (Elt Ideal) ⟨2, ![n, m]⟩ .f32)) (inb : ∀ a, (![0, 0] : Fin 2 → ℕ) a + (⟨2, ![n, m]⟩ : Shape).size a ≤ (⟨2, ![n, m]⟩ : Shape).size a) :
    Re2 (φ := .f32) (v.read (Elt Ideal) (v.writes (Elt Ideal) v.junk ((⟨Rect.unit (s := ⟨2, ![n, m]⟩) ![0, 0] (⟨2, ![n, m]⟩ : Shape).size inb, w⟩ : View.Piece (Elt Ideal) ⟨2, ![n, m]⟩ .f32) :: L))) f := by
  rw [View.read_writes_junk_eq_canon, View.canon_cons_unit_zero (Val := Elt Ideal) (by funext a; fin_cases a <;> rfl) inb w L]
  exact hw

theorem At2.out {n m : ℕ} (v : View sig κ sp ⟨2, ![n, m]⟩ .f32) {w : Vec Ideal ⟨2, ![n, m]⟩ .f32} {f : ℕ → ℕ → EReal} (hw : At2 w f)
    (L : List (View.Piece (Elt Ideal) ⟨2, ![n, m]⟩ .f32)) (inb : ∀ a, (![0, 0] : Fin 2 → ℕ) a + (⟨2, ![n, m]⟩ : Shape).size a ≤ (⟨2, ![n, m]⟩ : Shape).size a) :
    At2 (v.read (Elt Ideal) (v.writes (Elt Ideal) v.junk ((⟨Rect.unit (s := ⟨2, ![n, m]⟩) ![0, 0] (⟨2, ![n, m]⟩ : Shape).size inb, w⟩ : View.Piece (Elt Ideal) ⟨2, ![n, m]⟩ .f32) :: L))) f := by
  rw [View.read_writes_junk_eq_canon, View.canon_cons_unit_zero (Val := Elt Ideal) (by funext a; fin_cases a <;> rfl) inb w L]
  exact hw

theorem readCov_whole {n m : ℕ} (v : View sig κ sp ⟨2, ![n, m]⟩ .f32) (w : Vec Ideal ⟨2, ![n, m]⟩ .f32)
    (inb : ∀ a, (![0, 0] : Fin 2 → ℕ) a + (⟨2, ![n, m]⟩ : Shape).size a ≤ (⟨2, ![n, m]⟩ : Shape).size a) :
    v.readCov (Val := Elt Ideal) [(⟨Rect.unit (s := ⟨2, ![n, m]⟩) ![0, 0] (⟨2, ![n, m]⟩ : Shape).size inb, w⟩ : View.Piece (Elt Ideal) ⟨2, ![n, m]⟩ .f32)]
      (Rect.unit (s := ⟨2, ![n, m]⟩) ![0, 0] (⟨2, ![n, m]⟩ : Shape).size inb).toLoadRect = w :=
  View.readCov_unit_zero (Val := Elt Ideal) v (by funext a; fin_cases a <;> rfl) inb w

end Cert.Arr

end
-- ==== Proof.Tile.lean ====
/- One grid point's blocks: 512 rows of the arguments, the 16 rows on either side, and the parameters. -/
module

public import proofs.«01_k».proof.Proof.GateOut
public import proofs.«01_k».proof.Proof.Pool
public import proofs.«01_k».proof.Proof.Reads

@[expose] public section

noncomputable section

namespace Cert.Tile

open Idealize.ShloMosaic Idealize.ShloMosaic.ValueIdx Cert.Arr Cert.Spec Cert.KernelIdeal Cert.KernelIdeal.Gen
open scoped BigOperators

/-- The tile's rows, and the pooled columns of an array. -/
def rows (t : ℕ) (f : ℕ → ℕ → ℝ) (r c : ℕ) : ℝ := f (512 * t + r) c
def colz (z : ℕ → ℕ → ℝ) (r c : ℕ) : ℝ := z r (1024 + c)
def coly (dy : ℕ → ℕ → ℝ) (r c : ℕ) : ℝ := dy r (512 + c)

/-- The rows the two halos hold. -/
def before (t : ℕ) (f : ℕ → ℕ → ℝ) (k c : ℕ) : ℝ := f (16 * (32 * t - 1) + k) c
def after (t : ℕ) (f : ℕ → ℕ → ℝ) (k c : ℕ) : ℝ := f (16 * min (32 * (t + 1)) 255 + k) c

structure Blocks (t : ℕ) (z dy : ℕ → ℕ → ℝ) (ws : ℕ → ℕ → ℕ → ℝ) (bs : ℕ → ℕ → ℝ) (ga be : ℕ → ℝ) (wp : ℕ → ℕ → ℕ → ℝ) (bp : ℕ → EReal) (ps : ℕ → ℝ)
    (x0 : Vec Ideal S512x1536 .f32) (x1 : Vec Ideal S16x512 .f32) (x2 : Vec Ideal S16x512 .f32) (x3 : Vec Ideal S512x1024 .f32) (x4 : Vec Ideal S16x512 .f32)
    (x5 : Vec Ideal S4x128x128 .f32) (x6 : Vec Ideal S128x512 .f32) (x7 : Vec Ideal S1x512 .f32) (x8 : Vec Ideal S1x512 .f32) (x9 : Vec Ideal S4x128x128 .f32)
    (x10 : Vec Ideal S1x512 .f32) (x11 : Vec Ideal S1x512 .f32) : Prop where
  ht : t < 8
  h0 : Re2 (φ := .f32) x0 (rows t z)
  h1 : Re2 (φ := .f32) x1 (before t (colz z))
  h2 : Re2 (φ := .f32) x2 (after t (colz z))
  h3 : Re2 (φ := .f32) x3 (rows t dy)
  h4 : Re2 (φ := .f32) x4 (after t (coly dy))
  h5 : Re3 (φ := .f32) x5 ws
  h6 : Re2 (φ := .f32) x6 fun r c => bs (c / 128) r
  h7 : Re2 (φ := .f32) x7 fun _ => ga
  h8 : Re2 (φ := .f32) x8 fun _ => be
  h9 : Re3 (φ := .f32) x9 wp
  h10 : At2 x10 fun _ => bp
  h11 : Re2 (φ := .f32) x11 fun _ => ps

theorem before_eq {t : ℕ} {f : ℕ → ℕ → ℝ} (h : t ≠ 0) (k c : ℕ) : before t f k c = f (512 * t - 16 + k) c := by
  unfold before; rw [show 16 * (32 * t - 1) = 512 * t - 16 by omega]
theorem after_eq {t : ℕ} {f : ℕ → ℕ → ℝ} (h : t < 7) (k c : ℕ) (_ : k < 16) : after t f k c = f (512 * t + 512 + k) c := by
  unfold after; rw [show 16 * min (32 * (t + 1)) 255 = 512 * t + 512 by omega]

/-- What a tile's 512 rows of the input's gradient hold. -/
def DZT (t : ℕ) (z dy : ℕ → ℕ → ℝ) (ws : ℕ → ℕ → ℕ → ℝ) (bs : ℕ → ℕ → ℝ) (ga be : ℕ → ℝ) (wp : ℕ → ℕ → ℕ → ℝ) (ps : ℕ → ℝ) (r c : ℕ) : ℝ :=
  if c < 512 then dzU (rows t z) (rows t dy) ga be ws bs r c
  else if c < 1024 then dzV (rows t z) (rows t dy) ga ws r (c - 512)
  else dzP (coly dy) ps wp (512 * t + r) (c - 1024)

theorem DZT_u {t : ℕ} {z dy : ℕ → ℕ → ℝ} {ws : ℕ → ℕ → ℕ → ℝ} {bs : ℕ → ℕ → ℝ} {ga be : ℕ → ℝ} {wp : ℕ → ℕ → ℕ → ℝ} {ps : ℕ → ℝ} (r c : ℕ) (h : c < 512) :
    dzU (rows t z) (rows t dy) ga be ws bs r c = DZT t z dy ws bs ga be wp ps (0 + r) (0 + c) := by
  unfold DZT; rw [Nat.zero_add, Nat.zero_add, if_pos h]

theorem DZT_v {t : ℕ} {z dy : ℕ → ℕ → ℝ} {ws : ℕ → ℕ → ℕ → ℝ} {bs : ℕ → ℕ → ℝ} {ga be : ℕ → ℝ} {wp : ℕ → ℕ → ℕ → ℝ} {ps : ℕ → ℝ} (r c : ℕ) (h : c < 512) :
    dzV (rows t z) (rows t dy) ga ws r c = DZT t z dy ws bs ga be wp ps (0 + r) (512 + c) := by
  unfold DZT; rw [Nat.zero_add, if_neg (by omega), if_pos (by omega), Nat.add_sub_cancel_left]

theorem DZT_p {t : ℕ} {z dy : ℕ → ℕ → ℝ} {ws : ℕ → ℕ → ℕ → ℝ} {bs : ℕ → ℕ → ℝ} {ga be : ℕ → ℝ} {wp : ℕ → ℕ → ℕ → ℝ} {ps : ℕ → ℝ} {o : ℕ} (p r c : ℕ) (h : o = 1024 + p) :
    dzP (coly dy) ps wp (512 * t + r) (p + c) = DZT t z dy ws bs ga be wp ps (0 + r) (o + c) := by
  subst h
  unfold DZT; rw [Nat.zero_add, if_neg (by omega), if_neg (by omega), Nat.add_assoc, Nat.add_sub_cancel_left]

end Cert.Tile

end
-- ==== Proof.CaseA.lean ====
/- What the body leaves in each result's block at the first grid point, which sets the accumulators to zero before adding to them. One lemma for each value that several
   later ones use, named after the value. -/
module

public import proofs.«01_k».proof.Proof.Tile
public import proofs.«01_k».proof.Proof.Gen.KernelIdeal.Frame

@[expose] public section

set_option maxRecDepth 16384

noncomputable section

namespace Cert.CaseA

open Idealize.ShloMosaic Idealize.ShloMosaic.ValueIdx Idealize.ShloMosaic.TcCoe Idealize.ShloMosaic.Tactic Cert.Arr Cert.Spec Cert.Words Cert.Gate Cert.Pool Cert.Tile Cert.KernelIdeal Cert.KernelIdeal.Gen
open scoped BigOperators

variable {c : Dev nD} {i : grid0.Coords} {arg1 : Memref sig .tc .vmem S512x1536 .f32} {harg1 : arg1.IsWhole} {arg2 : Memref sig .tc .vmem S16x512 .f32} {harg2 : arg2.IsWhole} {arg3 : Memref sig .tc .vmem S16x512 .f32} {harg3 : arg3.IsWhole} {arg4 : Memref sig .tc .vmem S512x1024 .f32} {harg4 : arg4.IsWhole} {arg5 : Memref sig .tc .vmem S16x512 .f32} {harg5 : arg5.IsWhole} {arg6 : Memref sig .tc .vmem S4x128x128 .f32} {harg6 : arg6.IsWhole} {arg7 : Memref sig .tc .vmem S128x512 .f32} {harg7 : arg7.IsWhole} {arg8 : Memref sig .tc .vmem S1x512 .f32} {harg8 : arg8.IsWhole} {arg9 : Memref sig .tc .vmem S1x512 .f32} {harg9 : arg9.IsWhole} {arg10 : Memref sig .tc .vmem S4x128x128 .f32} {harg10 : arg10.IsWhole} {arg11 : Memref sig .tc .vmem S1x512 .f32} {harg11 : arg11.IsWhole} {arg12 : Memref sig .tc .vmem S1x512 .f32} {harg12 : arg12.IsWhole} {arg14 : Memref sig .tc .vmem S512x1536 .bf16} {harg14 : arg14.IsWhole} {arg15 : Memref sig .tc .vmem S4x128x128 .f32} {harg15 : arg15.IsWhole} {arg16 : Memref sig .tc .vmem S4x128x1 .f32} {harg16 : arg16.IsWhole} {arg17 : Memref sig .tc .vmem S1x512 .f32} {harg17 : arg17.IsWhole} {arg18 : Memref sig .tc .vmem S1x512 .f32} {harg18 : arg18.IsWhole} {arg19 : Memref sig .tc .vmem S4x128x128 .f32} {harg19 : arg19.IsWhole} {arg20 : Memref sig .tc .vmem S1x512 .f32} {harg20 : arg20.IsWhole} {arg21 : Memref sig .tc .vmem S1x512 .f32} {harg21 : arg21.IsWhole} {arg22 : Memref sig .tc .vmem S512x512 .f32} {harg22 : arg22.IsWhole} {arg23 : Memref sig .tc .vmem S512x512 .f32} {harg23 : arg23.IsWhole} {hc0 : cond0_0 i}
  {x0 : Vec Ideal S512x1536 .f32} {x1 : Vec Ideal S16x512 .f32} {x2 : Vec Ideal S16x512 .f32} {x3 : Vec Ideal S512x1024 .f32} {x4 : Vec Ideal S16x512 .f32} {x5 : Vec Ideal S4x128x128 .f32} {x6 : Vec Ideal S128x512 .f32} {x7 : Vec Ideal S1x512 .f32} {x8 : Vec Ideal S1x512 .f32} {x9 : Vec Ideal S4x128x128 .f32} {x10 : Vec Ideal S1x512 .f32} {x11 : Vec Ideal S1x512 .f32}
  {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  (H : Blocks (i 0).val z dy ws bs ga be wp bp ps x0 x1 x2 x3 x4 x5 x6 x7 x8 x9 x10 x11)

include H

theorem r5 : Re2 (φ := .f32) (kernelRun0_A.sl.r_5 (F := Ideal) c arg1 harg1 x0) (rows (i 0).val z) :=
  Re2.rdc harg1 H.h0 0 0 _ (fun _ _ _ _ => by simp only [Nat.zero_add] <;> rfl)

theorem r8 : Re2 (kernelRun0_A.sl.r_8 (F := Ideal) c arg1 harg1 x0) fun r c => tt ((rows (i 0).val z) r c) :=
  p18 (r5 H)

theorem r9 : Re2 (kernelRun0_A.sl.r_9 (F := Ideal) c arg1 harg1 x0) fun r c => dgl ((rows (i 0).val z) r c) :=
  p21 (r5 H) (r8 H)

theorem r10 : Re2 (kernelRun0_A.sl.r_10 (F := Ideal) c arg1 harg1 x0) (U (rows (i 0).val z)) :=
  p22 (r5 H) (r8 H)

theorem r11 : Re2 (kernelRun0_A.sl.r_11 (F := Ideal) c arg1 harg1 x0) fun r _ => rs (rows (i 0).val z) r :=
  p24 (r5 H) (r8 H)

theorem r12 : Re2 (kernelRun0_A.sl.r_12 (F := Ideal) c arg1 harg1 x0) (VH (rows (i 0).val z)) :=
  p25 (r5 H) (r8 H)

theorem r4 : Re2 (kernelRun0_A.sl.r_4 (F := Ideal) c arg8 harg8 x7) fun _ => ga :=
  Re2.cast (Re2.rdc harg8 H.h7 0 0 inb_S1x512_S1x512_0_0 (fun _ _ _ _ => by simp only [Nat.zero_add] <;> rfl)) _

theorem r6 : Re2 (kernelRun0_A.sl.r_6 (F := Ideal) c arg9 harg9 x8) fun _ => be :=
  Re2.cast (Re2.rdc harg9 H.h8 0 0 inb_S1x512_S1x512_0_0 (fun _ _ _ _ => by simp only [Nat.zero_add] <;> rfl)) _

theorem r13 : Re2 (kernelRun0_A.sl.r_13 (F := Ideal) c arg1 harg1 arg8 harg8 arg9 harg9 x0 x7 x8) (VN (rows (i 0).val z) ga be) :=
  p26 (r5 H) (r8 H) (r4 H) (r6 H)

theorem w0 : Re2 (kernelRun0_A.sl.r (F := Ideal) c arg6 harg6 x5) (W ws 0) :=
  p11 (Re3.rd harg6 H.h5 0 _)

theorem w1 : Re2 (kernelRun0_A.sl.r_1 (F := Ideal) c arg6 harg6 x5) (W ws 1) :=
  p11 (Re3.rd harg6 H.h5 1 _)

theorem w2 : Re2 (kernelRun0_A.sl.r_2 (F := Ideal) c arg6 harg6 x5) (W ws 2) :=
  p11 (Re3.rd harg6 H.h5 2 _)

theorem w3 : Re2 (kernelRun0_A.sl.r_3 (F := Ideal) c arg6 harg6 x5) (W ws 3) :=
  p11 (Re3.rd harg6 H.h5 3 _)

theorem mix : Re2 (φ := .f32) (kernelRun0_A.sl.v205 (F := Ideal) c arg1 harg1 arg6 harg6 arg7 harg7 arg8 harg8 arg9 harg9 arg22 x0 x5 x6 x7 x8) (MIX (rows (i 0).val z) ga be ws bs) :=
  mixRead _ rfl (w0 H) (w1 H) (w2 H) (w3 H) (r13 H)
    (Re2.rdc harg7 H.h6 0 0 inb_S128x512_S128x128_0_0 fun _ _ _ _ => rfl) (Re2.rdc harg7 H.h6 0 128 inb_S128x512_S128x128_0_128 fun _ _ _ _ => rfl) (Re2.rdc harg7 H.h6 0 256 inb_S128x512_S128x128_0_256 fun _ _ _ _ => rfl) (Re2.rdc harg7 H.h6 0 384 inb_S128x512_S128x128_0_384 fun _ _ _ _ => rfl) _

theorem d0 : Re2 (φ := .f32) (View.readAt (Elt Ideal) arg4.view (Rect.unit (s := S512x1024) ![0, 0] S512x512.size inb_S512x1024_S512x512_0_0).toLoadRect (harg4.unread x3)) (rows (i 0).val dy) :=
  Re2.rdc harg4 H.h3 0 0 inb_S512x1024_S512x512_0_0 (fun _ _ _ _ => by simp only [Nat.zero_add] <;> rfl)

theorem v207 : Re2 (kernelRun0_A.sl.v207 (F := Ideal) c arg1 harg1 arg4 harg4 x0 x3) (DM (rows (i 0).val z) (rows (i 0).val dy)) :=
  Re2.mul (φ := .f32) (d0 H) (r10 H)

theorem v208 : Re2 (kernelRun0_A.sl.v208 (F := Ideal) c arg1 harg1 arg4 harg4 x0 x3) (DM (rows (i 0).val z) (rows (i 0).val dy)) :=
  (v207 H).trunc _

theorem dvn : Re2 (φ := .f32) (kernelRun0_A.sl.v425 (F := Ideal) c arg1 harg1 arg4 harg4 arg6 harg6 arg23 x0 x3 x5) (DVN (rows (i 0).val z) (rows (i 0).val dy) ws) :=
  dvnRead _ (w0 H) (w1 H) (w2 H) (w3 H) (v208 H) _

theorem v459 : Re2 (kernelRun0_A.sl.v459 (F := Ideal) c arg1 harg1 arg4 harg4 arg6 harg6 arg7 harg7 arg8 harg8 arg9 harg9 arg22 x0 x3 x5 x6 x7 x8) (dzU (rows (i 0).val z) (rows (i 0).val dy) ga be ws bs) :=
  p88 (v26 := (kernelRun0_A.sl.r_5 (F := Ideal) c arg1 harg1 x0)) (r9 H) (d0 H) (mix H)

theorem v463 : Re2 (kernelRun0_A.sl.v463 (F := Ideal) c arg1 harg1 arg4 harg4 arg6 harg6 arg8 harg8 arg23 x0 x3 x5 x7) (dzV (rows (i 0).val z) (rows (i 0).val dy) ga ws) :=
  p89 (r4 H) (r9 H) (r11 H) (r12 H) (dvn H)

theorem tril : Re2 (kernelRun0_A.sl.v220 (F := Ideal)) fun r c => if c ≤ r then 1 else 0 :=
  Cert.Gate.tril

theorem zin : Re2 (φ := .f32) (View.readAt (Elt Ideal) arg1.view (Rect.unit (s := S512x1536) ![0, 1024] S512x512.size inb_S512x1536_S512x512_0_1024).toLoadRect (harg1.unread x0)) fun r c => (colz z) (512 * (i 0).val + r) c :=
  Re2.rdc harg1 H.h0 0 1024 inb_S512x1536_S512x512_0_1024 (fun _ _ _ _ => by simp only [Nat.zero_add] <;> rfl)

theorem zpre : Re2 (φ := .f32) (View.readAt (Elt Ideal) arg2.view (Rect.unit (s := S16x512) ![0, 0] S16x512.size inb_S16x512_S16x512_0_0).toLoadRect (harg2.unread x1)) (before (i 0).val (colz z)) :=
  Re2.rdc harg2 H.h1 0 0 inb_S16x512_S16x512_0_0 (fun _ _ _ _ => by simp only [Nat.zero_add] <;> rfl)

theorem zpost : Re2 (φ := .f32) (View.readAt (Elt Ideal) arg3.view (Rect.unit (s := S16x512) ![0, 0] S16x512.size inb_S16x512_S16x512_0_0).toLoadRect (harg3.unread x2)) (after (i 0).val (colz z)) :=
  Re2.rdc harg3 H.h2 0 0 inb_S16x512_S16x512_0_0 (fun _ _ _ _ => by simp only [Nat.zero_add] <;> rfl)

theorem din : Re2 (φ := .f32) (View.readAt (Elt Ideal) arg4.view (Rect.unit (s := S512x1024) ![0, 512] S512x512.size inb_S512x1024_S512x512_0_512).toLoadRect (harg4.unread x3)) fun r c => (coly dy) (512 * (i 0).val + r) c :=
  Re2.rdc harg4 H.h3 0 512 inb_S512x1024_S512x512_0_512 (fun _ _ _ _ => by simp only [Nat.zero_add] <;> rfl)

theorem dpost : Re2 (φ := .f32) (View.readAt (Elt Ideal) arg5.view (Rect.unit (s := S16x512) ![0, 0] S16x512.size inb_S16x512_S16x512_0_0).toLoadRect (harg5.unread x4)) (after (i 0).val (coly dy)) :=
  Re2.rdc harg5 H.h4 0 0 inb_S16x512_S16x512_0_0 (fun _ _ _ _ => by simp only [Nat.zero_add] <;> rfl)

theorem psc : Re2 (φ := .f32) (View.readAt (Elt Ideal) arg12.view (Rect.unit (s := S1x512) ![0, 0] S1x512.size inb_S1x512_S1x512_0_0).toLoadRect (harg12.unread x11)) fun _ => ps :=
  Re2.rdc harg12 H.h11 0 0 inb_S1x512_S1x512_0_0 (fun _ _ _ _ => by simp only [Nat.zero_add] <;> rfl)

theorem v472 : Re2 (kernelRun0_A.sl.v472 (F := Ideal) c i arg1 harg1 arg2 harg2 arg3 harg3 x0 x1 x2) (full (i 0).val (colz z) (before (i 0).val (colz z)) (after (i 0).val (colz z))) :=
  p91 H.ht (zin H) (zpre H) (zpost H)

theorem v471 : Re2 (kernelRun0_A.sl.v471 (F := Ideal) c arg1 harg1 arg3 harg3 x0 x2) (ext (i 0).val (colz z) (after (i 0).val (colz z))) :=
  p90 (zin H) (zpost H)

theorem v516 : Re2 (kernelRun0_A.sl.v516 (F := Ideal) c arg4 harg4 arg5 harg5 x3 x4) (ext (i 0).val (coly dy) (after (i 0).val (coly dy))) :=
  p104 (din H) (dpost H)

theorem v520 : Re2 (kernelRun0_A.sl.v520 (F := Ideal) c arg4 harg4 arg5 harg5 arg12 harg12 x3 x4 x11) fun r c => (ext (i 0).val (coly dy) (after (i 0).val (coly dy))) r c * ps c :=
  p105 (din H) (dpost H) (psc H)

theorem v475 : Re2 (kernelRun0_A.sl.v475 (F := Ideal) c i arg1 harg1 arg2 harg2 arg3 harg3 x0 x1 x2) fun r c => s1 (full (i 0).val (colz z) (before (i 0).val (colz z)) (after (i 0).val (colz z))) (0 + r) (0 + c) :=
  p93 (v472 H)

theorem v495 : Re2 (kernelRun0_A.sl.v495 (F := Ideal) i) (inv (i 0).val 2) :=
  p100 H.ht

theorem v478 : Re2 (kernelRun0_A.sl.v478 (F := Ideal) c i arg1 harg1 arg2 harg2 arg3 harg3 x0 x1 x2) fun r c => s2 (full (i 0).val (colz z) (before (i 0).val (colz z)) (after (i 0).val (colz z))) (0 + r) (128 + c) :=
  p95 (v472 H)

theorem v501 : Re2 (kernelRun0_A.sl.v501 (F := Ideal) i) (inv (i 0).val 4) :=
  p101 H.ht

theorem v481 : Re2 (kernelRun0_A.sl.v481 (F := Ideal) c i arg1 harg1 arg2 harg2 arg3 harg3 x0 x1 x2) fun r c => s3 (full (i 0).val (colz z) (before (i 0).val (colz z)) (after (i 0).val (colz z))) (0 + r) (256 + c) :=
  p97 (v472 H)

theorem v507 : Re2 (kernelRun0_A.sl.v507 (F := Ideal) i) (inv (i 0).val 8) :=
  p102 H.ht

theorem v484 : Re2 (kernelRun0_A.sl.v484 (F := Ideal) c i arg1 harg1 arg2 harg2 arg3 harg3 x0 x1 x2) fun r c => s4 (full (i 0).val (colz z) (before (i 0).val (colz z)) (after (i 0).val (colz z))) (0 + r) (384 + c) :=
  p98 (v472 H)

theorem v513 : Re2 (kernelRun0_A.sl.v513 (F := Ideal) i) (inv (i 0).val 16) :=
  p103 H.ht

theorem df0 : Re2 (kernelRun0_A.sl.v539 (F := Ideal) c i arg1 harg1 arg2 harg2 arg3 harg3 x0 x1 x2) fun r c => DF (colz z) (512 * (i 0).val + r) (0 + c) :=
  diffPiece 0 rfl (by norm_num) (v475 H) (fun r c hr => (s1_eq c (16 + r) (by omega) (by omega)).trans (win_full (fun h => before_eq h) hr (by norm_num) c)) (v471 H) (v495 H) _ _ _ _ _

theorem wp0 : Re2 (kernelRun0_A.sl.v536 (F := Ideal) c arg10 harg10 x9) (wp 0) :=
  (Re3.drop (Re3.rd harg10 H.h9 0 inb_S4x128x128_S1x128x128_0_0_0) _).trunc _

theorem lin0 : At2 (kernelRun0_A.sl.v544 (F := Ideal) c i arg1 harg1 arg2 harg2 arg3 harg3 arg10 harg10 arg11 harg11 x0 x1 x2 x9 x10) fun r c => ((LIN (colz z) wp (512 * (i 0).val + r) (0 + c) : ℝ) : EReal) + bp (0 + c) :=
  linPiece 0 rfl (df0 H) (wp0 H) (At2.rd harg11 H.h10 0 0 inb_S1x512_S1x128_0_0) _ _

theorem dd0 : Re2 (kernelRun0_A.sl.v554 (F := Ideal) c arg4 harg4 arg5 harg5 arg10 harg10 arg12 harg12 x3 x4 x9 x11) fun r c => ∑ k ∈ Finset.range 128, ((ext (i 0).val (coly dy) (after (i 0).val (coly dy))) (0 + r) (0 + k) * ps (0 + k)) * wp 0 c k :=
  ddPiece 0 (v520 H) (wp0 H) _ _

theorem sc0 : Re2 (φ := .f32) (kernelRun0_A.sl.v562 (F := Ideal) c i arg4 harg4 arg5 harg5 arg10 harg10 arg12 harg12 x3 x4 x9 x11) fun r c => SC (coly dy) ps wp (512 * (i 0).val + r) (0 + c) :=
  scPiece H.ht 0 rfl (by norm_num) (fun h => after_eq h) (dd0 H) (v495 H) _ _

theorem df1 : Re2 (kernelRun0_A.sl.v574 (F := Ideal) c i arg1 harg1 arg2 harg2 arg3 harg3 x0 x1 x2) fun r c => DF (colz z) (512 * (i 0).val + r) (128 + c) :=
  diffPiece 1 rfl (by norm_num) (v478 H) (fun r c hr => (s2_eq c (16 + r) (by omega) (by omega)).trans (win_full (fun h => before_eq h) hr (by norm_num) c)) (v471 H) (v501 H) _ _ _ _ _

theorem wp1 : Re2 (kernelRun0_A.sl.v571 (F := Ideal) c arg10 harg10 x9) (wp 1) :=
  (Re3.drop (Re3.rd harg10 H.h9 1 inb_S4x128x128_S1x128x128_1_0_0) _).trunc _

theorem lin1 : At2 (kernelRun0_A.sl.v579 (F := Ideal) c i arg1 harg1 arg2 harg2 arg3 harg3 arg10 harg10 arg11 harg11 x0 x1 x2 x9 x10) fun r c => ((LIN (colz z) wp (512 * (i 0).val + r) (128 + c) : ℝ) : EReal) + bp (128 + c) :=
  linPiece 1 rfl (df1 H) (wp1 H) (At2.rd harg11 H.h10 0 128 inb_S1x512_S1x128_0_128) _ _

theorem dd1 : Re2 (kernelRun0_A.sl.v589 (F := Ideal) c arg4 harg4 arg5 harg5 arg10 harg10 arg12 harg12 x3 x4 x9 x11) fun r c => ∑ k ∈ Finset.range 128, ((ext (i 0).val (coly dy) (after (i 0).val (coly dy))) (0 + r) (128 + k) * ps (128 + k)) * wp 1 c k :=
  ddPiece 1 (v520 H) (wp1 H) _ _

theorem sc1 : Re2 (φ := .f32) (kernelRun0_A.sl.v597 (F := Ideal) c i arg4 harg4 arg5 harg5 arg10 harg10 arg12 harg12 x3 x4 x9 x11) fun r c => SC (coly dy) ps wp (512 * (i 0).val + r) (128 + c) :=
  scPiece H.ht 1 rfl (by norm_num) (fun h => after_eq h) (dd1 H) (v501 H) _ _

theorem df2 : Re2 (kernelRun0_A.sl.v609 (F := Ideal) c i arg1 harg1 arg2 harg2 arg3 harg3 x0 x1 x2) fun r c => DF (colz z) (512 * (i 0).val + r) (256 + c) :=
  diffPiece 2 rfl (by norm_num) (v481 H) (fun r c hr => (s3_eq c (16 + r) (by omega) (by omega)).trans (win_full (fun h => before_eq h) hr (by norm_num) c)) (v471 H) (v507 H) _ _ _ _ _

theorem wp2 : Re2 (kernelRun0_A.sl.v606 (F := Ideal) c arg10 harg10 x9) (wp 2) :=
  (Re3.drop (Re3.rd harg10 H.h9 2 inb_S4x128x128_S1x128x128_2_0_0) _).trunc _

theorem lin2 : At2 (kernelRun0_A.sl.v614 (F := Ideal) c i arg1 harg1 arg2 harg2 arg3 harg3 arg10 harg10 arg11 harg11 x0 x1 x2 x9 x10) fun r c => ((LIN (colz z) wp (512 * (i 0).val + r) (256 + c) : ℝ) : EReal) + bp (256 + c) :=
  linPiece 2 rfl (df2 H) (wp2 H) (At2.rd harg11 H.h10 0 256 inb_S1x512_S1x128_0_256) _ _

theorem dd2 : Re2 (kernelRun0_A.sl.v624 (F := Ideal) c arg4 harg4 arg5 harg5 arg10 harg10 arg12 harg12 x3 x4 x9 x11) fun r c => ∑ k ∈ Finset.range 128, ((ext (i 0).val (coly dy) (after (i 0).val (coly dy))) (0 + r) (256 + k) * ps (256 + k)) * wp 2 c k :=
  ddPiece 2 (v520 H) (wp2 H) _ _

theorem sc2 : Re2 (φ := .f32) (kernelRun0_A.sl.v632 (F := Ideal) c i arg4 harg4 arg5 harg5 arg10 harg10 arg12 harg12 x3 x4 x9 x11) fun r c => SC (coly dy) ps wp (512 * (i 0).val + r) (256 + c) :=
  scPiece H.ht 2 rfl (by norm_num) (fun h => after_eq h) (dd2 H) (v507 H) _ _

theorem df3 : Re2 (kernelRun0_A.sl.v644 (F := Ideal) c i arg1 harg1 arg2 harg2 arg3 harg3 x0 x1 x2) fun r c => DF (colz z) (512 * (i 0).val + r) (384 + c) :=
  diffPiece 3 rfl (by norm_num) (v484 H) (fun r c hr => (s4_eq c (16 + r) (by omega) (by omega)).trans (win_full (fun h => before_eq h) hr (by norm_num) c)) (v471 H) (v513 H) _ _ _ _ _

theorem wp3 : Re2 (kernelRun0_A.sl.v641 (F := Ideal) c arg10 harg10 x9) (wp 3) :=
  (Re3.drop (Re3.rd harg10 H.h9 3 inb_S4x128x128_S1x128x128_3_0_0) _).trunc _

theorem lin3 : At2 (kernelRun0_A.sl.v649 (F := Ideal) c i arg1 harg1 arg2 harg2 arg3 harg3 arg10 harg10 arg11 harg11 x0 x1 x2 x9 x10) fun r c => ((LIN (colz z) wp (512 * (i 0).val + r) (384 + c) : ℝ) : EReal) + bp (384 + c) :=
  linPiece 3 rfl (df3 H) (wp3 H) (At2.rd harg11 H.h10 0 384 inb_S1x512_S1x128_0_384) _ _

theorem dd3 : Re2 (kernelRun0_A.sl.v659 (F := Ideal) c arg4 harg4 arg5 harg5 arg10 harg10 arg12 harg12 x3 x4 x9 x11) fun r c => ∑ k ∈ Finset.range 128, ((ext (i 0).val (coly dy) (after (i 0).val (coly dy))) (0 + r) (384 + k) * ps (384 + k)) * wp 3 c k :=
  ddPiece 3 (v520 H) (wp3 H) _ _

theorem sc3 : Re2 (φ := .f32) (kernelRun0_A.sl.v667 (F := Ideal) c i arg4 harg4 arg5 harg5 arg10 harg10 arg12 harg12 x3 x4 x9 x11) fun r c => SC (coly dy) ps wp (512 * (i 0).val + r) (384 + c) :=
  scPiece H.ht 3 rfl (by norm_num) (fun h => after_eq h) (dd3 H) (v513 H) _ _

theorem dz0 : Re2 (k0_pay143 (kernelRun0_A.sl.v554 (F := Ideal) c arg4 harg4 arg5 harg5 arg10 harg10 arg12 harg12 x3 x4 x9 x11) (kernelRun0_A.sl.v562 (F := Ideal) c i arg4 harg4 arg5 harg5 arg10 harg10 arg12 harg12 x3 x4 x9 x11) (kernelRun0_A.sl.v597 (F := Ideal) c i arg4 harg4 arg5 harg5 arg10 harg10 arg12 harg12 x3 x4 x9 x11) (kernelRun0_A.sl.v632 (F := Ideal) c i arg4 harg4 arg5 harg5 arg10 harg10 arg12 harg12 x3 x4 x9 x11) (kernelRun0_A.sl.v667 (F := Ideal) c i arg4 harg4 arg5 harg5 arg10 harg10 arg12 harg12 x3 x4 x9 x11)) fun r c => dzP (coly dy) ps wp (512 * (i 0).val + r) (0 + c) :=
  dzPiece H.ht 0 rfl (fun h => after_eq h) (p139 (f := fun r c => SC (coly dy) ps wp (512 * (i 0).val + r) c) (sc0 H) (sc1 H) (sc2 H) (sc3 H)) (fun r c hr => (b1_eq c r (by omega))) (dd0 H) slices_S528x512_o0_0_S528x128 slices_S528x128_o0_0_S512x128 _

theorem dz1 : Re2 (k0_pay144 (kernelRun0_A.sl.v562 (F := Ideal) c i arg4 harg4 arg5 harg5 arg10 harg10 arg12 harg12 x3 x4 x9 x11) (kernelRun0_A.sl.v589 (F := Ideal) c arg4 harg4 arg5 harg5 arg10 harg10 arg12 harg12 x3 x4 x9 x11) (kernelRun0_A.sl.v597 (F := Ideal) c i arg4 harg4 arg5 harg5 arg10 harg10 arg12 harg12 x3 x4 x9 x11) (kernelRun0_A.sl.v632 (F := Ideal) c i arg4 harg4 arg5 harg5 arg10 harg10 arg12 harg12 x3 x4 x9 x11) (kernelRun0_A.sl.v667 (F := Ideal) c i arg4 harg4 arg5 harg5 arg10 harg10 arg12 harg12 x3 x4 x9 x11)) fun r c => dzP (coly dy) ps wp (512 * (i 0).val + r) (128 + c) :=
  dzPiece H.ht 1 rfl (fun h => after_eq h) (p140 (f := fun r c => SC (coly dy) ps wp (512 * (i 0).val + r) c) (sc0 H) (sc1 H) (sc2 H) (sc3 H)) (fun r c hr => (b2_eq c r (by omega))) (dd1 H) slices_S528x512_o0_128_S528x128 slices_S528x128_o0_0_S512x128 _

theorem dz2 : Re2 (k0_pay1 (kernelRun0_A.sl.r_16 (F := Ideal) c i arg4 harg4 arg5 harg5 arg10 harg10 arg12 harg12 x3 x4 x9 x11) (kernelRun0_A.sl.r_17 (F := Ideal) c arg4 harg4 arg5 harg5 arg10 harg10 arg12 harg12 x3 x4 x9 x11)) fun r c => dzP (coly dy) ps wp (512 * (i 0).val + r) (256 + c) :=
  dzPiece H.ht 2 rfl (fun h => after_eq h) (p141 (f := fun r c => SC (coly dy) ps wp (512 * (i 0).val + r) c) (sc0 H) (sc1 H) (sc2 H) (sc3 H)) (fun r c hr => (b3_eq c r (by omega))) (dd2 H) slices_S528x512_o0_256_S528x128 slices_S528x128_o0_0_S512x128 _

theorem dz3 : Re2 (k0_pay2 (kernelRun0_A.sl.v659 (F := Ideal) c arg4 harg4 arg5 harg5 arg10 harg10 arg12 harg12 x3 x4 x9 x11) (kernelRun0_A.sl.r_15 (F := Ideal) c i arg4 harg4 arg5 harg5 arg10 harg10 arg12 harg12 x3 x4 x9 x11)) fun r c => dzP (coly dy) ps wp (512 * (i 0).val + r) (384 + c) :=
  dzPiece H.ht 3 rfl (fun h => after_eq h) (Re2.add (p141 (f := fun r c => SC (coly dy) ps wp (512 * (i 0).val + r) c) (sc0 H) (sc1 H) (sc2 H) (sc3 H)) ((p141 (f := fun r c => SC (coly dy) ps wp (512 * (i 0).val + r) c) (sc0 H) (sc1 H) (sc2 H) (sc3 H)).rot 520#32 520 rfl rotates_S528x512_d0)) (fun r c hr => (b4_eq c r (by omega))) (dd3 H) slices_S528x512_o0_384_S528x128 _ _

theorem out_12 : Re2 (φ := .bf16) (out0_A_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) (DZT (i 0).val z dy ws bs ga be wp ps) := by
  unfold out0_A_12 kernelRun0_A
  refine fun y => (congrFun (View.read_writes_junk_eq_canon (Val := Elt Ideal) _ _) y).trans ?_
  refine View.canon_apply_of_pieces (Val := Elt Ideal) (e := .bf16) (fun y => (((DZT (i 0).val z dy ws bs ga be wp ps) (y 0).val (y 1).val : ℝ) : EReal)) _ ?_ y (View.cover_of_tiledBy (s := S512x1536) _ ![512, 128] (by sl_kernel_rfl) y)
  dsimp only
  simp only [List.forall_mem_cons]
  refine ⟨?_, ?_, ?_, ?_, ?_, ?_, fun p hp => absurd hp List.not_mem_nil⟩
  · exact Re2.piece 0 1408 ((dz3 H).congr fun r c _ _ => DZT_p 384 r c rfl) _
  · exact Re2.piece 0 1280 ((dz2 H).congr fun r c _ _ => DZT_p 256 r c rfl) _
  · exact Re2.piece 0 1152 ((dz1 H).congr fun r c _ _ => DZT_p 128 r c rfl) _
  · exact Re2.piece 0 1024 ((dz0 H).congr fun r c _ _ => DZT_p 0 r c rfl) _
  · exact Re2.piece 0 512 ((v463 H).congr fun r c _ h => DZT_v r c h) _
  · exact Re2.piece 0 0 ((v459 H).congr fun r c _ h => DZT_u r c h) _

theorem z3 : Re3 (φ := .f32) (k0_pay3 (F := Ideal)) fun _ _ _ => 0 :=
  fun _ => w_zero

theorem z4 : Re3 (φ := .f32) (k0_pay4 (F := Ideal)) fun _ _ _ => 0 :=
  fun _ => w_zero

theorem z7 : Re3 (φ := .f32) (k0_pay7 (F := Ideal)) fun _ _ _ => 0 :=
  fun _ => w_zero

theorem z5 : Re2 (φ := .f32) (k0_pay5 (F := Ideal)) fun _ _ => 0 :=
  fun _ => w_zero

theorem z6 : Re2 (φ := .f32) (k0_pay6 (F := Ideal)) fun _ _ => 0 :=
  fun _ => w_zero

theorem z8 : Re2 (φ := .f32) (k0_pay8 (F := Ideal)) fun _ _ => 0 :=
  fun _ => w_zero

theorem z9 : Re2 (φ := .f32) (k0_pay9 (F := Ideal)) fun _ _ => 0 :=
  fun _ => w_zero

theorem acc13_0 : Re3 (φ := .f32) (kernelRun0_A.sl.v271 (F := Ideal) c arg1 harg1 arg4 harg4 arg8 harg8 arg9 harg9 arg15 x0 x3 x7 x8) fun _ => fun r c => 0 + dWS (rows (i 0).val z) (rows (i 0).val dy) ga be 4 0 r c :=
  dwsPiece (z := (rows (i 0).val z)) (dy := (rows (i 0).val dy)) 0 rfl (v208 H) (r13 H) (tril H) (Plane.readCov _ (Plane.base (z3 H) 0 inb_S4x128x128_S4x128x128_0_0_0) (cov_last (by funext a; fin_cases a <;> rfl) inb_S4x128x128_S4x128x128_0_0_0 _ _ (.head _)) inb_S4x128x128_S1x128x128_0_0_0) _ _ _ _ _ _

theorem acc13_1 : Re3 (φ := .f32) (kernelRun0_A.sl.v322 (F := Ideal) c arg1 harg1 arg4 harg4 arg8 harg8 arg9 harg9 arg15 x0 x3 x7 x8) fun _ => fun r c => 0 + dWS (rows (i 0).val z) (rows (i 0).val dy) ga be 4 1 r c :=
  dwsPiece (z := (rows (i 0).val z)) (dy := (rows (i 0).val dy)) 1 rfl (v208 H) (r13 H) (tril H) (Plane.readCov _ (Plane.skip (Plane.base (z3 H) 1 inb_S4x128x128_S4x128x128_0_0_0) (q := 0) (by norm_num) _ inb_S4x128x128_S1x128x128_0_0_0) (cov_last (by funext a; fin_cases a <;> rfl) inb_S4x128x128_S4x128x128_0_0_0 _ _ (.tail _ (.head _))) inb_S4x128x128_S1x128x128_1_0_0) _ _ _ _ _ _

theorem acc13_2 : Re3 (φ := .f32) (kernelRun0_A.sl.v373 (F := Ideal) c arg1 harg1 arg4 harg4 arg8 harg8 arg9 harg9 arg15 x0 x3 x7 x8) fun _ => fun r c => 0 + dWS (rows (i 0).val z) (rows (i 0).val dy) ga be 4 2 r c :=
  dwsPiece (z := (rows (i 0).val z)) (dy := (rows (i 0).val dy)) 2 rfl (v208 H) (r13 H) (tril H) (Plane.readCov _ (Plane.skip (Plane.skip (Plane.base (z3 H) 2 inb_S4x128x128_S4x128x128_0_0_0) (q := 0) (by norm_num) _ inb_S4x128x128_S1x128x128_0_0_0) (q := 1) (by norm_num) _ inb_S4x128x128_S1x128x128_1_0_0) (cov_last (by funext a; fin_cases a <;> rfl) inb_S4x128x128_S4x128x128_0_0_0 _ _ (.tail _ (.tail _ (.head _)))) inb_S4x128x128_S1x128x128_2_0_0) _ _ _ _ _ _

theorem acc13_3 : Re3 (φ := .f32) (kernelRun0_A.sl.v424 (F := Ideal) c arg1 harg1 arg4 harg4 arg8 harg8 arg9 harg9 arg15 x0 x3 x7 x8) fun _ => fun r c => 0 + dWS (rows (i 0).val z) (rows (i 0).val dy) ga be 4 3 r c :=
  dwsPiece (z := (rows (i 0).val z)) (dy := (rows (i 0).val dy)) 3 rfl (v208 H) (r13 H) (tril H) (Plane.readCov _ (Plane.skip (Plane.skip (Plane.skip (Plane.base (z3 H) 3 inb_S4x128x128_S4x128x128_0_0_0) (q := 0) (by norm_num) _ inb_S4x128x128_S1x128x128_0_0_0) (q := 1) (by norm_num) _ inb_S4x128x128_S1x128x128_1_0_0) (q := 2) (by norm_num) _ inb_S4x128x128_S1x128x128_2_0_0) (cov_last (by funext a; fin_cases a <;> rfl) inb_S4x128x128_S4x128x128_0_0_0 _ _ (.tail _ (.tail _ (.tail _ (.head _))))) inb_S4x128x128_S1x128x128_3_0_0) _ _ _ _ _ _

theorem out_13 : Re3 (φ := .f32) (out0_A_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) (fun h => fun r c => 0 + dWS (rows (i 0).val z) (rows (i 0).val dy) ga be 4 h r c) := by
  unfold out0_A_13 kernelRun0_A
  refine Re3.out4 _ _ ?_ ?_ ?_ ?_
  · exact Plane.skip (Plane.skip (Plane.skip (Plane.hit _ (acc13_0 H) _) (by norm_num) _ _) (by norm_num) _ _) (by norm_num) _ _
  · exact Plane.skip (Plane.skip (Plane.hit _ (acc13_1 H) _) (by norm_num) _ _) (by norm_num) _ _
  · exact Plane.skip (Plane.hit _ (acc13_2 H) _) (by norm_num) _ _
  · exact Plane.hit _ (acc13_3 H) _

theorem acc14_0 : Re3 (φ := .f32) (kernelRun0_A.sl.v229 (F := Ideal) c arg1 harg1 arg4 harg4 arg16 x0 x3) fun _ => fun r c => 0 + dBS (rows (i 0).val z) (rows (i 0).val dy) 4 0 r :=
  dbsPiece (z := (rows (i 0).val z)) (dy := (rows (i 0).val dy)) 0 rfl (v207 H) (Plane.readCov _ (Plane.base (z4 H) 0 inb_S4x128x1_S4x128x1_0_0_0) (cov_last (by funext a; fin_cases a <;> rfl) inb_S4x128x1_S4x128x1_0_0_0 _ _ (.head _)) inb_S4x128x1_S1x128x1_0_0_0) _ _ _ _ _ _ _ _ _ _ _ _

theorem acc14_1 : Re3 (φ := .f32) (kernelRun0_A.sl.v280 (F := Ideal) c arg1 harg1 arg4 harg4 arg16 x0 x3) fun _ => fun r c => 0 + dBS (rows (i 0).val z) (rows (i 0).val dy) 4 1 r :=
  dbsPiece (z := (rows (i 0).val z)) (dy := (rows (i 0).val dy)) 1 rfl (v207 H) (Plane.readCov _ (Plane.skip (Plane.base (z4 H) 1 inb_S4x128x1_S4x128x1_0_0_0) (q := 0) (by norm_num) _ inb_S4x128x1_S1x128x1_0_0_0) (cov_last (by funext a; fin_cases a <;> rfl) inb_S4x128x1_S4x128x1_0_0_0 _ _ (.tail _ (.head _))) inb_S4x128x1_S1x128x1_1_0_0) _ _ _ _ _ _ _ _ _ _ _ _

theorem acc14_2 : Re3 (φ := .f32) (kernelRun0_A.sl.v331 (F := Ideal) c arg1 harg1 arg4 harg4 arg16 x0 x3) fun _ => fun r c => 0 + dBS (rows (i 0).val z) (rows (i 0).val dy) 4 2 r :=
  dbsPiece (z := (rows (i 0).val z)) (dy := (rows (i 0).val dy)) 2 rfl (v207 H) (Plane.readCov _ (Plane.skip (Plane.skip (Plane.base (z4 H) 2 inb_S4x128x1_S4x128x1_0_0_0) (q := 0) (by norm_num) _ inb_S4x128x1_S1x128x1_0_0_0) (q := 1) (by norm_num) _ inb_S4x128x1_S1x128x1_1_0_0) (cov_last (by funext a; fin_cases a <;> rfl) inb_S4x128x1_S4x128x1_0_0_0 _ _ (.tail _ (.tail _ (.head _)))) inb_S4x128x1_S1x128x1_2_0_0) _ _ _ _ _ _ _ _ _ _ _ _

theorem acc14_3 : Re3 (φ := .f32) (kernelRun0_A.sl.v382 (F := Ideal) c arg1 harg1 arg4 harg4 arg16 x0 x3) fun _ => fun r c => 0 + dBS (rows (i 0).val z) (rows (i 0).val dy) 4 3 r :=
  dbsPiece (z := (rows (i 0).val z)) (dy := (rows (i 0).val dy)) 3 rfl (v207 H) (Plane.readCov _ (Plane.skip (Plane.skip (Plane.skip (Plane.base (z4 H) 3 inb_S4x128x1_S4x128x1_0_0_0) (q := 0) (by norm_num) _ inb_S4x128x1_S1x128x1_0_0_0) (q := 1) (by norm_num) _ inb_S4x128x1_S1x128x1_1_0_0) (q := 2) (by norm_num) _ inb_S4x128x1_S1x128x1_2_0_0) (cov_last (by funext a; fin_cases a <;> rfl) inb_S4x128x1_S4x128x1_0_0_0 _ _ (.tail _ (.tail _ (.tail _ (.head _))))) inb_S4x128x1_S1x128x1_3_0_0) _ _ _ _ _ _ _ _ _ _ _ _

theorem out_14 : Re3 (φ := .f32) (out0_A_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) (fun h => fun r c => 0 + dBS (rows (i 0).val z) (rows (i 0).val dy) 4 h r) := by
  unfold out0_A_14 kernelRun0_A
  refine Re3.out4 _ _ ?_ ?_ ?_ ?_
  · exact Plane.skip (Plane.skip (Plane.skip (Plane.hit _ (acc14_0 H) _) (by norm_num) _ _) (by norm_num) _ _) (by norm_num) _ _
  · exact Plane.skip (Plane.skip (Plane.hit _ (acc14_1 H) _) (by norm_num) _ _) (by norm_num) _ _
  · exact Plane.skip (Plane.hit _ (acc14_2 H) _) (by norm_num) _ _
  · exact Plane.hit _ (acc14_3 H) _

theorem acc17_0 : Re3 (φ := .f32) (kernelRun0_A.sl.v553 (F := Ideal) c i arg1 harg1 arg2 harg2 arg3 harg3 arg4 harg4 arg5 harg5 arg12 harg12 arg19 x0 x1 x2 x3 x4 x11) fun _ => fun a b => 0 + ∑ r ∈ Finset.range 512, DF (colz z) (512 * (i 0).val + r) (0 + a) * DL (coly dy) ps (512 * (i 0).val + r) (0 + b) :=
  dwpPiece 0 rfl (df0 H) (v520 H) (Plane.readCov _ (Plane.base (z7 H) 0 inb_S4x128x128_S4x128x128_0_0_0) (cov_last (by funext a; fin_cases a <;> rfl) inb_S4x128x128_S4x128x128_0_0_0 _ _ (.head _)) inb_S4x128x128_S1x128x128_0_0_0) _ _ _ _ _

theorem acc17_1 : Re3 (φ := .f32) (kernelRun0_A.sl.v588 (F := Ideal) c i arg1 harg1 arg2 harg2 arg3 harg3 arg4 harg4 arg5 harg5 arg12 harg12 arg19 x0 x1 x2 x3 x4 x11) fun _ => fun a b => 0 + ∑ r ∈ Finset.range 512, DF (colz z) (512 * (i 0).val + r) (128 + a) * DL (coly dy) ps (512 * (i 0).val + r) (128 + b) :=
  dwpPiece 1 rfl (df1 H) (v520 H) (Plane.readCov _ (Plane.skip (Plane.base (z7 H) 1 inb_S4x128x128_S4x128x128_0_0_0) (q := 0) (by norm_num) _ inb_S4x128x128_S1x128x128_0_0_0) (cov_last (by funext a; fin_cases a <;> rfl) inb_S4x128x128_S4x128x128_0_0_0 _ _ (.tail _ (.head _))) inb_S4x128x128_S1x128x128_1_0_0) _ _ _ _ _

theorem acc17_2 : Re3 (φ := .f32) (kernelRun0_A.sl.v623 (F := Ideal) c i arg1 harg1 arg2 harg2 arg3 harg3 arg4 harg4 arg5 harg5 arg12 harg12 arg19 x0 x1 x2 x3 x4 x11) fun _ => fun a b => 0 + ∑ r ∈ Finset.range 512, DF (colz z) (512 * (i 0).val + r) (256 + a) * DL (coly dy) ps (512 * (i 0).val + r) (256 + b) :=
  dwpPiece 2 rfl (df2 H) (v520 H) (Plane.readCov _ (Plane.skip (Plane.skip (Plane.base (z7 H) 2 inb_S4x128x128_S4x128x128_0_0_0) (q := 0) (by norm_num) _ inb_S4x128x128_S1x128x128_0_0_0) (q := 1) (by norm_num) _ inb_S4x128x128_S1x128x128_1_0_0) (cov_last (by funext a; fin_cases a <;> rfl) inb_S4x128x128_S4x128x128_0_0_0 _ _ (.tail _ (.tail _ (.head _)))) inb_S4x128x128_S1x128x128_2_0_0) _ _ _ _ _

theorem acc17_3 : Re3 (φ := .f32) (kernelRun0_A.sl.v658 (F := Ideal) c i arg1 harg1 arg2 harg2 arg3 harg3 arg4 harg4 arg5 harg5 arg12 harg12 arg19 x0 x1 x2 x3 x4 x11) fun _ => fun a b => 0 + ∑ r ∈ Finset.range 512, DF (colz z) (512 * (i 0).val + r) (384 + a) * DL (coly dy) ps (512 * (i 0).val + r) (384 + b) :=
  dwpPiece 3 rfl (df3 H) (v520 H) (Plane.readCov _ (Plane.skip (Plane.skip (Plane.skip (Plane.base (z7 H) 3 inb_S4x128x128_S4x128x128_0_0_0) (q := 0) (by norm_num) _ inb_S4x128x128_S1x128x128_0_0_0) (q := 1) (by norm_num) _ inb_S4x128x128_S1x128x128_1_0_0) (q := 2) (by norm_num) _ inb_S4x128x128_S1x128x128_2_0_0) (cov_last (by funext a; fin_cases a <;> rfl) inb_S4x128x128_S4x128x128_0_0_0 _ _ (.tail _ (.tail _ (.tail _ (.head _))))) inb_S4x128x128_S1x128x128_3_0_0) _ _ _ _ _

theorem out_17 : Re3 (φ := .f32) (out0_A_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) (fun h => fun a b => 0 + ∑ r ∈ Finset.range 512, DF (colz z) (512 * (i 0).val + r) (128 * h + a) * DL (coly dy) ps (512 * (i 0).val + r) (128 * h + b)) := by
  unfold out0_A_17 kernelRun0_A
  refine Re3.out4 _ _ ?_ ?_ ?_ ?_
  · exact Plane.skip (Plane.skip (Plane.skip (Plane.hit _ (acc17_0 H) _) (by norm_num) _ _) (by norm_num) _ _) (by norm_num) _ _
  · exact Plane.skip (Plane.skip (Plane.hit _ (acc17_1 H) _) (by norm_num) _ _) (by norm_num) _ _
  · exact Plane.skip (Plane.hit _ (acc17_2 H) _) (by norm_num) _ _
  · exact Plane.hit _ (acc17_3 H) _

theorem o15 : Re2 (φ := .f32) (kernelRun0_A.sl.v426 (F := Ideal) c arg17) fun _ _ => 0 := by
  have e := readCov_whole arg17.view (k0_pay5 (F := Ideal)) inb_S1x512_S1x512_0_0
  exact fun j => (congrFun e j).trans (z5 H j)

theorem o16 : Re2 (φ := .f32) (kernelRun0_A.sl.v433 (F := Ideal) c arg18) fun _ _ => 0 := by
  have e := readCov_whole arg18.view (k0_pay6 (F := Ideal)) inb_S1x512_S1x512_0_0
  exact fun j => (congrFun e j).trans (z6 H j)

theorem o18 : Re2 (φ := .f32) (kernelRun0_A.sl.v521 (F := Ideal) c arg20) fun _ _ => 0 := by
  have e := readCov_whole arg20.view (k0_pay8 (F := Ideal)) inb_S1x512_S1x512_0_0
  exact fun j => (congrFun e j).trans (z8 H j)

theorem o19 : Re2 (φ := .f32) (kernelRun0_A.sl.v668 (F := Ideal) c arg21) fun _ _ => 0 := by
  have e := readCov_whole arg21.view (k0_pay9 (F := Ideal)) inb_S1x512_S1x512_0_0
  exact fun j => (congrFun e j).trans (z9 H j)

theorem acc15 : Re2 (φ := .f32) (kernelRun0_A.sl.v431 (F := Ideal) c arg1 harg1 arg4 harg4 arg6 harg6 arg17 arg23 x0 x3 x5) fun _ c => 0 + dGA (rows (i 0).val z) (rows (i 0).val dy) ws 512 c :=
  p85 (r12 H) (dvn H) (o15 H)

theorem acc16 : Re2 (φ := .f32) (kernelRun0_A.sl.v437 (F := Ideal) c arg1 harg1 arg4 harg4 arg6 harg6 arg18 arg23 x0 x3 x5) fun _ c => 0 + dBE (rows (i 0).val z) (rows (i 0).val dy) ws 512 c :=
  p87 (dvn H) (Re2.cast (o16 H) _)

theorem acc18 : Re2 (φ := .f32) (kernelRun0_A.sl.v526 (F := Ideal) c arg4 harg4 arg5 harg5 arg12 harg12 arg20 x3 x4 x11) fun _ c => 0 + ∑ r ∈ Finset.range 512, DL (coly dy) ps (512 * (i 0).val + r) c :=
  p106 (din H) (dpost H) (psc H) (o18 H)

theorem acc19 : At2 (k0_pay138 (kernelRun0_A.sl.v669 (F := Ideal) c arg21) (kernelRun0_A.sl.v672 (F := Ideal) c i arg1 harg1 arg2 harg2 arg3 harg3 arg4 harg4 arg5 harg5 arg10 harg10 arg11 harg11 x0 x1 x2 x3 x4 x9 x10)) fun _ c => 0 + ∑ r ∈ Finset.range 512, (((coly dy) (512 * (i 0).val + r) c : ℝ) : EReal) * (((LIN (colz z) wp (512 * (i 0).val + r) c : ℝ) : EReal) + bp c) :=
  dpsPiece (f := fun _ => 0) (fun j => o19 H j) (v516 H) (lin0 H) (lin1 H) (lin2 H) (lin3 H)

theorem out_15 : Re2 (φ := .f32) (out0_A_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) fun _ c => 0 + dGA (rows (i 0).val z) (rows (i 0).val dy) ws 512 c := by
  unfold out0_A_15 kernelRun0_A
  exact Re2.out _ (acc15 H) _ _

theorem out_16 : Re2 (φ := .f32) (out0_A_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) fun _ c => 0 + dBE (rows (i 0).val z) (rows (i 0).val dy) ws 512 c := by
  unfold out0_A_16 kernelRun0_A
  exact Re2.out _ (acc16 H) _ _

theorem out_18 : Re2 (φ := .f32) (out0_A_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) fun _ c => 0 + ∑ r ∈ Finset.range 512, DL (coly dy) ps (512 * (i 0).val + r) c := by
  unfold out0_A_18 kernelRun0_A
  exact Re2.out _ (acc18 H) _ _

theorem out_19 : At2 (out0_A_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11) fun _ c => 0 + ∑ r ∈ Finset.range 512, (((coly dy) (512 * (i 0).val + r) c : ℝ) : EReal) * (((LIN (colz z) wp (512 * (i 0).val + r) c : ℝ) : EReal) + bp c) := by
  unfold out0_A_19 kernelRun0_A
  exact At2.out _ (acc19 H) _ _

end Cert.CaseA

end
-- ==== Proof.CaseB.lean ====
/- What the body leaves in each result's block at a later grid point, which adds to the accumulators. One lemma for each value that several
   later ones use, named after the value. -/
module

public import proofs.«01_k».proof.Proof.Tile
public import proofs.«01_k».proof.Proof.Gen.KernelIdeal.Frame

@[expose] public section

set_option maxRecDepth 16384

noncomputable section

namespace Cert.CaseB

open Idealize.ShloMosaic Idealize.ShloMosaic.ValueIdx Idealize.ShloMosaic.TcCoe Idealize.ShloMosaic.Tactic Cert.Arr Cert.Spec Cert.Words Cert.Gate Cert.Pool Cert.Tile Cert.KernelIdeal Cert.KernelIdeal.Gen
open scoped BigOperators

variable {c : Dev nD} {i : grid0.Coords} {arg1 : Memref sig .tc .vmem S512x1536 .f32} {harg1 : arg1.IsWhole} {arg2 : Memref sig .tc .vmem S16x512 .f32} {harg2 : arg2.IsWhole} {arg3 : Memref sig .tc .vmem S16x512 .f32} {harg3 : arg3.IsWhole} {arg4 : Memref sig .tc .vmem S512x1024 .f32} {harg4 : arg4.IsWhole} {arg5 : Memref sig .tc .vmem S16x512 .f32} {harg5 : arg5.IsWhole} {arg6 : Memref sig .tc .vmem S4x128x128 .f32} {harg6 : arg6.IsWhole} {arg7 : Memref sig .tc .vmem S128x512 .f32} {harg7 : arg7.IsWhole} {arg8 : Memref sig .tc .vmem S1x512 .f32} {harg8 : arg8.IsWhole} {arg9 : Memref sig .tc .vmem S1x512 .f32} {harg9 : arg9.IsWhole} {arg10 : Memref sig .tc .vmem S4x128x128 .f32} {harg10 : arg10.IsWhole} {arg11 : Memref sig .tc .vmem S1x512 .f32} {harg11 : arg11.IsWhole} {arg12 : Memref sig .tc .vmem S1x512 .f32} {harg12 : arg12.IsWhole} {arg14 : Memref sig .tc .vmem S512x1536 .bf16} {harg14 : arg14.IsWhole} {arg15 : Memref sig .tc .vmem S4x128x128 .f32} {harg15 : arg15.IsWhole} {arg16 : Memref sig .tc .vmem S4x128x1 .f32} {harg16 : arg16.IsWhole} {arg17 : Memref sig .tc .vmem S1x512 .f32} {harg17 : arg17.IsWhole} {arg18 : Memref sig .tc .vmem S1x512 .f32} {harg18 : arg18.IsWhole} {arg19 : Memref sig .tc .vmem S4x128x128 .f32} {harg19 : arg19.IsWhole} {arg20 : Memref sig .tc .vmem S1x512 .f32} {harg20 : arg20.IsWhole} {arg21 : Memref sig .tc .vmem S1x512 .f32} {harg21 : arg21.IsWhole} {arg22 : Memref sig .tc .vmem S512x512 .f32} {harg22 : arg22.IsWhole} {arg23 : Memref sig .tc .vmem S512x512 .f32} {harg23 : arg23.IsWhole} {hc0 : ¬cond0_0 i}
  {x0 : Vec Ideal S512x1536 .f32} {x1 : Vec Ideal S16x512 .f32} {x2 : Vec Ideal S16x512 .f32} {x3 : Vec Ideal S512x1024 .f32} {x4 : Vec Ideal S16x512 .f32} {x5 : Vec Ideal S4x128x128 .f32} {x6 : Vec Ideal S128x512 .f32} {x7 : Vec Ideal S1x512 .f32} {x8 : Vec Ideal S1x512 .f32} {x9 : Vec Ideal S4x128x128 .f32} {x10 : Vec Ideal S1x512 .f32} {x11 : Vec Ideal S1x512 .f32} {xo13 : Vec Ideal S4x128x128 .f32} {xo14 : Vec Ideal S4x128x1 .f32} {xo15 : Vec Ideal S1x512 .f32} {xo16 : Vec Ideal S1x512 .f32} {xo17 : Vec Ideal S4x128x128 .f32} {xo18 : Vec Ideal S1x512 .f32} {xo19 : Vec Ideal S1x512 .f32}
  {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  (H : Blocks (i 0).val z dy ws bs ga be wp bp ps x0 x1 x2 x3 x4 x5 x6 x7 x8 x9 x10 x11)

include H

theorem r5 : Re2 (φ := .f32) (kernelRun0_B.sl.r_5 (F := Ideal) c arg1 harg1 x0) (rows (i 0).val z) :=
  Re2.rdc harg1 H.h0 0 0 _ (fun _ _ _ _ => by simp only [Nat.zero_add] <;> rfl)

theorem r8 : Re2 (kernelRun0_B.sl.r_8 (F := Ideal) c arg1 harg1 x0) fun r c => tt ((rows (i 0).val z) r c) :=
  p18 (r5 H)

theorem r9 : Re2 (kernelRun0_B.sl.r_9 (F := Ideal) c arg1 harg1 x0) fun r c => dgl ((rows (i 0).val z) r c) :=
  p21 (r5 H) (r8 H)

theorem r10 : Re2 (kernelRun0_B.sl.r_10 (F := Ideal) c arg1 harg1 x0) (U (rows (i 0).val z)) :=
  p22 (r5 H) (r8 H)

theorem r11 : Re2 (kernelRun0_B.sl.r_11 (F := Ideal) c arg1 harg1 x0) fun r _ => rs (rows (i 0).val z) r :=
  p24 (r5 H) (r8 H)

theorem r12 : Re2 (kernelRun0_B.sl.r_12 (F := Ideal) c arg1 harg1 x0) (VH (rows (i 0).val z)) :=
  p25 (r5 H) (r8 H)

theorem r4 : Re2 (kernelRun0_B.sl.r_4 (F := Ideal) c arg8 harg8 x7) fun _ => ga :=
  Re2.cast (Re2.rdc harg8 H.h7 0 0 inb_S1x512_S1x512_0_0 (fun _ _ _ _ => by simp only [Nat.zero_add] <;> rfl)) _

theorem r6 : Re2 (kernelRun0_B.sl.r_6 (F := Ideal) c arg9 harg9 x8) fun _ => be :=
  Re2.cast (Re2.rdc harg9 H.h8 0 0 inb_S1x512_S1x512_0_0 (fun _ _ _ _ => by simp only [Nat.zero_add] <;> rfl)) _

theorem r13 : Re2 (kernelRun0_B.sl.r_13 (F := Ideal) c arg1 harg1 arg8 harg8 arg9 harg9 x0 x7 x8) (VN (rows (i 0).val z) ga be) :=
  p26 (r5 H) (r8 H) (r4 H) (r6 H)

theorem w0 : Re2 (kernelRun0_B.sl.r (F := Ideal) c arg6 harg6 x5) (W ws 0) :=
  p11 (Re3.rd harg6 H.h5 0 _)

theorem w1 : Re2 (kernelRun0_B.sl.r_1 (F := Ideal) c arg6 harg6 x5) (W ws 1) :=
  p11 (Re3.rd harg6 H.h5 1 _)

theorem w2 : Re2 (kernelRun0_B.sl.r_2 (F := Ideal) c arg6 harg6 x5) (W ws 2) :=
  p11 (Re3.rd harg6 H.h5 2 _)

theorem w3 : Re2 (kernelRun0_B.sl.r_3 (F := Ideal) c arg6 harg6 x5) (W ws 3) :=
  p11 (Re3.rd harg6 H.h5 3 _)

theorem mix : Re2 (φ := .f32) (kernelRun0_B.sl.v205 (F := Ideal) c arg1 harg1 arg6 harg6 arg7 harg7 arg8 harg8 arg9 harg9 arg22 x0 x5 x6 x7 x8) (MIX (rows (i 0).val z) ga be ws bs) :=
  mixRead _ rfl (w0 H) (w1 H) (w2 H) (w3 H) (r13 H)
    (Re2.rdc harg7 H.h6 0 0 inb_S128x512_S128x128_0_0 fun _ _ _ _ => rfl) (Re2.rdc harg7 H.h6 0 128 inb_S128x512_S128x128_0_128 fun _ _ _ _ => rfl) (Re2.rdc harg7 H.h6 0 256 inb_S128x512_S128x128_0_256 fun _ _ _ _ => rfl) (Re2.rdc harg7 H.h6 0 384 inb_S128x512_S128x128_0_384 fun _ _ _ _ => rfl) _

theorem d0 : Re2 (φ := .f32) (View.readAt (Elt Ideal) arg4.view (Rect.unit (s := S512x1024) ![0, 0] S512x512.size inb_S512x1024_S512x512_0_0).toLoadRect (harg4.unread x3)) (rows (i 0).val dy) :=
  Re2.rdc harg4 H.h3 0 0 inb_S512x1024_S512x512_0_0 (fun _ _ _ _ => by simp only [Nat.zero_add] <;> rfl)

theorem v207 : Re2 (kernelRun0_B.sl.v207 (F := Ideal) c arg1 harg1 arg4 harg4 x0 x3) (DM (rows (i 0).val z) (rows (i 0).val dy)) :=
  Re2.mul (φ := .f32) (d0 H) (r10 H)

theorem v208 : Re2 (kernelRun0_B.sl.v208 (F := Ideal) c arg1 harg1 arg4 harg4 x0 x3) (DM (rows (i 0).val z) (rows (i 0).val dy)) :=
  (v207 H).trunc _

theorem dvn : Re2 (φ := .f32) (kernelRun0_B.sl.v425 (F := Ideal) c arg1 harg1 arg4 harg4 arg6 harg6 arg23 x0 x3 x5) (DVN (rows (i 0).val z) (rows (i 0).val dy) ws) :=
  dvnRead _ (w0 H) (w1 H) (w2 H) (w3 H) (v208 H) _

theorem v459 : Re2 (kernelRun0_B.sl.v459 (F := Ideal) c arg1 harg1 arg4 harg4 arg6 harg6 arg7 harg7 arg8 harg8 arg9 harg9 arg22 x0 x3 x5 x6 x7 x8) (dzU (rows (i 0).val z) (rows (i 0).val dy) ga be ws bs) :=
  p88 (v26 := (kernelRun0_B.sl.r_5 (F := Ideal) c arg1 harg1 x0)) (r9 H) (d0 H) (mix H)

theorem v463 : Re2 (kernelRun0_B.sl.v463 (F := Ideal) c arg1 harg1 arg4 harg4 arg6 harg6 arg8 harg8 arg23 x0 x3 x5 x7) (dzV (rows (i 0).val z) (rows (i 0).val dy) ga ws) :=
  p89 (r4 H) (r9 H) (r11 H) (r12 H) (dvn H)

theorem tril : Re2 (kernelRun0_B.sl.v220 (F := Ideal)) fun r c => if c ≤ r then 1 else 0 :=
  Cert.Gate.tril

theorem zin : Re2 (φ := .f32) (View.readAt (Elt Ideal) arg1.view (Rect.unit (s := S512x1536) ![0, 1024] S512x512.size inb_S512x1536_S512x512_0_1024).toLoadRect (harg1.unread x0)) fun r c => (colz z) (512 * (i 0).val + r) c :=
  Re2.rdc harg1 H.h0 0 1024 inb_S512x1536_S512x512_0_1024 (fun _ _ _ _ => by simp only [Nat.zero_add] <;> rfl)

theorem zpre : Re2 (φ := .f32) (View.readAt (Elt Ideal) arg2.view (Rect.unit (s := S16x512) ![0, 0] S16x512.size inb_S16x512_S16x512_0_0).toLoadRect (harg2.unread x1)) (before (i 0).val (colz z)) :=
  Re2.rdc harg2 H.h1 0 0 inb_S16x512_S16x512_0_0 (fun _ _ _ _ => by simp only [Nat.zero_add] <;> rfl)

theorem zpost : Re2 (φ := .f32) (View.readAt (Elt Ideal) arg3.view (Rect.unit (s := S16x512) ![0, 0] S16x512.size inb_S16x512_S16x512_0_0).toLoadRect (harg3.unread x2)) (after (i 0).val (colz z)) :=
  Re2.rdc harg3 H.h2 0 0 inb_S16x512_S16x512_0_0 (fun _ _ _ _ => by simp only [Nat.zero_add] <;> rfl)

theorem din : Re2 (φ := .f32) (View.readAt (Elt Ideal) arg4.view (Rect.unit (s := S512x1024) ![0, 512] S512x512.size inb_S512x1024_S512x512_0_512).toLoadRect (harg4.unread x3)) fun r c => (coly dy) (512 * (i 0).val + r) c :=
  Re2.rdc harg4 H.h3 0 512 inb_S512x1024_S512x512_0_512 (fun _ _ _ _ => by simp only [Nat.zero_add] <;> rfl)

theorem dpost : Re2 (φ := .f32) (View.readAt (Elt Ideal) arg5.view (Rect.unit (s := S16x512) ![0, 0] S16x512.size inb_S16x512_S16x512_0_0).toLoadRect (harg5.unread x4)) (after (i 0).val (coly dy)) :=
  Re2.rdc harg5 H.h4 0 0 inb_S16x512_S16x512_0_0 (fun _ _ _ _ => by simp only [Nat.zero_add] <;> rfl)

theorem psc : Re2 (φ := .f32) (View.readAt (Elt Ideal) arg12.view (Rect.unit (s := S1x512) ![0, 0] S1x512.size inb_S1x512_S1x512_0_0).toLoadRect (harg12.unread x11)) fun _ => ps :=
  Re2.rdc harg12 H.h11 0 0 inb_S1x512_S1x512_0_0 (fun _ _ _ _ => by simp only [Nat.zero_add] <;> rfl)

theorem v472 : Re2 (kernelRun0_B.sl.v472 (F := Ideal) c i arg1 harg1 arg2 harg2 arg3 harg3 x0 x1 x2) (full (i 0).val (colz z) (before (i 0).val (colz z)) (after (i 0).val (colz z))) :=
  p91 H.ht (zin H) (zpre H) (zpost H)

theorem v471 : Re2 (kernelRun0_B.sl.v471 (F := Ideal) c arg1 harg1 arg3 harg3 x0 x2) (ext (i 0).val (colz z) (after (i 0).val (colz z))) :=
  p90 (zin H) (zpost H)

theorem v516 : Re2 (kernelRun0_B.sl.v516 (F := Ideal) c arg4 harg4 arg5 harg5 x3 x4) (ext (i 0).val (coly dy) (after (i 0).val (coly dy))) :=
  p104 (din H) (dpost H)

theorem v520 : Re2 (kernelRun0_B.sl.v520 (F := Ideal) c arg4 harg4 arg5 harg5 arg12 harg12 x3 x4 x11) fun r c => (ext (i 0).val (coly dy) (after (i 0).val (coly dy))) r c * ps c :=
  p105 (din H) (dpost H) (psc H)

theorem v475 : Re2 (kernelRun0_B.sl.v475 (F := Ideal) c i arg1 harg1 arg2 harg2 arg3 harg3 x0 x1 x2) fun r c => s1 (full (i 0).val (colz z) (before (i 0).val (colz z)) (after (i 0).val (colz z))) (0 + r) (0 + c) :=
  p93 (v472 H)

theorem v495 : Re2 (kernelRun0_B.sl.v495 (F := Ideal) i) (inv (i 0).val 2) :=
  p100 H.ht

theorem v478 : Re2 (kernelRun0_B.sl.v478 (F := Ideal) c i arg1 harg1 arg2 harg2 arg3 harg3 x0 x1 x2) fun r c => s2 (full (i 0).val (colz z) (before (i 0).val (colz z)) (after (i 0).val (colz z))) (0 + r) (128 + c) :=
  p95 (v472 H)

theorem v501 : Re2 (kernelRun0_B.sl.v501 (F := Ideal) i) (inv (i 0).val 4) :=
  p101 H.ht

theorem v481 : Re2 (kernelRun0_B.sl.v481 (F := Ideal) c i arg1 harg1 arg2 harg2 arg3 harg3 x0 x1 x2) fun r c => s3 (full (i 0).val (colz z) (before (i 0).val (colz z)) (after (i 0).val (colz z))) (0 + r) (256 + c) :=
  p97 (v472 H)

theorem v507 : Re2 (kernelRun0_B.sl.v507 (F := Ideal) i) (inv (i 0).val 8) :=
  p102 H.ht

theorem v484 : Re2 (kernelRun0_B.sl.v484 (F := Ideal) c i arg1 harg1 arg2 harg2 arg3 harg3 x0 x1 x2) fun r c => s4 (full (i 0).val (colz z) (before (i 0).val (colz z)) (after (i 0).val (colz z))) (0 + r) (384 + c) :=
  p98 (v472 H)

theorem v513 : Re2 (kernelRun0_B.sl.v513 (F := Ideal) i) (inv (i 0).val 16) :=
  p103 H.ht

theorem df0 : Re2 (kernelRun0_B.sl.v539 (F := Ideal) c i arg1 harg1 arg2 harg2 arg3 harg3 x0 x1 x2) fun r c => DF (colz z) (512 * (i 0).val + r) (0 + c) :=
  diffPiece 0 rfl (by norm_num) (v475 H) (fun r c hr => (s1_eq c (16 + r) (by omega) (by omega)).trans (win_full (fun h => before_eq h) hr (by norm_num) c)) (v471 H) (v495 H) _ _ _ _ _

theorem wp0 : Re2 (kernelRun0_B.sl.v536 (F := Ideal) c arg10 harg10 x9) (wp 0) :=
  (Re3.drop (Re3.rd harg10 H.h9 0 inb_S4x128x128_S1x128x128_0_0_0) _).trunc _

theorem lin0 : At2 (kernelRun0_B.sl.v544 (F := Ideal) c i arg1 harg1 arg2 harg2 arg3 harg3 arg10 harg10 arg11 harg11 x0 x1 x2 x9 x10) fun r c => ((LIN (colz z) wp (512 * (i 0).val + r) (0 + c) : ℝ) : EReal) + bp (0 + c) :=
  linPiece 0 rfl (df0 H) (wp0 H) (At2.rd harg11 H.h10 0 0 inb_S1x512_S1x128_0_0) _ _

theorem dd0 : Re2 (kernelRun0_B.sl.v554 (F := Ideal) c arg4 harg4 arg5 harg5 arg10 harg10 arg12 harg12 x3 x4 x9 x11) fun r c => ∑ k ∈ Finset.range 128, ((ext (i 0).val (coly dy) (after (i 0).val (coly dy))) (0 + r) (0 + k) * ps (0 + k)) * wp 0 c k :=
  ddPiece 0 (v520 H) (wp0 H) _ _

theorem sc0 : Re2 (φ := .f32) (kernelRun0_B.sl.v562 (F := Ideal) c i arg4 harg4 arg5 harg5 arg10 harg10 arg12 harg12 x3 x4 x9 x11) fun r c => SC (coly dy) ps wp (512 * (i 0).val + r) (0 + c) :=
  scPiece H.ht 0 rfl (by norm_num) (fun h => after_eq h) (dd0 H) (v495 H) _ _

theorem df1 : Re2 (kernelRun0_B.sl.v574 (F := Ideal) c i arg1 harg1 arg2 harg2 arg3 harg3 x0 x1 x2) fun r c => DF (colz z) (512 * (i 0).val + r) (128 + c) :=
  diffPiece 1 rfl (by norm_num) (v478 H) (fun r c hr => (s2_eq c (16 + r) (by omega) (by omega)).trans (win_full (fun h => before_eq h) hr (by norm_num) c)) (v471 H) (v501 H) _ _ _ _ _

theorem wp1 : Re2 (kernelRun0_B.sl.v571 (F := Ideal) c arg10 harg10 x9) (wp 1) :=
  (Re3.drop (Re3.rd harg10 H.h9 1 inb_S4x128x128_S1x128x128_1_0_0) _).trunc _

theorem lin1 : At2 (kernelRun0_B.sl.v579 (F := Ideal) c i arg1 harg1 arg2 harg2 arg3 harg3 arg10 harg10 arg11 harg11 x0 x1 x2 x9 x10) fun r c => ((LIN (colz z) wp (512 * (i 0).val + r) (128 + c) : ℝ) : EReal) + bp (128 + c) :=
  linPiece 1 rfl (df1 H) (wp1 H) (At2.rd harg11 H.h10 0 128 inb_S1x512_S1x128_0_128) _ _

theorem dd1 : Re2 (kernelRun0_B.sl.v589 (F := Ideal) c arg4 harg4 arg5 harg5 arg10 harg10 arg12 harg12 x3 x4 x9 x11) fun r c => ∑ k ∈ Finset.range 128, ((ext (i 0).val (coly dy) (after (i 0).val (coly dy))) (0 + r) (128 + k) * ps (128 + k)) * wp 1 c k :=
  ddPiece 1 (v520 H) (wp1 H) _ _

theorem sc1 : Re2 (φ := .f32) (kernelRun0_B.sl.v597 (F := Ideal) c i arg4 harg4 arg5 harg5 arg10 harg10 arg12 harg12 x3 x4 x9 x11) fun r c => SC (coly dy) ps wp (512 * (i 0).val + r) (128 + c) :=
  scPiece H.ht 1 rfl (by norm_num) (fun h => after_eq h) (dd1 H) (v501 H) _ _

theorem df2 : Re2 (kernelRun0_B.sl.v609 (F := Ideal) c i arg1 harg1 arg2 harg2 arg3 harg3 x0 x1 x2) fun r c => DF (colz z) (512 * (i 0).val + r) (256 + c) :=
  diffPiece 2 rfl (by norm_num) (v481 H) (fun r c hr => (s3_eq c (16 + r) (by omega) (by omega)).trans (win_full (fun h => before_eq h) hr (by norm_num) c)) (v471 H) (v507 H) _ _ _ _ _

theorem wp2 : Re2 (kernelRun0_B.sl.v606 (F := Ideal) c arg10 harg10 x9) (wp 2) :=
  (Re3.drop (Re3.rd harg10 H.h9 2 inb_S4x128x128_S1x128x128_2_0_0) _).trunc _

theorem lin2 : At2 (kernelRun0_B.sl.v614 (F := Ideal) c i arg1 harg1 arg2 harg2 arg3 harg3 arg10 harg10 arg11 harg11 x0 x1 x2 x9 x10) fun r c => ((LIN (colz z) wp (512 * (i 0).val + r) (256 + c) : ℝ) : EReal) + bp (256 + c) :=
  linPiece 2 rfl (df2 H) (wp2 H) (At2.rd harg11 H.h10 0 256 inb_S1x512_S1x128_0_256) _ _

theorem dd2 : Re2 (kernelRun0_B.sl.v624 (F := Ideal) c arg4 harg4 arg5 harg5 arg10 harg10 arg12 harg12 x3 x4 x9 x11) fun r c => ∑ k ∈ Finset.range 128, ((ext (i 0).val (coly dy) (after (i 0).val (coly dy))) (0 + r) (256 + k) * ps (256 + k)) * wp 2 c k :=
  ddPiece 2 (v520 H) (wp2 H) _ _

theorem sc2 : Re2 (φ := .f32) (kernelRun0_B.sl.v632 (F := Ideal) c i arg4 harg4 arg5 harg5 arg10 harg10 arg12 harg12 x3 x4 x9 x11) fun r c => SC (coly dy) ps wp (512 * (i 0).val + r) (256 + c) :=
  scPiece H.ht 2 rfl (by norm_num) (fun h => after_eq h) (dd2 H) (v507 H) _ _

theorem df3 : Re2 (kernelRun0_B.sl.v644 (F := Ideal) c i arg1 harg1 arg2 harg2 arg3 harg3 x0 x1 x2) fun r c => DF (colz z) (512 * (i 0).val + r) (384 + c) :=
  diffPiece 3 rfl (by norm_num) (v484 H) (fun r c hr => (s4_eq c (16 + r) (by omega) (by omega)).trans (win_full (fun h => before_eq h) hr (by norm_num) c)) (v471 H) (v513 H) _ _ _ _ _

theorem wp3 : Re2 (kernelRun0_B.sl.v641 (F := Ideal) c arg10 harg10 x9) (wp 3) :=
  (Re3.drop (Re3.rd harg10 H.h9 3 inb_S4x128x128_S1x128x128_3_0_0) _).trunc _

theorem lin3 : At2 (kernelRun0_B.sl.v649 (F := Ideal) c i arg1 harg1 arg2 harg2 arg3 harg3 arg10 harg10 arg11 harg11 x0 x1 x2 x9 x10) fun r c => ((LIN (colz z) wp (512 * (i 0).val + r) (384 + c) : ℝ) : EReal) + bp (384 + c) :=
  linPiece 3 rfl (df3 H) (wp3 H) (At2.rd harg11 H.h10 0 384 inb_S1x512_S1x128_0_384) _ _

theorem dd3 : Re2 (kernelRun0_B.sl.v659 (F := Ideal) c arg4 harg4 arg5 harg5 arg10 harg10 arg12 harg12 x3 x4 x9 x11) fun r c => ∑ k ∈ Finset.range 128, ((ext (i 0).val (coly dy) (after (i 0).val (coly dy))) (0 + r) (384 + k) * ps (384 + k)) * wp 3 c k :=
  ddPiece 3 (v520 H) (wp3 H) _ _

theorem sc3 : Re2 (φ := .f32) (kernelRun0_B.sl.v667 (F := Ideal) c i arg4 harg4 arg5 harg5 arg10 harg10 arg12 harg12 x3 x4 x9 x11) fun r c => SC (coly dy) ps wp (512 * (i 0).val + r) (384 + c) :=
  scPiece H.ht 3 rfl (by norm_num) (fun h => after_eq h) (dd3 H) (v513 H) _ _

theorem dz0 : Re2 (k0_pay143 (kernelRun0_B.sl.v554 (F := Ideal) c arg4 harg4 arg5 harg5 arg10 harg10 arg12 harg12 x3 x4 x9 x11) (kernelRun0_B.sl.v562 (F := Ideal) c i arg4 harg4 arg5 harg5 arg10 harg10 arg12 harg12 x3 x4 x9 x11) (kernelRun0_B.sl.v597 (F := Ideal) c i arg4 harg4 arg5 harg5 arg10 harg10 arg12 harg12 x3 x4 x9 x11) (kernelRun0_B.sl.v632 (F := Ideal) c i arg4 harg4 arg5 harg5 arg10 harg10 arg12 harg12 x3 x4 x9 x11) (kernelRun0_B.sl.v667 (F := Ideal) c i arg4 harg4 arg5 harg5 arg10 harg10 arg12 harg12 x3 x4 x9 x11)) fun r c => dzP (coly dy) ps wp (512 * (i 0).val + r) (0 + c) :=
  dzPiece H.ht 0 rfl (fun h => after_eq h) (p139 (f := fun r c => SC (coly dy) ps wp (512 * (i 0).val + r) c) (sc0 H) (sc1 H) (sc2 H) (sc3 H)) (fun r c hr => (b1_eq c r (by omega))) (dd0 H) slices_S528x512_o0_0_S528x128 slices_S528x128_o0_0_S512x128 _

theorem dz1 : Re2 (k0_pay144 (kernelRun0_B.sl.v562 (F := Ideal) c i arg4 harg4 arg5 harg5 arg10 harg10 arg12 harg12 x3 x4 x9 x11) (kernelRun0_B.sl.v589 (F := Ideal) c arg4 harg4 arg5 harg5 arg10 harg10 arg12 harg12 x3 x4 x9 x11) (kernelRun0_B.sl.v597 (F := Ideal) c i arg4 harg4 arg5 harg5 arg10 harg10 arg12 harg12 x3 x4 x9 x11) (kernelRun0_B.sl.v632 (F := Ideal) c i arg4 harg4 arg5 harg5 arg10 harg10 arg12 harg12 x3 x4 x9 x11) (kernelRun0_B.sl.v667 (F := Ideal) c i arg4 harg4 arg5 harg5 arg10 harg10 arg12 harg12 x3 x4 x9 x11)) fun r c => dzP (coly dy) ps wp (512 * (i 0).val + r) (128 + c) :=
  dzPiece H.ht 1 rfl (fun h => after_eq h) (p140 (f := fun r c => SC (coly dy) ps wp (512 * (i 0).val + r) c) (sc0 H) (sc1 H) (sc2 H) (sc3 H)) (fun r c hr => (b2_eq c r (by omega))) (dd1 H) slices_S528x512_o0_128_S528x128 slices_S528x128_o0_0_S512x128 _

theorem dz2 : Re2 (k0_pay1 (kernelRun0_B.sl.r_17 (F := Ideal) c i arg4 harg4 arg5 harg5 arg10 harg10 arg12 harg12 x3 x4 x9 x11) (kernelRun0_B.sl.r_18 (F := Ideal) c arg4 harg4 arg5 harg5 arg10 harg10 arg12 harg12 x3 x4 x9 x11)) fun r c => dzP (coly dy) ps wp (512 * (i 0).val + r) (256 + c) :=
  dzPiece H.ht 2 rfl (fun h => after_eq h) (p141 (f := fun r c => SC (coly dy) ps wp (512 * (i 0).val + r) c) (sc0 H) (sc1 H) (sc2 H) (sc3 H)) (fun r c hr => (b3_eq c r (by omega))) (dd2 H) slices_S528x512_o0_256_S528x128 slices_S528x128_o0_0_S512x128 _

theorem dz3 : Re2 (k0_pay2 (kernelRun0_B.sl.v659 (F := Ideal) c arg4 harg4 arg5 harg5 arg10 harg10 arg12 harg12 x3 x4 x9 x11) (kernelRun0_B.sl.r_16 (F := Ideal) c i arg4 harg4 arg5 harg5 arg10 harg10 arg12 harg12 x3 x4 x9 x11)) fun r c => dzP (coly dy) ps wp (512 * (i 0).val + r) (384 + c) :=
  dzPiece H.ht 3 rfl (fun h => after_eq h) (Re2.add (p141 (f := fun r c => SC (coly dy) ps wp (512 * (i 0).val + r) c) (sc0 H) (sc1 H) (sc2 H) (sc3 H)) ((p141 (f := fun r c => SC (coly dy) ps wp (512 * (i 0).val + r) c) (sc0 H) (sc1 H) (sc2 H) (sc3 H)).rot 520#32 520 rfl rotates_S528x512_d0)) (fun r c hr => (b4_eq c r (by omega))) (dd3 H) slices_S528x512_o0_384_S528x128 _ _

theorem out_12 : Re2 (φ := .bf16) (out0_B_12 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) (DZT (i 0).val z dy ws bs ga be wp ps) := by
  unfold out0_B_12 kernelRun0_B
  refine fun y => (congrFun (View.read_writes_junk_eq_canon (Val := Elt Ideal) _ _) y).trans ?_
  refine View.canon_apply_of_pieces (Val := Elt Ideal) (e := .bf16) (fun y => (((DZT (i 0).val z dy ws bs ga be wp ps) (y 0).val (y 1).val : ℝ) : EReal)) _ ?_ y (View.cover_of_tiledBy (s := S512x1536) _ ![512, 128] (by sl_kernel_rfl) y)
  dsimp only
  simp only [List.forall_mem_cons]
  refine ⟨?_, ?_, ?_, ?_, ?_, ?_, fun p hp => absurd hp List.not_mem_nil⟩
  · exact Re2.piece 0 1408 ((dz3 H).congr fun r c _ _ => DZT_p 384 r c rfl) _
  · exact Re2.piece 0 1280 ((dz2 H).congr fun r c _ _ => DZT_p 256 r c rfl) _
  · exact Re2.piece 0 1152 ((dz1 H).congr fun r c _ _ => DZT_p 128 r c rfl) _
  · exact Re2.piece 0 1024 ((dz0 H).congr fun r c _ _ => DZT_p 0 r c rfl) _
  · exact Re2.piece 0 512 ((v463 H).congr fun r c _ h => DZT_v r c h) _
  · exact Re2.piece 0 0 ((v459 H).congr fun r c _ h => DZT_u r c h) _

theorem acc13_0 {f : ℕ → ℕ → ℕ → ℝ} (ho : Re3 (φ := .f32) xo13 f) : Re3 (φ := .f32) (kernelRun0_B.sl.v271 (F := Ideal) c arg1 harg1 arg4 harg4 arg8 harg8 arg9 harg9 arg15 harg15 x0 x3 x7 x8 xo13) fun _ => fun r c => f 0 r c + dWS (rows (i 0).val z) (rows (i 0).val dy) ga be 4 0 r c :=
  dwsPiece (z := (rows (i 0).val z)) (dy := (rows (i 0).val dy)) 0 rfl (v208 H) (r13 H) (tril H) (Re3.rd harg15 ho 0 inb_S4x128x128_S1x128x128_0_0_0) _ _ _ _ _ _

theorem acc13_1 {f : ℕ → ℕ → ℕ → ℝ} (ho : Re3 (φ := .f32) xo13 f) : Re3 (φ := .f32) (kernelRun0_B.sl.v322 (F := Ideal) c arg1 harg1 arg4 harg4 arg8 harg8 arg9 harg9 arg15 harg15 x0 x3 x7 x8 xo13) fun _ => fun r c => f 1 r c + dWS (rows (i 0).val z) (rows (i 0).val dy) ga be 4 1 r c :=
  dwsPiece (z := (rows (i 0).val z)) (dy := (rows (i 0).val dy)) 1 rfl (v208 H) (r13 H) (tril H) (Re3.rd harg15 ho 1 inb_S4x128x128_S1x128x128_1_0_0) _ _ _ _ _ _

theorem acc13_2 {f : ℕ → ℕ → ℕ → ℝ} (ho : Re3 (φ := .f32) xo13 f) : Re3 (φ := .f32) (kernelRun0_B.sl.v373 (F := Ideal) c arg1 harg1 arg4 harg4 arg8 harg8 arg9 harg9 arg15 harg15 x0 x3 x7 x8 xo13) fun _ => fun r c => f 2 r c + dWS (rows (i 0).val z) (rows (i 0).val dy) ga be 4 2 r c :=
  dwsPiece (z := (rows (i 0).val z)) (dy := (rows (i 0).val dy)) 2 rfl (v208 H) (r13 H) (tril H) (Re3.rd harg15 ho 2 inb_S4x128x128_S1x128x128_2_0_0) _ _ _ _ _ _

theorem acc13_3 {f : ℕ → ℕ → ℕ → ℝ} (ho : Re3 (φ := .f32) xo13 f) : Re3 (φ := .f32) (kernelRun0_B.sl.v424 (F := Ideal) c arg1 harg1 arg4 harg4 arg8 harg8 arg9 harg9 arg15 harg15 x0 x3 x7 x8 xo13) fun _ => fun r c => f 3 r c + dWS (rows (i 0).val z) (rows (i 0).val dy) ga be 4 3 r c :=
  dwsPiece (z := (rows (i 0).val z)) (dy := (rows (i 0).val dy)) 3 rfl (v208 H) (r13 H) (tril H) (Re3.rd harg15 ho 3 inb_S4x128x128_S1x128x128_3_0_0) _ _ _ _ _ _

theorem out_13 {f : ℕ → ℕ → ℕ → ℝ} (ho : Re3 (φ := .f32) xo13 f) : Re3 (φ := .f32) (out0_B_13 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) (fun h => fun r c => f h r c + dWS (rows (i 0).val z) (rows (i 0).val dy) ga be 4 h r c) := by
  unfold out0_B_13 kernelRun0_B
  refine Re3.out4 _ _ ?_ ?_ ?_ ?_
  · exact Plane.skip (Plane.skip (Plane.skip (Plane.hit _ (acc13_0 H ho) _) (by norm_num) _ _) (by norm_num) _ _) (by norm_num) _ _
  · exact Plane.skip (Plane.skip (Plane.hit _ (acc13_1 H ho) _) (by norm_num) _ _) (by norm_num) _ _
  · exact Plane.skip (Plane.hit _ (acc13_2 H ho) _) (by norm_num) _ _
  · exact Plane.hit _ (acc13_3 H ho) _

theorem acc14_0 {f : ℕ → ℕ → ℕ → ℝ} (ho : Re3 (φ := .f32) xo14 f) : Re3 (φ := .f32) (kernelRun0_B.sl.v229 (F := Ideal) c arg1 harg1 arg4 harg4 arg16 harg16 x0 x3 xo14) fun _ => fun r c => f 0 r c + dBS (rows (i 0).val z) (rows (i 0).val dy) 4 0 r :=
  dbsPiece (z := (rows (i 0).val z)) (dy := (rows (i 0).val dy)) 0 rfl (v207 H) (Re3.rd harg16 ho 0 inb_S4x128x1_S1x128x1_0_0_0) _ _ _ _ _ _ _ _ _ _ _ _

theorem acc14_1 {f : ℕ → ℕ → ℕ → ℝ} (ho : Re3 (φ := .f32) xo14 f) : Re3 (φ := .f32) (kernelRun0_B.sl.v280 (F := Ideal) c arg1 harg1 arg4 harg4 arg16 harg16 x0 x3 xo14) fun _ => fun r c => f 1 r c + dBS (rows (i 0).val z) (rows (i 0).val dy) 4 1 r :=
  dbsPiece (z := (rows (i 0).val z)) (dy := (rows (i 0).val dy)) 1 rfl (v207 H) (Re3.rd harg16 ho 1 inb_S4x128x1_S1x128x1_1_0_0) _ _ _ _ _ _ _ _ _ _ _ _

theorem acc14_2 {f : ℕ → ℕ → ℕ → ℝ} (ho : Re3 (φ := .f32) xo14 f) : Re3 (φ := .f32) (kernelRun0_B.sl.v331 (F := Ideal) c arg1 harg1 arg4 harg4 arg16 harg16 x0 x3 xo14) fun _ => fun r c => f 2 r c + dBS (rows (i 0).val z) (rows (i 0).val dy) 4 2 r :=
  dbsPiece (z := (rows (i 0).val z)) (dy := (rows (i 0).val dy)) 2 rfl (v207 H) (Re3.rd harg16 ho 2 inb_S4x128x1_S1x128x1_2_0_0) _ _ _ _ _ _ _ _ _ _ _ _

theorem acc14_3 {f : ℕ → ℕ → ℕ → ℝ} (ho : Re3 (φ := .f32) xo14 f) : Re3 (φ := .f32) (kernelRun0_B.sl.v382 (F := Ideal) c arg1 harg1 arg4 harg4 arg16 harg16 x0 x3 xo14) fun _ => fun r c => f 3 r c + dBS (rows (i 0).val z) (rows (i 0).val dy) 4 3 r :=
  dbsPiece (z := (rows (i 0).val z)) (dy := (rows (i 0).val dy)) 3 rfl (v207 H) (Re3.rd harg16 ho 3 inb_S4x128x1_S1x128x1_3_0_0) _ _ _ _ _ _ _ _ _ _ _ _

theorem out_14 {f : ℕ → ℕ → ℕ → ℝ} (ho : Re3 (φ := .f32) xo14 f) : Re3 (φ := .f32) (out0_B_14 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) (fun h => fun r c => f h r c + dBS (rows (i 0).val z) (rows (i 0).val dy) 4 h r) := by
  unfold out0_B_14 kernelRun0_B
  refine Re3.out4 _ _ ?_ ?_ ?_ ?_
  · exact Plane.skip (Plane.skip (Plane.skip (Plane.hit _ (acc14_0 H ho) _) (by norm_num) _ _) (by norm_num) _ _) (by norm_num) _ _
  · exact Plane.skip (Plane.skip (Plane.hit _ (acc14_1 H ho) _) (by norm_num) _ _) (by norm_num) _ _
  · exact Plane.skip (Plane.hit _ (acc14_2 H ho) _) (by norm_num) _ _
  · exact Plane.hit _ (acc14_3 H ho) _

theorem acc17_0 {f : ℕ → ℕ → ℕ → ℝ} (ho : Re3 (φ := .f32) xo17 f) : Re3 (φ := .f32) (kernelRun0_B.sl.v553 (F := Ideal) c i arg1 harg1 arg2 harg2 arg3 harg3 arg4 harg4 arg5 harg5 arg12 harg12 arg19 harg19 x0 x1 x2 x3 x4 x11 xo17) fun _ => fun a b => f 0 a b + ∑ r ∈ Finset.range 512, DF (colz z) (512 * (i 0).val + r) (0 + a) * DL (coly dy) ps (512 * (i 0).val + r) (0 + b) :=
  dwpPiece 0 rfl (df0 H) (v520 H) (Re3.rd harg19 ho 0 inb_S4x128x128_S1x128x128_0_0_0) _ _ _ _ _

theorem acc17_1 {f : ℕ → ℕ → ℕ → ℝ} (ho : Re3 (φ := .f32) xo17 f) : Re3 (φ := .f32) (kernelRun0_B.sl.v588 (F := Ideal) c i arg1 harg1 arg2 harg2 arg3 harg3 arg4 harg4 arg5 harg5 arg12 harg12 arg19 harg19 x0 x1 x2 x3 x4 x11 xo17) fun _ => fun a b => f 1 a b + ∑ r ∈ Finset.range 512, DF (colz z) (512 * (i 0).val + r) (128 + a) * DL (coly dy) ps (512 * (i 0).val + r) (128 + b) :=
  dwpPiece 1 rfl (df1 H) (v520 H) (Re3.rd harg19 ho 1 inb_S4x128x128_S1x128x128_1_0_0) _ _ _ _ _

theorem acc17_2 {f : ℕ → ℕ → ℕ → ℝ} (ho : Re3 (φ := .f32) xo17 f) : Re3 (φ := .f32) (kernelRun0_B.sl.v623 (F := Ideal) c i arg1 harg1 arg2 harg2 arg3 harg3 arg4 harg4 arg5 harg5 arg12 harg12 arg19 harg19 x0 x1 x2 x3 x4 x11 xo17) fun _ => fun a b => f 2 a b + ∑ r ∈ Finset.range 512, DF (colz z) (512 * (i 0).val + r) (256 + a) * DL (coly dy) ps (512 * (i 0).val + r) (256 + b) :=
  dwpPiece 2 rfl (df2 H) (v520 H) (Re3.rd harg19 ho 2 inb_S4x128x128_S1x128x128_2_0_0) _ _ _ _ _

theorem acc17_3 {f : ℕ → ℕ → ℕ → ℝ} (ho : Re3 (φ := .f32) xo17 f) : Re3 (φ := .f32) (kernelRun0_B.sl.v658 (F := Ideal) c i arg1 harg1 arg2 harg2 arg3 harg3 arg4 harg4 arg5 harg5 arg12 harg12 arg19 harg19 x0 x1 x2 x3 x4 x11 xo17) fun _ => fun a b => f 3 a b + ∑ r ∈ Finset.range 512, DF (colz z) (512 * (i 0).val + r) (384 + a) * DL (coly dy) ps (512 * (i 0).val + r) (384 + b) :=
  dwpPiece 3 rfl (df3 H) (v520 H) (Re3.rd harg19 ho 3 inb_S4x128x128_S1x128x128_3_0_0) _ _ _ _ _

theorem out_17 {f : ℕ → ℕ → ℕ → ℝ} (ho : Re3 (φ := .f32) xo17 f) : Re3 (φ := .f32) (out0_B_17 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) (fun h => fun a b => f h a b + ∑ r ∈ Finset.range 512, DF (colz z) (512 * (i 0).val + r) (128 * h + a) * DL (coly dy) ps (512 * (i 0).val + r) (128 * h + b)) := by
  unfold out0_B_17 kernelRun0_B
  refine Re3.out4 _ _ ?_ ?_ ?_ ?_
  · exact Plane.skip (Plane.skip (Plane.skip (Plane.hit _ (acc17_0 H ho) _) (by norm_num) _ _) (by norm_num) _ _) (by norm_num) _ _
  · exact Plane.skip (Plane.skip (Plane.hit _ (acc17_1 H ho) _) (by norm_num) _ _) (by norm_num) _ _
  · exact Plane.skip (Plane.hit _ (acc17_2 H ho) _) (by norm_num) _ _
  · exact Plane.hit _ (acc17_3 H ho) _

theorem acc15 {f : ℕ → ℝ} (ho : Re2 (φ := .f32) xo15 fun _ => f) : Re2 (φ := .f32) (kernelRun0_B.sl.v431 (F := Ideal) c arg1 harg1 arg4 harg4 arg6 harg6 arg17 harg17 arg23 x0 x3 x5 xo15) fun _ c => f c + dGA (rows (i 0).val z) (rows (i 0).val dy) ws 512 c :=
  p85 (r12 H) (dvn H) (Re2.rdc harg17 ho 0 0 inb_S1x512_S1x512_0_0 (fun _ _ _ _ => by simp only [Nat.zero_add]))

theorem acc16 {f : ℕ → ℝ} (ho : Re2 (φ := .f32) xo16 fun _ => f) : Re2 (φ := .f32) (kernelRun0_B.sl.v437 (F := Ideal) c arg1 harg1 arg4 harg4 arg6 harg6 arg18 harg18 arg23 x0 x3 x5 xo16) fun _ c => f c + dBE (rows (i 0).val z) (rows (i 0).val dy) ws 512 c :=
  p87 (dvn H) (Re2.cast (Re2.rdc harg18 ho 0 0 inb_S1x512_S1x512_0_0 (fun _ _ _ _ => by simp only [Nat.zero_add])) _)

theorem acc18 {f : ℕ → ℝ} (ho : Re2 (φ := .f32) xo18 fun _ => f) : Re2 (φ := .f32) (kernelRun0_B.sl.v526 (F := Ideal) c arg4 harg4 arg5 harg5 arg12 harg12 arg20 harg20 x3 x4 x11 xo18) fun _ c => f c + ∑ r ∈ Finset.range 512, DL (coly dy) ps (512 * (i 0).val + r) c :=
  p106 (din H) (dpost H) (psc H) (Re2.rdc harg20 ho 0 0 inb_S1x512_S1x512_0_0 (fun _ _ _ _ => by simp only [Nat.zero_add]))

theorem acc19 {f : ℕ → EReal} (ho : At2 xo19 fun _ => f) : At2 (k0_pay138 (kernelRun0_B.sl.v669 (F := Ideal) c arg21 harg21 xo19) (kernelRun0_B.sl.v672 (F := Ideal) c i arg1 harg1 arg2 harg2 arg3 harg3 arg4 harg4 arg5 harg5 arg10 harg10 arg11 harg11 x0 x1 x2 x3 x4 x9 x10)) fun _ c => f c + ∑ r ∈ Finset.range 512, (((coly dy) (512 * (i 0).val + r) c : ℝ) : EReal) * (((LIN (colz z) wp (512 * (i 0).val + r) c : ℝ) : EReal) + bp c) :=
  dpsPiece (f := f) (fun j => (At2.rd harg21 ho 0 0 inb_S1x512_S1x512_0_0 j).trans (congrArg f (Nat.zero_add _))) (v516 H) (lin0 H) (lin1 H) (lin2 H) (lin3 H)

theorem out_15 {f : ℕ → ℝ} (ho : Re2 (φ := .f32) xo15 fun _ => f) : Re2 (φ := .f32) (out0_B_15 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) fun _ c => f c + dGA (rows (i 0).val z) (rows (i 0).val dy) ws 512 c := by
  unfold out0_B_15 kernelRun0_B
  exact Re2.out _ (acc15 H ho) _ _

theorem out_16 {f : ℕ → ℝ} (ho : Re2 (φ := .f32) xo16 fun _ => f) : Re2 (φ := .f32) (out0_B_16 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) fun _ c => f c + dBE (rows (i 0).val z) (rows (i 0).val dy) ws 512 c := by
  unfold out0_B_16 kernelRun0_B
  exact Re2.out _ (acc16 H ho) _ _

theorem out_18 {f : ℕ → ℝ} (ho : Re2 (φ := .f32) xo18 fun _ => f) : Re2 (φ := .f32) (out0_B_18 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) fun _ c => f c + ∑ r ∈ Finset.range 512, DL (coly dy) ps (512 * (i 0).val + r) c := by
  unfold out0_B_18 kernelRun0_B
  exact Re2.out _ (acc18 H ho) _ _

theorem out_19 {f : ℕ → EReal} (ho : At2 xo19 fun _ => f) : At2 (out0_B_19 (F := Ideal) c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 x0 x1 x2 x3 x4 x5 x6 x7 x8 x9 x10 x11 xo13 xo14 xo15 xo16 xo17 xo18 xo19) fun _ c => f c + ∑ r ∈ Finset.range 512, (((coly dy) (512 * (i 0).val + r) c : ℝ) : EReal) * (((LIN (colz z) wp (512 * (i 0).val + r) c : ℝ) : EReal) + bp c) := by
  unfold out0_B_19 kernelRun0_B
  exact At2.out _ (acc19 H ho) _ _

end Cert.CaseB

end
-- ==== Proof.Windows.lean ====
/- What the windows hold at a grid point, in terms of the arguments' contents. -/
module

public import proofs.«01_k».proof.Proof.Tile
public import Idealize.ShloMosaic.Lib.Pipeline.ValueKit
public import Idealize.ShloMosaic.Lib.Claim

@[expose] public section

noncomputable section

namespace Cert.Tile

open Idealize.ShloMosaic Idealize.ShloMosaic.ValueIdx Cert.Arr Cert.Spec Cert.KernelIdeal Cert.KernelIdeal.Gen
open Idealize.ShloMosaic.TcCoe Idealize.ShloMosaic.Tactic
open scoped BigOperators

/-- The arguments' contents as functions of whole numbers. -/
structure Args (z dy : ℕ → ℕ → ℝ) (ws : ℕ → ℕ → ℕ → ℝ) (bs : ℕ → ℕ → ℝ) (ga be : ℕ → ℝ) (wp : ℕ → ℕ → ℕ → ℝ) (bp : ℕ → EReal) (ps : ℕ → ℝ)
    (v0 : Vec Ideal ⟨2, ![4096, 1536]⟩ .f32) (v1 : Vec Ideal ⟨2, ![4096, 1024]⟩ .f32) (v2 : Vec Ideal ⟨3, ![4, 128, 128]⟩ .f32) (v3 : Vec Ideal ⟨2, ![4, 128]⟩ .f32)
    (v4 v5 : Vec Ideal ⟨1, ![512]⟩ .f32) (v6 : Vec Ideal ⟨3, ![4, 128, 128]⟩ .f32) (v7 : Vec Ideal ⟨2, ![4, 128]⟩ .f32) (v8 : Vec Ideal ⟨1, ![512]⟩ .f32) : Prop where
  a0 : Re2 (φ := .f32) v0 z
  a1 : Re2 (φ := .f32) v1 dy
  a2 : Re3 (φ := .f32) v2 ws
  a3 : Re2 (φ := .f32) v3 bs
  a4 : ∀ i, v4 i = ((ga (i 0).val : ℝ) : EReal)
  a5 : ∀ i, v5 i = ((be (i 0).val : ℝ) : EReal)
  a6 : Re3 (φ := .f32) v6 wp
  a7 : At2 v7 fun h c => bp (128 * h + c)
  a8 : ∀ i, v8 i = ((ps (i 0).val : ℝ) : EReal)

theorem index0 : ∀ t : Fin cfg0.N, win0_0.index t = ![t.val, 0] := (by decide +kernel : ∀ t : Fin grid0.N, win0_0.index t = ![t.val, 0])
theorem index1 : ∀ t : Fin cfg0.N, win0_1.index t = ![32 * t.val - 1, 2] := (by decide +kernel : ∀ t : Fin grid0.N, win0_1.index t = ![32 * t.val - 1, 2])
theorem index2 : ∀ t : Fin cfg0.N, win0_2.index t = ![min (32 * (t.val + 1)) 255, 2] := (by decide +kernel : ∀ t : Fin grid0.N, win0_2.index t = ![min (32 * (t.val + 1)) 255, 2])
theorem index3 : ∀ t : Fin cfg0.N, win0_3.index t = ![t.val, 0] := (by decide +kernel : ∀ t : Fin grid0.N, win0_3.index t = ![t.val, 0])
theorem index4 : ∀ t : Fin cfg0.N, win0_4.index t = ![min (32 * (t.val + 1)) 255, 1] := (by decide +kernel : ∀ t : Fin grid0.N, win0_4.index t = ![min (32 * (t.val + 1)) 255, 1])
theorem index5 : ∀ t : Fin cfg0.N, win0_5.index t = ![0, 0, 0] := (by decide +kernel : ∀ t : Fin grid0.N, win0_5.index t = ![0, 0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0, 0] := (by decide +kernel : ∀ t : Fin grid0.N, win0_9.index t = ![0, 0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem point : ∀ t : Fin cfg0.N, (grid0.coords t 0).val = t.val := (by decide +kernel : ∀ t : Fin grid0.N, (grid0.coords t 0).val = t.val)

variable (m : (ℓ : Loc nD τ sig) → Buf (Elt Ideal) ℓ) (c : Dev nD) (t : Fin cfg0.N)

theorem blk0 {f : ℕ → ℕ → ℝ} (h : Re2 (φ := .f32) (m ((c : Thread nD τ).loc main_arg0) : Vec Ideal ⟨2, ![4096, 1536]⟩ .f32) f) :
    Re2 (n := 512) (m := 1536) (φ := .f32) (iblk m c 0 t) (rows t.val f) := fun y => by
  have e : iblk m c 0 t y = V m c main_arg0 (((cfg0.win 0).blk t).view.emb y) := by blk_simp [iblk]
  rw [e, V_main_arg0, h]
  blk_simp [index0 t, rows, before, after, colz, coly]
  first | done | (congr 2 <;> omega)

theorem blk1 {f : ℕ → ℕ → ℝ} (h : Re2 (φ := .f32) (m ((c : Thread nD τ).loc main_arg0) : Vec Ideal ⟨2, ![4096, 1536]⟩ .f32) f) :
    Re2 (n := 16) (m := 512) (φ := .f32) (iblk m c 1 t) (before t.val (colz f)) := fun y => by
  have e : iblk m c 1 t y = V m c main_arg0 (((cfg0.win 1).blk t).view.emb y) := by blk_simp [iblk]
  rw [e, V_main_arg0, h]
  blk_simp [index1 t, rows, before, after, colz, coly]
  first | done | (congr 2 <;> omega)

theorem blk2 {f : ℕ → ℕ → ℝ} (h : Re2 (φ := .f32) (m ((c : Thread nD τ).loc main_arg0) : Vec Ideal ⟨2, ![4096, 1536]⟩ .f32) f) :
    Re2 (n := 16) (m := 512) (φ := .f32) (iblk m c 2 t) (after t.val (colz f)) := fun y => by
  have e : iblk m c 2 t y = V m c main_arg0 (((cfg0.win 2).blk t).view.emb y) := by blk_simp [iblk]
  rw [e, V_main_arg0, h]
  blk_simp [index2 t, rows, before, after, colz, coly]
  first | done | (congr 2 <;> omega)

theorem blk3 {f : ℕ → ℕ → ℝ} (h : Re2 (φ := .f32) (m ((c : Thread nD τ).loc main_arg1) : Vec Ideal ⟨2, ![4096, 1024]⟩ .f32) f) :
    Re2 (n := 512) (m := 1024) (φ := .f32) (iblk m c 3 t) (rows t.val f) := fun y => by
  have e : iblk m c 3 t y = V m c main_arg1 (((cfg0.win 3).blk t).view.emb y) := by blk_simp [iblk]
  rw [e, V_main_arg1, h]
  blk_simp [index3 t, rows, before, after, colz, coly]
  first | done | (congr 2 <;> omega)

theorem blk4 {f : ℕ → ℕ → ℝ} (h : Re2 (φ := .f32) (m ((c : Thread nD τ).loc main_arg1) : Vec Ideal ⟨2, ![4096, 1024]⟩ .f32) f) :
    Re2 (n := 16) (m := 512) (φ := .f32) (iblk m c 4 t) (after t.val (coly f)) := fun y => by
  have e : iblk m c 4 t y = V m c main_arg1 (((cfg0.win 4).blk t).view.emb y) := by blk_simp [iblk]
  rw [e, V_main_arg1, h]
  blk_simp [index4 t, rows, before, after, colz, coly]
  first | done | (congr 2 <;> omega)

theorem blk5 {f : ℕ → ℕ → ℕ → ℝ} (h : Re3 (φ := .f32) (m ((c : Thread nD τ).loc main_arg2) : Vec Ideal ⟨3, ![4, 128, 128]⟩ .f32) f) :
    Re3 (n := 4) (m := 128) (k := 128) (φ := .f32) (iblk m c 5 t) f := fun y => by
  have e : iblk m c 5 t y = V m c main_arg2 (((cfg0.win 5).blk t).view.emb y) := by blk_simp [iblk]
  rw [e, V_main_arg2, h]
  blk_simp [index5 t]
  first | done | (congr 2 <;> omega)

theorem blk9 {f : ℕ → ℕ → ℕ → ℝ} (h : Re3 (φ := .f32) (m ((c : Thread nD τ).loc main_arg6) : Vec Ideal ⟨3, ![4, 128, 128]⟩ .f32) f) :
    Re3 (n := 4) (m := 128) (k := 128) (φ := .f32) (iblk m c 9 t) f := fun y => by
  have e : iblk m c 9 t y = V m c main_arg6 (((cfg0.win 9).blk t).view.emb y) := by blk_simp [iblk]
  rw [e, V_main_arg6, h]
  blk_simp [index9 t]
  first | done | (congr 2 <;> omega)

theorem blk6 {f : ℕ → ℕ → ℝ} (h : Re2 (φ := .f32) (m ((c : Thread nD τ).loc main_arg3) : Vec Ideal ⟨2, ![4, 128]⟩ .f32) f) :
    Re2 (n := 128) (m := 512) (φ := .f32) (iblk m c 6 t) fun r c => f (c / 128) r := fun y => by
  blk_simp [iblk]
  entry_read
  pointwise
  refine (h _).trans ?_
  blk_simp [index6 t]
  first | done | (congr 2 <;> omega)

theorem blk10 {f : ℕ → EReal} (h : At2 (m ((c : Thread nD τ).loc main_arg7) : Vec Ideal ⟨2, ![4, 128]⟩ .f32) fun h c => f (128 * h + c)) :
    At2 (n := 1) (m := 512) (iblk m c 10 t) fun _ => f := fun y => by
  blk_simp [iblk]
  entry_read
  pointwise
  refine (h _).trans ?_
  show f (128 * (_ / 128) + _ % 128) = _
  rw [Nat.div_add_mod]
  blk_simp [index10 t]

theorem blk7 {f : ℕ → ℝ} (h : ∀ i, (m ((c : Thread nD τ).loc main_arg4) : Vec Ideal ⟨1, ![512]⟩ .f32) i = ((f (i 0).val : ℝ) : EReal)) :
    Re2 (n := 1) (m := 512) (φ := .f32) (iblk m c 7 t) fun _ => f := fun y => by
  blk_simp [iblk]
  entry_read
  pointwise
  refine (h _).trans ?_
  blk_simp [index7 t]
  first | done | (congr 2 <;> omega)

theorem blk8 {f : ℕ → ℝ} (h : ∀ i, (m ((c : Thread nD τ).loc main_arg5) : Vec Ideal ⟨1, ![512]⟩ .f32) i = ((f (i 0).val : ℝ) : EReal)) :
    Re2 (n := 1) (m := 512) (φ := .f32) (iblk m c 8 t) fun _ => f := fun y => by
  blk_simp [iblk]
  entry_read
  pointwise
  refine (h _).trans ?_
  blk_simp [index8 t]
  first | done | (congr 2 <;> omega)

theorem blk11 {f : ℕ → ℝ} (h : ∀ i, (m ((c : Thread nD τ).loc main_arg8) : Vec Ideal ⟨1, ![512]⟩ .f32) i = ((f (i 0).val : ℝ) : EReal)) :
    Re2 (n := 1) (m := 512) (φ := .f32) (iblk m c 11 t) fun _ => f := fun y => by
  blk_simp [iblk]
  entry_read
  pointwise
  refine (h _).trans ?_
  blk_simp [index11 t]
  first | done | (congr 2 <;> omega)

variable {m} {c}

theorem blocks {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
    (h : Args z dy ws bs ga be wp bp ps (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8))) :
    Blocks (grid0.coords t 0).val z dy ws bs ga be wp bp ps (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) := by
  rw [point t]
  exact ⟨t.isLt, blk0 m c t h.a0, blk1 m c t h.a0, blk2 m c t h.a0, blk3 m c t h.a1, blk4 m c t h.a1, blk5 m c t h.a2, blk6 m c t h.a3, blk7 m c t h.a4, blk8 m c t h.a5,
    blk9 m c t h.a6, blk10 m c t h.a7, blk11 m c t h.a8⟩

end Cert.Tile

end
-- ==== Proof.Accum.lean ====
/- What the accumulated blocks hold after each grid point, and the result arrays after the last. -/
module

public import proofs.«01_k».proof.Proof.CaseA
public import proofs.«01_k».proof.Proof.CaseB
public import proofs.«01_k».proof.Proof.Windows
public import proofs.«01_k».proof.Proof.Gen.KernelIdeal.Value

@[expose] public section

noncomputable section

namespace Cert.Tile

open Idealize.ShloMosaic Idealize.ShloMosaic.ValueIdx Cert.Arr Cert.Spec Cert.KernelIdeal Cert.KernelIdeal.Gen
open Idealize.ShloMosaic.TcCoe Idealize.ShloMosaic.Tactic
open scoped BigOperators

/-! ## Rows of a tile against rows of the whole arrays -/

theorem sum_tiles {M : Type*} [AddCommMonoid M] (k : ℕ) (f : ℕ → M) : ∀ n : ℕ,
    ∑ T ∈ Finset.range n, ∑ r ∈ Finset.range k, f (k * T + r) = ∑ r ∈ Finset.range (k * n), f r
  | 0 => by simp
  | n + 1 => by rw [Finset.sum_range_succ, sum_tiles k f n, Nat.mul_succ, Finset.sum_range_add]

section Rows

variable (T : ℕ) (z dy : ℕ → ℕ → ℝ) (ws : ℕ → ℕ → ℕ → ℝ) (bs : ℕ → ℕ → ℝ) (ga be : ℕ → ℝ) (wp : ℕ → ℕ → ℕ → ℝ) (bp : ℕ → EReal) (ps : ℕ → ℝ)

theorem DVN_rows (r c : ℕ) : DVN (rows T z) (rows T dy) ws r c = DVN z dy ws (512 * T + r) c := by
  have e : (512 * T + r) % 128 = r % 128 := by omega
  have e' : ∀ t, (512 * T + r) / 128 * 128 + t = 512 * T + (r / 128 * 128 + t) := fun t => by omega
  unfold DVN; rw [e]; simp only [e']; rfl

theorem MIX_rows (r c : ℕ) : MIX (rows T z) ga be ws bs r c = MIX z ga be ws bs (512 * T + r) c := by
  have e : (512 * T + r) % 128 = r % 128 := by omega
  have e' : ∀ t, (512 * T + r) / 128 * 128 + t = 512 * T + (r / 128 * 128 + t) := fun t => by omega
  unfold MIX; rw [e]; simp only [e']; rfl

theorem dzU_rows (r c : ℕ) : dzU (rows T z) (rows T dy) ga be ws bs r c = dzU z dy ga be ws bs (512 * T + r) c := by
  unfold dzU DU; rw [MIX_rows]; rfl

theorem dzV_rows (r c : ℕ) : dzV (rows T z) (rows T dy) ga ws r c = dzV z dy ga ws (512 * T + r) c := by
  unfold dzV DV DVH; simp only [DVN_rows]; rfl

/-- What the input's gradient holds. -/
def DZ (r c : ℕ) : ℝ :=
  if c < 512 then dzU z dy ga be ws bs r c
  else if c < 1024 then dzV z dy ga ws r (c - 512)
  else dzP (coly dy) ps wp r (c - 1024)

theorem DZT_eq (r c : ℕ) : DZT T z dy ws bs ga be wp ps r c = DZ z dy ws bs ga be wp ps (512 * T + r) c := by
  unfold DZT DZ; rw [dzU_rows, dzV_rows]

theorem dWS_total (h t s : ℕ) : ∑ T ∈ Finset.range 8, dWS (rows T z) (rows T dy) ga be 4 h t s = dWS z dy ga be 32 h t s := by
  unfold dWS
  rw [← Finset.sum_mul]
  refine congrArg (· * _) ((Finset.sum_congr rfl fun T _ => Finset.sum_congr rfl fun n _ => Finset.sum_congr rfl fun d _ => ?_).trans
    (sum_tiles 4 (fun n => ∑ d ∈ Finset.range 128, DM z dy (128 * n + t) (128 * h + d) * VN z ga be (128 * n + s) (128 * h + d)) 8))
  show DM z dy (512 * T + (128 * n + t)) (128 * h + d) * VN z ga be (512 * T + (128 * n + s)) (128 * h + d) = _
  rw [show 512 * T + (128 * n + t) = 128 * (4 * T + n) + t by omega, show 512 * T + (128 * n + s) = 128 * (4 * T + n) + s by omega]

theorem dBS_total (h t : ℕ) : ∑ T ∈ Finset.range 8, dBS (rows T z) (rows T dy) 4 h t = dBS z dy 32 h t := by
  unfold dBS
  refine (Finset.sum_congr rfl fun T _ => Finset.sum_congr rfl fun n _ => Finset.sum_congr rfl fun d _ => ?_).trans
    (sum_tiles 4 (fun n => ∑ d ∈ Finset.range 128, DM z dy (128 * n + t) (128 * h + d)) 8)
  show DM z dy (512 * T + (128 * n + t)) (128 * h + d) = _
  rw [show 512 * T + (128 * n + t) = 128 * (4 * T + n) + t by omega]

theorem dGA_total (c : ℕ) : ∑ T ∈ Finset.range 8, dGA (rows T z) (rows T dy) ws 512 c = dGA z dy ws 4096 c := by
  unfold dGA
  simp only [DVN_rows]
  exact sum_tiles 512 (fun r => DVN z dy ws r c * VH z r c) 8

theorem dBE_total (c : ℕ) : ∑ T ∈ Finset.range 8, dBE (rows T z) (rows T dy) ws 512 c = dBE z dy ws 4096 c := by
  unfold dBE
  simp only [DVN_rows]
  exact sum_tiles 512 (fun r => DVN z dy ws r c) 8

end Rows

theorem index12 : ∀ t : Fin cfg0.N, win0_12.index t = ![t.val, 0] := (by decide +kernel : ∀ t : Fin grid0.N, win0_12.index t = ![t.val, 0])

/-- The last grid point. -/
def lastPoint : Fin cfg0.N := ⟨7, by show 7 < 8; decide⟩

section Run

variable {m : (ℓ : Loc nD τ sig) → Buf (Elt Ideal) ℓ} {c : Dev nD} {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  (A : Args z dy ws bs ga be wp bp ps (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)))

include A

theorem at12 (t : Fin cfg0.N) : Re2 (n := 512) (m := 1536) (φ := .bf16) (outsAt0 m c t.val t.isLt).1 (fun r c => DZ z dy ws bs ga be wp ps (512 * t.val + r) c) := by
  have e : ∀ r c, DZT (grid0.coords t 0).val z dy ws bs ga be wp ps r c = DZ z dy ws bs ga be wp ps (512 * t.val + r) c := fun r c => by rw [point t, DZT_eq]
  by_cases h0 : t.val % 8 = 0
  · have e1 := congrArg (fun p => p.1) (outsAt0_A m c t h0)
    dsimp only at e1
    rw [e1]
    exact fun y => Eq.trans (CaseA.out_12 (blocks t A) y) (by rw [e])
  · have e1 := congrArg (fun p => p.1) (outsAt0_B m c t h0)
    dsimp only at e1
    rw [e1]
    exact fun y => Eq.trans (CaseB.out_12 (blocks t A) y) (by rw [e])

theorem at13 : ∀ (N : ℕ) (h : N < cfg0.N), Re3 (n := 4) (m := 128) (k := 128) (φ := .f32) (outsAt0 m c N h).2.1 (fun h r c => ∑ T ∈ Finset.range (N + 1), dWS (rows T z) (rows T dy) ga be 4 h r c)
  | 0, h => fun y => by
    have e := congrArg (fun p => p.2.1) (outsAt0_A m c ⟨0, h⟩ rfl)
    dsimp only at e
    rw [e]
    refine Eq.trans (CaseA.out_13 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.1) (outsAt0_B m c ⟨N + 1, h⟩ h0)
    dsimp only at e
    rw [e]
    refine Eq.trans (CaseB.out_13 (blocks ⟨N + 1, h⟩ A) (at13 N (Nat.lt_of_succ_lt h)) y) ?_
    dsimp only
    rw [point ⟨N + 1, h⟩, Finset.sum_range_succ _ (N + 1)]

theorem at14 : ∀ (N : ℕ) (h : N < cfg0.N), Re3 (n := 4) (m := 128) (k := 1) (φ := .f32) (outsAt0 m c N h).2.2.1 (fun h r _ => ∑ T ∈ Finset.range (N + 1), dBS (rows T z) (rows T dy) 4 h r)
  | 0, h => fun y => by
    have e := congrArg (fun p => p.2.2.1) (outsAt0_A m c ⟨0, h⟩ rfl)
    dsimp only at e
    rw [e]
    refine Eq.trans (CaseA.out_14 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.1) (outsAt0_B m c ⟨N + 1, h⟩ h0)
    dsimp only at e
    rw [e]
    refine Eq.trans (CaseB.out_14 (blocks ⟨N + 1, h⟩ A) (at14 N (Nat.lt_of_succ_lt h)) y) ?_
    dsimp only
    rw [point ⟨N + 1, h⟩, Finset.sum_range_succ _ (N + 1)]

theorem at15 : ∀ (N : ℕ) (h : N < cfg0.N), Re2 (n := 1) (m := 512) (φ := .f32) (outsAt0 m c N h).2.2.2.1 (fun _ c => ∑ T ∈ Finset.range (N + 1), dGA (rows T z) (rows T dy) ws 512 c)
  | 0, h => fun y => by
    have e := congrArg (fun p => p.2.2.2.1) (outsAt0_A m c ⟨0, h⟩ rfl)
    dsimp only at e
    rw [e]
    refine Eq.trans (CaseA.out_15 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.2.1) (outsAt0_B m c ⟨N + 1, h⟩ h0)
    dsimp only at e
    rw [e]
    refine Eq.trans (CaseB.out_15 (blocks ⟨N + 1, h⟩ A) (at15 N (Nat.lt_of_succ_lt h)) y) ?_
    dsimp only
    rw [point ⟨N + 1, h⟩, Finset.sum_range_succ _ (N + 1)]

theorem at16 : ∀ (N : ℕ) (h : N < cfg0.N), Re2 (n := 1) (m := 512) (φ := .f32) (outsAt0 m c N h).2.2.2.2.1 (fun _ c => ∑ T ∈ Finset.range (N + 1), dBE (rows T z) (rows T dy) ws 512 c)
  | 0, h => fun y => by
    have e := congrArg (fun p => p.2.2.2.2.1) (outsAt0_A m c ⟨0, h⟩ rfl)
    dsimp only at e
    rw [e]
    refine Eq.trans (CaseA.out_16 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.2.2.1) (outsAt0_B m c ⟨N + 1, h⟩ h0)
    dsimp only at e
    rw [e]
    refine Eq.trans (CaseB.out_16 (blocks ⟨N + 1, h⟩ A) (at16 N (Nat.lt_of_succ_lt h)) y) ?_
    dsimp only
    rw [point ⟨N + 1, h⟩, Finset.sum_range_succ _ (N + 1)]

theorem at17 : ∀ (N : ℕ) (h : N < cfg0.N), Re3 (n := 4) (m := 128) (k := 128) (φ := .f32) (outsAt0 m c N h).2.2.2.2.2.1 (fun h a b => ∑ T ∈ Finset.range (N + 1), (∑ r ∈ Finset.range 512, DF (colz z) (512 * T + r) (128 * h + a) * DL (coly dy) ps (512 * T + r) (128 * h + b)))
  | 0, h => fun y => by
    have e := congrArg (fun p => p.2.2.2.2.2.1) (outsAt0_A m c ⟨0, h⟩ rfl)
    dsimp only at e
    rw [e]
    refine Eq.trans (CaseA.out_17 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.2.2.2.1) (outsAt0_B m c ⟨N + 1, h⟩ h0)
    dsimp only at e
    rw [e]
    refine Eq.trans (CaseB.out_17 (blocks ⟨N + 1, h⟩ A) (at17 N (Nat.lt_of_succ_lt h)) y) ?_
    dsimp only
    rw [point ⟨N + 1, h⟩, Finset.sum_range_succ _ (N + 1)]

theorem at18 : ∀ (N : ℕ) (h : N < cfg0.N), Re2 (n := 1) (m := 512) (φ := .f32) (outsAt0 m c N h).2.2.2.2.2.2.1 (fun _ c => ∑ T ∈ Finset.range (N + 1), (∑ r ∈ Finset.range 512, DL (coly dy) ps (512 * T + r) c))
  | 0, h => fun y => by
    have e := congrArg (fun p => p.2.2.2.2.2.2.1) (outsAt0_A m c ⟨0, h⟩ rfl)
    dsimp only at e
    rw [e]
    refine Eq.trans (CaseA.out_18 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.2.2.2.2.1) (outsAt0_B m c ⟨N + 1, h⟩ h0)
    dsimp only at e
    rw [e]
    refine Eq.trans (CaseB.out_18 (blocks ⟨N + 1, h⟩ A) (at18 N (Nat.lt_of_succ_lt h)) y) ?_
    dsimp only
    rw [point ⟨N + 1, h⟩, Finset.sum_range_succ _ (N + 1)]

theorem at19 : ∀ (N : ℕ) (h : N < cfg0.N), At2 (n := 1) (m := 512) (outsAt0 m c N h).2.2.2.2.2.2.2 (fun _ c => ∑ T ∈ Finset.range (N + 1), (∑ r ∈ Finset.range 512, ((coly dy (512 * T + r) c : ℝ) : EReal) * (((LIN (colz z) wp (512 * T + r) c : ℝ) : EReal) + bp c)))
  | 0, h => fun y => by
    have e := congrArg (fun p => p.2.2.2.2.2.2.2) (outsAt0_A m c ⟨0, h⟩ rfl)
    dsimp only at e
    rw [e]
    refine Eq.trans (CaseA.out_19 (blocks ⟨0, h⟩ A) y) ?_
    dsimp only
    rw [point ⟨0, h⟩, zero_add, Finset.sum_range_one]
  | N + 1, h => fun y => by
    have h0 : ¬ (N + 1) % 8 = 0 := by have : N + 1 < 8 := h; omega
    have e := congrArg (fun p => p.2.2.2.2.2.2.2) (outsAt0_B m c ⟨N + 1, h⟩ h0)
    dsimp only at e
    rw [e]
    refine Eq.trans (CaseB.out_19 (blocks ⟨N + 1, h⟩ A) (at19 N (Nat.lt_of_succ_lt h)) y) ?_
    dsimp only
    rw [point ⟨N + 1, h⟩, Finset.sum_range_succ _ (N + 1)]

theorem fin12 : Re2 (n := 4096) (m := 1536) (φ := .bf16) ((dats m 0 c).arrAt 12 cfg0.N) (DZ z dy ws bs ga be wp ps) := by
  refine congrFun ((dats m 0 c).arrAt_eq_of_covers 12 (fun i => ((DZ z dy ws bs ga be wp ps (i 0).val (i 1).val : ℝ) : EReal)) (by decide +kernel) fun t hf y => ?_)
  blk_simp [index12 t]
  rw [after0_12]
  refine (at12 A t y).trans ?_
  exact congrArg (fun x : ℕ => ((DZ z dy ws bs ga be wp ps (x + (y 0).val) (y 1).val : ℝ) : EReal)) (Nat.mul_comm 512 t.val)

theorem fin13 : Re3 (n := 4) (m := 128) (k := 128) (φ := .f32) ((dats m 0 c).arrAt 13 cfg0.N) (fun h r c => dWS z dy ga be 32 h r c) := by
  refine congrFun ((dats m 0 c).arrAt_eq_of_after_last 13 lastPoint (by decide +kernel) (fun i => ((dWS z dy ga be 32 (i 0).val (i 1).val (i 2).val : ℝ) : EReal)) fun j => ?_)
  blk_simp
  rw [after0_13]
  refine (at13 A 7 lastPoint.isLt _).trans ?_
  exact congrArg (fun x : ℝ => (x : EReal)) (dWS_total z dy ga be (j 0).val (j 1).val (j 2).val)

theorem fin14 : Re3 (n := 4) (m := 128) (k := 1) (φ := .f32) ((dats m 0 c).arrAt 14 cfg0.N) (fun h r _ => dBS z dy 32 h r) := by
  refine congrFun ((dats m 0 c).arrAt_eq_of_after_last 14 lastPoint (by decide +kernel) (fun i => ((dBS z dy 32 (i 0).val (i 1).val : ℝ) : EReal)) fun j => ?_)
  blk_simp
  rw [after0_14]
  refine (at14 A 7 lastPoint.isLt _).trans ?_
  exact congrArg (fun x : ℝ => (x : EReal)) (dBS_total z dy (j 0).val (j 1).val)

theorem fin15 : Re2 (n := 1) (m := 512) (φ := .f32) ((dats m 0 c).arrAt 15 cfg0.N) (fun _ c => dGA z dy ws 4096 c) := by
  refine congrFun ((dats m 0 c).arrAt_eq_of_after_last 15 lastPoint (by decide +kernel) (fun i => ((dGA z dy ws 4096 (i 1).val : ℝ) : EReal)) fun j => ?_)
  blk_simp
  rw [after0_15]
  refine (at15 A 7 lastPoint.isLt _).trans ?_
  exact congrArg (fun x : ℝ => (x : EReal)) (dGA_total z dy ws (j 1).val)

theorem fin16 : Re2 (n := 1) (m := 512) (φ := .f32) ((dats m 0 c).arrAt 16 cfg0.N) (fun _ c => dBE z dy ws 4096 c) := by
  refine congrFun ((dats m 0 c).arrAt_eq_of_after_last 16 lastPoint (by decide +kernel) (fun i => ((dBE z dy ws 4096 (i 1).val : ℝ) : EReal)) fun j => ?_)
  blk_simp
  rw [after0_16]
  refine (at16 A 7 lastPoint.isLt _).trans ?_
  exact congrArg (fun x : ℝ => (x : EReal)) (dBE_total z dy ws (j 1).val)

theorem fin17 : Re3 (n := 4) (m := 128) (k := 128) (φ := .f32) ((dats m 0 c).arrAt 17 cfg0.N) (fun h a b => dWP (colz z) (coly dy) ps 4096 h a b) := by
  refine congrFun ((dats m 0 c).arrAt_eq_of_after_last 17 lastPoint (by decide +kernel) (fun i => ((dWP (colz z) (coly dy) ps 4096 (i 0).val (i 1).val (i 2).val : ℝ) : EReal)) fun j => ?_)
  blk_simp
  rw [after0_17]
  refine (at17 A 7 lastPoint.isLt _).trans ?_
  exact congrArg (fun x : ℝ => (x : EReal)) (sum_tiles 512 (fun r => DF (colz z) r (128 * (j 0).val + (j 1).val) * DL (coly dy) ps r (128 * (j 0).val + (j 2).val)) 8)

theorem fin18 : Re2 (n := 1) (m := 512) (φ := .f32) ((dats m 0 c).arrAt 18 cfg0.N) (fun _ c => dBP (coly dy) ps 4096 c) := by
  refine congrFun ((dats m 0 c).arrAt_eq_of_after_last 18 lastPoint (by decide +kernel) (fun i => ((dBP (coly dy) ps 4096 (i 1).val : ℝ) : EReal)) fun j => ?_)
  blk_simp
  rw [after0_18]
  refine (at18 A 7 lastPoint.isLt _).trans ?_
  exact congrArg (fun x : ℝ => (x : EReal)) (sum_tiles 512 (fun r => DL (coly dy) ps r (j 1).val) 8)

theorem fin19 : At2 (n := 1) (m := 512) ((dats m 0 c).arrAt 19 cfg0.N) (fun _ c => dPS (colz z) (coly dy) wp bp 4096 c) := by
  refine congrFun ((dats m 0 c).arrAt_eq_of_after_last 19 lastPoint (by decide +kernel) (fun i => dPS (colz z) (coly dy) wp bp 4096 (i 1).val) fun j => ?_)
  blk_simp
  rw [after0_19]
  refine (at19 A 7 lastPoint.isLt _).trans ?_
  exact (sum_tiles 512 (fun r => ((coly dy r (j 1).val : ℝ) : EReal) * (((LIN (colz z) wp r (j 1).val : ℝ) : EReal) + bp (j 1).val)) 8)

end Run

end Cert.Tile

end
-- ==== Proof.Finite.lean ====
/- What the precondition gives: every argument but the pooling bias is an array of real numbers. -/
module

public import proofs.«01_k».proof.Defs
public import proofs.«01_k».proof.Proof.Windows

@[expose] public section

noncomputable section

namespace Cert.Finite

open Idealize.ShloMosaic Cert.Arr Cert.Tile

/-- The predicate's five constant splats have the shapes of the arguments. -/
theorem facts : Cert.Pre_finite.Facts where
  bcast_S_S4096x1536 := by decide
  bcast_S_S4096x1024 := by decide
  bcast_S_S4x128x128 := by decide
  bcast_S_S4x128 := by decide
  bcast_S_S512 := by decide

theorem inf_word : FloatOps.ofBits (F := Ideal) .f32 0x7F800000#32 = (⊤ : EReal) := by
  show Ideal.ofBits .f32 0x7F800000#32 = ⊤
  simp [Ideal.ofBits, Ideal.ieee]

theorem real_of_lt (x : EReal) (h : Ideal.cmp .olt (max x (-x)) ⊤ = 1#1) : x = ((x.toReal : ℝ) : EReal) := by
  induction x using EReal.rec with
  | bot => simp [Ideal.cmp] at h
  | top => simp [Ideal.cmp] at h
  | coe r => rfl

/-- An array whose absolute values are all below the infinity word holds real numbers. -/
theorem real_of_pre {s : Shape} (hb : (⟨0, ![]⟩ : Shape).BroadcastsInDim s ![]) (v : FVec Ideal s .f32)
    (h : cmpf (F := Ideal) (φ := .f32) .olt (Host.absf v) (broadcastInDim s ![] hb (constant (F := Ideal) ⟨0, ![]⟩ .f32 0x7F800000#32)) = fun _ => 1#1)
    (i : s.Idx) : v i = ((EReal.toReal (v i) : ℝ) : EReal) := by
  refine real_of_lt (v i) ?_
  have e := congrFun h i
  rw [← inf_word]
  exact e

def at1 (v : Vec Ideal ⟨1, ![512]⟩ .f32) (c : ℕ) : ℝ := if h : c < 512 then EReal.toReal (v (ix1 ⟨c, h⟩)) else 0

def at2 {n m : ℕ} (v : Vec Ideal ⟨2, ![n, m]⟩ .f32) (r c : ℕ) : ℝ :=
  if h : r < n ∧ c < m then EReal.toReal (v (ix2 ⟨r, h.1⟩ ⟨c, h.2⟩)) else 0

def at3 {n m k : ℕ} (v : Vec Ideal ⟨3, ![n, m, k]⟩ .f32) (g r c : ℕ) : ℝ :=
  if h : g < n ∧ r < m ∧ c < k then EReal.toReal (v (ix3 ⟨g, h.1⟩ ⟨r, h.2.1⟩ ⟨c, h.2.2⟩)) else 0

def bias (v : Vec Ideal ⟨2, ![4, 128]⟩ .f32) (c : ℕ) : EReal :=
  if h : c / 128 < 4 then v (ix2 ⟨c / 128, h⟩ ⟨c % 128, Nat.mod_lt _ (by norm_num)⟩) else 0

theorem at1_eq (v : Vec Ideal ⟨1, ![512]⟩ .f32) (h : ∀ i, v i = ((EReal.toReal (v i) : ℝ) : EReal)) (i : (⟨1, ![512]⟩ : Shape).Idx) :
    v i = ((at1 v (i 0).val : ℝ) : EReal) := by
  have h0 : (i 0).val < 512 := (i 0).isLt
  unfold at1
  rw [dif_pos h0]
  have e : ix1 ⟨(i 0).val, (i 0).isLt⟩ = i := by
    funext a; match a with | ⟨0, _⟩ => rfl
  exact (h i).trans (congrArg (fun j => ((EReal.toReal (v j) : ℝ) : EReal)) e.symm)

theorem at2_eq {n m : ℕ} (v : Vec Ideal ⟨2, ![n, m]⟩ .f32) (h : ∀ i, v i = ((EReal.toReal (v i) : ℝ) : EReal)) :
    Re2 (φ := .f32) v (at2 v) := fun i => by
  unfold at2
  rw [dif_pos ⟨(i 0).isLt, (i 1).isLt⟩]
  have e : ix2 ⟨(i 0).val, (i 0).isLt⟩ ⟨(i 1).val, (i 1).isLt⟩ = i := by
    funext a; match a with | ⟨0, _⟩ => rfl | ⟨1, _⟩ => rfl
  exact (h i).trans (congrArg (fun j => ((EReal.toReal (v j) : ℝ) : EReal)) e.symm)

theorem at3_eq {n m k : ℕ} (v : Vec Ideal ⟨3, ![n, m, k]⟩ .f32) (h : ∀ i, v i = ((EReal.toReal (v i) : ℝ) : EReal)) :
    Re3 (φ := .f32) v (at3 v) := fun i => by
  unfold at3
  rw [dif_pos ⟨(i 0).isLt, (i 1).isLt, (i 2).isLt⟩]
  have e : ix3 ⟨(i 0).val, (i 0).isLt⟩ ⟨(i 1).val, (i 1).isLt⟩ ⟨(i 2).val, (i 2).isLt⟩ = i := by
    funext a; match a with | ⟨0, _⟩ => rfl | ⟨1, _⟩ => rfl | ⟨2, _⟩ => rfl
  exact (h i).trans (congrArg (fun j => ((EReal.toReal (v j) : ℝ) : EReal)) e.symm)

theorem bias_eq (v : Vec Ideal ⟨2, ![4, 128]⟩ .f32) : At2 v fun h c => bias v (128 * h + c) := fun i => by
  have h0 : (i 0).val < 4 := (i 0).isLt
  have h1 : (i 1).val < 128 := (i 1).isLt
  have e0 : (128 * (i 0).val + (i 1).val) / 128 = (i 0).val := by omega
  have e1 : (128 * (i 0).val + (i 1).val) % 128 = (i 1).val := by omega
  show v i = bias v (128 * (i 0).val + (i 1).val)
  unfold bias
  rw [dif_pos (by omega)]
  refine congrArg v ?_
  funext a
  match a with
  | ⟨0, _⟩ => exact Fin.ext e0.symm
  | ⟨1, _⟩ => exact Fin.ext e1.symm

/-- The arguments of one device, as real functions of their indices. -/
theorem args (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) :
    Args (at2 (m ((c.tc : Thread Cert.KernelIdeal.nD Cert.KernelIdeal.τ).loc Cert.KernelIdeal.main_arg0)))
      (at2 (m ((c.tc : Thread Cert.KernelIdeal.nD Cert.KernelIdeal.τ).loc Cert.KernelIdeal.main_arg1)))
      (at3 (m ((c.tc : Thread Cert.KernelIdeal.nD Cert.KernelIdeal.τ).loc Cert.KernelIdeal.main_arg2)))
      (at2 (m ((c.tc : Thread Cert.KernelIdeal.nD Cert.KernelIdeal.τ).loc Cert.KernelIdeal.main_arg3)))
      (at1 (m ((c.tc : Thread Cert.KernelIdeal.nD Cert.KernelIdeal.τ).loc Cert.KernelIdeal.main_arg4)))
      (at1 (m ((c.tc : Thread Cert.KernelIdeal.nD Cert.KernelIdeal.τ).loc Cert.KernelIdeal.main_arg5)))
      (at3 (m ((c.tc : Thread Cert.KernelIdeal.nD Cert.KernelIdeal.τ).loc Cert.KernelIdeal.main_arg6)))
      (bias (m ((c.tc : Thread Cert.KernelIdeal.nD Cert.KernelIdeal.τ).loc Cert.KernelIdeal.main_arg7)))
      (at1 (m ((c.tc : Thread Cert.KernelIdeal.nD Cert.KernelIdeal.τ).loc Cert.KernelIdeal.main_arg8)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) where
  a0 := at2_eq _ (real_of_pre facts.bcast_S_S4096x1536 _ (h c).1)
  a1 := at2_eq _ (real_of_pre facts.bcast_S_S4096x1024 _ (h c).2.1)
  a2 := at3_eq _ (real_of_pre facts.bcast_S_S4x128x128 _ (h c).2.2.1)
  a3 := at2_eq _ (real_of_pre facts.bcast_S_S4x128 _ (h c).2.2.2.1)
  a4 := at1_eq _ (real_of_pre facts.bcast_S_S512 _ (h c).2.2.2.2.1)
  a5 := at1_eq _ (real_of_pre facts.bcast_S_S512 _ (h c).2.2.2.2.2.1)
  a6 := at3_eq _ (real_of_pre facts.bcast_S_S4x128x128 _ (h c).2.2.2.2.2.2.1)
  a7 := bias_eq _
  a8 := at1_eq _ (real_of_pre facts.bcast_S_S512 _ (h c).2.2.2.2.2.2.2)

end Cert.Finite

end
-- ==== Proof.RefOps.lean ====
/- Reading the reference's operations at an index when their operands hold real numbers: the scalar operations on
   coerced reals, sums whose other reduced axes have one element, and running sums written as windows of the whole
   length. -/
module

public import proofs.«01_k».proof.Proof.Windows
public import proofs.«01_k».proof.Proof.Gen.ReferenceIdeal.Read

@[expose] public section

noncomputable section

namespace Cert.Ref

open Idealize.ShloMosaic Cert.Arr Cert.Spec
open scoped BigOperators

/-- An array of one sequence of rows holds `f row column`. -/
abbrev R3 {n m : ℕ} (v : (⟨3, ![1, n, m]⟩ : Shape).Idx → EReal) (f : ℕ → ℕ → ℝ) : Prop :=
  ∀ i : (⟨3, ![1, n, m]⟩ : Shape).Idx, v i = ((f (i 1).val (i 2).val : ℝ) : EReal)

/-- The same with the columns split into four groups of 128. -/
abbrev R4 {n : ℕ} (v : (⟨4, ![1, n, 4, 128]⟩ : Shape).Idx → EReal) (f : ℕ → ℕ → ℝ) : Prop :=
  ∀ i : (⟨4, ![1, n, 4, 128]⟩ : Shape).Idx, v i = ((f (i 1).val (128 * (i 2).val + (i 3).val) : ℝ) : EReal)

/-- The same with the rows split into 32 blocks of 128 as well. -/
abbrev R5 (v : (⟨5, ![1, 32, 128, 4, 128]⟩ : Shape).Idx → EReal) (f : ℕ → ℕ → ℝ) : Prop :=
  ∀ i : (⟨5, ![1, 32, 128, 4, 128]⟩ : Shape).Idx,
    v i = ((f (128 * (i 1).val + (i 2).val) (128 * (i 3).val + (i 4).val) : ℝ) : EReal)

/-- The same, heads first and the position inside a block last. -/
abbrev R5T (v : (⟨5, ![4, 1, 32, 128, 128]⟩ : Shape).Idx → EReal) (f : ℕ → ℕ → ℝ) : Prop :=
  ∀ i : (⟨5, ![4, 1, 32, 128, 128]⟩ : Shape).Idx,
    v i = ((f (128 * (i 2).val + (i 4).val) (128 * (i 0).val + (i 3).val) : ℝ) : EReal)

section Scalars

theorem mul_c (a b : ℝ) : FloatOps.mulf (F := Ideal) (φ := .f32) (a : EReal) (b : EReal) = ((a * b : ℝ) : EReal) := (EReal.coe_mul a b).symm
theorem add_c (a b : ℝ) : FloatOps.addf (F := Ideal) (φ := .f32) (a : EReal) (b : EReal) = ((a + b : ℝ) : EReal) := (EReal.coe_add a b).symm
theorem sub_c (a b : ℝ) : FloatOps.subf (F := Ideal) (φ := .f32) (a : EReal) (b : EReal) = ((a - b : ℝ) : EReal) := (EReal.coe_sub a b).symm
theorem neg_c (a : ℝ) : FloatOps.hostNegf (F := Ideal) (φ := .f32) (a : EReal) = ((-a : ℝ) : EReal) := (EReal.coe_neg a).symm
theorem min_c (a b : ℝ) : FloatOps.minimumf (F := Ideal) (φ := .f32) (a : EReal) (b : EReal) = ((min a b : ℝ) : EReal) :=
  (EReal.coe_strictMono.monotone.map_min).symm
theorem tanh_c (a : ℝ) : FloatOps.hostUnary (F := Ideal) (φ := .f32) .tanh (a : EReal) = ((Real.tanh a : ℝ) : EReal) := rfl
theorem rsqrt_c (a : ℝ) (h : 0 < a) :
    FloatOps.hostUnary (F := Ideal) (φ := .f32) .rsqrt (a : EReal) = (((Real.sqrt a)⁻¹ : ℝ) : EReal) := coe_rsqrt a h
theorem div_c (a b : ℝ) (h : b ≠ 0) : FloatOps.hostDivf (F := Ideal) (φ := .f32) (a : EReal) (b : EReal) = ((a / b : ℝ) : EReal) :=
  coe_div a b h

theorem l_half : FloatOps.ofBits (F := Ideal) .f32 0x3F000000#32 = (((1 / 2 : ℝ)) : EReal) := Words.w_half
theorem l_one : FloatOps.ofBits (F := Ideal) .f32 0x3F800000#32 = ((1 : ℝ) : EReal) := Words.w_one
theorem l_two : FloatOps.ofBits (F := Ideal) .f32 0x40000000#32 = ((2 : ℝ) : EReal) := Words.w_two
theorem l_four : FloatOps.ofBits (F := Ideal) .f32 0x40800000#32 = ((4 : ℝ) : EReal) := Words.w_four
theorem l_eight : FloatOps.ofBits (F := Ideal) .f32 0x41000000#32 = ((8 : ℝ) : EReal) := Words.w_eight
theorem l_sixteen : FloatOps.ofBits (F := Ideal) .f32 0x41800000#32 = ((16 : ℝ) : EReal) := Words.w_sixteen
theorem l_512 : FloatOps.ofBits (F := Ideal) .f32 0x44000000#32 = ((512 : ℝ) : EReal) := Words.w_512
theorem l_zero : FloatOps.ofBits (F := Ideal) .f32 0x00000000#32 = ((0 : ℝ) : EReal) := Words.w_zero
theorem l_eps : FloatOps.ofBits (F := Ideal) .f32 0x358637BD#32 = ((eps : ℝ) : EReal) := Words.w_eps
theorem l_K0 : FloatOps.ofBits (F := Ideal) .f32 0x3F4C422A#32 = ((K0 : ℝ) : EReal) := Words.w_K0
theorem l_K1 : FloatOps.ofBits (F := Ideal) .f32 0x3D372713#32 = ((K1 : ℝ) : EReal) := Words.w_K1
theorem l_three : FloatOps.ofBits (F := Ideal) .f32 0x40400000#32 = ((3 : ℝ) : EReal) := by
  show Ideal.ofBits .f32 0x40400000#32 = _
  simp [Ideal.ofBits, Ideal.ieee, -EReal.coe_mul]
  norm_num
theorem l_mhalf : FloatOps.ofBits (F := Ideal) .f32 0xBF000000#32 = ((-(1 / 2) : ℝ) : EReal) := by
  show Ideal.ofBits .f32 0xBF000000#32 = _
  simp [Ideal.ofBits, Ideal.ieee, -EReal.coe_mul]
  norm_num

theorem toInt_nat (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- A signed comparison of two small words compares the numbers. -/
theorem sge_nat (a b : ℕ) (ha : a < 2 ^ 31) (hb : b < 2 ^ 31) :
    IntOp.cmpi .sge (IntOp.addi (BitVec.ofNat 32 a) 0#32) (BitVec.ofNat 32 b) = if b ≤ a then 1#1 else 0#1 := by
  show BitVec.ofBool (decide ((BitVec.ofNat 32 b).toInt ≤ (BitVec.ofNat 32 a + 0#32).toInt)) = _
  rw [BitVec.add_zero, toInt_nat a ha, toInt_nat b hb]
  by_cases h : b ≤ a
  · rw [if_pos h, decide_eq_true (by exact_mod_cast h)]; rfl
  · rw [if_neg h, decide_eq_false (by exact_mod_cast h)]; rfl

theorem sitofp_c (n : ℕ) (h : n < 2 ^ 31) : FloatOps.sitofp (F := Ideal) .f32 (BitVec.ofNat 32 n) = ((n : ℝ) : EReal) := by
  show ((((BitVec.ofNat 32 n).toInt : ℤ) : ℝ) : EReal) = _
  rw [toInt_nat n h]
  simp

end Scalars

/-- Equal coordinates give equal entries. -/
theorem at2 {f : ℕ → ℕ → ℝ} {a b c d : ℕ} (h : a = c) (h' : b = d) : ((f a b : ℝ) : EReal) = ((f c d : ℝ) : EReal) := by
  rw [h, h']

/-- A sum from zero over an axis. -/
theorem sum_c {n : ℕ} (f : ℕ → ℝ) {x0 : EReal} (h0 : x0 = ((0 : ℝ) : EReal)) :
    x0 + ∑ k : Fin n, ((f k.val : ℝ) : EReal) = ((∑ k ∈ Finset.range n, f k : ℝ) : EReal) := by
  rw [h0, coe_sum_fin, ← EReal.coe_add, zero_add]

section Unit

/-- A host sum one element reduces to: the initial value plus that element. -/
theorem unit_sum {s t : Shape} {axes : List (Fin s.rank)} (h : s.ReducesTo axes t) (x : s.Idx → EReal) {init : EReal}
    (h0 : init = ((0 : ℝ) : EReal)) (j : t.Idx) (p : s.Idx) (hp : h.drop p = j) (hu : ∀ q, h.drop q = j → q = p) :
    Ideal.hostReduceAdd h x init j = x p := by
  unfold Ideal.hostReduceAdd
  rw [Finset.sum_filter_eq_sum_of_fiber _ (fun _ : Unit => p) (fun _ _ _ => rfl)
    (fun q => ⟨fun e => ⟨(), (hu q e).symm⟩, fun ⟨_, e⟩ => e ▸ hp⟩), h0]
  simp

theorem unit3_01 {n : ℕ} (h : (⟨3, ![1, 1, n]⟩ : Shape).ReducesTo [0, 1] ⟨1, ![n]⟩) (x : (⟨3, ![1, 1, n]⟩ : Shape).Idx → EReal)
    {init : EReal} (h0 : init = ((0 : ℝ) : EReal)) (j : (⟨1, ![n]⟩ : Shape).Idx) :
    Ideal.hostReduceAdd h x init j = x (ix3 0 0 (j 0)) :=
  unit_sum h x h0 j _ (funext fun b => Fin.ext (by match b with | ⟨0, _⟩ => rfl)) fun q e => funext fun a => Fin.ext (by
    match a with
    | ⟨0, _⟩ => exact Nat.lt_one_iff.1 (q 0).isLt
    | ⟨1, _⟩ => exact Nat.lt_one_iff.1 (q 1).isLt
    | ⟨2, _⟩ => exact congrArg Fin.val (congrFun e 0))

theorem unit3_02 {n : ℕ} (h : (⟨3, ![1, n, 1]⟩ : Shape).ReducesTo [0, 2] ⟨1, ![n]⟩) (x : (⟨3, ![1, n, 1]⟩ : Shape).Idx → EReal)
    {init : EReal} (h0 : init = ((0 : ℝ) : EReal)) (j : (⟨1, ![n]⟩ : Shape).Idx) :
    Ideal.hostReduceAdd h x init j = x (ix3 0 (j 0) 0) :=
  unit_sum h x h0 j _ (funext fun b => Fin.ext (by match b with | ⟨0, _⟩ => rfl)) fun q e => funext fun a => Fin.ext (by
    match a with
    | ⟨0, _⟩ => exact Nat.lt_one_iff.1 (q 0).isLt
    | ⟨1, _⟩ => exact congrArg Fin.val (congrFun e 0)
    | ⟨2, _⟩ => exact Nat.lt_one_iff.1 (q 2).isLt)

theorem unit4_01 {n m : ℕ} (h : (⟨4, ![1, 1, n, m]⟩ : Shape).ReducesTo [0, 1] ⟨2, ![n, m]⟩)
    (x : (⟨4, ![1, 1, n, m]⟩ : Shape).Idx → EReal)
    {init : EReal} (h0 : init = ((0 : ℝ) : EReal)) (j : (⟨2, ![n, m]⟩ : Shape).Idx) :
    Ideal.hostReduceAdd h x init j = x (ix4 0 0 (j 0) (j 1)) :=
  unit_sum h x h0 j _ (funext fun b => Fin.ext (by match b with | ⟨0, _⟩ => rfl | ⟨1, _⟩ => rfl)) fun q e => funext fun a => Fin.ext (by
    match a with
    | ⟨0, _⟩ => exact Nat.lt_one_iff.1 (q 0).isLt
    | ⟨1, _⟩ => exact Nat.lt_one_iff.1 (q 1).isLt
    | ⟨2, _⟩ => exact congrArg Fin.val (congrFun e 0)
    | ⟨3, _⟩ => exact congrArg Fin.val (congrFun e 1))

theorem unit5_014 {n m : ℕ} (h : (⟨5, ![1, 1, n, m, 1]⟩ : Shape).ReducesTo [0, 1, 4] ⟨2, ![n, m]⟩)
    (x : (⟨5, ![1, 1, n, m, 1]⟩ : Shape).Idx → EReal)
    {init : EReal} (h0 : init = ((0 : ℝ) : EReal)) (j : (⟨2, ![n, m]⟩ : Shape).Idx) :
    Ideal.hostReduceAdd h x init j = x (ix5 0 0 (j 0) (j 1) 0) :=
  unit_sum h x h0 j _ (funext fun b => Fin.ext (by match b with | ⟨0, _⟩ => rfl | ⟨1, _⟩ => rfl)) fun q e => funext fun a => Fin.ext (by
    match a with
    | ⟨0, _⟩ => exact Nat.lt_one_iff.1 (q 0).isLt
    | ⟨1, _⟩ => exact Nat.lt_one_iff.1 (q 1).isLt
    | ⟨2, _⟩ => exact congrArg Fin.val (congrFun e 0)
    | ⟨3, _⟩ => exact congrArg Fin.val (congrFun e 1)
    | ⟨4, _⟩ => exact Nat.lt_one_iff.1 (q 4).isLt)

/-- A sum over the blocks and the features of a head. -/
theorem sum5_14 {b n m k : ℕ} (h : (⟨5, ![1, b, n, m, k]⟩ : Shape).ReducesTo [1, 4] ⟨3, ![1, n, m]⟩)
    (x : (⟨5, ![1, b, n, m, k]⟩ : Shape).Idx → EReal) (init : EReal) (j : (⟨3, ![1, n, m]⟩ : Shape).Idx) :
    Ideal.hostReduceAdd h x init j = init + ∑ p : Fin b, ∑ q : Fin k, x (ix5 0 p (j 1) (j 2) q) := by
  unfold Ideal.hostReduceAdd
  rw [Finset.sum_filter_eq_sum_of_fiber _ (fun p : Fin b × Fin k => (ix5 0 p.1 (j 1) (j 2) p.2 : (⟨5, ![1, b, n, m, k]⟩ : Shape).Idx))
    (fun _ _ e => Prod.ext (congrFun e 1) (congrFun e 4)) (fun i => ⟨fun e => ⟨(i 1, i 4), funext fun a => Fin.ext (by
      match a with
      | ⟨0, _⟩ => exact (Nat.lt_one_iff.1 (i 0).isLt).symm
      | ⟨1, _⟩ => rfl
      | ⟨2, _⟩ => exact (congrArg Fin.val (congrFun e 1)).symm
      | ⟨3, _⟩ => exact (congrArg Fin.val (congrFun e 2)).symm
      | ⟨4, _⟩ => rfl)⟩, fun ⟨p, e⟩ => e ▸ funext fun b => Fin.ext (by
      match b with
      | ⟨0, _⟩ => exact (Nat.lt_one_iff.1 (j 0).isLt).symm
      | ⟨1, _⟩ => rfl
      | ⟨2, _⟩ => rfl)⟩)]
  simp only [Fintype.sum_prod_type]

end Unit

section Running

theorem foldl_add {ι : Type*} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A window sum as a sum over the window's indices. -/
theorem window_sum {s t : Shape} (window strides lo hi : Fin s.rank → Nat) (h : s.ReduceWindows window strides lo hi t)
    (x : s.Idx → EReal) (init : EReal) (j : t.Idx) :
    Ideal.hostReduceWindowAdd window strides lo hi h x init j = init + ∑ p : (⟨s.rank, window⟩ : Shape).Idx,
      (if hin : ∀ a, lo a ≤ (j (a.cast h.1.symm)).val * strides a + (p a).val ∧
          (j (a.cast h.1.symm)).val * strides a + (p a).val - lo a < s.size a
        then x (fun a => ⟨(j (a.cast h.1.symm)).val * strides a + (p a).val - lo a, (hin a).2⟩) else init) := by
  unfold Ideal.hostReduceWindowAdd Host.reduceWindow
  dsimp only
  rw [foldl_add]
  refine congrArg (init + ·) ?_
  rw [← Equiv.sum_comp (⟨s.rank, window⟩ : Shape).rowMajor.symm, ← List.sum_ofFn, List.ofFn_eq_map]
  refine congrArg List.sum (List.map_congr_left fun n _ => ?_)
  exact dite_congr rfl (fun _ => rfl) (fun _ => rfl)

/-- The indices of a window along one axis are its positions. -/
theorem sum_window4 {n : ℕ} (g : (⟨4, ![1, n, 1, 1]⟩ : Shape).Idx → EReal) :
    ∑ p, g p = ∑ k : Fin n, g (ix4 0 k 0 0) := by
  refine (Fintype.sum_bijective (fun k : Fin n => (ix4 0 k 0 0 : (⟨4, ![1, n, 1, 1]⟩ : Shape).Idx))
    ⟨fun _ _ e => congrFun e 1, fun p => ⟨p 1, funext fun a => Fin.ext (by
      match a with
      | ⟨0, _⟩ => exact (Nat.lt_one_iff.1 (p 0).isLt).symm
      | ⟨1, _⟩ => rfl
      | ⟨2, _⟩ => exact (Nat.lt_one_iff.1 (p 2).isLt).symm
      | ⟨3, _⟩ => exact (Nat.lt_one_iff.1 (p 3).isLt).symm)⟩⟩ _ _ fun _ => rfl).symm

/-- The running sum over the rows up to each. -/
theorem prefix_sum (x : (⟨4, ![1, 4096, 4, 128]⟩ : Shape).Idx → EReal) (f : ℕ → ℕ → ℝ) (hx : R4 x f) {init : EReal}
    (h0 : init = ((0 : ℝ) : EReal))
    (h : (⟨4, ![1, 4096, 4, 128]⟩ : Shape).ReduceWindows ![1, 4096, 1, 1] ![1, 1, 1, 1] ![0, 4095, 0, 0] ![0, 0, 0, 0]
      ⟨4, ![1, 4096, 4, 128]⟩) :
    R4 (Ideal.hostReduceWindowAdd ![1, 4096, 1, 1] ![1, 1, 1, 1] ![0, 4095, 0, 0] ![0, 0, 0, 0] h x init)
      fun r c => ∑ k ∈ Finset.range (r + 1), f k c := fun j => by
  have hj : (j 1).val < 4096 := (j 1).isLt
  have h2 : (j 2).val < 4 := (j 2).isLt
  have h3 : (j 3).val < 128 := (j 3).isLt
  have hz : (j 0).val = 0 := Nat.lt_one_iff.1 (j 0).isLt
  rw [window_sum]
  refine (congrArg (init + ·) (sum_window4 _)).trans ?_
  refine (congrArg (init + ·) (Finset.sum_congr rfl fun k _ => ?_)).trans
    ((sum_c (n := 4096) (fun k => if 4095 ≤ (j 1).val + k then f ((j 1).val + k - 4095) (128 * (j 2).val + (j 3).val) else 0) h0).trans ?_)
  · have hk := k.isLt
    by_cases hc : 4095 ≤ (j 1).val + k.val
    · rw [if_pos hc]
      refine (dif_pos ?_).trans ((hx _).trans (at2 ?_ ?_))
      · intro a
        match a with
        | ⟨0, _⟩ => exact ⟨Nat.zero_le _, by show (j 0).val * 1 + 0 - 0 < 1; omega⟩
        | ⟨1, _⟩ => exact ⟨by show 4095 ≤ (j 1).val * 1 + k.val; omega, by show (j 1).val * 1 + k.val - 4095 < 4096; omega⟩
        | ⟨2, _⟩ => exact ⟨Nat.zero_le _, by show (j 2).val * 1 + 0 - 0 < 4; omega⟩
        | ⟨3, _⟩ => exact ⟨Nat.zero_le _, by show (j 3).val * 1 + 0 - 0 < 128; omega⟩
      · show (j 1).val * 1 + k.val - 4095 = _; omega
      · show 128 * ((j 2).val * 1 + 0 - 0) + ((j 3).val * 1 + 0 - 0) = _; omega
    · rw [if_neg hc]
      refine (dif_neg fun hh => hc ?_).trans h0
      have := (hh 1).1
      have : 4095 ≤ (j 1).val * 1 + k.val := this
      omega
  refine congrArg (fun x : ℝ => (x : EReal)) ?_
  rw [← Finset.sum_filter]
  refine Finset.sum_bij' (fun k _ => (j 1).val + k - 4095) (fun k _ => k + 4095 - (j 1).val) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; simp only [Finset.mem_filter, Finset.mem_range] at hk ⊢; omega
  · intro k hk; rfl

/-- The running sum over the rows from each on. -/
theorem suffix_sum (x : (⟨4, ![1, 4096, 4, 128]⟩ : Shape).Idx → EReal) (f : ℕ → ℕ → ℝ) (hx : R4 x f) {init : EReal}
    (h0 : init = ((0 : ℝ) : EReal))
    (h : (⟨4, ![1, 4096, 4, 128]⟩ : Shape).ReduceWindows ![1, 4096, 1, 1] ![1, 1, 1, 1] ![0, 0, 0, 0] ![0, 4095, 0, 0]
      ⟨4, ![1, 4096, 4, 128]⟩) :
    R4 (Ideal.hostReduceWindowAdd ![1, 4096, 1, 1] ![1, 1, 1, 1] ![0, 0, 0, 0] ![0, 4095, 0, 0] h x init)
      fun r c => ∑ k ∈ Finset.range 4096, if r + k < 4096 then f (r + k) c else 0 := fun j => by
  have hj : (j 1).val < 4096 := (j 1).isLt
  have h2 : (j 2).val < 4 := (j 2).isLt
  have h3 : (j 3).val < 128 := (j 3).isLt
  have hz : (j 0).val = 0 := Nat.lt_one_iff.1 (j 0).isLt
  rw [window_sum]
  refine (congrArg (init + ·) (sum_window4 _)).trans ?_
  refine (congrArg (init + ·) (Finset.sum_congr rfl fun k _ => ?_)).trans
    (sum_c (n := 4096) (fun k => if (j 1).val + k < 4096 then f ((j 1).val + k) (128 * (j 2).val + (j 3).val) else 0) h0)
  · have hk := k.isLt
    by_cases hc : (j 1).val + k.val < 4096
    · rw [if_pos hc]
      refine (dif_pos ?_).trans ((hx _).trans (at2 ?_ ?_))
      · intro a
        match a with
        | ⟨0, _⟩ => exact ⟨Nat.zero_le _, by show (j 0).val * 1 + 0 - 0 < 1; omega⟩
        | ⟨1, _⟩ => exact ⟨Nat.zero_le _, by show (j 1).val * 1 + k.val - 0 < 4096; omega⟩
        | ⟨2, _⟩ => exact ⟨Nat.zero_le _, by show (j 2).val * 1 + 0 - 0 < 4; omega⟩
        | ⟨3, _⟩ => exact ⟨Nat.zero_le _, by show (j 3).val * 1 + 0 - 0 < 128; omega⟩
      · show (j 1).val * 1 + k.val - 0 = _; omega
      · show 128 * ((j 2).val * 1 + 0 - 0) + ((j 3).val * 1 + 0 - 0) = _; omega
    · rw [if_neg hc]
      refine (dif_neg fun hh => hc ?_).trans h0
      have := (hh 1).2
      have : (j 1).val * 1 + k.val - 0 < 4096 := this
      omega

end Running

section Blocks

open Cert.ReferenceIdeal Cert.ReferenceIdeal.Gen Cert.ReferenceIdeal.Read

/-- The contracted index of a block and a feature of a head. -/
def contr3 (n : Fin 32) (e : Fin 128) : dot_S4x1x32x128x128_S1x32x128x4x128_S4x128x128_123_014_4_2_0_3.contr.Idx := fun p =>
  match p with
  | ⟨0, _⟩ => (0 : Fin 1)
  | ⟨1, _⟩ => n
  | ⟨2, _⟩ => e

/-- A sum over the three contracted axes is one over the blocks and the features of a head. -/
theorem contr3_sum (g : dot_S4x1x32x128x128_S1x32x128x4x128_S4x128x128_123_014_4_2_0_3.contr.Idx → EReal) :
    ∑ q, g q = ∑ n : Fin 32, ∑ e : Fin 128, g (contr3 n e) := by
  rw [← Fintype.sum_prod_type (f := fun p : Fin 32 × Fin 128 => g (contr3 p.1 p.2))]
  refine (Fintype.sum_bijective (fun p : Fin 32 × Fin 128 => contr3 p.1 p.2) ⟨fun a b e => ?_, fun q => ⟨(q ⟨1, by decide⟩, q ⟨2, by decide⟩), ?_⟩⟩ _ _ fun _ => rfl).symm
  · exact Prod.ext (congrFun e ⟨1, by decide⟩) (congrFun e ⟨2, by decide⟩)
  · funext p
    match p with
    | ⟨0, _⟩ => exact Fin.ext (Nat.lt_one_iff.1 (q ⟨0, by decide⟩).isLt).symm
    | ⟨1, _⟩ => rfl
    | ⟨2, _⟩ => rfl

theorem lhs3 (i : S4x128x128.Idx) (n : Fin 32) (e : Fin 128) :
    dot_S4x1x32x128x128_S1x32x128x4x128_S4x128x128_123_014_4_2_0_3.lhsIdx i (contr3 n e) = ix5 (i 0) 0 n e (i 1) := by
  funext a
  apply Fin.ext
  match a with
  | ⟨0, _⟩ => rfl
  | ⟨1, _⟩ => rfl
  | ⟨2, _⟩ => rfl
  | ⟨3, _⟩ => rfl
  | ⟨4, _⟩ => rfl

theorem rhs3 (i : S4x128x128.Idx) (n : Fin 32) (e : Fin 128) :
    dot_S4x1x32x128x128_S1x32x128x4x128_S4x128x128_123_014_4_2_0_3.rhsIdx i (contr3 n e) = ix5 0 n (i 2) (i 0) e := by
  funext a
  apply Fin.ext
  match a with
  | ⟨0, _⟩ => rfl
  | ⟨1, _⟩ => rfl
  | ⟨2, _⟩ => rfl
  | ⟨3, _⟩ => rfl
  | ⟨4, _⟩ => rfl

end Blocks

end Cert.Ref

end
-- ==== Proof.RefAlg.lean ====
/- The identities over the real numbers that join the reference's derivative, written as differentiation of the forward
   lines leaves it, to the closed forms. -/
module

public import proofs.«01_k».proof.Proof.Spec

@[expose] public section

noncomputable section

namespace Cert.Ref

open Cert.Spec
open scoped BigOperators

theorem tt_eq (x : ℝ) : Real.tanh (K0 * (x + K1 * (x * x * x))) = tt x := by
  unfold tt
  congr 1
  ring

theorem uu_eq (x : ℝ) : 1 / 2 * (1 + tt x) = uu x := by
  unfold uu
  ring

theorem dgl_eq (x d : ℝ) :
    d * uu x + K0 * (1 / 2 * (x * d) * ((1 + tt x) * (1 - tt x)))
      + K1 * (K0 * (1 / 2 * (x * d) * ((1 + tt x) * (1 - tt x)))) * (3 * (x * x)) = d * dgl x := by
  unfold dgl
  ring

/-- The centred row sums to zero. -/
theorem sum_VC (z : ℕ → ℕ → ℝ) (r : ℕ) : ∑ c ∈ Finset.range 512, VC z r c = 0 := by
  unfold VC mu
  rw [Finset.sum_sub_distrib, Finset.sum_const, Finset.card_range, nsmul_eq_mul]
  push_cast
  ring

theorem rs_cube (z : ℕ → ℕ → ℝ) (r : ℕ) : rs z r / (var z r + eps) = rs z r * rs z r * rs z r := by
  have h := var_eps_pos z r
  have e : rs z r * rs z r = (var z r + eps)⁻¹ := by
    unfold rs
    rw [← mul_inv, Real.mul_self_sqrt h.le]
  rw [e, div_eq_mul_inv]
  ring

/-- The normalisation's derivative: the path through the mean and the path through the variance collected. -/
theorem dv_alg (D C : ℕ → ℝ) (s e : ℝ) (hC : ∑ k ∈ Finset.range 512, C k = 0) (he : s / e = s * s * s) (c : ℕ) :
    D c * s + ((∑ k ∈ Finset.range 512, C k * D k) * (-(1 / 2) * (s / e)) / 512) * (2 * C c)
      + (∑ k ∈ Finset.range 512, -(D k * s)
        + ∑ k ∈ Finset.range 512, -(((∑ k ∈ Finset.range 512, C k * D k) * (-(1 / 2) * (s / e)) / 512) * (2 * C k))) / 512
      = s * (D c - (∑ k ∈ Finset.range 512, D k) / 512 - C c * s * ((∑ k ∈ Finset.range 512, D k * (C k * s)) / 512)) := by
  rw [he]
  have h1 : ∑ k ∈ Finset.range 512, -(D k * s) = -((∑ k ∈ Finset.range 512, D k) * s) := by
    rw [Finset.sum_neg_distrib, Finset.sum_mul]
  have h2 : ∀ q : ℝ, ∑ k ∈ Finset.range 512, -(q * (2 * C k)) = 0 := fun q => by
    rw [Finset.sum_neg_distrib, ← Finset.mul_sum, ← Finset.mul_sum, hC]
    ring
  have h3 : ∑ k ∈ Finset.range 512, D k * (C k * s) = (∑ k ∈ Finset.range 512, C k * D k) * s := by
    rw [Finset.sum_mul]
    exact Finset.sum_congr rfl fun k _ => by ring
  rw [h1, h2, h3]
  ring

/-- The running sum of the rows before `r`. -/
def pc (zb : ℕ → ℕ → ℝ) (r c : ℕ) : ℝ := ∑ k ∈ Finset.range r, zb k c

/-- A trailing window as a difference of two running sums. -/
theorem window_diff (zb : ℕ → ℕ → ℝ) (r c w : ℕ) :
    (∑ j ∈ Finset.range w, if j ≤ r then zb (r - j) c else 0) = pc zb (r + 1) c - pc zb (r + 1 - w) c := by
  induction w with
  | zero => simp
  | succ w ih =>
    rw [Finset.sum_range_succ, ih]
    by_cases h : w ≤ r
    · have e : r + 1 - w = (r - w) + 1 := by omega
      have e' : r + 1 - (w + 1) = r - w := by omega
      rw [if_pos h, e, e']
      unfold pc
      rw [Finset.sum_range_succ (fun k => zb k c) (r - w)]
      ring
    · have e : r + 1 - w = 0 := by omega
      have e' : r + 1 - (w + 1) = 0 := by omega
      rw [if_neg h, e, e', add_zero]

theorem win_at (g c : ℕ) (h : c < 128) : win (128 * g + c) = 2 ^ (g + 1) := by
  unfold win
  rw [show (128 * g + c) / 128 = g by omega]

theorem wsum_eq (zb : ℕ → ℕ → ℝ) (r g c w : ℕ) (h : c < 128) (hw : 2 ^ (g + 1) = w) :
    pc zb (1 + r) (128 * g + c) - (if r < w - 1 then 0 else pc zb (r - (w - 1)) (128 * g + c)) = WSUM zb r (128 * g + c) := by
  unfold WSUM
  have h1 : 1 ≤ w := hw ▸ Nat.one_le_two_pow
  rw [win_at g c h, hw, window_diff, Nat.add_comm 1 r]
  congr 1
  by_cases hr : r < w - 1
  · rw [if_pos hr, show r + 1 - w = 0 by omega]
    simp [pc]
  · rw [if_neg hr, show r - (w - 1) = r + 1 - w by omega]

theorem cnt_at (r g c w : ℕ) (h : c < 128) (hw : 2 ^ (g + 1) = w) : cnt r (128 * g + c) = min ((r : ℝ) + 1) (w : ℝ) := by
  unfold cnt
  rw [win_at g c h, hw]

/-- Differences at distance `w` telescope. -/
theorem telescope (f : ℕ → ℝ) (w n : ℕ) :
    (∑ k ∈ Finset.range n, (f k - f (k + w))) = (∑ j ∈ Finset.range w, f j) - ∑ j ∈ Finset.range w, f (n + j) := by
  induction n with
  | zero => simp
  | succ n ih =>
    rw [Finset.sum_range_succ, ih]
    have e : ∑ j ∈ Finset.range w, f (n + 1 + j) = (∑ j ∈ Finset.range w, f (n + j)) + f (n + w) - f n := by
      have a := Finset.sum_range_succ (fun j => f (n + j)) w
      have b := Finset.sum_range_succ' (fun j => f (n + j)) w
      have d : ∑ j ∈ Finset.range w, f (n + 1 + j) = ∑ j ∈ Finset.range w, f (n + (j + 1)) :=
        Finset.sum_congr rfl fun j _ => by rw [Nat.add_assoc, Nat.add_comm 1 j]
      rw [d]
      simp only [Nat.add_zero] at b
      linarith
    rw [e]
    ring

section Back

variable (dy : ℕ → ℕ → ℝ) (ps : ℕ → ℝ) (wp : ℕ → ℕ → ℕ → ℝ)

theorem SC_out (r c : ℕ) (h : 4096 ≤ r) : SC dy ps wp r c = 0 := if_neg (by omega)

/-- What the running sum's derivative receives at row `k`. -/
def TT (k c : ℕ) : ℝ := (if 1 ≤ k then SC dy ps wp (k - 1) c else 0) + (if k < 4097 - win c then -SC dy ps wp (win c - 1 + k) c else 0)

theorem TT_eq (k c : ℕ) : TT dy ps wp (1 + k) c = SC dy ps wp k c - SC dy ps wp (k + win c) c := by
  have h1 : 1 ≤ win c := Nat.one_le_two_pow
  unfold TT
  rw [if_pos (by omega), show 1 + k - 1 = k by omega]
  by_cases h : 1 + k < 4097 - win c
  · rw [if_pos h, show win c - 1 + (1 + k) = k + win c by omega, sub_eq_add_neg]
  · rw [if_neg h, SC_out _ _ _ (k + win c) _ (by omega)]
    ring

theorem back_sum (r c : ℕ) :
    (∑ k ∈ Finset.range 4096, if r + k < 4096 then TT dy ps wp (1 + (r + k)) c else 0) = ∑ j ∈ Finset.range (win c), SC dy ps wp (r + j) c := by
  have e : ∀ k ∈ Finset.range 4096, (if r + k < 4096 then TT dy ps wp (1 + (r + k)) c else 0)
      = SC dy ps wp (r + k) c - SC dy ps wp (r + (k + win c)) c := fun k _ => by
    by_cases h : r + k < 4096
    · rw [if_pos h, TT_eq, Nat.add_assoc]
    · rw [if_neg h, SC_out _ _ _ (r + k) _ (by omega), SC_out _ _ _ (r + (k + win c)) _ (by omega), sub_zero]
  rw [Finset.sum_congr rfl e, telescope (fun k => SC dy ps wp (r + k) c)]
  rw [Finset.sum_eq_zero (s := Finset.range (win c)) (f := fun j => SC dy ps wp (r + (4096 + j)) c)
    (fun j _ => SC_out _ _ _ _ _ (by omega)), sub_zero]

end Back

end Cert.Ref

end
-- ==== Proof.RefGate.lean ====
/- The reference's gating half read at an index, operation by operation: activation, normalisation, the causal spatial
   product, and the cotangents down to the rows before normalisation. -/
module

public import proofs.«01_k».proof.Proof.RefOps
public import proofs.«01_k».proof.Proof.RefAlg
public import proofs.«01_k».proof.Proof.Accum

@[expose] public section

noncomputable section

namespace Cert.Ref

open Idealize.ShloMosaic Cert.Arr Cert.Spec Cert.Tile
open Cert.ReferenceIdeal Cert.ReferenceIdeal.Gen Cert.ReferenceIdeal.Read
open scoped BigOperators

variable {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  {x0 : Vec Ideal ⟨2, ![4096, 1536]⟩ .f32} {x1 : Vec Ideal ⟨2, ![4096, 1024]⟩ .f32} {x2 : Vec Ideal ⟨3, ![4, 128, 128]⟩ .f32}
  {x3 : Vec Ideal ⟨2, ![4, 128]⟩ .f32} {x4 x5 : Vec Ideal ⟨1, ![512]⟩ .f32} {x6 : Vec Ideal ⟨3, ![4, 128, 128]⟩ .f32}
  {x7 : Vec Ideal ⟨2, ![4, 128]⟩ .f32} {x8 : Vec Ideal ⟨1, ![512]⟩ .f32}
  (A : Args z dy ws bs ga be wp bp ps x0 x1 x2 x3 x4 x5 x6 x7 x8)

include A

/-- The activations the step reads, and their gated part. -/
theorem v0 : R3 (val_main_v0 (F := Ideal) x0) (z) := fun i => (val_main_v0_apply _ _).trans (A.a0 _)

theorem v1 : R3 (val_main_v1 (F := Ideal) x0) (z) := fun i => (val_main_v1_apply _ _).trans (v0 A _)

theorem v12 : R3 (val_main_v12 (F := Ideal) x0) (fun r c => tt (z r c)) := fun i => by
  simp only [val_main_v12_apply, val_main_v11_apply, val_main_v10_apply, val_main_cst_1_apply, val_main_v9_apply, val_main_v8_apply, val_main_v7_apply, val_main_cst_0_apply, val_main_v3_apply, val_main_v2_apply, v1 A, l_K1, l_K0, mul_c, add_c, sub_c, neg_c, min_c, tanh_c]
  rw [tt_eq]

theorem v21 : R3 (val_main_v21 (F := Ideal) x0) (fun r c => uu (z r c)) := fun i => by
  simp only [val_main_v21_apply, val_main_v20_apply, val_main_cst_5_apply, val_main_v19_apply, val_main_v18_apply, val_main_cst_4_apply, v12 A, l_half, l_one, mul_c, add_c, sub_c, neg_c, min_c, tanh_c]
  rw [uu_eq]

/-- The activation. -/
theorem v22 : R3 (val_main_v22 (F := Ideal) x0) (fun r c => gl (z r c)) := fun i => by
  simp only [val_main_v22_apply, v1 A, v21 A, mul_c, add_c, sub_c, neg_c, min_c, tanh_c]
  rfl

theorem v23 : R3 (val_main_v23 (F := Ideal) x0) (U z) := fun i => (val_main_v23_apply _ _).trans (v22 A _)

theorem v24 : R3 (val_main_v24 (F := Ideal) x0) (V z) := fun i => (val_main_v24_apply _ _).trans (v22 A _)

/-- Mean and variance of a row. -/
theorem v25 : ∀ i : (⟨2, ![1, 4096]⟩ : Shape).Idx, (val_main_v25 (F := Ideal) x0) i = ((∑ c ∈ Finset.range 512, V z (i 1).val c : ℝ) : EReal) := fun i =>
  (val_main_v25_apply _ _).trans ((congrArg (_ + ·) (Finset.sum_congr rfl fun k _ => v24 A _)).trans
    (sum_c (fun k => V z (i 1).val k) ((val_main_cst_6_apply _).trans l_zero)))

theorem v26 : R3 (val_main_v26 (F := Ideal) x0) (fun r c => ∑ c ∈ Finset.range 512, V z r c) := fun i => (val_main_v26_apply _ _).trans (v25 A _)

theorem v28 : R3 (val_main_v28 (F := Ideal) x0) (fun r c => mu z r) := fun i => by
  simp only [val_main_v28_apply, val_main_v27_apply, val_main_cst_7_apply, v26 A, l_512, mul_c, add_c, sub_c, neg_c, min_c, tanh_c, div_c _ _ (show (512 : ℝ) ≠ 0 by norm_num)]
  rfl

theorem v29 : R3 (val_main_v29 (F := Ideal) x0) (fun r c => mu z r) := fun i => (val_main_v29_apply _ _).trans (v28 A _)

theorem v38 : R3 (val_main_v38 (F := Ideal) x0) (fun r c => mu z r) := fun i => (val_main_v38_apply _ _).trans (v28 A _)

theorem v30 : R3 (val_main_v30 (F := Ideal) x0) (VC z) := fun i => by
  simp only [val_main_v30_apply, v24 A, v29 A, mul_c, add_c, sub_c, neg_c, min_c, tanh_c]
  rfl

theorem v39 : R3 (val_main_v39 (F := Ideal) x0) (VC z) := fun i => by
  simp only [val_main_v39_apply, v24 A, v38 A, mul_c, add_c, sub_c, neg_c, min_c, tanh_c]
  rfl

theorem v31 : R3 (val_main_v31 (F := Ideal) x0) (fun r c => VC z r c * VC z r c) := fun i => by
  simp only [val_main_v31_apply, v30 A, mul_c, add_c, sub_c, neg_c, min_c, tanh_c]

theorem v33 : R3 (val_main_v33 (F := Ideal) x0) (fun r c => 2 * VC z r c) := fun i => by
  simp only [val_main_v33_apply, val_main_v32_apply, val_main_cst_8_apply, v30 A, l_two, mul_c, add_c, sub_c, neg_c, min_c, tanh_c]

theorem v34 : ∀ i : (⟨2, ![1, 4096]⟩ : Shape).Idx, (val_main_v34 (F := Ideal) x0) i = ((∑ c ∈ Finset.range 512, VC z (i 1).val c * VC z (i 1).val c : ℝ) : EReal) := fun i =>
  (val_main_v34_apply _ _).trans ((congrArg (_ + ·) (Finset.sum_congr rfl fun k _ => v31 A _)).trans
    (sum_c (fun k => VC z (i 1).val k * VC z (i 1).val k) ((val_main_cst_9_apply _).trans l_zero)))

theorem v35 : R3 (val_main_v35 (F := Ideal) x0) (fun r c => ∑ c ∈ Finset.range 512, VC z r c * VC z r c) := fun i => (val_main_v35_apply _ _).trans (v34 A _)

theorem v37 : R3 (val_main_v37 (F := Ideal) x0) (fun r c => var z r) := fun i => by
  simp only [val_main_v37_apply, val_main_v36_apply, val_main_cst_10_apply, v35 A, l_512, mul_c, add_c, sub_c, neg_c, min_c, tanh_c, div_c _ _ (show (512 : ℝ) ≠ 0 by norm_num)]
  rfl

theorem v41 : R3 (val_main_v41 (F := Ideal) x0) (fun r c => var z r + eps) := fun i => by
  simp only [val_main_v41_apply, val_main_v40_apply, val_main_cst_11_apply, v37 A, l_eps, mul_c, add_c, sub_c, neg_c, min_c, tanh_c]

theorem v42 : R3 (val_main_v42 (F := Ideal) x0) (fun r c => rs z r) := fun i => by
  simp only [val_main_v42_apply, v41 A, mul_c, add_c, sub_c, neg_c, min_c, tanh_c]
  exact rsqrt_c _ (var_eps_pos z _)

theorem v45 : R3 (val_main_v45 (F := Ideal) x0) (fun r c => -(1 / 2) * (rs z r / (var z r + eps))) := fun i => by
  simp only [val_main_v45_apply, val_main_v44_apply, val_main_cst_12_apply, val_main_v43_apply, v42 A, v41 A, l_mhalf, mul_c, add_c, sub_c, neg_c, min_c, tanh_c, div_c _ _ (var_eps_pos z _).ne']

theorem v46 : R3 (val_main_v46 (F := Ideal) x0) (fun r c => rs z r) := fun i => (val_main_v46_apply _ _).trans (v42 A _)

theorem v257 : R3 (val_main_v257 (F := Ideal) x0) (fun r c => rs z r) := fun i => (val_main_v257_apply _ _).trans (v42 A _)

/-- The normalised rows, with gain and bias. -/
theorem v47 : R3 (val_main_v47 (F := Ideal) x0) (VH z) := fun i => by
  simp only [val_main_v47_apply, v39 A, v46 A, mul_c, add_c, sub_c, neg_c, min_c, tanh_c]
  rfl

theorem v48 : R3 (val_main_v48 (F := Ideal) x4) (fun _ c => ga c) := fun i => (val_main_v48_apply _ _).trans (A.a4 _)

theorem v49 : R3 (val_main_v49 (F := Ideal) x4) (fun _ c => ga c) := fun i => (val_main_v49_apply _ _).trans (v48 A _)

theorem v251 : R3 (val_main_v251 (F := Ideal) x4) (fun _ c => ga c) := fun i => (val_main_v251_apply _ _).trans (v48 A _)

theorem v51 : R3 (val_main_v51 (F := Ideal) x5) (fun _ c => be c) := fun i => (val_main_v51_apply _ _).trans (A.a5 _)

theorem v52 : R3 (val_main_v52 (F := Ideal) x5) (fun _ c => be c) := fun i => (val_main_v52_apply _ _).trans (v51 A _)

theorem v53 : R3 (val_main_v53 (F := Ideal) x0 x4 x5) (VN z ga be) := fun i => by
  simp only [val_main_v53_apply, val_main_v50_apply, v47 A, v49 A, v52 A, mul_c, add_c, sub_c, neg_c, min_c, tanh_c]
  rfl

theorem v54 : R5 (val_main_v54 (F := Ideal) x0 x4 x5) (VN z ga be) := fun i => by
  have h0 : (i 0).val < 1 := (i 0).isLt
  have h1 : (i 1).val < 32 := (i 1).isLt
  have h2 : (i 2).val < 128 := (i 2).isLt
  have h3 : (i 3).val < 4 := (i 3).isLt
  have h4 : (i 4).val < 128 := (i 4).isLt
  refine (val_main_v54_apply _ _ _ _).trans ((v53 A _).trans (at2 ?_ ?_))
  · show ((((((i 0).val * 32 + (i 1).val) * 128 + (i 2).val) * 4 + (i 3).val) * 128 + (i 4).val) / 512 % 4096) = _
    omega
  · show ((((((i 0).val * 32 + (i 1).val) * 128 + (i 2).val) * 4 + (i 3).val) * 128 + (i 4).val) % 512) = _
    omega

/-- The causal mask. -/
theorem v56 : ∀ i : (⟨2, ![128, 128]⟩ : Shape).Idx, (val_main_v56 (F := Ideal)) i = ((if (i 1).val ≤ (i 0).val then 1 else 0 : ℝ) : EReal) := fun i => by
  have h0 : (i 0).val < 128 := (i 0).isLt
  have h1 : (i 1).val < 128 := (i 1).isLt
  simp only [val_main_v56_apply, val_main_call0_v4_apply, val_main_call0_v2_apply, val_main_call0_v0_apply,
    val_main_call0_v1_apply, val_main_call0_c_apply, val_main_call0_v3_apply, val_main_v55_apply, val_main_cst_13_apply,
    val_main_call0_v5_apply, val_main_call0_cst_apply, l_one, l_zero]
  rw [sge_nat _ _ (by omega) (by omega)]
  by_cases h : (i 1).val ≤ (i 0).val
  · rw [if_pos h, if_pos h]; rfl
  · rw [if_neg h, if_neg h]; rfl

theorem v57 : ∀ i : (⟨3, ![1, 128, 128]⟩ : Shape).Idx, (val_main_v57 (F := Ideal)) i = ((if (i 2).val ≤ (i 1).val then 1 else 0 : ℝ) : EReal) := fun i => (val_main_v57_apply _).trans (v56 A _)

theorem v58 : ∀ i : (⟨3, ![4, 128, 128]⟩ : Shape).Idx, (val_main_v58 (F := Ideal)) i = ((if (i 2).val ≤ (i 1).val then 1 else 0 : ℝ) : EReal) := fun i => (val_main_v58_apply _).trans (v57 A _)

theorem v242 : ∀ i : (⟨3, ![4, 128, 128]⟩ : Shape).Idx, (val_main_v242 (F := Ideal)) i = ((if (i 2).val ≤ (i 1).val then 1 else 0 : ℝ) : EReal) := fun i => (val_main_v242_apply _).trans (v57 A _)

theorem v59 : Re3 (φ := .f32) (val_main_v59 (F := Ideal) x2) (W ws) := fun i => by
  simp only [val_main_v59_apply, v58 A, A.a2 i, mul_c]
  rfl

/-- The spatial product. -/
theorem v60 : R5T (val_main_v60 (F := Ideal) x0 x2 x4 x5) (fun r c => ∑ s ∈ Finset.range 128, W ws (c / 128) (r % 128) s * VN z ga be (r / 128 * 128 + s) c) := fun i => by
  have h3 : (i 3).val < 128 := (i 3).isLt
  have h4 : (i 4).val < 128 := (i 4).isLt
  refine (val_main_v60_apply _ _ _ _ _).trans ((Finset.sum_congr rfl fun k _ => (congrArg₂ (· * ·) (v54 A _) (v59 A _)).trans (EReal.coe_mul _ _).symm).trans
    ((coe_sum_fin fun s => VN z ga be (128 * (i 2).val + s) (128 * (i 0).val + (i 3).val) * W ws (i 0).val (i 4).val s).trans ?_))
  beta_reduce
  rw [show (128 * (i 0).val + (i 3).val) / 128 = (i 0).val by omega, show (128 * (i 2).val + (i 4).val) % 128 = (i 4).val by omega,
    show (128 * (i 2).val + (i 4).val) / 128 * 128 = 128 * (i 2).val by omega]
  exact congrArg _ (Finset.sum_congr rfl fun s _ => mul_comm _ _)

theorem v61 : R5 (val_main_v61 (F := Ideal) x0 x2 x4 x5) (fun r c => ∑ s ∈ Finset.range 128, W ws (c / 128) (r % 128) s * VN z ga be (r / 128 * 128 + s) c) := fun i => (val_main_v61_apply _ _ _ _ _).trans (v60 A _)

theorem v62 : ∀ i : (⟨2, ![128, 4]⟩ : Shape).Idx, (val_main_v62 (F := Ideal) x3) i = ((bs (i 1).val (i 0).val : ℝ) : EReal) := fun i => (val_main_v62_apply _ _).trans (A.a3 _)

theorem v63 : ∀ i : (⟨3, ![128, 4, 1]⟩ : Shape).Idx, (val_main_v63 (F := Ideal) x3) i = ((bs (i 1).val (i 0).val : ℝ) : EReal) := fun i => (val_main_v63_apply _ _).trans (v62 A _)

theorem v64 : ∀ i : (⟨5, ![1, 1, 128, 4, 1]⟩ : Shape).Idx, (val_main_v64 (F := Ideal) x3) i = ((bs (i 3).val (i 2).val : ℝ) : EReal) := fun i => (val_main_v64_apply _ _).trans (v63 A _)

theorem v65 : ∀ i : (⟨5, ![1, 32, 128, 4, 128]⟩ : Shape).Idx, (val_main_v65 (F := Ideal) x3) i = ((bs (i 3).val (i 2).val : ℝ) : EReal) := fun i => (val_main_v65_apply _ _).trans (v64 A _)

theorem v66 : R5 (val_main_v66 (F := Ideal) x0 x2 x3 x4 x5) (MIX z ga be ws bs) := fun i => by
  have h2 : (i 2).val < 128 := (i 2).isLt
  have h4 : (i 4).val < 128 := (i 4).isLt
  simp only [val_main_v66_apply, v61 A, v65 A, add_c]
  unfold MIX
  rw [show (128 * (i 3).val + (i 4).val) / 128 = (i 3).val by omega, show (128 * (i 1).val + (i 2).val) % 128 = (i 2).val by omega]

theorem v67 : R3 (val_main_v67 (F := Ideal) x0 x2 x3 x4 x5) (MIX z ga be ws bs) := fun i => by
  have h0 : (i 0).val < 1 := (i 0).isLt
  have h1 : (i 1).val < 4096 := (i 1).isLt
  have h2 : (i 2).val < 512 := (i 2).isLt
  refine (val_main_v67_apply _ _ _ _ _ _).trans ((v66 A _).trans (at2 ?_ ?_))
  · show 128 * ((((i 0).val * 4096 + (i 1).val) * 512 + (i 2).val) / 65536 % 32) + ((((i 0).val * 4096 + (i 1).val) * 512 + (i 2).val) / 512 % 128) = _
    omega
  · show 128 * ((((i 0).val * 4096 + (i 1).val) * 512 + (i 2).val) / 128 % 4) + ((((i 0).val * 4096 + (i 1).val) * 512 + (i 2).val) % 128) = _
    omega

/-- The cotangent and its two halves. -/
theorem v153 : R3 (val_main_v153 (F := Ideal) x1) (dy) := fun i => (val_main_v153_apply _ _).trans (A.a1 _)

theorem v154 : R3 (val_main_v154 (F := Ideal) x1) (dy) := fun i => (val_main_v154_apply _ _).trans (v153 A _)

theorem v155 : R3 (val_main_v155 (F := Ideal) x1) (coly dy) := fun i => (val_main_v155_apply _ _).trans (v153 A _)

theorem v229 : R3 (val_main_v229 (F := Ideal) x0 x1) (DM z dy) := fun i => by
  simp only [val_main_v229_apply, v23 A, v154 A, mul_c, add_c, sub_c, neg_c, min_c, tanh_c]
  exact congrArg _ (mul_comm _ _)

theorem v230 : R3 (val_main_v230 (F := Ideal) x0 x1 x2 x3 x4 x5) (DU z dy ga be ws bs) := fun i => by
  simp only [val_main_v230_apply, v154 A, v67 A, mul_c, add_c, sub_c, neg_c, min_c, tanh_c]
  rfl

theorem v231 : R5 (val_main_v231 (F := Ideal) x0 x1) (DM z dy) := fun i => by
  have h0 : (i 0).val < 1 := (i 0).isLt
  have h1 : (i 1).val < 32 := (i 1).isLt
  have h2 : (i 2).val < 128 := (i 2).isLt
  have h3 : (i 3).val < 4 := (i 3).isLt
  have h4 : (i 4).val < 128 := (i 4).isLt
  refine (val_main_v231_apply _ _ _).trans ((v229 A _).trans (at2 ?_ ?_))
  · show ((((((i 0).val * 32 + (i 1).val) * 128 + (i 2).val) * 4 + (i 3).val) * 128 + (i 4).val) / 512 % 4096) = _
    omega
  · show ((((((i 0).val * 32 + (i 1).val) * 128 + (i 2).val) * 4 + (i 3).val) * 128 + (i 4).val) % 512) = _
    omega

/-- The gradient of the spatial bias. -/
theorem v232 : ∀ i : (⟨3, ![1, 128, 4]⟩ : Shape).Idx, (val_main_v232 (F := Ideal) x0 x1) i = ((dBS z dy 32 (i 2).val (i 1).val : ℝ) : EReal) := fun i => by
  unfold val_main_v232
  refine (sum5_14 reducesTo_S1x32x128x4x128_S1x128x4_d1_4 _ _ i).trans ((congrArg (_ + ·) (Finset.sum_congr rfl fun n _ =>
    (Finset.sum_congr rfl fun k _ => v231 A _).trans (coe_sum_fin fun k => DM z dy (128 * n.val + (i 1).val) (128 * (i 2).val + k)))).trans
    (sum_c (fun n => ∑ k ∈ Finset.range 128, DM z dy (128 * n + (i 1).val) (128 * (i 2).val + k)) ((val_main_cst_49_apply _).trans l_zero)))

theorem v233 : ∀ i : (⟨5, ![1, 1, 128, 4, 1]⟩ : Shape).Idx, (val_main_v233 (F := Ideal) x0 x1) i = ((dBS z dy 32 (i 3).val (i 2).val : ℝ) : EReal) := fun i => by
  have h0 : (i 0).val < 1 := (i 0).isLt
  have h1 : (i 1).val < 1 := (i 1).isLt
  have h2 : (i 2).val < 128 := (i 2).isLt
  have h3 : (i 3).val < 4 := (i 3).isLt
  have h4 : (i 4).val < 1 := (i 4).isLt
  refine (val_main_v233_apply _ _ _).trans ((v232 A _).trans (at2 ?_ ?_))
  · show (((((i 0).val * 1 + (i 1).val) * 128 + (i 2).val) * 4 + (i 3).val) * 1 + (i 4).val) % 4 = _
    omega
  · show (((((i 0).val * 1 + (i 1).val) * 128 + (i 2).val) * 4 + (i 3).val) * 1 + (i 4).val) / 4 % 128 = _
    omega

theorem v234 : ∀ i : (⟨2, ![128, 4]⟩ : Shape).Idx, (val_main_v234 (F := Ideal) x0 x1) i = ((dBS z dy 32 (i 1).val (i 0).val : ℝ) : EReal) := fun i => by
  unfold val_main_v234
  exact (unit5_014 reducesTo_S1x1x128x4x1_S128x4_d0_1_4 _ ((val_main_cst_50_apply _).trans l_zero) i).trans (v233 A _)

theorem v235 : ∀ i : (⟨3, ![128, 4, 1]⟩ : Shape).Idx, (val_main_v235 (F := Ideal) x0 x1) i = ((dBS z dy 32 (i 1).val (i 0).val : ℝ) : EReal) := fun i => (val_main_v235_apply _ _ _).trans (v234 A _)

theorem v236 : ∀ i : (⟨2, ![128, 4]⟩ : Shape).Idx, (val_main_v236 (F := Ideal) x0 x1) i = ((dBS z dy 32 (i 1).val (i 0).val : ℝ) : EReal) := fun i =>
  (val_main_v236_apply _ _ _).trans ((congrArg (_ + ·) (Finset.sum_congr rfl fun k _ => v235 A _)).trans
    ((sum_c (n := 1) (fun _ => dBS z dy 32 (i 1).val (i 0).val) ((val_main_cst_51_apply _).trans l_zero)).trans (by simp)))

theorem v237 : ∀ i : (⟨2, ![4, 128]⟩ : Shape).Idx, (val_main_v237 (F := Ideal) x0 x1) i = ((dBS z dy 32 (i 0).val (i 1).val : ℝ) : EReal) := fun i => (val_main_v237_apply _ _ _).trans (v236 A _)

theorem v299 : Re3 (φ := .f32) (val_main_v299 (F := Ideal) x0 x1) (fun h t _ => dBS z dy 32 h t) := fun i => (val_main_v299_apply _ _ _).trans (v237 A _)

theorem v238 : R5T (val_main_v238 (F := Ideal) x0 x1) (DM z dy) := fun i => (val_main_v238_apply _ _ _).trans (v231 A _)

/-- The gradient of the spatial weights. -/
theorem v239 : ∀ i : (⟨3, ![4, 128, 128]⟩ : Shape).Idx, (val_main_v239 (F := Ideal) x0 x1 x4 x5) i = ((∑ n ∈ Finset.range 32, ∑ d ∈ Finset.range 128, DM z dy (128 * n + (i 1).val) (128 * (i 0).val + d) * VN z ga be (128 * n + (i 2).val) (128 * (i 0).val + d) : ℝ) : EReal) := fun i => by
  unfold val_main_v239
  simp only [Host.dotGeneral]
  rw [Ideal.dotGeneral_apply, contr3_sum]
  refine (Finset.sum_congr rfl fun n _ => (Finset.sum_congr rfl fun e _ => ?_).trans (coe_sum_fin fun d =>
    DM z dy (128 * n.val + (i 1).val) (128 * (i 0).val + d) * VN z ga be (128 * n.val + (i 2).val) (128 * (i 0).val + d))).trans
    (coe_sum_fin fun n => ∑ d ∈ Finset.range 128, DM z dy (128 * n + (i 1).val) (128 * (i 0).val + d) * VN z ga be (128 * n + (i 2).val) (128 * (i 0).val + d))
  rw [lhs3, rhs3]
  exact (congrArg₂ (· * ·) (v238 A _) (v54 A _)).trans (EReal.coe_mul _ _).symm

theorem v243 : Re3 (φ := .f32) (val_main_v243 (F := Ideal) x0 x1 x4 x5) (dWS z dy ga be 32) := fun i => by
  simp only [val_main_v243_apply, v239 A, v242 A, mul_c]
  rfl

/-- The cotangent of the normalised rows. -/
theorem v240 : R5T (val_main_v240 (F := Ideal) x0 x1 x2) (DVN z dy ws) := fun i => by
  have h3 : (i 3).val < 128 := (i 3).isLt
  have h4 : (i 4).val < 128 := (i 4).isLt
  refine (val_main_v240_apply _ _ _ _).trans ((Finset.sum_congr rfl fun k _ => (congrArg₂ (· * ·) (v238 A _) (v59 A _)).trans (EReal.coe_mul _ _).symm).trans
    ((coe_sum_fin fun t => DM z dy (128 * (i 2).val + t) (128 * (i 0).val + (i 3).val) * W ws (i 0).val t (i 4).val).trans ?_))
  unfold DVN
  rw [show (128 * (i 0).val + (i 3).val) / 128 = (i 0).val by omega, show (128 * (i 2).val + (i 4).val) % 128 = (i 4).val by omega,
    show (128 * (i 2).val + (i 4).val) / 128 * 128 = 128 * (i 2).val by omega]
  exact congrArg _ (Finset.sum_congr rfl fun s _ => mul_comm _ _)

theorem v241 : R5 (val_main_v241 (F := Ideal) x0 x1 x2) (DVN z dy ws) := fun i => (val_main_v241_apply _ _ _ _).trans (v240 A _)

theorem v244 : R3 (val_main_v244 (F := Ideal) x0 x1 x2) (DVN z dy ws) := fun i => by
  have h0 : (i 0).val < 1 := (i 0).isLt
  have h1 : (i 1).val < 4096 := (i 1).isLt
  have h2 : (i 2).val < 512 := (i 2).isLt
  refine (val_main_v244_apply _ _ _ _).trans ((v241 A _).trans (at2 ?_ ?_))
  · show 128 * ((((i 0).val * 4096 + (i 1).val) * 512 + (i 2).val) / 65536 % 32) + ((((i 0).val * 4096 + (i 1).val) * 512 + (i 2).val) / 512 % 128) = _
    omega
  · show 128 * ((((i 0).val * 4096 + (i 1).val) * 512 + (i 2).val) / 128 % 4) + ((((i 0).val * 4096 + (i 1).val) * 512 + (i 2).val) % 128) = _
    omega

theorem v245 : ∀ i : (⟨2, ![1, 512]⟩ : Shape).Idx, (val_main_v245 (F := Ideal) x0 x1 x2) i = ((dBE z dy ws 4096 (i 1).val : ℝ) : EReal) := fun i =>
  (val_main_v245_apply _ _ _ _).trans ((congrArg (_ + ·) (Finset.sum_congr rfl fun k _ => v244 A _)).trans
    (sum_c (fun k => DVN z dy ws k (i 1).val) ((val_main_cst_52_apply _).trans l_zero)))

theorem v246 : R3 (val_main_v246 (F := Ideal) x0 x1 x2) (fun _ c => dBE z dy ws 4096 c) := fun i => by
  have h0 : (i 0).val < 1 := (i 0).isLt
  have h1 : (i 1).val < 1 := (i 1).isLt
  have h2 : (i 2).val < 512 := (i 2).isLt
  refine (val_main_v246_apply _ _ _ _).trans ((v245 A _).trans (congrArg (fun c => ((dBE z dy ws 4096 c : ℝ) : EReal)) ?_))
  show (((i 0).val * 1 + (i 1).val) * 512 + (i 2).val) % 512 = _
  omega

theorem v247 : ∀ i : (⟨1, ![512]⟩ : Shape).Idx, (val_main_v247 (F := Ideal) x0 x1 x2) i = ((dBE z dy ws 4096 (i 0).val : ℝ) : EReal) := fun i => by
  unfold val_main_v247
  exact (unit3_01 reducesTo_S1x1x512_S512_d0_1 _ ((val_main_cst_53_apply _).trans l_zero) i).trans (v246 A _)

theorem v301 : Re2 (φ := .f32) (val_main_v301 (F := Ideal) x0 x1 x2) (fun _ c => dBE z dy ws 4096 c) := fun i => by
  have h0 : (i 0).val < 1 := (i 0).isLt
  have h1 : (i 1).val < 512 := (i 1).isLt
  refine (val_main_v301_apply _ _ _ _).trans ((v247 A _).trans (congrArg (fun c => ((dBE z dy ws 4096 c : ℝ) : EReal)) ?_))
  show (i 0).val * 512 + (i 1).val = _
  omega

theorem v248 : R3 (val_main_v248 (F := Ideal) x0 x1 x2) (fun r c => DVN z dy ws r c * VH z r c) := fun i => by
  simp only [val_main_v248_apply, v47 A, v244 A, mul_c, add_c, sub_c, neg_c, min_c, tanh_c]
  exact congrArg _ (mul_comm _ _)

theorem v249 : ∀ i : (⟨2, ![1, 512]⟩ : Shape).Idx, (val_main_v249 (F := Ideal) x0 x1 x2) i = ((dGA z dy ws 4096 (i 1).val : ℝ) : EReal) := fun i =>
  (val_main_v249_apply _ _ _ _).trans ((congrArg (_ + ·) (Finset.sum_congr rfl fun k _ => v248 A _)).trans
    (sum_c (fun k => DVN z dy ws k (i 1).val * VH z k (i 1).val) ((val_main_cst_54_apply _).trans l_zero)))

theorem v250 : R3 (val_main_v250 (F := Ideal) x0 x1 x2) (fun _ c => dGA z dy ws 4096 c) := fun i => by
  have h0 : (i 0).val < 1 := (i 0).isLt
  have h1 : (i 1).val < 1 := (i 1).isLt
  have h2 : (i 2).val < 512 := (i 2).isLt
  refine (val_main_v250_apply _ _ _ _).trans ((v249 A _).trans (congrArg (fun c => ((dGA z dy ws 4096 c : ℝ) : EReal)) ?_))
  show (((i 0).val * 1 + (i 1).val) * 512 + (i 2).val) % 512 = _
  omega

theorem v253 : ∀ i : (⟨1, ![512]⟩ : Shape).Idx, (val_main_v253 (F := Ideal) x0 x1 x2) i = ((dGA z dy ws 4096 (i 0).val : ℝ) : EReal) := fun i => by
  unfold val_main_v253
  exact (unit3_01 reducesTo_S1x1x512_S512_d0_1 _ ((val_main_cst_55_apply _).trans l_zero) i).trans (v250 A _)

theorem v300 : Re2 (φ := .f32) (val_main_v300 (F := Ideal) x0 x1 x2) (fun _ c => dGA z dy ws 4096 c) := fun i => by
  have h0 : (i 0).val < 1 := (i 0).isLt
  have h1 : (i 1).val < 512 := (i 1).isLt
  refine (val_main_v300_apply _ _ _ _).trans ((v253 A _).trans (congrArg (fun c => ((dGA z dy ws 4096 c : ℝ) : EReal)) ?_))
  show (i 0).val * 512 + (i 1).val = _
  omega

theorem v252 : R3 (val_main_v252 (F := Ideal) x0 x1 x2 x4) (DVH z dy ga ws) := fun i => by
  simp only [val_main_v252_apply, v244 A, v251 A, mul_c, add_c, sub_c, neg_c, min_c, tanh_c]
  rfl

theorem v254 : R3 (val_main_v254 (F := Ideal) x0 x1 x2 x4) (fun r c => VC z r c * DVH z dy ga ws r c) := fun i => by
  simp only [val_main_v254_apply, v39 A, v252 A, mul_c, add_c, sub_c, neg_c, min_c, tanh_c]

theorem v255 : ∀ i : (⟨2, ![1, 4096]⟩ : Shape).Idx, (val_main_v255 (F := Ideal) x0 x1 x2 x4) i = ((∑ k ∈ Finset.range 512, VC z (i 1).val k * DVH z dy ga ws (i 1).val k : ℝ) : EReal) := fun i =>
  (val_main_v255_apply _ _ _ _ _).trans ((congrArg (_ + ·) (Finset.sum_congr rfl fun k _ => v254 A _)).trans
    (sum_c (fun k => VC z (i 1).val k * DVH z dy ga ws (i 1).val k) ((val_main_cst_56_apply _).trans l_zero)))

theorem v256 : R3 (val_main_v256 (F := Ideal) x0 x1 x2 x4) (fun r _ => ∑ k ∈ Finset.range 512, VC z r k * DVH z dy ga ws r k) := fun i => by
  have h0 : (i 0).val < 1 := (i 0).isLt
  have h1 : (i 1).val < 4096 := (i 1).isLt
  have h2 : (i 2).val < 1 := (i 2).isLt
  refine (val_main_v256_apply _ _ _ _ _).trans ((v255 A _).trans (congrArg (fun r => ((∑ k ∈ Finset.range 512, VC z r k * DVH z dy ga ws r k : ℝ) : EReal)) ?_))
  show (((i 0).val * 4096 + (i 1).val) * 1 + (i 2).val) % 4096 = _
  omega

theorem v258 : R3 (val_main_v258 (F := Ideal) x0 x1 x2 x4) (fun r c => DVH z dy ga ws r c * rs z r) := fun i => by
  simp only [val_main_v258_apply, v252 A, v257 A, mul_c, add_c, sub_c, neg_c, min_c, tanh_c]

theorem v260 : R3 (val_main_v260 (F := Ideal) x0 x1 x2 x4) (fun r c => -(DVH z dy ga ws r c * rs z r)) := fun i => by
  simp only [val_main_v260_apply, v258 A, mul_c, add_c, sub_c, neg_c, min_c, tanh_c]

theorem v261 : ∀ i : (⟨2, ![1, 4096]⟩ : Shape).Idx, (val_main_v261 (F := Ideal) x0 x1 x2 x4) i = ((∑ k ∈ Finset.range 512, -(DVH z dy ga ws (i 1).val k * rs z (i 1).val) : ℝ) : EReal) := fun i =>
  (val_main_v261_apply _ _ _ _ _).trans ((congrArg (_ + ·) (Finset.sum_congr rfl fun k _ => v260 A _)).trans
    (sum_c (fun k => -(DVH z dy ga ws (i 1).val k * rs z (i 1).val)) ((val_main_cst_57_apply _).trans l_zero)))

theorem v262 : R3 (val_main_v262 (F := Ideal) x0 x1 x2 x4) (fun r _ => ∑ k ∈ Finset.range 512, -(DVH z dy ga ws r k * rs z r)) := fun i => by
  have h0 : (i 0).val < 1 := (i 0).isLt
  have h1 : (i 1).val < 4096 := (i 1).isLt
  have h2 : (i 2).val < 1 := (i 2).isLt
  refine (val_main_v262_apply _ _ _ _ _).trans ((v261 A _).trans (congrArg (fun r => ((∑ k ∈ Finset.range 512, -(DVH z dy ga ws r k * rs z r) : ℝ) : EReal)) ?_))
  show (((i 0).val * 4096 + (i 1).val) * 1 + (i 2).val) % 4096 = _
  omega

/-- What the row's variance receives, over the row's length. -/
def QQ (z dy : ℕ → ℕ → ℝ) (ga : ℕ → ℝ) (ws : ℕ → ℕ → ℕ → ℝ) (r : ℕ) : ℝ :=
  (∑ k ∈ Finset.range 512, VC z r k * DVH z dy ga ws r k) * (-(1 / 2) * (rs z r / (var z r + eps))) / 512

theorem v264 : R3 (val_main_v264 (F := Ideal) x0 x1 x2 x4) (fun r c => QQ z dy ga ws r) := fun i => by
  simp only [val_main_v264_apply, val_main_v259_apply, val_main_v263_apply, val_main_cst_58_apply, v256 A, v45 A, l_512, mul_c, add_c, sub_c, neg_c, min_c, tanh_c, div_c _ _ (show (512 : ℝ) ≠ 0 by norm_num)]
  rfl

theorem v265 : ∀ i : (⟨1, ![4096]⟩ : Shape).Idx, (val_main_v265 (F := Ideal) x0 x1 x2 x4) i = ((QQ z dy ga ws (i 0).val : ℝ) : EReal) := fun i => by
  unfold val_main_v265
  exact (unit3_02 reducesTo_S1x4096x1_S4096_d0_2 _ ((val_main_cst_59_apply _).trans l_zero) i).trans (v264 A _)

theorem v266 : ∀ i : (⟨2, ![1, 4096]⟩ : Shape).Idx, (val_main_v266 (F := Ideal) x0 x1 x2 x4) i = ((QQ z dy ga ws (i 1).val : ℝ) : EReal) := fun i => (val_main_v266_apply _ _ _ _ _).trans (v265 A _)

theorem v267 : R3 (val_main_v267 (F := Ideal) x0 x1 x2 x4) (fun r c => QQ z dy ga ws r) := fun i => (val_main_v267_apply _ _ _ _ _).trans (v266 A _)

theorem v268 : R3 (val_main_v268 (F := Ideal) x0 x1 x2 x4) (fun r c => QQ z dy ga ws r * (2 * VC z r c)) := fun i => by
  simp only [val_main_v268_apply, v267 A, v33 A, mul_c, add_c, sub_c, neg_c, min_c, tanh_c]

theorem v269 : R3 (val_main_v269 (F := Ideal) x0 x1 x2 x4) (fun r c => -(QQ z dy ga ws r * (2 * VC z r c))) := fun i => by
  simp only [val_main_v269_apply, v268 A, mul_c, add_c, sub_c, neg_c, min_c, tanh_c]

theorem v270 : ∀ i : (⟨2, ![1, 4096]⟩ : Shape).Idx, (val_main_v270 (F := Ideal) x0 x1 x2 x4) i = ((∑ k ∈ Finset.range 512, -(QQ z dy ga ws (i 1).val * (2 * VC z (i 1).val k)) : ℝ) : EReal) := fun i =>
  (val_main_v270_apply _ _ _ _ _).trans ((congrArg (_ + ·) (Finset.sum_congr rfl fun k _ => v269 A _)).trans
    (sum_c (fun k => -(QQ z dy ga ws (i 1).val * (2 * VC z (i 1).val k))) ((val_main_cst_60_apply _).trans l_zero)))

theorem v271 : R3 (val_main_v271 (F := Ideal) x0 x1 x2 x4) (fun r _ => ∑ k ∈ Finset.range 512, -(QQ z dy ga ws r * (2 * VC z r k))) := fun i => by
  have h0 : (i 0).val < 1 := (i 0).isLt
  have h1 : (i 1).val < 4096 := (i 1).isLt
  have h2 : (i 2).val < 1 := (i 2).isLt
  refine (val_main_v271_apply _ _ _ _ _).trans ((v270 A _).trans (congrArg (fun r => ((∑ k ∈ Finset.range 512, -(QQ z dy ga ws r * (2 * VC z r k)) : ℝ) : EReal)) ?_))
  show (((i 0).val * 4096 + (i 1).val) * 1 + (i 2).val) % 4096 = _
  omega

theorem v275 : R3 (val_main_v275 (F := Ideal) x0 x1 x2 x4) (fun r c => (∑ k ∈ Finset.range 512, -(DVH z dy ga ws r k * rs z r) + ∑ k ∈ Finset.range 512, -(QQ z dy ga ws r * (2 * VC z r k))) / 512) := fun i => by
  simp only [val_main_v275_apply, val_main_v273_apply, val_main_v274_apply, val_main_cst_61_apply, v262 A, v271 A, l_512, mul_c, add_c, sub_c, neg_c, min_c, tanh_c, div_c _ _ (show (512 : ℝ) ≠ 0 by norm_num)]

theorem v276 : ∀ i : (⟨1, ![4096]⟩ : Shape).Idx, (val_main_v276 (F := Ideal) x0 x1 x2 x4) i = (((∑ k ∈ Finset.range 512, -(DVH z dy ga ws (i 0).val k * rs z (i 0).val) + ∑ k ∈ Finset.range 512, -(QQ z dy ga ws (i 0).val * (2 * VC z (i 0).val k))) / 512 : ℝ) : EReal) := fun i => by
  unfold val_main_v276
  exact (unit3_02 reducesTo_S1x4096x1_S4096_d0_2 _ ((val_main_cst_62_apply _).trans l_zero) i).trans (v275 A _)

theorem v277 : ∀ i : (⟨2, ![1, 4096]⟩ : Shape).Idx, (val_main_v277 (F := Ideal) x0 x1 x2 x4) i = (((∑ k ∈ Finset.range 512, -(DVH z dy ga ws (i 1).val k * rs z (i 1).val) + ∑ k ∈ Finset.range 512, -(QQ z dy ga ws (i 1).val * (2 * VC z (i 1).val k))) / 512 : ℝ) : EReal) := fun i => (val_main_v277_apply _ _ _ _ _).trans (v276 A _)

theorem v278 : R3 (val_main_v278 (F := Ideal) x0 x1 x2 x4) (fun r c => (∑ k ∈ Finset.range 512, -(DVH z dy ga ws r k * rs z r) + ∑ k ∈ Finset.range 512, -(QQ z dy ga ws r * (2 * VC z r k))) / 512) := fun i => (val_main_v278_apply _ _ _ _ _).trans (v277 A _)

/-- The cotangent of the rows before normalisation. -/
theorem v279 : R3 (val_main_v279 (F := Ideal) x0 x1 x2 x4) (DV z dy ga ws) := fun i => by
  simp only [val_main_v279_apply, val_main_v272_apply, v258 A, v268 A, v278 A, mul_c, add_c, sub_c, neg_c, min_c, tanh_c]
  exact congrArg _ (dv_alg (DVH z dy ga ws (i 1).val) (VC z (i 1).val) _ _ (sum_VC z _) (rs_cube z _) _)

end Cert.Ref

end
-- ==== Proof.RefPool.lean ====
/- The reference's pooling half read at an index, operation by operation: the trailing means as differences of running
   sums, the grouped product, and the cotangents down to the pooled part of the activations. -/
module

public import proofs.«01_k».proof.Proof.RefGate

@[expose] public section

noncomputable section

namespace Cert.Ref

open Idealize.ShloMosaic Cert.Arr Cert.Spec Cert.Tile
open Cert.ReferenceIdeal Cert.ReferenceIdeal.Gen Cert.ReferenceIdeal.Read
open scoped BigOperators

variable {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  {x0 : Vec Ideal ⟨2, ![4096, 1536]⟩ .f32} {x1 : Vec Ideal ⟨2, ![4096, 1024]⟩ .f32} {x2 : Vec Ideal ⟨3, ![4, 128, 128]⟩ .f32}
  {x3 : Vec Ideal ⟨2, ![4, 128]⟩ .f32} {x4 x5 : Vec Ideal ⟨1, ![512]⟩ .f32} {x6 : Vec Ideal ⟨3, ![4, 128, 128]⟩ .f32}
  {x7 : Vec Ideal ⟨2, ![4, 128]⟩ .f32} {x8 : Vec Ideal ⟨1, ![512]⟩ .f32}
  (A : Args z dy ws bs ga be wp bp ps x0 x1 x2 x3 x4 x5 x6 x7 x8)

include A

/-- The pooled part of the activations. -/
theorem v69 : R3 (val_main_v69 (F := Ideal) x0) (colz z) := fun i => (val_main_v69_apply _ _).trans (v0 A _)

theorem v70 : R4 (val_main_v70 (F := Ideal) x0) (colz z) := fun i => by
  have h0 : (i 0).val < 1 := (i 0).isLt
  have h1 : (i 1).val < 4096 := (i 1).isLt
  have h2 : (i 2).val < 4 := (i 2).isLt
  have h3 : (i 3).val < 128 := (i 3).isLt
  refine (val_main_v70_apply _ _).trans ((v69 A _).trans (at2 ?_ ?_))
  · show (((((i 0).val * 4096 + (i 1).val) * 4 + (i 2).val) * 128 + (i 3).val) / 512 % 4096) = _
    omega
  · show (((((i 0).val * 4096 + (i 1).val) * 4 + (i 2).val) * 128 + (i 3).val) % 512) = _
    omega

omit A in
theorem op72 : val_main_v72 (F := Ideal) x0 = Ideal.hostReduceWindowAdd ![1, 4096, 1, 1] ![1, 1, 1, 1] ![0, 4095, 0, 0] ![0, 0, 0, 0]
    reduceWindows_S1x4096x4x128_S1x4096x4x128_w1s1p0_0_w4096s1p4095_0_w1s1p0_0_w1s1p0_0 (val_main_v70 (F := Ideal) x0)
    (val_main_call1_call0_v0 (F := Ideal) (Shape.Idx.first h_S_)) := by
  unfold val_main_v72 Host.reduceWindowAdd
  rfl

/-- The running sum of the rows. -/
theorem v72 : R4 (val_main_v72 (F := Ideal) x0) (fun r c => pc (colz z) (r + 1) c) := by
  rw [op72]
  have e := prefix_sum (val_main_v70 (F := Ideal) x0) (colz z) (v70 A)
    ((val_main_call1_call0_v0_apply (Shape.Idx.first h_S_)).trans ((val_main_call1_call0_cst_apply _).trans l_zero))
    reduceWindows_S1x4096x4x128_S1x4096x4x128_w1s1p0_0_w4096s1p4095_0_w1s1p0_0_w1s1p0_0
  unfold pc
  exact e

theorem v73 : R4 (val_main_v73 (F := Ideal) x0) (pc (colz z)) := fun i => by
  have h1 : (i 1).val < 4097 := (i 1).isLt
  unfold val_main_v73
  pointwise
  by_cases h : (i 1).val < 1
  · rw [dif_pos h, val_main_v71_apply, val_main_cst_14_apply, l_zero]
    have e : (i 1).val = 0 := by omega
    rw [e]
    simp [pc]
  · rw [dif_neg h]
    refine (v72 A _).trans (at2 ?_ rfl)
    show (i 1).val - 1 + 1 = (i 1).val
    omega

theorem v75 : ∀ i : (⟨1, ![4096]⟩ : Shape).Idx, (val_main_v75 (F := Ideal)) i = ((((i 0).val : ℝ) : ℝ) : EReal) := fun i => by
  have h0 : (i 0).val < 4096 := (i 0).isLt
  unfold val_main_v75
  pointwise
  exact sitofp_c _ (by omega)

/-- The group of features that looks back over 2 rows. -/
theorem v76 : ∀ i : (⟨4, ![1, 4097, 1, 128]⟩ : Shape).Idx, (val_main_v76 (F := Ideal) x0) i = ((pc (colz z) (i 1).val (0 + (i 3).val) : ℝ) : EReal) := fun i => by
  have h0 : (i 0).val < 1 := (i 0).isLt
  have h1 : (i 1).val < 4097 := (i 1).isLt
  have h2 : (i 2).val < 1 := (i 2).isLt
  have h3 : (i 3).val < 128 := (i 3).isLt
  refine (val_main_v76_apply _ _).trans ((v73 A _).trans (at2 rfl ?_))
  show 128 * ((i 2).val) + (i 3).val = _
  omega

theorem v77 : R3 (val_main_v77 (F := Ideal) x0) (fun r c => pc (colz z) r (0 + c)) := fun i => by
  have h0 : (i 0).val < 1 := (i 0).isLt
  have h1 : (i 1).val < 4097 := (i 1).isLt
  have h2 : (i 2).val < 128 := (i 2).isLt
  refine (val_main_v77_apply _ _).trans ((v76 A _).trans (at2 ?_ ?_))
  · show (((i 0).val * 4097 + (i 1).val) * 128 + (i 2).val) / 128 % 4097 = _
    omega
  · show 0 + ((((i 0).val * 4097 + (i 1).val) * 128 + (i 2).val) % 128) = _
    omega

theorem v79 : R3 (val_main_v79 (F := Ideal) x0) (fun r c => pc (colz z) r (0 + c)) := fun i => (val_main_v79_apply _ _).trans (v77 A _)

theorem v87 : R3 (val_main_v87 (F := Ideal) x0) (fun r c => pc (colz z) (1 + r) (0 + c)) := fun i => (val_main_v87_apply _ _).trans (v77 A _)

theorem v80 : R3 (val_main_v80 (F := Ideal) x0) (fun r c => if r < 2 - 1 then 0 else pc (colz z) (r - (2 - 1)) (0 + c)) := fun i => by
  have h1 : (i 1).val < 4096 := (i 1).isLt
  unfold val_main_v80
  pointwise
  by_cases h : (i 1).val < 2 - 1
  · rw [dif_pos h, val_main_v78_apply, val_main_cst_16_apply, l_zero, if_pos h]
  · rw [dif_neg h, if_neg h]
    refine (v79 A _).trans ?_
    simp only [Nat.zero_add] <;> rfl

theorem v85 : ∀ i : (⟨1, ![4096]⟩ : Shape).Idx, (val_main_v85 (F := Ideal)) i = ((min (((i 0).val : ℝ) + 1) 2 : ℝ) : EReal) := fun i => by
  simp only [val_main_v85_apply, val_main_v83_apply, val_main_v82_apply, val_main_cst_18_apply, val_main_v84_apply, val_main_cst_19_apply, v75 A, l_one, l_two, mul_c, add_c, sub_c, neg_c, min_c, tanh_c]

theorem v86 : R3 (val_main_v86 (F := Ideal)) (fun r _ => min ((r : ℝ) + 1) 2) := fun i => (val_main_v86_apply _).trans (v85 A _)

theorem v89 : R3 (val_main_v89 (F := Ideal)) (fun r _ => min ((r : ℝ) + 1) 2) := fun i => (val_main_v89_apply _).trans (v86 A _)

theorem v88 : R3 (val_main_v88 (F := Ideal) x0) (fun r c => WSUM (colz z) r (0 + c)) := fun i => by
  have h2 : (i 2).val < 128 := (i 2).isLt
  simp only [val_main_v88_apply, v87 A, v80 A, sub_c]
  exact congrArg _ (wsum_eq (colz z) (i 1).val 0 (i 2).val 2 h2 (by norm_num))

theorem v90 : R3 (val_main_v90 (F := Ideal) x0) (fun r c => WSUM (colz z) r (0 + c) / cnt r (0 + c)) := fun i => by
  have h2 : (i 2).val < 128 := (i 2).isLt
  have e : min (((i 1).val : ℝ) + 1) 2 = cnt (i 1).val (0 + (i 2).val) := by
    rw [show 0 + (i 2).val = 128 * 0 + (i 2).val by omega, cnt_at (i 1).val 0 (i 2).val 2 h2 (by norm_num)]
    norm_num
  simp only [val_main_v90_apply, v88 A, v89 A, e]
  exact div_c _ _ (cnt_ne _ _)

theorem v136 : ∀ i : (⟨4, ![1, 4096, 1, 128]⟩ : Shape).Idx, (val_main_v136 (F := Ideal) x0) i = ((WSUM (colz z) (i 1).val (0 + (i 3).val) / cnt (i 1).val (0 + (i 3).val) : ℝ) : EReal) := fun i => (val_main_v136_apply _ _).trans (v90 A _)

/-- The group of features that looks back over 4 rows. -/
theorem v91 : ∀ i : (⟨4, ![1, 4097, 1, 128]⟩ : Shape).Idx, (val_main_v91 (F := Ideal) x0) i = ((pc (colz z) (i 1).val (128 + (i 3).val) : ℝ) : EReal) := fun i => by
  have h0 : (i 0).val < 1 := (i 0).isLt
  have h1 : (i 1).val < 4097 := (i 1).isLt
  have h2 : (i 2).val < 1 := (i 2).isLt
  have h3 : (i 3).val < 128 := (i 3).isLt
  refine (val_main_v91_apply _ _).trans ((v73 A _).trans (at2 rfl ?_))
  show 128 * (1 + (i 2).val) + (i 3).val = _
  omega

theorem v92 : R3 (val_main_v92 (F := Ideal) x0) (fun r c => pc (colz z) r (128 + c)) := fun i => by
  have h0 : (i 0).val < 1 := (i 0).isLt
  have h1 : (i 1).val < 4097 := (i 1).isLt
  have h2 : (i 2).val < 128 := (i 2).isLt
  refine (val_main_v92_apply _ _).trans ((v91 A _).trans (at2 ?_ ?_))
  · show (((i 0).val * 4097 + (i 1).val) * 128 + (i 2).val) / 128 % 4097 = _
    omega
  · show 128 + ((((i 0).val * 4097 + (i 1).val) * 128 + (i 2).val) % 128) = _
    omega

theorem v94 : R3 (val_main_v94 (F := Ideal) x0) (fun r c => pc (colz z) r (128 + c)) := fun i => (val_main_v94_apply _ _).trans (v92 A _)

theorem v102 : R3 (val_main_v102 (F := Ideal) x0) (fun r c => pc (colz z) (1 + r) (128 + c)) := fun i => (val_main_v102_apply _ _).trans (v92 A _)

theorem v95 : R3 (val_main_v95 (F := Ideal) x0) (fun r c => if r < 4 - 1 then 0 else pc (colz z) (r - (4 - 1)) (128 + c)) := fun i => by
  have h1 : (i 1).val < 4096 := (i 1).isLt
  unfold val_main_v95
  pointwise
  by_cases h : (i 1).val < 4 - 1
  · rw [dif_pos h, val_main_v93_apply, val_main_cst_20_apply, l_zero, if_pos h]
  · rw [dif_neg h, if_neg h]
    refine (v94 A _).trans ?_
    simp only [Nat.zero_add] <;> rfl

theorem v100 : ∀ i : (⟨1, ![4096]⟩ : Shape).Idx, (val_main_v100 (F := Ideal)) i = ((min (((i 0).val : ℝ) + 1) 4 : ℝ) : EReal) := fun i => by
  simp only [val_main_v100_apply, val_main_v98_apply, val_main_v97_apply, val_main_cst_22_apply, val_main_v99_apply, val_main_cst_23_apply, v75 A, l_one, l_four, mul_c, add_c, sub_c, neg_c, min_c, tanh_c]

theorem v101 : R3 (val_main_v101 (F := Ideal)) (fun r _ => min ((r : ℝ) + 1) 4) := fun i => (val_main_v101_apply _).trans (v100 A _)

theorem v104 : R3 (val_main_v104 (F := Ideal)) (fun r _ => min ((r : ℝ) + 1) 4) := fun i => (val_main_v104_apply _).trans (v101 A _)

theorem v103 : R3 (val_main_v103 (F := Ideal) x0) (fun r c => WSUM (colz z) r (128 + c)) := fun i => by
  have h2 : (i 2).val < 128 := (i 2).isLt
  simp only [val_main_v103_apply, v102 A, v95 A, sub_c]
  exact congrArg _ (wsum_eq (colz z) (i 1).val 1 (i 2).val 4 h2 (by norm_num))

theorem v105 : R3 (val_main_v105 (F := Ideal) x0) (fun r c => WSUM (colz z) r (128 + c) / cnt r (128 + c)) := fun i => by
  have h2 : (i 2).val < 128 := (i 2).isLt
  have e : min (((i 1).val : ℝ) + 1) 4 = cnt (i 1).val (128 + (i 2).val) := by
    rw [show 128 + (i 2).val = 128 * 1 + (i 2).val by omega, cnt_at (i 1).val 1 (i 2).val 4 h2 (by norm_num)]
    norm_num
  simp only [val_main_v105_apply, v103 A, v104 A, e]
  exact div_c _ _ (cnt_ne _ _)

theorem v137 : ∀ i : (⟨4, ![1, 4096, 1, 128]⟩ : Shape).Idx, (val_main_v137 (F := Ideal) x0) i = ((WSUM (colz z) (i 1).val (128 + (i 3).val) / cnt (i 1).val (128 + (i 3).val) : ℝ) : EReal) := fun i => (val_main_v137_apply _ _).trans (v105 A _)

/-- The group of features that looks back over 8 rows. -/
theorem v106 : ∀ i : (⟨4, ![1, 4097, 1, 128]⟩ : Shape).Idx, (val_main_v106 (F := Ideal) x0) i = ((pc (colz z) (i 1).val (256 + (i 3).val) : ℝ) : EReal) := fun i => by
  have h0 : (i 0).val < 1 := (i 0).isLt
  have h1 : (i 1).val < 4097 := (i 1).isLt
  have h2 : (i 2).val < 1 := (i 2).isLt
  have h3 : (i 3).val < 128 := (i 3).isLt
  refine (val_main_v106_apply _ _).trans ((v73 A _).trans (at2 rfl ?_))
  show 128 * (2 + (i 2).val) + (i 3).val = _
  omega

theorem v107 : R3 (val_main_v107 (F := Ideal) x0) (fun r c => pc (colz z) r (256 + c)) := fun i => by
  have h0 : (i 0).val < 1 := (i 0).isLt
  have h1 : (i 1).val < 4097 := (i 1).isLt
  have h2 : (i 2).val < 128 := (i 2).isLt
  refine (val_main_v107_apply _ _).trans ((v106 A _).trans (at2 ?_ ?_))
  · show (((i 0).val * 4097 + (i 1).val) * 128 + (i 2).val) / 128 % 4097 = _
    omega
  · show 256 + ((((i 0).val * 4097 + (i 1).val) * 128 + (i 2).val) % 128) = _
    omega

theorem v109 : R3 (val_main_v109 (F := Ideal) x0) (fun r c => pc (colz z) r (256 + c)) := fun i => (val_main_v109_apply _ _).trans (v107 A _)

theorem v117 : R3 (val_main_v117 (F := Ideal) x0) (fun r c => pc (colz z) (1 + r) (256 + c)) := fun i => (val_main_v117_apply _ _).trans (v107 A _)

theorem v110 : R3 (val_main_v110 (F := Ideal) x0) (fun r c => if r < 8 - 1 then 0 else pc (colz z) (r - (8 - 1)) (256 + c)) := fun i => by
  have h1 : (i 1).val < 4096 := (i 1).isLt
  unfold val_main_v110
  pointwise
  by_cases h : (i 1).val < 8 - 1
  · rw [dif_pos h, val_main_v108_apply, val_main_cst_24_apply, l_zero, if_pos h]
  · rw [dif_neg h, if_neg h]
    refine (v109 A _).trans ?_
    simp only [Nat.zero_add] <;> rfl

theorem v115 : ∀ i : (⟨1, ![4096]⟩ : Shape).Idx, (val_main_v115 (F := Ideal)) i = ((min (((i 0).val : ℝ) + 1) 8 : ℝ) : EReal) := fun i => by
  simp only [val_main_v115_apply, val_main_v113_apply, val_main_v112_apply, val_main_cst_26_apply, val_main_v114_apply, val_main_cst_27_apply, v75 A, l_one, l_eight, mul_c, add_c, sub_c, neg_c, min_c, tanh_c]

theorem v116 : R3 (val_main_v116 (F := Ideal)) (fun r _ => min ((r : ℝ) + 1) 8) := fun i => (val_main_v116_apply _).trans (v115 A _)

theorem v119 : R3 (val_main_v119 (F := Ideal)) (fun r _ => min ((r : ℝ) + 1) 8) := fun i => (val_main_v119_apply _).trans (v116 A _)

theorem v118 : R3 (val_main_v118 (F := Ideal) x0) (fun r c => WSUM (colz z) r (256 + c)) := fun i => by
  have h2 : (i 2).val < 128 := (i 2).isLt
  simp only [val_main_v118_apply, v117 A, v110 A, sub_c]
  exact congrArg _ (wsum_eq (colz z) (i 1).val 2 (i 2).val 8 h2 (by norm_num))

theorem v120 : R3 (val_main_v120 (F := Ideal) x0) (fun r c => WSUM (colz z) r (256 + c) / cnt r (256 + c)) := fun i => by
  have h2 : (i 2).val < 128 := (i 2).isLt
  have e : min (((i 1).val : ℝ) + 1) 8 = cnt (i 1).val (256 + (i 2).val) := by
    rw [show 256 + (i 2).val = 128 * 2 + (i 2).val by omega, cnt_at (i 1).val 2 (i 2).val 8 h2 (by norm_num)]
    norm_num
  simp only [val_main_v120_apply, v118 A, v119 A, e]
  exact div_c _ _ (cnt_ne _ _)

theorem v138 : ∀ i : (⟨4, ![1, 4096, 1, 128]⟩ : Shape).Idx, (val_main_v138 (F := Ideal) x0) i = ((WSUM (colz z) (i 1).val (256 + (i 3).val) / cnt (i 1).val (256 + (i 3).val) : ℝ) : EReal) := fun i => (val_main_v138_apply _ _).trans (v120 A _)

/-- The group of features that looks back over 16 rows. -/
theorem v121 : ∀ i : (⟨4, ![1, 4097, 1, 128]⟩ : Shape).Idx, (val_main_v121 (F := Ideal) x0) i = ((pc (colz z) (i 1).val (384 + (i 3).val) : ℝ) : EReal) := fun i => by
  have h0 : (i 0).val < 1 := (i 0).isLt
  have h1 : (i 1).val < 4097 := (i 1).isLt
  have h2 : (i 2).val < 1 := (i 2).isLt
  have h3 : (i 3).val < 128 := (i 3).isLt
  refine (val_main_v121_apply _ _).trans ((v73 A _).trans (at2 rfl ?_))
  show 128 * (3 + (i 2).val) + (i 3).val = _
  omega

theorem v122 : R3 (val_main_v122 (F := Ideal) x0) (fun r c => pc (colz z) r (384 + c)) := fun i => by
  have h0 : (i 0).val < 1 := (i 0).isLt
  have h1 : (i 1).val < 4097 := (i 1).isLt
  have h2 : (i 2).val < 128 := (i 2).isLt
  refine (val_main_v122_apply _ _).trans ((v121 A _).trans (at2 ?_ ?_))
  · show (((i 0).val * 4097 + (i 1).val) * 128 + (i 2).val) / 128 % 4097 = _
    omega
  · show 384 + ((((i 0).val * 4097 + (i 1).val) * 128 + (i 2).val) % 128) = _
    omega

theorem v124 : R3 (val_main_v124 (F := Ideal) x0) (fun r c => pc (colz z) r (384 + c)) := fun i => (val_main_v124_apply _ _).trans (v122 A _)

theorem v132 : R3 (val_main_v132 (F := Ideal) x0) (fun r c => pc (colz z) (1 + r) (384 + c)) := fun i => (val_main_v132_apply _ _).trans (v122 A _)

theorem v125 : R3 (val_main_v125 (F := Ideal) x0) (fun r c => if r < 16 - 1 then 0 else pc (colz z) (r - (16 - 1)) (384 + c)) := fun i => by
  have h1 : (i 1).val < 4096 := (i 1).isLt
  unfold val_main_v125
  pointwise
  by_cases h : (i 1).val < 16 - 1
  · rw [dif_pos h, val_main_v123_apply, val_main_cst_28_apply, l_zero, if_pos h]
  · rw [dif_neg h, if_neg h]
    refine (v124 A _).trans ?_
    simp only [Nat.zero_add] <;> rfl

theorem v130 : ∀ i : (⟨1, ![4096]⟩ : Shape).Idx, (val_main_v130 (F := Ideal)) i = ((min (((i 0).val : ℝ) + 1) 16 : ℝ) : EReal) := fun i => by
  simp only [val_main_v130_apply, val_main_v128_apply, val_main_v127_apply, val_main_cst_30_apply, val_main_v129_apply, val_main_cst_31_apply, v75 A, l_one, l_sixteen, mul_c, add_c, sub_c, neg_c, min_c, tanh_c]

theorem v131 : R3 (val_main_v131 (F := Ideal)) (fun r _ => min ((r : ℝ) + 1) 16) := fun i => (val_main_v131_apply _).trans (v130 A _)

theorem v134 : R3 (val_main_v134 (F := Ideal)) (fun r _ => min ((r : ℝ) + 1) 16) := fun i => (val_main_v134_apply _).trans (v131 A _)

theorem v133 : R3 (val_main_v133 (F := Ideal) x0) (fun r c => WSUM (colz z) r (384 + c)) := fun i => by
  have h2 : (i 2).val < 128 := (i 2).isLt
  simp only [val_main_v133_apply, v132 A, v125 A, sub_c]
  exact congrArg _ (wsum_eq (colz z) (i 1).val 3 (i 2).val 16 h2 (by norm_num))

theorem v135 : R3 (val_main_v135 (F := Ideal) x0) (fun r c => WSUM (colz z) r (384 + c) / cnt r (384 + c)) := fun i => by
  have h2 : (i 2).val < 128 := (i 2).isLt
  have e : min (((i 1).val : ℝ) + 1) 16 = cnt (i 1).val (384 + (i 2).val) := by
    rw [show 384 + (i 2).val = 128 * 3 + (i 2).val by omega, cnt_at (i 1).val 3 (i 2).val 16 h2 (by norm_num)]
    norm_num
  simp only [val_main_v135_apply, v133 A, v134 A, e]
  exact div_c _ _ (cnt_ne _ _)

theorem v139 : ∀ i : (⟨4, ![1, 4096, 1, 128]⟩ : Shape).Idx, (val_main_v139 (F := Ideal) x0) i = ((WSUM (colz z) (i 1).val (384 + (i 3).val) / cnt (i 1).val (384 + (i 3).val) : ℝ) : EReal) := fun i => (val_main_v139_apply _ _).trans (v135 A _)

/-- The four groups together. -/
theorem v140 : R4 (val_main_v140 (F := Ideal) x0) (fun r c => WSUM (colz z) r c / cnt r c) := fun i => by
  have h2 : (i 2).val < 4 := (i 2).isLt
  unfold val_main_v140
  pointwise
  by_cases h : (i 2).val < 1
  · rw [dif_pos h]
    exact (v136 A _).trans (at2 (f := fun r c => WSUM (colz z) r c / cnt r c) rfl (by show 0 + (i 3).val = _; omega))
  · rw [dif_neg h]
    by_cases h' : (i 2).val - 1 < 1
    · rw [dif_pos h']
      exact (v137 A _).trans (at2 (f := fun r c => WSUM (colz z) r c / cnt r c) rfl (by show 128 + (i 3).val = _; omega))
    · rw [dif_neg h']
      by_cases h'' : (i 2).val - 1 - 1 < 1
      · rw [dif_pos h'']
        exact (v138 A _).trans (at2 (f := fun r c => WSUM (colz z) r c / cnt r c) rfl (by show 256 + (i 3).val = _; omega))
      · rw [dif_neg h'']
        exact (v139 A _).trans (at2 (f := fun r c => WSUM (colz z) r c / cnt r c) rfl (by show 384 + (i 3).val = _; omega))

/-- The trailing mean less the row itself. -/
theorem v141 : R4 (val_main_v141 (F := Ideal) x0) (DF (colz z)) := fun i => by
  simp only [val_main_v141_apply, v140 A, v70 A, mul_c, add_c, sub_c, neg_c, min_c, tanh_c]
  rfl

/-- The pooled product. -/
theorem v142 : ∀ i : (⟨4, ![4, 128, 1, 4096]⟩ : Shape).Idx, (val_main_v142 (F := Ideal) x0 x6) i = ((LIN (colz z) wp (i 3).val (128 * (i 0).val + (i 1).val) : ℝ) : EReal) := fun i => by
  have h1 : (i 1).val < 128 := (i 1).isLt
  refine (val_main_v142_apply _ _ _).trans ((Finset.sum_congr rfl fun k _ => (congrArg₂ (· * ·) (A.a6 _) (v141 A _)).trans (EReal.coe_mul _ _).symm).trans
    ((coe_sum_fin fun k => wp (i 0).val k (i 1).val * DF (colz z) (i 3).val (128 * (i 0).val + k)).trans ?_))
  unfold LIN
  rw [show (128 * (i 0).val + (i 1).val) / 128 = (i 0).val by omega, show (128 * (i 0).val + (i 1).val) % 128 = (i 1).val by omega]
  exact congrArg _ (Finset.sum_congr rfl fun k _ => mul_comm _ _)

theorem v143 : R4 (val_main_v143 (F := Ideal) x0 x6) (LIN (colz z) wp) := fun i => (val_main_v143_apply _ _ _).trans (v142 A _)

theorem v144 : ∀ i : (⟨4, ![1, 1, 4, 128]⟩ : Shape).Idx, (val_main_v144 (F := Ideal) x7) i = bp (128 * (i 2).val + (i 3).val) := fun i => (val_main_v144_apply _ _).trans (A.a7 _)

theorem v145 : ∀ i : (⟨4, ![1, 4096, 4, 128]⟩ : Shape).Idx, (val_main_v145 (F := Ideal) x7) i = bp (128 * (i 2).val + (i 3).val) := fun i => (val_main_v145_apply _ _).trans (v144 A _)

theorem v146 : ∀ i : (⟨4, ![1, 4096, 4, 128]⟩ : Shape).Idx, (val_main_v146 (F := Ideal) x0 x6 x7) i = ((LIN (colz z) wp (i 1).val (128 * (i 2).val + (i 3).val) : ℝ) : EReal) + bp (128 * (i 2).val + (i 3).val) := fun i => (val_main_v146_apply _ _ _ _).trans (congrArg₂ (· + ·) (v143 A _) (v145 A _))

theorem v147 : ∀ i : (⟨3, ![1, 4096, 512]⟩ : Shape).Idx, (val_main_v147 (F := Ideal) x0 x6 x7) i = ((LIN (colz z) wp (i 1).val (i 2).val : ℝ) : EReal) + bp (i 2).val := fun i => by
  have h0 : (i 0).val < 1 := (i 0).isLt
  have h1 : (i 1).val < 4096 := (i 1).isLt
  have h2 : (i 2).val < 512 := (i 2).isLt
  have e1 : (((i 0).val * 4096 + (i 1).val) * 512 + (i 2).val) / 512 % 4096 = (i 1).val := by omega
  have e2 : 128 * ((((i 0).val * 4096 + (i 1).val) * 512 + (i 2).val) / 128 % 4) + ((((i 0).val * 4096 + (i 1).val) * 512 + (i 2).val) % 128) = (i 2).val := by omega
  refine (val_main_v147_apply _ _ _ _).trans ((v146 A _).trans ?_)
  show ((LIN (colz z) wp ((((i 0).val * 4096 + (i 1).val) * 512 + (i 2).val) / 512 % 4096) (128 * ((((i 0).val * 4096 + (i 1).val) * 512 + (i 2).val) / 128 % 4) + ((((i 0).val * 4096 + (i 1).val) * 512 + (i 2).val) % 128)) : ℝ) : EReal) + bp (128 * ((((i 0).val * 4096 + (i 1).val) * 512 + (i 2).val) / 128 % 4) + ((((i 0).val * 4096 + (i 1).val) * 512 + (i 2).val) % 128)) = _
  rw [e1, e2]

/-- The gradient of the pooling scale. -/
theorem v156 : ∀ i : (⟨3, ![1, 4096, 512]⟩ : Shape).Idx, (val_main_v156 (F := Ideal) x0 x1 x6 x7) i = ((coly dy (i 1).val (i 2).val : ℝ) : EReal) * (((LIN (colz z) wp (i 1).val (i 2).val : ℝ) : EReal) + bp (i 2).val) := fun i =>
  (val_main_v156_apply _ _ _ _ _).trans ((congrArg₂ (· * ·) (v147 A _) (v155 A _)).trans (mul_comm _ _))

theorem v157 : ∀ i : (⟨2, ![1, 512]⟩ : Shape).Idx, (val_main_v157 (F := Ideal) x0 x1 x6 x7) i = dPS (colz z) (coly dy) wp bp 4096 (i 1).val := fun i => by
  refine (val_main_v157_apply _ _ _ _ _).trans ((congrArg₂ (· + ·) ((val_main_cst_32_apply _).trans l_zero) (Finset.sum_congr rfl fun k _ => v156 A _)).trans ?_)
  refine (zero_add _).trans ?_
  exact Fin.sum_univ_eq_sum_range (fun r => ((coly dy r (i 1).val : ℝ) : EReal) * (((LIN (colz z) wp r (i 1).val : ℝ) : EReal) + bp (i 1).val)) 4096

theorem v158 : ∀ i : (⟨3, ![1, 1, 512]⟩ : Shape).Idx, (val_main_v158 (F := Ideal) x0 x1 x6 x7) i = dPS (colz z) (coly dy) wp bp 4096 (i 2).val := fun i => by
  have h0 : (i 0).val < 1 := (i 0).isLt
  have h1 : (i 1).val < 1 := (i 1).isLt
  have h2 : (i 2).val < 512 := (i 2).isLt
  refine (val_main_v158_apply _ _ _ _ _).trans ((v157 A _).trans (congrArg (fun c => dPS (colz z) (coly dy) wp bp 4096 c) ?_))
  show (((i 0).val * 1 + (i 1).val) * 512 + (i 2).val) % 512 = _
  omega

theorem v161 : ∀ i : (⟨1, ![512]⟩ : Shape).Idx, (val_main_v161 (F := Ideal) x0 x1 x6 x7) i = dPS (colz z) (coly dy) wp bp 4096 (i 0).val := fun i => by
  unfold val_main_v161
  exact (unit3_01 reducesTo_S1x1x512_S512_d0_1 _ ((val_main_cst_33_apply _).trans l_zero) i).trans (v158 A _)

theorem v303 : ∀ i : (⟨2, ![1, 512]⟩ : Shape).Idx, (val_main_v303 (F := Ideal) x0 x1 x6 x7) i = dPS (colz z) (coly dy) wp bp 4096 (i 1).val := fun i => by
  have h0 : (i 0).val < 1 := (i 0).isLt
  have h1 : (i 1).val < 512 := (i 1).isLt
  refine (val_main_v303_apply _ _ _ _ _).trans ((v161 A _).trans (congrArg (fun c => dPS (colz z) (coly dy) wp bp 4096 c) ?_))
  show (i 0).val * 512 + (i 1).val = _
  omega

theorem v148 : R3 (val_main_v148 (F := Ideal) x8) (fun _ c => ps c) := fun i => (val_main_v148_apply _ _).trans (A.a8 _)

theorem v159 : R3 (val_main_v159 (F := Ideal) x8) (fun _ c => ps c) := fun i => (val_main_v159_apply _ _).trans (v148 A _)

/-- The cotangent of the pooled product, and the gradient of its bias. -/
theorem v160 : R3 (val_main_v160 (F := Ideal) x1 x8) (DL (coly dy) ps) := fun i => by
  simp only [val_main_v160_apply, v155 A, v159 A, mul_c, add_c, sub_c, neg_c, min_c, tanh_c]
  rfl

theorem v162 : R4 (val_main_v162 (F := Ideal) x1 x8) (DL (coly dy) ps) := fun i => by
  have h0 : (i 0).val < 1 := (i 0).isLt
  have h1 : (i 1).val < 4096 := (i 1).isLt
  have h2 : (i 2).val < 4 := (i 2).isLt
  have h3 : (i 3).val < 128 := (i 3).isLt
  refine (val_main_v162_apply _ _ _).trans ((v160 A _).trans (at2 ?_ ?_))
  · show (((((i 0).val * 4096 + (i 1).val) * 4 + (i 2).val) * 128 + (i 3).val) / 512 % 4096) = _
    omega
  · show (((((i 0).val * 4096 + (i 1).val) * 4 + (i 2).val) * 128 + (i 3).val) % 512) = _
    omega

theorem v163 : ∀ i : (⟨3, ![1, 4, 128]⟩ : Shape).Idx, (val_main_v163 (F := Ideal) x1 x8) i = ((dBP (coly dy) ps 4096 (128 * (i 1).val + (i 2).val) : ℝ) : EReal) := fun i =>
  (val_main_v163_apply _ _ _).trans ((congrArg (_ + ·) (Finset.sum_congr rfl fun k _ => v162 A _)).trans
    (sum_c (fun k => DL (coly dy) ps k (128 * (i 1).val + (i 2).val)) ((val_main_cst_34_apply _).trans l_zero)))

theorem v164 : ∀ i : (⟨4, ![1, 1, 4, 128]⟩ : Shape).Idx, (val_main_v164 (F := Ideal) x1 x8) i = ((dBP (coly dy) ps 4096 (128 * (i 2).val + (i 3).val) : ℝ) : EReal) := fun i => by
  have h0 : (i 0).val < 1 := (i 0).isLt
  have h1 : (i 1).val < 1 := (i 1).isLt
  have h2 : (i 2).val < 4 := (i 2).isLt
  have h3 : (i 3).val < 128 := (i 3).isLt
  refine (val_main_v164_apply _ _ _).trans ((v163 A _).trans (congrArg (fun c => ((dBP (coly dy) ps 4096 c : ℝ) : EReal)) ?_))
  show 128 * (((((i 0).val * 1 + (i 1).val) * 4 + (i 2).val) * 128 + (i 3).val) / 128 % 4) + (((((i 0).val * 1 + (i 1).val) * 4 + (i 2).val) * 128 + (i 3).val) % 128) = _
  omega

theorem v165 : ∀ i : (⟨2, ![4, 128]⟩ : Shape).Idx, (val_main_v165 (F := Ideal) x1 x8) i = ((dBP (coly dy) ps 4096 (128 * (i 0).val + (i 1).val) : ℝ) : EReal) := fun i => by
  unfold val_main_v165
  exact (unit4_01 reducesTo_S1x1x4x128_S4x128_d0_1 _ ((val_main_cst_35_apply _).trans l_zero) i).trans (v164 A _)

theorem v302 : Re2 (φ := .f32) (val_main_v302 (F := Ideal) x1 x8) (fun _ c => dBP (coly dy) ps 4096 c) := fun i => by
  have h0 : (i 0).val < 1 := (i 0).isLt
  have h1 : (i 1).val < 512 := (i 1).isLt
  refine (val_main_v302_apply _ _ _).trans ((v165 A _).trans (congrArg (fun c => ((dBP (coly dy) ps 4096 c : ℝ) : EReal)) ?_))
  show 128 * (((i 0).val * 512 + (i 1).val) / 128) + (((i 0).val * 512 + (i 1).val) % 128) = _
  omega

theorem v166 : ∀ i : (⟨4, ![4, 128, 1, 4096]⟩ : Shape).Idx, (val_main_v166 (F := Ideal) x1 x8) i = ((DL (coly dy) ps (i 3).val (128 * (i 0).val + (i 1).val) : ℝ) : EReal) := fun i => (val_main_v166_apply _ _ _).trans (v162 A _)

/-- The cotangent of the differences. -/
theorem v167 : ∀ i : (⟨4, ![4, 1, 4096, 128]⟩ : Shape).Idx, (val_main_v167 (F := Ideal) x1 x6 x8) i = ((DD (coly dy) ps wp (i 2).val (128 * (i 0).val + (i 3).val) : ℝ) : EReal) := fun i => by
  have h3 : (i 3).val < 128 := (i 3).isLt
  refine (val_main_v167_apply _ _ _ _).trans ((Finset.sum_congr rfl fun k _ => (congrArg₂ (· * ·) (v166 A _) (A.a6 _)).trans (EReal.coe_mul _ _).symm).trans
    ((coe_sum_fin fun k => DL (coly dy) ps (i 2).val (128 * (i 0).val + k) * wp (i 0).val (i 3).val k).trans ?_))
  unfold DD
  rw [show (128 * (i 0).val + (i 3).val) / 128 = (i 0).val by omega, show (128 * (i 0).val + (i 3).val) % 128 = (i 3).val by omega]

theorem v168 : R4 (val_main_v168 (F := Ideal) x1 x6 x8) (DD (coly dy) ps wp) := fun i => (val_main_v168_apply _ _ _ _).trans (v167 A _)

/-- The gradient of the pooling weights. -/
theorem v170 : Re3 (φ := .f32) (val_main_v170 (F := Ideal) x0 x1 x8) (dWP (colz z) (coly dy) ps 4096) := fun i => by
  refine (val_main_v170_apply _ _ _ _).trans ?_
  unfold val_main_v169
  pointwise
  rw [Fin.sum_univ_one]
  refine (Finset.sum_congr rfl fun k _ => (congrArg₂ (· * ·) (v166 A _) (v141 A _)).trans (EReal.coe_mul _ _).symm).trans
    ((coe_sum_fin fun r => DL (coly dy) ps r (128 * (i 0).val + (i 2).val) * DF (colz z) r (128 * (i 0).val + (i 1).val)).trans ?_)
  exact congrArg _ (Finset.sum_congr rfl fun k _ => mul_comm _ _)

/-- The group of features that looks back over 2 rows, backwards. -/
theorem v172 : ∀ i : (⟨4, ![1, 4096, 1, 128]⟩ : Shape).Idx, (val_main_v172 (F := Ideal) x1 x6 x8) i = ((DD (coly dy) ps wp (i 1).val (0 + (i 3).val) : ℝ) : EReal) := fun i => by
  have h0 : (i 0).val < 1 := (i 0).isLt
  have h1 : (i 1).val < 4096 := (i 1).isLt
  have h2 : (i 2).val < 1 := (i 2).isLt
  have h3 : (i 3).val < 128 := (i 3).isLt
  refine (val_main_v172_apply _ _ _ _).trans ((v168 A _).trans (at2 rfl ?_))
  show 128 * ((i 2).val) + (i 3).val = _
  omega

theorem v173 : R3 (val_main_v173 (F := Ideal) x1 x6 x8) (fun r c => DD (coly dy) ps wp r (0 + c)) := fun i => by
  have h0 : (i 0).val < 1 := (i 0).isLt
  have h1 : (i 1).val < 4096 := (i 1).isLt
  have h2 : (i 2).val < 128 := (i 2).isLt
  refine (val_main_v173_apply _ _ _ _).trans ((v172 A _).trans (at2 ?_ ?_))
  · show (((i 0).val * 4096 + (i 1).val) * 128 + (i 2).val) / 128 % 4096 = _
    omega
  · show 0 + ((((i 0).val * 4096 + (i 1).val) * 128 + (i 2).val) % 128) = _
    omega

theorem v212 : R3 (val_main_v212 (F := Ideal)) (fun r _ => min ((r : ℝ) + 1) 2) := fun i => (val_main_v212_apply _).trans (v86 A _)

theorem v213 : R3 (val_main_v213 (F := Ideal) x1 x6 x8) (fun r c => SC (coly dy) ps wp r (0 + c)) := fun i => by
  have h1 : (i 1).val < 4096 := (i 1).isLt
  have h2 : (i 2).val < 128 := (i 2).isLt
  have e : min (((i 1).val : ℝ) + 1) 2 = cnt (i 1).val (0 + (i 2).val) := by
    rw [show 0 + (i 2).val = 128 * 0 + (i 2).val by omega, cnt_at (i 1).val 0 (i 2).val 2 h2 (by norm_num)]
    norm_num
  simp only [val_main_v213_apply, v173 A, v212 A, e]
  refine (div_c _ _ (cnt_ne _ _)).trans ?_
  unfold SC
  rw [if_pos h1]

theorem v214 : R3 (val_main_v214 (F := Ideal) x1 x6 x8) (fun r c => -SC (coly dy) ps wp r (0 + c)) := fun i => by
  simp only [val_main_v214_apply, v213 A, mul_c, add_c, sub_c, neg_c, min_c, tanh_c]

theorem v215 : R3 (val_main_v215 (F := Ideal) x1 x6 x8) (fun r c => if 1 ≤ r then SC (coly dy) ps wp (r - 1) (0 + c) else 0) := fun i => by
  have h1 : (i 1).val < 4097 := (i 1).isLt
  unfold val_main_v215
  pointwise
  by_cases h : 1 ≤ (i 1).val
  · rw [dif_pos ⟨h, by omega⟩, if_pos h]
    refine (v213 A _).trans ?_
    simp only [Nat.zero_add] <;> rfl
  · rw [dif_neg (fun hh => h hh.1), if_neg h]
    exact (val_main_cst_45_apply _).trans l_zero

theorem v217 : R3 (val_main_v217 (F := Ideal) x1 x6 x8) (fun r c => -SC (coly dy) ps wp (2 - 1 + r) (0 + c)) := fun i => (val_main_v217_apply _ _ _ _).trans (v214 A _)

theorem v218 : R3 (val_main_v218 (F := Ideal) x1 x6 x8) (fun r c => if r < 4097 - 2 then -SC (coly dy) ps wp (2 - 1 + r) (0 + c) else 0) := fun i => by
  unfold val_main_v218
  pointwise
  by_cases h : (i 1).val < 4097 - 2
  · rw [dif_pos h, if_pos h]
    refine (v217 A _).trans ?_
    simp only [Nat.zero_add] <;> rfl
  · rw [dif_neg h, if_neg h]
    exact (val_main_cst_46_apply _).trans l_zero

theorem v219 : R3 (val_main_v219 (F := Ideal) x1 x6 x8) (fun r c => TT (coly dy) ps wp r (0 + c)) := fun i => by
  have h2 : (i 2).val < 128 := (i 2).isLt
  simp only [val_main_v219_apply, v215 A, v218 A, add_c]
  unfold TT
  rw [show win (0 + (i 2).val) = 2 from win_at 0 (i 2).val h2]

theorem v220 : ∀ i : (⟨4, ![1, 4097, 1, 128]⟩ : Shape).Idx, (val_main_v220 (F := Ideal) x1 x6 x8) i = ((TT (coly dy) ps wp (i 1).val (0 + (i 3).val) : ℝ) : EReal) := fun i => (val_main_v220_apply _ _ _ _).trans (v219 A _)

theorem v221 : ∀ i : (⟨4, ![1, 4097, 4, 128]⟩ : Shape).Idx, (val_main_v221 (F := Ideal) x1 x6 x8) i = ((if (i 2).val = 0 then TT (coly dy) ps wp (i 1).val (0 + (i 3).val) else 0 : ℝ) : EReal) := fun i => by
  have h2 : (i 2).val < 4 := (i 2).isLt
  unfold val_main_v221
  pointwise
  by_cases h : (i 2).val = 0
  · rw [dif_pos (by omega), if_pos h]
    refine (v220 A _).trans ?_
    simp only [Nat.zero_add] <;> rfl
  · rw [dif_neg (by omega), if_neg h]
    exact (val_main_cst_47_apply _).trans l_zero

/-- The group of features that looks back over 4 rows, backwards. -/
theorem v174 : ∀ i : (⟨4, ![1, 4096, 1, 128]⟩ : Shape).Idx, (val_main_v174 (F := Ideal) x1 x6 x8) i = ((DD (coly dy) ps wp (i 1).val (128 + (i 3).val) : ℝ) : EReal) := fun i => by
  have h0 : (i 0).val < 1 := (i 0).isLt
  have h1 : (i 1).val < 4096 := (i 1).isLt
  have h2 : (i 2).val < 1 := (i 2).isLt
  have h3 : (i 3).val < 128 := (i 3).isLt
  refine (val_main_v174_apply _ _ _ _).trans ((v168 A _).trans (at2 rfl ?_))
  show 128 * (1 + (i 2).val) + (i 3).val = _
  omega

theorem v175 : R3 (val_main_v175 (F := Ideal) x1 x6 x8) (fun r c => DD (coly dy) ps wp r (128 + c)) := fun i => by
  have h0 : (i 0).val < 1 := (i 0).isLt
  have h1 : (i 1).val < 4096 := (i 1).isLt
  have h2 : (i 2).val < 128 := (i 2).isLt
  refine (val_main_v175_apply _ _ _ _).trans ((v174 A _).trans (at2 ?_ ?_))
  · show (((i 0).val * 4096 + (i 1).val) * 128 + (i 2).val) / 128 % 4096 = _
    omega
  · show 128 + ((((i 0).val * 4096 + (i 1).val) * 128 + (i 2).val) % 128) = _
    omega

theorem v201 : R3 (val_main_v201 (F := Ideal)) (fun r _ => min ((r : ℝ) + 1) 4) := fun i => (val_main_v201_apply _).trans (v101 A _)

theorem v202 : R3 (val_main_v202 (F := Ideal) x1 x6 x8) (fun r c => SC (coly dy) ps wp r (128 + c)) := fun i => by
  have h1 : (i 1).val < 4096 := (i 1).isLt
  have h2 : (i 2).val < 128 := (i 2).isLt
  have e : min (((i 1).val : ℝ) + 1) 4 = cnt (i 1).val (128 + (i 2).val) := by
    rw [show 128 + (i 2).val = 128 * 1 + (i 2).val by omega, cnt_at (i 1).val 1 (i 2).val 4 h2 (by norm_num)]
    norm_num
  simp only [val_main_v202_apply, v175 A, v201 A, e]
  refine (div_c _ _ (cnt_ne _ _)).trans ?_
  unfold SC
  rw [if_pos h1]

theorem v203 : R3 (val_main_v203 (F := Ideal) x1 x6 x8) (fun r c => -SC (coly dy) ps wp r (128 + c)) := fun i => by
  simp only [val_main_v203_apply, v202 A, mul_c, add_c, sub_c, neg_c, min_c, tanh_c]

theorem v204 : R3 (val_main_v204 (F := Ideal) x1 x6 x8) (fun r c => if 1 ≤ r then SC (coly dy) ps wp (r - 1) (128 + c) else 0) := fun i => by
  have h1 : (i 1).val < 4097 := (i 1).isLt
  unfold val_main_v204
  pointwise
  by_cases h : 1 ≤ (i 1).val
  · rw [dif_pos ⟨h, by omega⟩, if_pos h]
    refine (v202 A _).trans ?_
    simp only [Nat.zero_add] <;> rfl
  · rw [dif_neg (fun hh => h hh.1), if_neg h]
    exact (val_main_cst_42_apply _).trans l_zero

theorem v206 : R3 (val_main_v206 (F := Ideal) x1 x6 x8) (fun r c => -SC (coly dy) ps wp (4 - 1 + r) (128 + c)) := fun i => (val_main_v206_apply _ _ _ _).trans (v203 A _)

theorem v207 : R3 (val_main_v207 (F := Ideal) x1 x6 x8) (fun r c => if r < 4097 - 4 then -SC (coly dy) ps wp (4 - 1 + r) (128 + c) else 0) := fun i => by
  unfold val_main_v207
  pointwise
  by_cases h : (i 1).val < 4097 - 4
  · rw [dif_pos h, if_pos h]
    refine (v206 A _).trans ?_
    simp only [Nat.zero_add] <;> rfl
  · rw [dif_neg h, if_neg h]
    exact (val_main_cst_43_apply _).trans l_zero

theorem v208 : R3 (val_main_v208 (F := Ideal) x1 x6 x8) (fun r c => TT (coly dy) ps wp r (128 + c)) := fun i => by
  have h2 : (i 2).val < 128 := (i 2).isLt
  simp only [val_main_v208_apply, v204 A, v207 A, add_c]
  unfold TT
  rw [show win (128 + (i 2).val) = 4 from win_at 1 (i 2).val h2]

theorem v209 : ∀ i : (⟨4, ![1, 4097, 1, 128]⟩ : Shape).Idx, (val_main_v209 (F := Ideal) x1 x6 x8) i = ((TT (coly dy) ps wp (i 1).val (128 + (i 3).val) : ℝ) : EReal) := fun i => (val_main_v209_apply _ _ _ _).trans (v208 A _)

theorem v210 : ∀ i : (⟨4, ![1, 4097, 4, 128]⟩ : Shape).Idx, (val_main_v210 (F := Ideal) x1 x6 x8) i = ((if (i 2).val = 1 then TT (coly dy) ps wp (i 1).val (128 + (i 3).val) else 0 : ℝ) : EReal) := fun i => by
  have h2 : (i 2).val < 4 := (i 2).isLt
  unfold val_main_v210
  pointwise
  by_cases h : (i 2).val = 1
  · rw [dif_pos (by omega), if_pos h]
    refine (v209 A _).trans ?_
    simp only [Nat.zero_add] <;> rfl
  · rw [dif_neg (by omega), if_neg h]
    exact (val_main_cst_44_apply _).trans l_zero

/-- The group of features that looks back over 8 rows, backwards. -/
theorem v176 : ∀ i : (⟨4, ![1, 4096, 1, 128]⟩ : Shape).Idx, (val_main_v176 (F := Ideal) x1 x6 x8) i = ((DD (coly dy) ps wp (i 1).val (256 + (i 3).val) : ℝ) : EReal) := fun i => by
  have h0 : (i 0).val < 1 := (i 0).isLt
  have h1 : (i 1).val < 4096 := (i 1).isLt
  have h2 : (i 2).val < 1 := (i 2).isLt
  have h3 : (i 3).val < 128 := (i 3).isLt
  refine (val_main_v176_apply _ _ _ _).trans ((v168 A _).trans (at2 rfl ?_))
  show 128 * (2 + (i 2).val) + (i 3).val = _
  omega

theorem v177 : R3 (val_main_v177 (F := Ideal) x1 x6 x8) (fun r c => DD (coly dy) ps wp r (256 + c)) := fun i => by
  have h0 : (i 0).val < 1 := (i 0).isLt
  have h1 : (i 1).val < 4096 := (i 1).isLt
  have h2 : (i 2).val < 128 := (i 2).isLt
  refine (val_main_v177_apply _ _ _ _).trans ((v176 A _).trans (at2 ?_ ?_))
  · show (((i 0).val * 4096 + (i 1).val) * 128 + (i 2).val) / 128 % 4096 = _
    omega
  · show 256 + ((((i 0).val * 4096 + (i 1).val) * 128 + (i 2).val) % 128) = _
    omega

theorem v190 : R3 (val_main_v190 (F := Ideal)) (fun r _ => min ((r : ℝ) + 1) 8) := fun i => (val_main_v190_apply _).trans (v116 A _)

theorem v191 : R3 (val_main_v191 (F := Ideal) x1 x6 x8) (fun r c => SC (coly dy) ps wp r (256 + c)) := fun i => by
  have h1 : (i 1).val < 4096 := (i 1).isLt
  have h2 : (i 2).val < 128 := (i 2).isLt
  have e : min (((i 1).val : ℝ) + 1) 8 = cnt (i 1).val (256 + (i 2).val) := by
    rw [show 256 + (i 2).val = 128 * 2 + (i 2).val by omega, cnt_at (i 1).val 2 (i 2).val 8 h2 (by norm_num)]
    norm_num
  simp only [val_main_v191_apply, v177 A, v190 A, e]
  refine (div_c _ _ (cnt_ne _ _)).trans ?_
  unfold SC
  rw [if_pos h1]

theorem v192 : R3 (val_main_v192 (F := Ideal) x1 x6 x8) (fun r c => -SC (coly dy) ps wp r (256 + c)) := fun i => by
  simp only [val_main_v192_apply, v191 A, mul_c, add_c, sub_c, neg_c, min_c, tanh_c]

theorem v193 : R3 (val_main_v193 (F := Ideal) x1 x6 x8) (fun r c => if 1 ≤ r then SC (coly dy) ps wp (r - 1) (256 + c) else 0) := fun i => by
  have h1 : (i 1).val < 4097 := (i 1).isLt
  unfold val_main_v193
  pointwise
  by_cases h : 1 ≤ (i 1).val
  · rw [dif_pos ⟨h, by omega⟩, if_pos h]
    refine (v191 A _).trans ?_
    simp only [Nat.zero_add] <;> rfl
  · rw [dif_neg (fun hh => h hh.1), if_neg h]
    exact (val_main_cst_39_apply _).trans l_zero

theorem v195 : R3 (val_main_v195 (F := Ideal) x1 x6 x8) (fun r c => -SC (coly dy) ps wp (8 - 1 + r) (256 + c)) := fun i => (val_main_v195_apply _ _ _ _).trans (v192 A _)

theorem v196 : R3 (val_main_v196 (F := Ideal) x1 x6 x8) (fun r c => if r < 4097 - 8 then -SC (coly dy) ps wp (8 - 1 + r) (256 + c) else 0) := fun i => by
  unfold val_main_v196
  pointwise
  by_cases h : (i 1).val < 4097 - 8
  · rw [dif_pos h, if_pos h]
    refine (v195 A _).trans ?_
    simp only [Nat.zero_add] <;> rfl
  · rw [dif_neg h, if_neg h]
    exact (val_main_cst_40_apply _).trans l_zero

theorem v197 : R3 (val_main_v197 (F := Ideal) x1 x6 x8) (fun r c => TT (coly dy) ps wp r (256 + c)) := fun i => by
  have h2 : (i 2).val < 128 := (i 2).isLt
  simp only [val_main_v197_apply, v193 A, v196 A, add_c]
  unfold TT
  rw [show win (256 + (i 2).val) = 8 from win_at 2 (i 2).val h2]

theorem v198 : ∀ i : (⟨4, ![1, 4097, 1, 128]⟩ : Shape).Idx, (val_main_v198 (F := Ideal) x1 x6 x8) i = ((TT (coly dy) ps wp (i 1).val (256 + (i 3).val) : ℝ) : EReal) := fun i => (val_main_v198_apply _ _ _ _).trans (v197 A _)

theorem v199 : ∀ i : (⟨4, ![1, 4097, 4, 128]⟩ : Shape).Idx, (val_main_v199 (F := Ideal) x1 x6 x8) i = ((if (i 2).val = 2 then TT (coly dy) ps wp (i 1).val (256 + (i 3).val) else 0 : ℝ) : EReal) := fun i => by
  have h2 : (i 2).val < 4 := (i 2).isLt
  unfold val_main_v199
  pointwise
  by_cases h : (i 2).val = 2
  · rw [dif_pos (by omega), if_pos h]
    refine (v198 A _).trans ?_
    simp only [Nat.zero_add] <;> rfl
  · rw [dif_neg (by omega), if_neg h]
    exact (val_main_cst_41_apply _).trans l_zero

/-- The group of features that looks back over 16 rows, backwards. -/
theorem v178 : ∀ i : (⟨4, ![1, 4096, 1, 128]⟩ : Shape).Idx, (val_main_v178 (F := Ideal) x1 x6 x8) i = ((DD (coly dy) ps wp (i 1).val (384 + (i 3).val) : ℝ) : EReal) := fun i => by
  have h0 : (i 0).val < 1 := (i 0).isLt
  have h1 : (i 1).val < 4096 := (i 1).isLt
  have h2 : (i 2).val < 1 := (i 2).isLt
  have h3 : (i 3).val < 128 := (i 3).isLt
  refine (val_main_v178_apply _ _ _ _).trans ((v168 A _).trans (at2 rfl ?_))
  show 128 * (3 + (i 2).val) + (i 3).val = _
  omega

theorem v179 : R3 (val_main_v179 (F := Ideal) x1 x6 x8) (fun r c => DD (coly dy) ps wp r (384 + c)) := fun i => by
  have h0 : (i 0).val < 1 := (i 0).isLt
  have h1 : (i 1).val < 4096 := (i 1).isLt
  have h2 : (i 2).val < 128 := (i 2).isLt
  refine (val_main_v179_apply _ _ _ _).trans ((v178 A _).trans (at2 ?_ ?_))
  · show (((i 0).val * 4096 + (i 1).val) * 128 + (i 2).val) / 128 % 4096 = _
    omega
  · show 384 + ((((i 0).val * 4096 + (i 1).val) * 128 + (i 2).val) % 128) = _
    omega

theorem v180 : R3 (val_main_v180 (F := Ideal)) (fun r _ => min ((r : ℝ) + 1) 16) := fun i => (val_main_v180_apply _).trans (v131 A _)

theorem v181 : R3 (val_main_v181 (F := Ideal) x1 x6 x8) (fun r c => SC (coly dy) ps wp r (384 + c)) := fun i => by
  have h1 : (i 1).val < 4096 := (i 1).isLt
  have h2 : (i 2).val < 128 := (i 2).isLt
  have e : min (((i 1).val : ℝ) + 1) 16 = cnt (i 1).val (384 + (i 2).val) := by
    rw [show 384 + (i 2).val = 128 * 3 + (i 2).val by omega, cnt_at (i 1).val 3 (i 2).val 16 h2 (by norm_num)]
    norm_num
  simp only [val_main_v181_apply, v179 A, v180 A, e]
  refine (div_c _ _ (cnt_ne _ _)).trans ?_
  unfold SC
  rw [if_pos h1]

theorem v182 : R3 (val_main_v182 (F := Ideal) x1 x6 x8) (fun r c => -SC (coly dy) ps wp r (384 + c)) := fun i => by
  simp only [val_main_v182_apply, v181 A, mul_c, add_c, sub_c, neg_c, min_c, tanh_c]

theorem v183 : R3 (val_main_v183 (F := Ideal) x1 x6 x8) (fun r c => if 1 ≤ r then SC (coly dy) ps wp (r - 1) (384 + c) else 0) := fun i => by
  have h1 : (i 1).val < 4097 := (i 1).isLt
  unfold val_main_v183
  pointwise
  by_cases h : 1 ≤ (i 1).val
  · rw [dif_pos ⟨h, by omega⟩, if_pos h]
    refine (v181 A _).trans ?_
    simp only [Nat.zero_add] <;> rfl
  · rw [dif_neg (fun hh => h hh.1), if_neg h]
    exact (val_main_cst_36_apply _).trans l_zero

theorem v185 : R3 (val_main_v185 (F := Ideal) x1 x6 x8) (fun r c => -SC (coly dy) ps wp (16 - 1 + r) (384 + c)) := fun i => (val_main_v185_apply _ _ _ _).trans (v182 A _)

theorem v186 : R3 (val_main_v186 (F := Ideal) x1 x6 x8) (fun r c => if r < 4097 - 16 then -SC (coly dy) ps wp (16 - 1 + r) (384 + c) else 0) := fun i => by
  unfold val_main_v186
  pointwise
  by_cases h : (i 1).val < 4097 - 16
  · rw [dif_pos h, if_pos h]
    refine (v185 A _).trans ?_
    simp only [Nat.zero_add] <;> rfl
  · rw [dif_neg h, if_neg h]
    exact (val_main_cst_37_apply _).trans l_zero

theorem v187 : R3 (val_main_v187 (F := Ideal) x1 x6 x8) (fun r c => TT (coly dy) ps wp r (384 + c)) := fun i => by
  have h2 : (i 2).val < 128 := (i 2).isLt
  simp only [val_main_v187_apply, v183 A, v186 A, add_c]
  unfold TT
  rw [show win (384 + (i 2).val) = 16 from win_at 3 (i 2).val h2]

theorem v188 : ∀ i : (⟨4, ![1, 4097, 1, 128]⟩ : Shape).Idx, (val_main_v188 (F := Ideal) x1 x6 x8) i = ((TT (coly dy) ps wp (i 1).val (384 + (i 3).val) : ℝ) : EReal) := fun i => (val_main_v188_apply _ _ _ _).trans (v187 A _)

theorem v189 : ∀ i : (⟨4, ![1, 4097, 4, 128]⟩ : Shape).Idx, (val_main_v189 (F := Ideal) x1 x6 x8) i = ((if (i 2).val = 3 then TT (coly dy) ps wp (i 1).val (384 + (i 3).val) else 0 : ℝ) : EReal) := fun i => by
  have h2 : (i 2).val < 4 := (i 2).isLt
  unfold val_main_v189
  pointwise
  by_cases h : (i 2).val = 3
  · rw [dif_pos (by omega), if_pos h]
    refine (v188 A _).trans ?_
    simp only [Nat.zero_add] <;> rfl
  · rw [dif_neg (by omega), if_neg h]
    exact (val_main_cst_38_apply _).trans l_zero

/-- What the running sum receives. -/
theorem v222 : R4 (val_main_v222 (F := Ideal) x1 x6 x8) (TT (coly dy) ps wp) := fun i => by
  have h2 : (i 2).val < 4 := (i 2).isLt
  simp only [val_main_v222_apply, val_main_v211_apply, val_main_v200_apply, v189 A, v199 A, v210 A, v221 A, add_c]
  have e : (i 2).val = 0 ∨ (i 2).val = 1 ∨ (i 2).val = 2 ∨ (i 2).val = 3 := by omega
  rcases e with e | e | e | e <;> rw [e] <;> simp

theorem v224 : R4 (val_main_v224 (F := Ideal) x1 x6 x8) (fun r c => TT (coly dy) ps wp (1 + r) c) := fun i => (val_main_v224_apply _ _ _ _).trans (v222 A _)

omit A in
theorem op225 : val_main_v225 (F := Ideal) x1 x6 x8 = Ideal.hostReduceWindowAdd ![1, 4096, 1, 1] ![1, 1, 1, 1] ![0, 0, 0, 0] ![0, 4095, 0, 0]
    reduceWindows_S1x4096x4x128_S1x4096x4x128_w1s1p0_0_w4096s1p0_4095_w1s1p0_0_w1s1p0_0 (val_main_v224 (F := Ideal) x1 x6 x8)
    (val_main_call2_call0_v0 (F := Ideal) (Shape.Idx.first h_S_)) := by
  unfold val_main_v225 Host.reduceWindowAdd
  rfl

theorem v225 : R4 (val_main_v225 (F := Ideal) x1 x6 x8) (fun r c => ∑ j ∈ Finset.range (win c), SC (coly dy) ps wp (r + j) c) := fun i => by
  rw [op225]
  have e := suffix_sum (val_main_v224 (F := Ideal) x1 x6 x8) (fun r c => TT (coly dy) ps wp (1 + r) c) (v224 A)
    ((val_main_call2_call0_v0_apply (Shape.Idx.first h_S_)).trans ((val_main_call2_call0_cst_apply _).trans l_zero))
    reduceWindows_S1x4096x4x128_S1x4096x4x128_w1s1p0_0_w4096s1p0_4095_w1s1p0_0_w1s1p0_0 i
  refine e.trans ?_
  exact congrArg _ (back_sum (coly dy) ps wp (i 1).val (128 * (i 2).val + (i 3).val))

/-- The cotangent of the pooled part. -/
theorem v226 : R4 (val_main_v226 (F := Ideal) x1 x6 x8) (dzP (coly dy) ps wp) := fun i => by
  simp only [val_main_v226_apply, val_main_v171_apply, v168 A, v225 A, add_c, neg_c]
  refine congrArg _ ?_
  unfold dzP
  ring

theorem v227 : R3 (val_main_v227 (F := Ideal) x1 x6 x8) (dzP (coly dy) ps wp) := fun i => by
  have h0 : (i 0).val < 1 := (i 0).isLt
  have h1 : (i 1).val < 4096 := (i 1).isLt
  have h2 : (i 2).val < 512 := (i 2).isLt
  refine (val_main_v227_apply _ _ _ _).trans ((v226 A _).trans (at2 ?_ ?_))
  · show ((((i 0).val * 4096 + (i 1).val) * 512 + (i 2).val) / 512 % 4096) = _
    omega
  · show 128 * ((((i 0).val * 4096 + (i 1).val) * 512 + (i 2).val) / 128 % 4) + ((((i 0).val * 4096 + (i 1).val) * 512 + (i 2).val) % 128) = _
    omega

theorem v228 : R3 (val_main_v228 (F := Ideal) x1 x6 x8) (fun r c => if 1024 ≤ c then dzP (coly dy) ps wp r (c - 1024) else 0) := fun i => by
  have h2 : (i 2).val < 1536 := (i 2).isLt
  unfold val_main_v228
  pointwise
  by_cases h : 1024 ≤ (i 2).val
  · rw [dif_pos ⟨h, by omega⟩, if_pos h]
    exact v227 A _
  · rw [dif_neg (fun hh => h hh.1), if_neg h]
    exact (val_main_cst_48_apply _).trans l_zero

end Cert.Ref

end
-- ==== Proof.RefOut.lean ====
/- The reference's cotangent of the activations: both halves of the gated part through the activation, and the pooled
   part beside them. -/
module

public import proofs.«01_k».proof.Proof.RefPool

@[expose] public section

noncomputable section

namespace Cert.Ref

open Idealize.ShloMosaic Cert.Arr Cert.Spec Cert.Tile
open Cert.ReferenceIdeal Cert.ReferenceIdeal.Gen Cert.ReferenceIdeal.Read
open scoped BigOperators

variable {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
  {x0 : Vec Ideal ⟨2, ![4096, 1536]⟩ .f32} {x1 : Vec Ideal ⟨2, ![4096, 1024]⟩ .f32} {x2 : Vec Ideal ⟨3, ![4, 128, 128]⟩ .f32}
  {x3 : Vec Ideal ⟨2, ![4, 128]⟩ .f32} {x4 x5 : Vec Ideal ⟨1, ![512]⟩ .f32} {x6 : Vec Ideal ⟨3, ![4, 128, 128]⟩ .f32}
  {x7 : Vec Ideal ⟨2, ![4, 128]⟩ .f32} {x8 : Vec Ideal ⟨1, ![512]⟩ .f32}
  (A : Args z dy ws bs ga be wp bp ps x0 x1 x2 x3 x4 x5 x6 x7 x8)

include A

/-- The two halves of the gated part side by side. -/
theorem v280 : R3 (val_main_v280 (F := Ideal) x0 x1 x2 x4) (fun r c => if 512 ≤ c then DV z dy ga ws r (c - 512) else 0) := fun i => by
  have h2 : (i 2).val < 1024 := (i 2).isLt
  unfold val_main_v280
  pointwise
  by_cases h : 512 ≤ (i 2).val
  · rw [dif_pos ⟨h, by omega⟩, if_pos h]
    exact v279 A _
  · rw [dif_neg (fun hh => h hh.1), if_neg h]
    exact (val_main_cst_63_apply _).trans l_zero

theorem v281 : R3 (val_main_v281 (F := Ideal) x0 x1 x2 x3 x4 x5) (fun r c => if c < 512 then DU z dy ga be ws bs r c else 0) := fun i => by
  unfold val_main_v281
  pointwise
  by_cases h : (i 2).val < 512
  · rw [dif_pos h, if_pos h]
    exact v230 A _
  · rw [dif_neg h, if_neg h]
    exact (val_main_cst_64_apply _).trans l_zero

/-- The cotangent of the activation's result. -/
def DACT (z dy : ℕ → ℕ → ℝ) (ga be : ℕ → ℝ) (ws : ℕ → ℕ → ℕ → ℝ) (bs : ℕ → ℕ → ℝ) (r c : ℕ) : ℝ :=
  (if 512 ≤ c then DV z dy ga ws r (c - 512) else 0) + (if c < 512 then DU z dy ga be ws bs r c else 0)

theorem v282 : R3 (val_main_v282 (F := Ideal) x0 x1 x2 x3 x4 x5) (DACT z dy ga be ws bs) := fun i => by
  simp only [val_main_v282_apply, v280 A, v281 A, mul_c, add_c, sub_c, neg_c, min_c, tanh_c]
  rfl

/-- Through the activation. -/
theorem v294 : R3 (val_main_v294 (F := Ideal) x0 x1 x2 x3 x4 x5) (fun r c => DACT z dy ga be ws bs r c * dgl (z r c)) := fun i => by
  simp only [val_main_v294_apply, val_main_v290_apply, val_main_v284_apply, val_main_v289_apply, val_main_v288_apply, val_main_cst_66_apply, val_main_v287_apply, val_main_v286_apply, val_main_v285_apply, val_main_cst_65_apply, val_main_v283_apply, val_main_v17_apply, val_main_v14_apply, val_main_v13_apply, val_main_cst_2_apply, val_main_v16_apply, val_main_v15_apply, val_main_cst_3_apply, val_main_v293_apply, val_main_v292_apply, val_main_v291_apply, val_main_cst_67_apply, val_main_v6_apply, val_main_v5_apply, val_main_cst_apply, val_main_v4_apply, v282 A, v21 A, v1 A, v12 A, l_K1, l_half, l_K0, l_one, l_three, mul_c, add_c, sub_c, neg_c, min_c, tanh_c]
  exact congrArg _ (dgl_eq _ _)

theorem v295 : R3 (val_main_v295 (F := Ideal) x0 x1 x2 x3 x4 x5) (fun r c => if c < 1024 then DACT z dy ga be ws bs r c * dgl (z r c) else 0) := fun i => by
  unfold val_main_v295
  pointwise
  by_cases h : (i 2).val < 1024
  · rw [dif_pos h, if_pos h]
    exact v294 A _
  · rw [dif_neg h, if_neg h]
    exact (val_main_cst_68_apply _).trans l_zero

/-- The whole cotangent of the activations. -/
theorem v296 : R3 (val_main_v296 (F := Ideal) x0 x1 x2 x3 x4 x5 x6 x8) (DZ z dy ws bs ga be wp ps) := fun i => by
  simp only [val_main_v296_apply, v228 A, v295 A, add_c]
  refine congrArg _ ?_
  unfold DZ DACT dzU dzV
  by_cases h : (i 2).val < 512
  · rw [if_neg (by omega), if_pos (by omega), if_neg (by omega), if_pos h, if_pos h]
    ring
  · by_cases h' : (i 2).val < 1024
    · rw [if_neg (by omega), if_pos h', if_pos (by omega), if_neg h, if_neg h, if_pos h',
        show 512 + ((i 2).val - 512) = (i 2).val by omega]
      ring
    · rw [if_pos (by omega), if_neg h', if_neg h, if_neg h']
      ring

theorem v297 : Re2 (φ := .f32) (val_main_v297 (F := Ideal) x0 x1 x2 x3 x4 x5 x6 x8) (DZ z dy ws bs ga be wp ps) := fun i =>
  (val_main_v297_apply _ _ _ _ _ _ _ _ _).trans ((congrArg (_ + ·) (Finset.sum_congr rfl fun k _ => v296 A _)).trans
    ((sum_c (n := 1) (fun _ => DZ z dy ws bs ga be wp ps (i 0).val (i 1).val) ((val_main_cst_69_apply _).trans l_zero)).trans (by simp)))

theorem v298 : Re2 (φ := .bf16) (val_main_v298 (F := Ideal) x0 x1 x2 x3 x4 x5 x6 x8) (DZ z dy ws bs ga be wp ps) := fun i => (val_main_v298_apply _ _ _ _ _ _ _ _ _).trans (v297 A i)

end Cert.Ref

end
-- ==== Proof.Value.lean ====
/- The value claim: the kernel's eight results and the reference's are the same real numbers. -/
module

public import proofs.«01_k».proof.Proof.Accum
public import proofs.«01_k».proof.Proof.Finite
public import proofs.«01_k».proof.Proof.RefOut
public import proofs.«01_k».proof.Proof.Gen.ReferenceIdeal.Run

@[expose] public section

noncomputable section

namespace Cert.Value

open Idealize.ShloMosaic Cert.Arr Cert.Spec Cert.Tile Cert.ReferenceIdeal.Read

/-- Equal arrays hold equal numbers. -/
theorem args_of_eq {z dy : ℕ → ℕ → ℝ} {ws : ℕ → ℕ → ℕ → ℝ} {bs : ℕ → ℕ → ℝ} {ga be : ℕ → ℝ} {wp : ℕ → ℕ → ℕ → ℝ} {bp : ℕ → EReal} {ps : ℕ → ℝ}
    {v0 w0 : Vec Ideal ⟨2, ![4096, 1536]⟩ .f32} {v1 w1 : Vec Ideal ⟨2, ![4096, 1024]⟩ .f32} {v2 w2 : Vec Ideal ⟨3, ![4, 128, 128]⟩ .f32}
    {v3 w3 : Vec Ideal ⟨2, ![4, 128]⟩ .f32} {v4 v5 w4 w5 : Vec Ideal ⟨1, ![512]⟩ .f32} {v6 w6 : Vec Ideal ⟨3, ![4, 128, 128]⟩ .f32}
    {v7 w7 : Vec Ideal ⟨2, ![4, 128]⟩ .f32} {v8 w8 : Vec Ideal ⟨1, ![512]⟩ .f32}
    (A : Args z dy ws bs ga be wp bp ps v0 v1 v2 v3 v4 v5 v6 v7 v8) (e0 : w0 = v0) (e1 : w1 = v1) (e2 : w2 = v2) (e3 : w3 = v3)
    (e4 : w4 = v4) (e5 : w5 = v5) (e6 : w6 = v6) (e7 : w7 = v7) (e8 : w8 = v8) : Args z dy ws bs ga be wp bp ps w0 w1 w2 w3 w4 w5 w6 w7 w8 := by
  subst e0 e1 e2 e3 e4 e5 e6 e7 e8
  exact A

/-- With finite arguments (the pooling bias aside) the kernel and the reference end with the same eight arrays. -/
theorem value : Cert.algebraic_KernelIdeal_ReferenceIdeal_pre_finite (hKernelIdeal := Cert.KernelIdeal.Gen.facts)
    (hReferenceIdeal := Cert.ReferenceIdeal.Gen.facts) (hPre_finite := Cert.Finite.facts) := fun m g m' g' hp hag => by
  refine ⟨fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, ?_, ?_⟩
  · exact Cert.KernelIdeal.Value.run_blocks m g
  · refine (θ_run Cert.ReferenceIdeal.defs _ _).mono (fun r h c => ?_) (Cert.ReferenceIdeal.Value.run (F := Ideal) m' g')
    have A := Cert.Finite.args m hp c
    have e := hag c
    have B := args_of_eq A e.1 e.2.1 e.2.2.1 e.2.2.2.1 e.2.2.2.2.1 e.2.2.2.2.2.1 e.2.2.2.2.2.2.1 e.2.2.2.2.2.2.2.1 e.2.2.2.2.2.2.2.2.1
    obtain ⟨h0, h1, h2, h3, h4, h5, h6, h7, hk⟩ := h c
    refine ⟨?_, ?_, ?_, ?_, ?_, ?_, ?_, ?_, hk⟩
    · refine (h0.trans (val_main_v298_eq (StableHlo.launchContents m' c))).trans ?_
      funext i
      exact (Cert.Ref.v298 B i).trans (fin12 A i).symm
    · refine (h1.trans (val_main_v243_eq (StableHlo.launchContents m' c))).trans ?_
      funext i
      exact (Cert.Ref.v243 B i).trans (fin13 A i).symm
    · refine (h2.trans (val_main_v299_eq (StableHlo.launchContents m' c))).trans ?_
      funext i
      exact (Cert.Ref.v299 B i).trans (fin14 A i).symm
    · refine (h3.trans (val_main_v300_eq (StableHlo.launchContents m' c))).trans ?_
      funext i
      exact (Cert.Ref.v300 B i).trans (fin15 A i).symm
    · refine (h4.trans (val_main_v301_eq (StableHlo.launchContents m' c))).trans ?_
      funext i
      exact (Cert.Ref.v301 B i).trans (fin16 A i).symm
    · refine (h5.trans (val_main_v170_eq (StableHlo.launchContents m' c))).trans ?_
      funext i
      exact (Cert.Ref.v170 B i).trans (fin17 A i).symm
    · refine (h6.trans (val_main_v302_eq (StableHlo.launchContents m' c))).trans ?_
      funext i
      exact (Cert.Ref.v302 B i).trans (fin18 A i).symm
    · refine (h7.trans (val_main_v303_eq (StableHlo.launchContents m' c))).trans ?_
      funext i
      exact (Cert.Ref.v303 B i).trans (fin19 A i).symm

end Cert.Value

end
-- ==== Proof.Fc2Arr.lean ====
/- Entries of the blocks that the fc2 gradient kernel works on, over the extended reals: its two products, the slabs
   of its scratch, and what loads and stores of slabs read and leave. -/
module

public import proofs.«01_k».proof.Proof.Reads
public import proofs.«01_k».proof.Proof.Gen.Kernel2Ideal.Skeleton
public import Idealize.ShloMosaic.Lib.WritesUnit

@[expose] public section

set_option maxRecDepth 16384

noncomputable section

namespace Cert.Fc2

open Cert.Kernel2Ideal Cert.Kernel2Ideal.Gen Cert.Arr
open Idealize.ShloMosaic Idealize.ShloMosaic.ValueIdx
open scoped BigOperators

/-- The square of the rectified `p`. -/
def sq (P : ℕ → ℕ → EReal) (r f : ℕ) : EReal := max (P r f) 0 * max (P r f) 0

/-- The gradient with respect to `p`, as the kernel computes it: twice `df`, times the weights, times the root of the square. -/
def dpf (D P W : ℕ → ℕ → EReal) (r f : ℕ) : EReal := (∑ k ∈ Finset.range 1024, D r k * 2 * W f k) * Ideal.sqrt (sq P r f)

/-- The weight gradient over the `T` first tiles of 512 rows. -/
def dwf (D P : ℕ → ℕ → EReal) : ℕ → ℕ → ℕ → EReal
  | 0, _, _ => 0
  | T + 1, f, k => dwf D P T f k + ∑ r ∈ Finset.range 512, sq P (512 * T + r) f * D (512 * T + r) k

/-- A matrix product at an index, for dimension numbers that contract one axis. -/
theorem at2_dot {n m K n₁ m₁ n₂ m₂ : ℕ} {φ ψ : FTy} {a : FVec Ideal ⟨2, ![n₁, m₁]⟩ φ} {b : FVec Ideal ⟨2, ![n₂, m₂]⟩ ψ}
    {f g : ℕ → ℕ → EReal} (ha : At2 (α := EReal) a f) (hb : At2 (α := EReal) b g) (D : DotDims ⟨2, ![n₁, m₁]⟩ ⟨2, ![n₂, m₂]⟩ ⟨2, ![n, m]⟩) (prec : Option ContractPrecision)
    (hr : D.contr.rank = 1) (hs : D.contr.size ⟨0, by omega⟩ = K) (G H : ℕ → ℕ → ℕ → EReal)
    (hl : ∀ (j : (⟨2, ![n, m]⟩ : Shape).Idx) (k : D.contr.Idx), f (D.lhsIdx j k 0).val (D.lhsIdx j k 1).val = G (j 0).val (j 1).val (k ⟨0, by omega⟩).val)
    (hg : ∀ (j : (⟨2, ![n, m]⟩ : Shape).Idx) (k : D.contr.Idx), g (D.rhsIdx j k 0).val (D.rhsIdx j k 1).val = H (j 0).val (j 1).val (k ⟨0, by omega⟩).val) :
    At2 (α := EReal) (matmul D prec a b (constant ⟨2, ![n, m]⟩ .f32 0x00000000#32)) fun r c => ∑ k ∈ Finset.range K, G r c k * H r c k := fun j => by
  show FloatOps.matmul D prec a b (constant ⟨2, ![n, m]⟩ .f32 0x00000000#32) j = _
  rw [Ideal.matmul_constant_zero_apply, ← Equiv.sum_comp (contrEquiv1 D K hr hs).symm]
  have e : ∀ q : Fin K, a (D.lhsIdx j ((contrEquiv1 D K hr hs).symm q)) * b (D.rhsIdx j ((contrEquiv1 D K hr hs).symm q))
      = G (j 0).val (j 1).val q.val * H (j 0).val (j 1).val q.val := fun q => by
    rw [ha, hb, hl, hg, contrEquiv1_symm_val]
  exact (Finset.sum_congr rfl fun q _ => e q).trans (Fin.sum_univ_eq_sum_range (fun q => G (j 0).val (j 1).val q * H (j 0).val (j 1).val q) K)

theorem at2_mono {n m : ℕ} {v : (⟨2, ![n, m]⟩ : Shape).Idx → EReal} {f g : ℕ → ℕ → EReal} (h : At2 v f) (e : ∀ r c, r < n → c < m → f r c = g r c) : At2 v g :=
  fun i => (h i).trans (e _ _ (idx2_lt0 i) (idx2_lt1 i))

theorem w_two16 : (Scalar.ofBits .bf16 0x4000#16 : Ideal .bf16) = (2 : EReal) := by
  show Ideal.ofBits .bf16 0x4000#16 = _
  simp [Ideal.ofBits, Ideal.ieee, -EReal.coe_mul]; norm_num
  rfl

theorem w_zero32 : (Scalar.ofBits .f32 0x00000000#32 : Ideal .f32) = (0 : EReal) := by
  show Ideal.ofBits .f32 0x00000000#32 = _
  simp [Ideal.ofBits, Ideal.ieee]

/-- A slab of 1024 rows, held as two halves of 512. -/
def Slab (v : S1x2x512x1024.Idx → EReal) (f : ℕ → ℕ → EReal) : Prop :=
  ∀ y, v y = f (512 * (y 1).val + (y 2).val) (y 3).val

/-- Slab `j` of four. -/
def Part (X : S4x2x512x1024.Idx → EReal) (j : ℕ) (f : ℕ → ℕ → EReal) : Prop :=
  ∀ y, (y 0).val = j → X y = f (512 * (y 1).val + (y 2).val) (y 3).val

/-- 1024 rows seen as two halves. -/
theorem cast_halves {α : Type} (p : (⟨2, ![1024, 1024]⟩ : Shape).Idx → α) (h : (⟨2, ![1024, 1024]⟩ : Shape).ShapeCasts ⟨3, ![2, 512, 1024]⟩) (a : Fin 2) (b : Fin 512) (c : Fin 1024) :
    shapeCast ⟨3, ![2, 512, 1024]⟩ p h (ix3 a b c) = p (ix2 ⟨512 * a.val + b.val, by omega⟩ c) :=
  shapeCast_apply p h _ _ (by
    rw [Shape.rowMajor_val_two, Shape.rowMajor_val_three]
    show (512 * a.val + b.val) * 1024 + c.val = (a.val * 512 + b.val) * 1024 + c.val
    omega)

/-- Adding a product of 1024 rows to a slab. -/
theorem slab_add {v : Vec Ideal S1x2x512x1024 .f32} {p : FVec Ideal S1024x1024 .f32} {f g : ℕ → ℕ → EReal} (hv : Slab v f) (hp : At2 (α := EReal) p g)
    (h₁ : S1x2x512x1024.ShapeCasts S2x512x1024) (h₂ : S1024x1024.ShapeCasts S2x512x1024) (h₃ : S2x512x1024.ShapeCasts S1x2x512x1024) :
    Slab (shapeCast S1x2x512x1024 (addf (F := Ideal) (φ := .f32) (shapeCast S2x512x1024 v h₁) (shapeCast S2x512x1024 p h₂)) h₃) fun a c => f a c + g a c := fun y => by
  have y1 : (y 1).val < 2 := (y 1).isLt
  have y2 : (y 2).val < 512 := (y 2).isLt
  refine (shapeCast_addUnit_apply ![2, 512, 1024] _ h₃ y).trans ?_
  show shapeCast S2x512x1024 v h₁ (fun a => y a.succ) + shapeCast S2x512x1024 p h₂ (fun a => y a.succ) = _
  refine congrArg₂ (· + ·) ?_ ?_
  · exact (shapeCast_dropUnit_apply ![2, 512, 1024] v h₁ _).trans (hv _)
  · have e : (fun a => y a.succ : S2x512x1024.Idx) = ix3 (y 1) (y 2) (y 3) := funext fun a => by
      match a with
      | ⟨0, _⟩ => rfl
      | ⟨1, _⟩ => rfl
      | ⟨2, _⟩ => rfl
    exact (congrArg _ e).trans ((cast_halves p h₂ (y 1) (y 2) (y 3)).trans (hp _))

section Pay

variable {d : Vec Ideal S512x1024 .bf16} {q : Vec Ideal S512x1024 .bf16} {w : Vec Ideal S1x1024x1024 .bf16} {v : Vec Ideal S1x2x512x1024 .f32}
  {D Q : ℕ → ℕ → EReal} {W : ℕ → ℕ → EReal} {f : ℕ → ℕ → EReal}

theorem pay5 (hd : At2 (α := EReal) d D) (hq : At2 (α := EReal) q Q) (hv : Slab v f) :
    Slab (k0_pay5 (F := Ideal) d q v) fun a c => f a c + ∑ r ∈ Finset.range 512, Q r a * D r c :=
  slab_add hv (at2_dot (n := 1024) (m := 1024) (K := 512) (hq.cast shapeCasts_S512x1024_S512x1024) hd dot_S512x1024_S512x1024_S1024x1024_0_0_1_1_n_n none rfl rfl
    (fun a _ k => Q k a) (fun _ c k => D k c) (fun _ _ => rfl) (fun _ _ => rfl)) _ _ _

theorem pay8 (hd : At2 (α := EReal) d D) (hq : At2 (α := EReal) q Q) (hv : Slab v f) :
    Slab (k0_pay8 (F := Ideal) d (k0_pay7 (F := Ideal) q) v) fun a c => f a c + ∑ r ∈ Finset.range 512, Q r a * D r c := pay5 hd hq hv
theorem pay11 (hd : At2 (α := EReal) d D) (hq : At2 (α := EReal) q Q) (hv : Slab v f) :
    Slab (k0_pay11 (F := Ideal) d q v) fun a c => f a c + ∑ r ∈ Finset.range 512, Q r a * D r c := pay5 hd hq hv
theorem pay14 (hd : At2 (α := EReal) d D) (hq : At2 (α := EReal) q Q) (hv : Slab v f) :
    Slab (k0_pay14 (F := Ideal) d q v) fun a c => f a c + ∑ r ∈ Finset.range 512, Q r a * D r c := pay5 hd hq hv

/-- One of the four weight blocks. -/
def Mat (w : S1x1024x1024.Idx → EReal) (W : ℕ → ℕ → EReal) : Prop := ∀ y, w y = W (y 1).val (y 2).val

theorem pay6 (hd : At2 (α := EReal) d D) (hq : At2 (α := EReal) q Q) (hw : Mat w W) :
    At2 (α := EReal) (k0_pay6 (F := Ideal) d q w) fun r c => (∑ k ∈ Finset.range 1024, D r k * 2 * W c k) * Ideal.sqrt (Q r c) := fun i => by
  have h2 : At2 (α := EReal) (k0_pay3 (F := Ideal) d) fun r k => D r k * 2 := fun i => by
    show d i * (Scalar.ofBits .bf16 0x4000#16 : Ideal .bf16) = _
    rw [hd i, w_two16]
  have h3 : At2 (α := EReal) (shapeCast S1024x1024 w shapeCasts_S1x1024x1024_S1024x1024) W := fun i =>
    (shapeCast_dropUnit_apply ![1024, 1024] w shapeCasts_S1x1024x1024_S1024x1024 i).trans (hw _)
  have h4 := at2_dot (n := 512) (m := 1024) (K := 1024) (φ := .bf16) (ψ := .bf16) h2 h3 dot_S512x1024_S1024x1024_S512x1024_1_1_0_0_n_n none rfl rfl
    (fun r _ k => D r k * 2) (fun _ c k => W c k) (fun _ _ => rfl) (fun _ _ => rfl)
  exact congrArg₂ (fun a b : EReal => a * Ideal.sqrt b) (h4 i) (hq.cast shapeCasts_S512x1024_S512x1024 i)

theorem pay9 (hd : At2 (α := EReal) d D) (hq : At2 (α := EReal) q Q) (hw : Mat w W) :
    At2 (α := EReal) (k0_pay9 (F := Ideal) (k0_pay3 (F := Ideal) d) (k0_pay7 (F := Ideal) q) w) fun r c => (∑ k ∈ Finset.range 1024, D r k * 2 * W c k) * Ideal.sqrt (Q r c) := pay6 hd hq hw
theorem pay12 (hd : At2 (α := EReal) d D) (hq : At2 (α := EReal) q Q) (hw : Mat w W) :
    At2 (α := EReal) (k0_pay12 (F := Ideal) (k0_pay3 (F := Ideal) d) (k0_pay10 (F := Ideal) q) w) fun r c => (∑ k ∈ Finset.range 1024, D r k * 2 * W c k) * Ideal.sqrt (Q r c) := pay6 hd hq hw
theorem pay15 (hd : At2 (α := EReal) d D) (hq : At2 (α := EReal) q Q) (hw : Mat w W) :
    At2 (α := EReal) (k0_pay1 (F := Ideal) (k0_pay15 (F := Ideal) (k0_pay3 (F := Ideal) d) q w)) fun r c => (∑ k ∈ Finset.range 1024, D r k * 2 * W c k) * Ideal.sqrt (Q r c) := pay6 hd hq hw

end Pay

/-! ## Loads and stores -/

section Loads

variable {sig : RefSig} {κ : Kind} {sp : Space}

/-- A load of a slab of an untouched buffer. -/
theorem ld_part {X : Vec Ideal S4x2x512x1024 .f32} {j : ℕ} {f : ℕ → ℕ → EReal} (hX : Part X j f)
    (inb : ∀ a, (![j, 0, 0, 0] : Fin 4 → ℕ) a + S1x2x512x1024.size a ≤ S4x2x512x1024.size a) :
    Slab (View.ld (Val := Elt Ideal) X (Rect.unit (s := S4x2x512x1024) ![j, 0, 0, 0] S1x2x512x1024.size inb)) f := fun i => by
  have u : ∀ a : Fin 4, (((Rect.unit (s := S4x2x512x1024) ![j, 0, 0, 0] S1x2x512x1024.size inb).emb i) a).val = (![j, 0, 0, 0] : Fin 4 → ℕ) a + (i a).val :=
    fun a => congrArg ((![j, 0, 0, 0] : Fin 4 → ℕ) a + ·) (Nat.one_mul (i a).val)
  have i0 : (i 0).val < 1 := (i 0).isLt
  refine (hX _ ((u 0).trans (by show j + (i 0).val = j; omega))).trans ?_
  have u1 : (((Rect.unit (s := S4x2x512x1024) ![j, 0, 0, 0] S1x2x512x1024.size inb).emb i) 1).val = (i 1).val := (u 1).trans (Nat.zero_add _)
  have u2 : (((Rect.unit (s := S4x2x512x1024) ![j, 0, 0, 0] S1x2x512x1024.size inb).emb i) 2).val = (i 2).val := (u 2).trans (Nat.zero_add _)
  have u3 : (((Rect.unit (s := S4x2x512x1024) ![j, 0, 0, 0] S1x2x512x1024.size inb).emb i) 3).val = (i 3).val := (u 3).trans (Nat.zero_add _)
  rw [u1, u2, u3]

theorem rd_part {a : Memref sig κ sp S4x2x512x1024 .f32} (ha : a.IsWhole) {X : Vec Ideal S4x2x512x1024 .f32} {j : ℕ} {f : ℕ → ℕ → EReal} (hX : Part X j f)
    (inb : ∀ a, (![j, 0, 0, 0] : Fin 4 → ℕ) a + S1x2x512x1024.size a ≤ S4x2x512x1024.size a) :
    Slab (View.readAt (Elt Ideal) a.view (Rect.unit (s := S4x2x512x1024) ![j, 0, 0, 0] S1x2x512x1024.size inb).toLoadRect (ha.unread X)) f := by
  rw [View.readAt_eq_ld, ha.read_unread]; exact ld_part hX inb

/-- A load of columns of a block of rows. -/
theorem rd_at2 {n m n' m' : ℕ} {e : EltTy} {a : Memref sig κ sp ⟨2, ![n, m]⟩ e} (ha : a.IsWhole) {X : Vec Ideal ⟨2, ![n, m]⟩ e} {f : ℕ → ℕ → Elt Ideal e} (hX : At2 X f) (o p : ℕ)
    (inb : ∀ a, (![o, p] : Fin 2 → ℕ) a + (![n', m'] : Fin 2 → ℕ) a ≤ (⟨2, ![n, m]⟩ : Shape).size a) :
    At2 (n := n') (m := m') (View.readAt (Elt Ideal) a.view (Rect.unit (s := ⟨2, ![n, m]⟩) ![o, p] ![n', m'] inb).toLoadRect (ha.unread X)) fun r c => f (o + r) (p + c) := by
  rw [View.readAt_eq_ld, ha.read_unread]
  intro j
  refine (hX _).trans ?_
  have u : ∀ a : Fin 2, (((Rect.unit (s := ⟨2, ![n, m]⟩) ![o, p] ![n', m'] inb).emb j) a).val = (![o, p] : Fin 2 → ℕ) a + (j a).val :=
    fun a => congrArg ((![o, p] : Fin 2 → ℕ) a + ·) (Nat.one_mul (j a).val)
  exact congrArg₂ f (u 0) (u 1)

/-- A load of one of the four weight blocks. -/
theorem rd_mat {a : Memref sig κ sp S4x1024x1024 .bf16} (ha : a.IsWhole) {X : Vec Ideal S4x1024x1024 .bf16} {W : ℕ → ℕ → EReal}
    (hX : ∀ y : S4x1024x1024.Idx, (X y : EReal) = W (1024 * (y 0).val + (y 1).val) (y 2).val) (j : ℕ)
    (inb : ∀ a, (![j, 0, 0] : Fin 3 → ℕ) a + S1x1024x1024.size a ≤ S4x1024x1024.size a) :
    Mat (View.readAt (Elt Ideal) a.view (Rect.unit (s := S4x1024x1024) ![j, 0, 0] S1x1024x1024.size inb).toLoadRect (ha.unread X)) fun c k => W (1024 * j + c) k := by
  rw [View.readAt_eq_ld, ha.read_unread]
  intro i
  refine (hX _).trans ?_
  have u : ∀ a : Fin 3, (((Rect.unit (s := S4x1024x1024) ![j, 0, 0] S1x1024x1024.size inb).emb i) a).val = (![j, 0, 0] : Fin 3 → ℕ) a + (i a).val :=
    fun a => congrArg ((![j, 0, 0] : Fin 3 → ℕ) a + ·) (Nat.one_mul (i a).val)
  have i0 : (i 0).val < 1 := (i 0).isLt
  have u0 : (((Rect.unit (s := S4x1024x1024) ![j, 0, 0] S1x1024x1024.size inb).emb i) 0).val = j := (u 0).trans (by show j + (i 0).val = j; omega)
  have u1 : (((Rect.unit (s := S4x1024x1024) ![j, 0, 0] S1x1024x1024.size inb).emb i) 1).val = (i 1).val := (u 1).trans (Nat.zero_add _)
  have u2 : (((Rect.unit (s := S4x1024x1024) ![j, 0, 0] S1x1024x1024.size inb).emb i) 2).val = (i 2).val := (u 2).trans (Nat.zero_add _)
  exact congrArg₂ W (congrArg₂ (fun a b => 1024 * a + b) u0 u1) u2

variable (v : View sig κ sp S4x2x512x1024 .f32) (B : v.ty.Contents (Elt Ideal))

/-- What a buffer reads after the stores `L`. -/
abbrev rdw (L : List (View.Piece (Elt Ideal) S4x2x512x1024 .f32)) : Vec Ideal S4x2x512x1024 .f32 := v.read (Elt Ideal) (v.writes (Elt Ideal) B L)

variable {L : List (View.Piece (Elt Ideal) S4x2x512x1024 .f32)} {j : ℕ} {f : ℕ → ℕ → EReal}

theorem part_skip (hL : Part (rdw v B L) j f) {q : ℕ} (hq : q ≠ j) (w : Vec Ideal S1x2x512x1024 .f32)
    (inb : ∀ a, (![q, 0, 0, 0] : Fin 4 → ℕ) a + S1x2x512x1024.size a ≤ S4x2x512x1024.size a) :
    Part (rdw v B (⟨Rect.unit (s := S4x2x512x1024) ![q, 0, 0, 0] S1x2x512x1024.size inb, w⟩ :: L)) j f := fun y hy =>
  (View.read_writes_cons_unit_of_not_mem (Val := Elt Ideal) v B inb w L y rfl 0 (by
    show (y 0).val < q ∨ q + 1 ≤ (y 0).val
    omega)).trans (hL y hy)

theorem part_hit {w : Vec Ideal S1x2x512x1024 .f32} (hw : Slab w f) (L : List (View.Piece (Elt Ideal) S4x2x512x1024 .f32)) (j : ℕ)
    (inb : ∀ a, (![j, 0, 0, 0] : Fin 4 → ℕ) a + S1x2x512x1024.size a ≤ S4x2x512x1024.size a) :
    Part (rdw v B (⟨Rect.unit (s := S4x2x512x1024) ![j, 0, 0, 0] S1x2x512x1024.size inb, w⟩ :: L)) j f := fun y hy =>
  (View.read_writes_cons_unit_of_mem (Val := Elt Ideal) v B inb w L y (ix4 (0 : Fin 1) (y 1) (y 2) (y 3)) rfl (fun a => by
    match a with
    | ⟨0, _⟩ => exact hy
    | ⟨1, _⟩ => exact (Nat.zero_add _).symm
    | ⟨2, _⟩ => exact (Nat.zero_add _).symm
    | ⟨3, _⟩ => exact (Nat.zero_add _).symm)).trans (hw _)

theorem part_whole {w : Vec Ideal S4x2x512x1024 .f32} (hw : ∀ y, (w y : EReal) = 0) (L : List (View.Piece (Elt Ideal) S4x2x512x1024 .f32)) (j : ℕ)
    (inb : ∀ a, (![0, 0, 0, 0] : Fin 4 → ℕ) a + S4x2x512x1024.size a ≤ S4x2x512x1024.size a) :
    Part (rdw v B (⟨Rect.unit (s := S4x2x512x1024) ![0, 0, 0, 0] S4x2x512x1024.size inb, w⟩ :: L)) j fun _ _ => 0 := fun y hy =>
  (View.read_writes_cons_unit_of_mem (Val := Elt Ideal) v B inb w L y y rfl (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)).trans (hw _)

/-- A load of a slab after stores that cover the buffer. -/
theorem slab_readCov (hL : Part (rdw v v.junk L) j f) (hcov : ∀ y, ∃ p ∈ L, y ∈ p.1.set)
    (inb : ∀ a, (![j, 0, 0, 0] : Fin 4 → ℕ) a + S1x2x512x1024.size a ≤ S4x2x512x1024.size a) :
    Slab (v.readCov (Val := Elt Ideal) L (Rect.unit (s := S4x2x512x1024) ![j, 0, 0, 0] S1x2x512x1024.size inb).toLoadRect) f := by
  rw [View.readCov_eq_canon_ld (Val := Elt Ideal) v L _ hcov, ← View.read_writes_junk_eq_canon v L]
  exact ld_part hL inb

/-- Reading a slab of a buffer through its own view of two halves. -/
theorem slab_squeezed {M : Memref sig κ sp S4x2x512x1024 .f32} {C : M.view.ty.Contents (Elt Ideal)} (hX : Part (M.view.read (Elt Ideal) C) j f)
    (inb : ∀ a, (![j, 0, 0, 0] : Fin 4 → ℕ) a + S1x2x512x1024.size a ≤ S4x2x512x1024.size a)
    (hr : ∀ a, (Rect.unit (s := S4x2x512x1024) ![j, 0, 0, 0] S1x2x512x1024.size inb).stride a = 1)
    (hq : (Rect.unit (s := S4x2x512x1024) ![j, 0, 0, 0] S1x2x512x1024.size inb).shape.Squeezes S2x512x1024) (y : S2x512x1024.Idx) :
    (((M.slice (Rect.unit (s := S4x2x512x1024) ![j, 0, 0, 0] S1x2x512x1024.size inb) hr).squeeze S2x512x1024 hq).view.read (Elt Ideal) C y : EReal)
      = f (512 * (y 0).val + (y 1).val) (y 2).val := by
  have e := Memref.read_squeeze_slice (Val := Elt Ideal) M (Rect.unit (s := S4x2x512x1024) ![j, 0, 0, 0] S1x2x512x1024.size inb) hr hq
    shapeCasts_S1x2x512x1024_S2x512x1024 C
  rw [e, View.readAt_eq_ld]
  exact (shapeCast_dropUnit_apply ![2, 512, 1024] _ shapeCasts_S1x2x512x1024_S2x512x1024 y).trans (ld_part hX inb _)

theorem symm_halves (h : (⟨3, ![2, 512, 1024]⟩ : Shape).numel = (⟨4, Matrix.vecCons 1 ![2, 512, 1024]⟩ : Shape).numel) (x : (⟨4, Matrix.vecCons 1 ![2, 512, 1024]⟩ : Shape).Idx) :
    (Shape.reshapeEquiv h).symm x = (ix3 (x 1) (x 2) (x 3) : (⟨3, ![2, 512, 1024]⟩ : Shape).Idx) :=
  (Equiv.symm_apply_eq _).2 ((funext fun a => by
    have x0 : (x 0).val < 1 := (x 0).isLt
    match a with
    | ⟨0, _⟩ => exact Fin.ext (by show (x 0).val = 0; omega)
    | ⟨1, _⟩ => rfl
    | ⟨2, _⟩ => rfl
    | ⟨3, _⟩ => rfl).trans (Shape.reshapeEquiv_cons_one h _).symm)

/-- Writing the two halves of a slab through such a view is a store of the slab. -/
theorem part_copied {C : v.ty.Contents (Elt Ideal)} {w : S2x512x1024.Idx → Elt Ideal .f32} (hw : ∀ y, (w y : EReal) = f (512 * (y 0).val + (y 1).val) (y 2).val)
    (inb : ∀ a, (![j, 0, 0, 0] : Fin 4 → ℕ) a + S1x2x512x1024.size a ≤ S4x2x512x1024.size a)
    (hn : S2x512x1024.numel = (Rect.unit (s := S4x2x512x1024) ![j, 0, 0, 0] S1x2x512x1024.size inb).shape.numel) :
    Part (v.read (Elt Ideal) (((v.slice (Rect.unit (s := S4x2x512x1024) ![j, 0, 0, 0] S1x2x512x1024.size inb)).reshape S2x512x1024 hn).write (Elt Ideal) C w Finset.univ)) j f := by
  have e := View.write_reshape_univ (Val := Elt Ideal) (v.slice (Rect.unit (s := S4x2x512x1024) ![j, 0, 0, 0] S1x2x512x1024.size inb)) (s' := S2x512x1024) hn C w
  rw [e]
  refine part_hit v C (w := fun x => w ((Shape.reshapeEquiv _).symm x)) ?_ [] j inb
  intro x
  refine (hw _).trans ?_
  have h := symm_halves hn x
  exact congrArg (fun z : S2x512x1024.Idx => f (512 * (z 0).val + (z 1).val) (z 2).val) h

theorem part_copied_skip {C : v.ty.Contents (Elt Ideal)} (hC : Part (v.read (Elt Ideal) C) j f) {q : ℕ} (hqj : q ≠ j) (w : S2x512x1024.Idx → Elt Ideal .f32)
    (inb : ∀ a, (![q, 0, 0, 0] : Fin 4 → ℕ) a + S1x2x512x1024.size a ≤ S4x2x512x1024.size a)
    (hn : S2x512x1024.numel = (Rect.unit (s := S4x2x512x1024) ![q, 0, 0, 0] S1x2x512x1024.size inb).shape.numel) :
    Part (v.read (Elt Ideal) (((v.slice (Rect.unit (s := S4x2x512x1024) ![q, 0, 0, 0] S1x2x512x1024.size inb)).reshape S2x512x1024 hn).write (Elt Ideal) C w Finset.univ)) j f := by
  have e := View.write_reshape_univ (Val := Elt Ideal) (v.slice (Rect.unit (s := S4x2x512x1024) ![q, 0, 0, 0] S1x2x512x1024.size inb)) (s' := S2x512x1024) hn C w
  rw [e]
  exact part_skip v C (L := []) hC hqj _ inb

/-- Four slabs copied one after another. -/
theorem four_copied {C : v.ty.Contents (Elt Ideal)} {w0 w1 w2 w3 : S2x512x1024.Idx → Elt Ideal .f32} {f : ℕ → ℕ → ℕ → EReal}
    (h0 : ∀ y, (w0 y : EReal) = f 0 (512 * (y 0).val + (y 1).val) (y 2).val) (h1 : ∀ y, (w1 y : EReal) = f 1 (512 * (y 0).val + (y 1).val) (y 2).val)
    (h2 : ∀ y, (w2 y : EReal) = f 2 (512 * (y 0).val + (y 1).val) (y 2).val) (h3 : ∀ y, (w3 y : EReal) = f 3 (512 * (y 0).val + (y 1).val) (y 2).val)
    (b0 : ∀ a, (![0, 0, 0, 0] : Fin 4 → ℕ) a + S1x2x512x1024.size a ≤ S4x2x512x1024.size a) (b1 : ∀ a, (![1, 0, 0, 0] : Fin 4 → ℕ) a + S1x2x512x1024.size a ≤ S4x2x512x1024.size a)
    (b2 : ∀ a, (![2, 0, 0, 0] : Fin 4 → ℕ) a + S1x2x512x1024.size a ≤ S4x2x512x1024.size a) (b3 : ∀ a, (![3, 0, 0, 0] : Fin 4 → ℕ) a + S1x2x512x1024.size a ≤ S4x2x512x1024.size a)
    (n0 : S2x512x1024.numel = (Rect.unit (s := S4x2x512x1024) ![0, 0, 0, 0] S1x2x512x1024.size b0).shape.numel) (n1 : S2x512x1024.numel = (Rect.unit (s := S4x2x512x1024) ![1, 0, 0, 0] S1x2x512x1024.size b1).shape.numel)
    (n2 : S2x512x1024.numel = (Rect.unit (s := S4x2x512x1024) ![2, 0, 0, 0] S1x2x512x1024.size b2).shape.numel) (n3 : S2x512x1024.numel = (Rect.unit (s := S4x2x512x1024) ![3, 0, 0, 0] S1x2x512x1024.size b3).shape.numel)
    (j : ℕ) (hj : j < 4) :
    Part (v.read (Elt Ideal) (((v.slice (Rect.unit (s := S4x2x512x1024) ![3, 0, 0, 0] S1x2x512x1024.size b3)).reshape S2x512x1024 n3).write (Elt Ideal)
      (((v.slice (Rect.unit (s := S4x2x512x1024) ![2, 0, 0, 0] S1x2x512x1024.size b2)).reshape S2x512x1024 n2).write (Elt Ideal)
        (((v.slice (Rect.unit (s := S4x2x512x1024) ![1, 0, 0, 0] S1x2x512x1024.size b1)).reshape S2x512x1024 n1).write (Elt Ideal)
          (((v.slice (Rect.unit (s := S4x2x512x1024) ![0, 0, 0, 0] S1x2x512x1024.size b0)).reshape S2x512x1024 n0).write (Elt Ideal) C w0 Finset.univ) w1 Finset.univ) w2 Finset.univ) w3 Finset.univ)) j (f j) := by
  obtain rfl | rfl | rfl | rfl := lt4 hj
  · exact part_copied_skip v (part_copied_skip v (part_copied_skip v (part_copied v h0 b0 n0) (by omega) w1 b1 n1) (by omega) w2 b2 n2) (by omega) w3 b3 n3
  · exact part_copied_skip v (part_copied_skip v (part_copied v h1 b1 n1) (by omega) w2 b2 n2) (by omega) w3 b3 n3
  · exact part_copied_skip v (part_copied v h2 b2 n2) (by omega) w3 b3 n3
  · exact part_copied v h3 b3 n3

end Loads

end Cert.Fc2

end
-- ==== Proof.Fc2Kit.lean ====
/-
  What the runs of the fc2 gradient kernel are stated over: the two conditions of its body in closed form, the
  buffers it is called with at a grid point, and the invariant the launch hands to the first point. The kernel
  sums the weight gradient in a scratch over the 8 points and, at the last, copies each of its 4 shards to the
  result in HBM, waiting for the copies before it returns.
-/
module

public import proofs.«01_k».proof.Proof.Gen.Kernel2Ideal.Frame
public import proofs.«01_k».proof.Proof.Gen.Kernel2Ideal.Skeleton
public import Idealize.ShloMosaic.Lib.Pipeline.FrameValue

@[expose] public section

set_option maxRecDepth 16384

noncomputable section

namespace Cert.Fc2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option maxHeartbeats 800000 in
/-- The host operations, then the region, at the algebra that has the copies' counters. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1]
    (by simp only [List.Forall]; exact ⟨hostOps0_sub, hostOps0_1_sub⟩)
    (by simp only [List.Forall]; exact ⟨hostOps0_fresh, hostOps0_1_fresh⟩) main_chain

/-- A staged input that the body leaves in place is its block at every point. -/
theorem before_0 {c : Dev nD} (dat : Dat τ (Elt F) Unit ℕ (Pipeline.UD sig nD τ) ℕ cfg0 c)
    (hA : dat.A 0 = V m c (Pipeline.arrRef spec0 0)) (hk : ∀ t, dat.after 0 t = iblk m c 0 t) (t : Fin cfg0.N) (d) :
    dat.before 0 t d = iblk m c 0 t :=
  (dat.before_in_eq_fetched 0 rfl (fun _ => rfl) (fun _ _ _ => rfl)
    (fun t => by rw [hk]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c)
    (hA : dat.A 1 = V m c (Pipeline.arrRef spec0 1)) (hk : ∀ t, dat.after 1 t = iblk m c 1 t) (t : Fin cfg0.N) (d) :
    dat.before 1 t d = iblk m c 1 t :=
  (dat.before_in_eq_fetched 1 rfl (fun _ => rfl) (fun _ _ _ => rfl)
    (fun t => by rw [hk]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c)
    (hA : dat.A 2 = V m c (Pipeline.arrRef spec0 2)) (hk : ∀ t, dat.after 2 t = iblk m c 2 t) (t : Fin cfg0.N) (d) :
    dat.before 2 t d = iblk m c 2 t :=
  (dat.before_in_eq_fetched 2 rfl (fun _ => rfl) (fun _ _ _ => rfl)
    (fun t => by rw [hk]; unfold Dat.blockOf iblk; rw [hA]; try rfl) t d).trans
    (by unfold Dat.fetched Dat.blockOf iblk; rw [hA]; try rfl)

/-! ## The conditions of the body -/

/-- The body is at the first point: it zeroes the scratch. -/
abbrev first (i : grid0.Coords) : Prop :=
  (Scalar.cmpi .ne (Scalar.extui (Scalar.cmpi .eq (BitVec.ofNat 32 (i 0).val) 0#32)) 0#32) = 1#1
/-- The body is at the last point: it copies the scratch out. -/
abbrev last (i : grid0.Coords) : Prop :=
  (Scalar.cmpi .ne (Scalar.extui (Scalar.cmpi .eq (BitVec.ofNat 32 (i 0).val) 7#32)) 0#32) = 1#1

theorem first_iff : ∀ t : Fin grid0.N, first (grid0.coords t) ↔ t.val = 0 := fun t => by
  have ht : t.val < 8 := Nat.lt_of_lt_of_eq t.isLt N_0
  have e0 : (grid0.coords t 0).val = t.val / 1 % 8 := Pipeline.Grid.coords_val t 0 (by decide) rfl
  have e1 : t.val / 1 % 8 = t.val := by omega
  simp only [first, e0, e1]
  word_cmp
theorem last_iff : ∀ t : Fin grid0.N, last (grid0.coords t) ↔ t.val = 7 := fun t => by
  have ht : t.val < 8 := Nat.lt_of_lt_of_eq t.isLt N_0
  have e0 : (grid0.coords t 0).val = t.val / 1 % 8 := Pipeline.Grid.coords_val t 0 (by decide) rfl
  have e1 : t.val / 1 % 8 = t.val := by omega
  simp only [last, e0, e1]
  word_cmp

/-! ## The buffers of the body -/

/-- Each window's staging buffer at a point, as the pipeline passes it. -/
abbrev st0 (t : Fin cfg0.N) : Memref sig .tc .vmem S512x1024 .bf16 := win0_0.stage (cfg0.slots t 0)
abbrev st1 (t : Fin cfg0.N) : Memref sig .tc .vmem S512x4096 .bf16 := win0_1.stage (cfg0.slots t 1)
abbrev st2 (t : Fin cfg0.N) : Memref sig .tc .vmem S4x1024x1024 .bf16 := win0_2.stage (cfg0.slots t 2)
abbrev st3 (t : Fin cfg0.N) : Memref sig .tc .vmem S512x4096 .bf16 := win0_3.stage (cfg0.slots t 3)
abbrev hst0 (t : Fin cfg0.N) : (st0 t).IsWhole := hstage0_0 ((cfg0.slots t 0).cast nbuf0_0)
abbrev hst1 (t : Fin cfg0.N) : (st1 t).IsWhole := hstage0_1 ((cfg0.slots t 1).cast nbuf0_1)
abbrev hst2 (t : Fin cfg0.N) : (st2 t).IsWhole := hstage0_2 ((cfg0.slots t 2).cast nbuf0_2)
abbrev hst3 (t : Fin cfg0.N) : (st3 t).IsWhole := hstage0_3 ((cfg0.slots t 3).cast nbuf0_3)
/-- The scratch that sums the weight gradient, and the result it is copied to. -/
abbrev accM : Memref sig .tc .vmem S4x2x512x1024 .f32 := Memref.whole cc0_scratch0
abbrev outM : Memref sig .tc .hbm S4x2x512x1024 .f32 := Memref.whole main_v5_1
/-- A memref's buffer on a core, and the buffer held whole. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The 4 semaphores of the copies, at zero. -/
abbrev cells : Fin 4 → SemLoc sig := fun j => (![SemLoc.dma 7, SemLoc.dma 8, SemLoc.dma 9, SemLoc.dma 10] : Fin 4 → SemLoc sig) j
theorem cells_own : Pipeline.OwnSemFacts spec0 cells := by decide
abbrev cells0 (c : Dev nD) : sProp 𝕄 :=
  iprop(semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0)
theorem cells0_eq (c : Dev nD) :
    (Pipeline.ownSems0 (Ix := Unit) (Name := ℕ) (U := Pipeline.UD sig nD τ) (Lvl := ℕ) (Val := Elt F) (τ := τ) cells c : sProp 𝕄) = cells0 c := by
  rw [Pipeline.ownSems0_eq_of_list c cells [0, 1, 2, 3] (by decide) (by decide)]; rfl

/-- The one buffer the body writes by its own copies. -/
def written : Finset (Ref sig .tc) := {main_v5_1}
theorem written_sub : written ⊆ Pipeline.restRefs sig spec0 \ ∅ := by decide
theorem routed_eq (c : Dev nD) (W : (b : Ref sig .tc) → Buf (Elt F) ((c : Thread nD τ).loc b)) :
    (Pipeline.routed written c W : sProp 𝕄) = held c outM (W main_v5_1) := by
  unfold Pipeline.routed; rw [BI.bigSep_eq_bigSepL_of_eq [main_v5_1] (by decide) (by decide)]; rfl

/-- What the launch hands the first point, and what the last gives back, conjunct by conjunct. -/
theorem inv_eq (G : (c : Dev nD) → (b : Ref sig .tc) → Buf (Elt F) ((c : Thread nD τ).loc b)) (c : Dev nD) :
    (Pipeline.ΦDRG cells spec0 ∅ written (V m) G c : sProp 𝕄)
      = iprop((∃ d, owns (c : Thread nD τ) accM fullShare d) ∗ (∃ r, prngReg c r) ∗ cells0 c ∗ emp ∗ held c outM (G c main_v5_1)) := by
  rw [Pipeline.ΦDRG_eq, scopedRest0_eq, cells0_eq, routed_eq, BI.bigSep_empty]; simp only [accM, owns_whole]; try rfl

end Cert.Fc2

end
-- ==== Proof.Fc2Mid.lean ====
/-
  The runs of the fc2 gradient kernel's body at the grid points before the last.
-/
module

public import proofs.«01_k».proof.Proof.Fc2Kit

@[expose] public section

set_option maxRecDepth 16384

noncomputable section

namespace Cert.Fc2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
/-- At the first point the body zeroes the scratch, adds the first tile to it and writes `dp`'s block: both end
    with the pieces the run finds. -/
noncomputable def runFirst (c : Dev nD) (i : grid0.Coords)
    (arg1 : Memref sig .tc .vmem S512x1024 .bf16) (harg1 : arg1.IsWhole) (arg2 : Memref sig .tc .vmem S512x4096 .bf16) (harg2 : arg2.IsWhole)
    (arg3 : Memref sig .tc .vmem S4x1024x1024 .bf16) (harg3 : arg3.IsWhole) (arg4 : Memref sig .tc .vmem S512x4096 .bf16) (harg4 : arg4.IsWhole)
    (h0 : first i) (h7 : ¬last i)
    (x0 : Vec F S512x1024 .bf16) (x1 : Vec F S512x4096 .bf16) (x2 : Vec F S4x1024x1024 .bf16) :
    Σ' (P : List (View.Piece (Elt F) S512x4096 .bf16)), { S : List (View.Piece (Elt F) S4x2x512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) accM fullShare d) ∗ owes (c : Thread nD τ) 0 W
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f P)
                ∗ (∃ f, accM.view.loc (c : Thread nD τ) ↦[accM.view.set]{fullShare} accM.view.writes (Elt F) f S)
                ∗ (∃ W', owes (c : Thread nD τ) 0 W')) -∗ K ⟨⟩))
          ⊢ wp frame (wpE (defs₀ (F := F)) Variants.none c none) Set.univ
              (cc0_bwd_fc2 i arg1 harg1 arg2 harg2 arg3 harg3 arg4 harg4 outM (Memref.isWhole_whole _) accM (Memref.isWhole_whole _) cc0_scratch1) K } := by
  refine ⟨?_, ?_, fun W K => ?run⟩
  case run =>
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%ds, %fs, -, HS⟩, HW, Hk⟩
    obtain rfl := harg1.eq_unread hf0; obtain rfl := harg2.eq_unread hf1; obtain rfl := harg3.eq_unread hf2
    sl_exec (disch := first | sl_exact h0 | sl_exact h7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS]; · iexists _; iexact HS
    iexists _; iexact HW

set_option maxHeartbeats 2000000 in
/-- Between the first point and the last the body adds its tile to the scratch and writes `dp`'s block. -/
noncomputable def runMid (c : Dev nD) (i : grid0.Coords)
    (arg1 : Memref sig .tc .vmem S512x1024 .bf16) (harg1 : arg1.IsWhole) (arg2 : Memref sig .tc .vmem S512x4096 .bf16) (harg2 : arg2.IsWhole)
    (arg3 : Memref sig .tc .vmem S4x1024x1024 .bf16) (harg3 : arg3.IsWhole) (arg4 : Memref sig .tc .vmem S512x4096 .bf16) (harg4 : arg4.IsWhole)
    (h0 : ¬first i) (h7 : ¬last i)
    (x0 : Vec F S512x1024 .bf16) (x1 : Vec F S512x4096 .bf16) (x2 : Vec F S4x1024x1024 .bf16) (s : Vec F S4x2x512x1024 .f32) :
    Σ' (P : List (View.Piece (Elt F) S512x4096 .bf16)), { S : List (View.Piece (Elt F) S4x2x512x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) accM fullShare s ∗ owes (c : Thread nD τ) 0 W
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f P)
                ∗ (∃ f, accM.view.loc (c : Thread nD τ) ↦[accM.view.set]{fullShare} accM.view.writes (Elt F) f S)
                ∗ (∃ W', owes (c : Thread nD τ) 0 W')) -∗ K ⟨⟩))
          ⊢ wp frame (wpE (defs₀ (F := F)) Variants.none c none) Set.univ
              (cc0_bwd_fc2 i arg1 harg1 arg2 harg2 arg3 harg3 arg4 harg4 outM (Memref.isWhole_whole _) accM (Memref.isWhole_whole _) cc0_scratch1) K } := by
  refine ⟨?_, ?_, fun W K => ?run⟩
  case run =>
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%fs, %hfs, HS⟩, HW, Hk⟩
    obtain rfl := harg1.eq_unread hf0; obtain rfl := harg2.eq_unread hf1; obtain rfl := harg3.eq_unread hf2
    obtain rfl := (Memref.isWhole_whole cc0_scratch0).eq_unread hfs
    sl_exec (disch := first | sl_exact h0 | sl_exact h7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS]; · iexists _; iexact HS
    iexists _; iexact HW

end Cert.Fc2

end
-- ==== Proof.Fc2Last.lean ====
/-
  The run of the fc2 gradient kernel's body at the last grid point.
-/
module

public import proofs.«01_k».proof.Proof.Fc2Kit

@[expose] public section

set_option maxRecDepth 16384

noncomputable section

namespace Cert.Fc2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 2000000 in
set_option sl_exec.dmaWindow true in
/-- At the last point the body also copies each shard of the scratch to the result as soon as it is complete, and
    waits for the 4 copies at its end: the scratch and `dp`'s block end with the pieces the run finds, the result
    with the contents it finds, and the semaphores at zero. -/
noncomputable def runLast (c : Dev nD) (i : grid0.Coords)
    (arg1 : Memref sig .tc .vmem S512x1024 .bf16) (harg1 : arg1.IsWhole) (arg2 : Memref sig .tc .vmem S512x4096 .bf16) (harg2 : arg2.IsWhole)
    (arg3 : Memref sig .tc .vmem S4x1024x1024 .bf16) (harg3 : arg3.IsWhole) (arg4 : Memref sig .tc .vmem S512x4096 .bf16) (harg4 : arg4.IsWhole)
    (h0 : ¬first i) (h7 : last i)
    (x0 : Vec F S512x1024 .bf16) (x1 : Vec F S512x4096 .bf16) (x2 : Vec F S4x1024x1024 .bf16) (s : Vec F S4x2x512x1024 .f32) (g : BufOf (F := F) c outM) :
    Σ' (P : List (View.Piece (Elt F) S512x4096 .bf16)), Σ' (S : List (View.Piece (Elt F) S4x2x512x1024 .f32)), { o : BufOf (F := F) c outM //
      ∀ (W : Waits sig Unit) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) accM fullShare s ∗ cells0 c ∗ held c outM g ∗ owes (c : Thread nD τ) 0 W
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f P)
                ∗ (∃ f, accM.view.loc (c : Thread nD τ) ↦[accM.view.set]{fullShare} accM.view.writes (Elt F) f S)
                ∗ cells0 c ∗ held c outM o ∗ (∃ W', owes (c : Thread nD τ) 0 W')) -∗ K ⟨⟩))
          ⊢ wp frame (wpE (defs₀ (F := F)) Variants.none c none) Set.univ
              (cc0_bwd_fc2 i arg1 harg1 arg2 harg2 arg3 harg3 arg4 harg4 outM (Memref.isWhole_whole _) accM (Memref.isWhole_whole _) cc0_scratch1) K } := by
  refine ⟨?_, ?_, ?_, fun W K => ?run⟩
  case run =>
    simp only [cc0_bwd_fc2_eq_skeleton]; unfold cc0_bwd_fc2_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%fs, %hfs, HS⟩, ⟨Hq0, Hq1, Hq2, Hq3⟩, Hh, HW, Hk⟩
    obtain rfl := harg1.eq_unread hf0; obtain rfl := harg2.eq_unread hf1; obtain rfl := harg3.eq_unread hf2
    obtain rfl := (Memref.isWhole_whole cc0_scratch0).eq_unread hfs
    sl_exec (disch := first | sl_exact h0 | sl_exact h7)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS]; · iexists _; iexact HS
    isplitl [Hq0 Hq1 Hq2 Hq3]
    · isplitl [Hq0]; · iexact Hq0
      isplitl [Hq1]; · iexact Hq1
      isplitl [Hq2]; · iexact Hq2
      iexact Hq3
    isplitl [Hh]; · iexact Hh
    iexists _; iexact HW

end Cert.Fc2

end
-- ==== Proof.Fc2Data.lean ====
/-
  What the fc2 gradient kernel leaves after each grid point: `dp`'s block, the scratch, and after the last point
  the result that the copies write.
-/
module

public import proofs.«01_k».proof.Proof.Fc2Mid
public import proofs.«01_k».proof.Proof.Fc2Last

@[expose] public section

set_option maxRecDepth 16384

noncomputable section

namespace Cert.Fc2

open Cert.Kernel2Ideal Cert.Kernel2Ideal.Gen
open Idealize.ShloMosaic Idealize.ShloMosaic.TcCoe Idealize.ShloMosaic.Tactic
open Idealize.ShloMosaic.Rounds

variable {F : FTy → Type} [FloatOps F]

variable (m : (ℓ : Loc nD τ sig) → Buf (Elt F) ℓ)

/-- A view of each of the two shapes, through which a list of stores is read back. -/
abbrev dpV : View sig .tc .vmem S512x4096 .bf16 := (Memref.whole cc0_stg3_0 : Memref sig .tc .vmem S512x4096 .bf16).view
abbrev accV : View sig .tc .vmem S4x2x512x1024 .f32 := accM.view

/-- What a list of stores leaves. -/
def dpOf (P : List (View.Piece (Elt F) S512x4096 .bf16)) : Vec F S512x4096 .bf16 := dpV.read (Elt F) (dpV.writes (Elt F) dpV.junk P)
def accOf (S : List (View.Piece (Elt F) S4x2x512x1024 .f32)) : Vec F S4x2x512x1024 .f32 := accV.read (Elt F) (accV.writes (Elt F) accV.junk S)

section Point

variable (c : Dev nD) (i : grid0.Coords)
    (arg1 : Memref sig .tc .vmem S512x1024 .bf16) (harg1 : arg1.IsWhole) (arg2 : Memref sig .tc .vmem S512x4096 .bf16) (harg2 : arg2.IsWhole)
    (arg3 : Memref sig .tc .vmem S4x1024x1024 .bf16) (harg3 : arg3.IsWhole) (arg4 : Memref sig .tc .vmem S512x4096 .bf16) (harg4 : arg4.IsWhole)
    (x0 : Vec F S512x1024 .bf16) (x1 : Vec F S512x4096 .bf16) (x2 : Vec F S4x1024x1024 .bf16) (s : Vec F S4x2x512x1024 .f32) (g : BufOf (F := F) c outM)

theorem dp_first (h0 : first i) (h7 : ¬last i) (y : S512x4096.Idx) :
    ∃ p ∈ (runFirst c i arg1 harg1 arg2 harg2 arg3 harg3 arg4 harg4 h0 h7 x0 x1 x2).1, y ∈ p.1.set :=
  View.cover_of_tiledL (runFirst c i arg1 harg1 arg2 harg2 arg3 harg3 arg4 harg4 h0 h7 x0 x1 x2).1 S512x1024.size (by sl_kernel_rfl) y
theorem acc_first (h0 : first i) (h7 : ¬last i) (y : S4x2x512x1024.Idx) :
    ∃ p ∈ (runFirst c i arg1 harg1 arg2 harg2 arg3 harg3 arg4 harg4 h0 h7 x0 x1 x2).2.1, y ∈ p.1.set :=
  View.cover_of_wholeMem (runFirst c i arg1 harg1 arg2 harg2 arg3 harg3 arg4 harg4 h0 h7 x0 x1 x2).2.1 (by sl_whole_mem) y
theorem dp_mid (h0 : ¬first i) (h7 : ¬last i) (y : S512x4096.Idx) :
    ∃ p ∈ (runMid c i arg1 harg1 arg2 harg2 arg3 harg3 arg4 harg4 h0 h7 x0 x1 x2 s).1, y ∈ p.1.set :=
  View.cover_of_tiledL (runMid c i arg1 harg1 arg2 harg2 arg3 harg3 arg4 harg4 h0 h7 x0 x1 x2 s).1 S512x1024.size (by sl_kernel_rfl) y
theorem acc_mid (h0 : ¬first i) (h7 : ¬last i) (y : S4x2x512x1024.Idx) :
    ∃ p ∈ (runMid c i arg1 harg1 arg2 harg2 arg3 harg3 arg4 harg4 h0 h7 x0 x1 x2 s).2.1, y ∈ p.1.set :=
  View.cover_of_tiledL (runMid c i arg1 harg1 arg2 harg2 arg3 harg3 arg4 harg4 h0 h7 x0 x1 x2 s).2.1 S1x2x512x1024.size (by sl_kernel_rfl) y
theorem dp_last (h0 : ¬first i) (h7 : last i) (y : S512x4096.Idx) :
    ∃ p ∈ (runLast c i arg1 harg1 arg2 harg2 arg3 harg3 arg4 harg4 h0 h7 x0 x1 x2 s g).1, y ∈ p.1.set :=
  View.cover_of_tiledL (runLast c i arg1 harg1 arg2 harg2 arg3 harg3 arg4 harg4 h0 h7 x0 x1 x2 s g).1 S512x1024.size (by sl_kernel_rfl) y
theorem acc_last (h0 : ¬first i) (h7 : last i) (y : S4x2x512x1024.Idx) :
    ∃ p ∈ (runLast c i arg1 harg1 arg2 harg2 arg3 harg3 arg4 harg4 h0 h7 x0 x1 x2 s g).2.1, y ∈ p.1.set :=
  View.cover_of_tiledL (runLast c i arg1 harg1 arg2 harg2 arg3 harg3 arg4 harg4 h0 h7 x0 x1 x2 s g).2.1 S1x2x512x1024.size (by sl_kernel_rfl) y

end Point

/-! ## The three runs at a point of the grid -/

abbrev pFirst (c : Dev nD) (t : Fin cfg0.N) (h0 : t.val = 0) (h7 : t.val ≠ 7) :=
  runFirst (F := F) c (grid0.coords t) (st0 t) (hst0 t) (st1 t) (hst1 t) (st2 t) (hst2 t) (st3 t) (hst3 t)
    ((first_iff t).2 h0) (fun h => h7 ((last_iff t).1 h)) (iblk m c 0 t) (iblk m c 1 t) (iblk m c 2 t)
abbrev pMid (c : Dev nD) (t : Fin cfg0.N) (h0 : t.val ≠ 0) (h7 : t.val ≠ 7) (s : Vec F S4x2x512x1024 .f32) :=
  runMid (F := F) c (grid0.coords t) (st0 t) (hst0 t) (st1 t) (hst1 t) (st2 t) (hst2 t) (st3 t) (hst3 t)
    (fun h => h0 ((first_iff t).1 h)) (fun h => h7 ((last_iff t).1 h)) (iblk m c 0 t) (iblk m c 1 t) (iblk m c 2 t) s
abbrev pLast (c : Dev nD) (t : Fin cfg0.N) (h0 : t.val ≠ 0) (h7 : t.val = 7) (s : Vec F S4x2x512x1024 .f32) :=
  runLast (F := F) c (grid0.coords t) (st0 t) (hst0 t) (st1 t) (hst1 t) (st2 t) (hst2 t) (st3 t) (hst3 t)
    (fun h => h0 ((first_iff t).1 h)) ((last_iff t).2 h7) (iblk m c 0 t) (iblk m c 1 t) (iblk m c 2 t) s (V m c main_v5_1)

/-- `dp`'s block, the scratch and the result after the points up to `n`. -/
def after (c : Dev nD) : (n : ℕ) → n < cfg0.N → Vec F S512x4096 .bf16 × Vec F S4x2x512x1024 .f32 × BufOf (F := F) c outM
  | 0, hn =>
    (dpOf (pFirst m c ⟨0, hn⟩ rfl (by show (0 : ℕ) ≠ 7; omega)).1, accOf (pFirst m c ⟨0, hn⟩ rfl (by show (0 : ℕ) ≠ 7; omega)).2.1, V m c main_v5_1)
  | n + 1, hn =>
    if h7 : n + 1 = 7 then
      (dpOf (pLast m c ⟨n + 1, hn⟩ (Nat.succ_ne_zero n) h7 (after c n (Nat.lt_of_succ_lt hn)).2.1).1,
        accOf (pLast m c ⟨n + 1, hn⟩ (Nat.succ_ne_zero n) h7 (after c n (Nat.lt_of_succ_lt hn)).2.1).2.1,
        (pLast m c ⟨n + 1, hn⟩ (Nat.succ_ne_zero n) h7 (after c n (Nat.lt_of_succ_lt hn)).2.1).2.2.1)
    else
      (dpOf (pMid m c ⟨n + 1, hn⟩ (Nat.succ_ne_zero n) h7 (after c n (Nat.lt_of_succ_lt hn)).2.1).1,
        accOf (pMid m c ⟨n + 1, hn⟩ (Nat.succ_ne_zero n) h7 (after c n (Nat.lt_of_succ_lt hn)).2.1).2.1, V m c main_v5_1)

/-- The scratch before point `n`. -/
abbrev accBefore (c : Dev nD) (t : Fin cfg0.N) : Vec F S4x2x512x1024 .f32 := (after m c (t.val - 1) (by omega)).2.1

theorem after_first (c : Dev nD) (t : Fin cfg0.N) (h0 : t.val = 0) (h7 : t.val ≠ 7) :
    after m c t.val t.isLt = (dpOf (pFirst m c t h0 h7).1, accOf (pFirst m c t h0 h7).2.1, V m c main_v5_1) := by
  obtain ⟨n, hn⟩ := t
  obtain rfl : n = 0 := h0
  unfold after; rfl
theorem after_last (c : Dev nD) (t : Fin cfg0.N) (h0 : t.val ≠ 0) (h7 : t.val = 7) :
    after m c t.val t.isLt = (dpOf (pLast m c t h0 h7 (accBefore m c t)).1, accOf (pLast m c t h0 h7 (accBefore m c t)).2.1, (pLast m c t h0 h7 (accBefore m c t)).2.2.1) := by
  obtain ⟨n, hn⟩ := t
  cases n with
  | zero => exact absurd rfl h0
  | succ n => show after m c (n + 1) hn = _; rw [after]; exact dif_pos h7
theorem after_mid (c : Dev nD) (t : Fin cfg0.N) (h0 : t.val ≠ 0) (h7 : t.val ≠ 7) :
    after m c t.val t.isLt = (dpOf (pMid m c t h0 h7 (accBefore m c t)).1, accOf (pMid m c t h0 h7 (accBefore m c t)).2.1, V m c main_v5_1) := by
  obtain ⟨n, hn⟩ := t
  cases n with
  | zero => exact absurd rfl h0
  | succ n => show after m c (n + 1) hn = _; rw [after]; exact dif_neg h7

/-- Up to the last point the result is as the region found it. -/
theorem kept (c : Dev nD) (n : ℕ) (hn : n < cfg0.N) (h7 : n ≠ 7) : (after m c n hn).2.2 = V m c main_v5_1 := by
  cases n with
  | zero => rw [after]
  | succ n => unfold after; rw [dif_neg h7]

end Cert.Fc2

end
-- ==== Proof.Fc2Tile.lean ====
/- What the three runs of the fc2 gradient kernel's body leave: the block of `dp`, the four slabs of the scratch, and
   at the last point the result. -/
module

public import proofs.«01_k».proof.Proof.Fc2Arr
public import proofs.«01_k».proof.Proof.Fc2Data

@[expose] public section

set_option maxRecDepth 16384

noncomputable section

namespace Cert.Fc2

open Cert.Kernel2Ideal Cert.Kernel2Ideal.Gen Cert.Arr
open Idealize.ShloMosaic Idealize.ShloMosaic.TcCoe Idealize.ShloMosaic.ValueIdx
open scoped BigOperators

/-- A block stored as four blocks of 1024 columns. -/
theorem dp_out {G : ℕ → ℕ → EReal} {a0 a1 a2 a3 : Vec Ideal S512x1024 .bf16}
    (h0 : At2 (α := EReal) a0 fun r c => G (0 + r) (0 + c)) (h1 : At2 (α := EReal) a1 fun r c => G (0 + r) (1024 + c))
    (h2 : At2 (α := EReal) a2 fun r c => G (0 + r) (2048 + c)) (h3 : At2 (α := EReal) a3 fun r c => G (0 + r) (3072 + c))
    (L : List (View.Piece (Elt Ideal) S512x4096 .bf16))
    (e : L = [⟨Rect.unit ![0, 3072] S512x1024.size inb_S512x4096_S512x1024_0_3072, a3⟩, ⟨Rect.unit ![0, 2048] S512x1024.size inb_S512x4096_S512x1024_0_2048, a2⟩,
      ⟨Rect.unit ![0, 1024] S512x1024.size inb_S512x4096_S512x1024_0_1024, a1⟩, ⟨Rect.unit ![0, 0] S512x1024.size inb_S512x4096_S512x1024_0_0, a0⟩])
    (hcov : ∀ y, ∃ p ∈ L, y ∈ p.1.set) :
    At2 (α := EReal) (dpOf (F := Ideal) L) G := fun y => by
  unfold dpOf
  rw [View.read_writes_junk_eq_canon]
  refine View.canon_apply_of_pieces (Val := Elt Ideal) (fun y : S512x4096.Idx => G (y 0).val (y 1).val) L ?_ y (hcov y)
  subst e
  intro p hp
  simp only [List.mem_cons, List.not_mem_nil, or_false] at hp
  obtain rfl | rfl | rfl | rfl := hp
  · exact fun x => At2.piece 0 3072 h3 inb_S512x4096_S512x1024_0_3072 x
  · exact fun x => At2.piece 0 2048 h2 inb_S512x4096_S512x1024_0_2048 x
  · exact fun x => At2.piece 0 1024 h1 inb_S512x4096_S512x1024_0_1024 x
  · exact fun x => At2.piece 0 0 h0 inb_S512x4096_S512x1024_0_0 x

section Point

variable (c : Dev nD) (i : grid0.Coords)
    (arg1 : Memref sig .tc .vmem S512x1024 .bf16) (harg1 : arg1.IsWhole) (arg2 : Memref sig .tc .vmem S512x4096 .bf16) (harg2 : arg2.IsWhole)
    (arg3 : Memref sig .tc .vmem S4x1024x1024 .bf16) (harg3 : arg3.IsWhole) (arg4 : Memref sig .tc .vmem S512x4096 .bf16) (harg4 : arg4.IsWhole)
    (x0 : Vec Ideal S512x1024 .bf16) (x1 : Vec Ideal S512x4096 .bf16) (x2 : Vec Ideal S4x1024x1024 .bf16) (s : Vec Ideal S4x2x512x1024 .f32) (g : BufOf (F := Ideal) c outM)
    {D Q W : ℕ → ℕ → EReal} {S : ℕ → ℕ → EReal}

/-- The gradient block of one tile. -/
def tileDp (D Q W : ℕ → ℕ → EReal) (r f : ℕ) : EReal := (∑ k ∈ Finset.range 1024, D r k * 2 * W f k) * Ideal.sqrt (Q r f)

/-- A slab after one tile, from what it held. -/
def tileDw (D Q S : ℕ → ℕ → EReal) (j a c : ℕ) : EReal := S (1024 * j + a) c + ∑ r ∈ Finset.range 512, Q r (1024 * j + a) * D r c

theorem whole_df (h : At2 (α := EReal) x0 D) :
    At2 (α := EReal) (View.readAt (Elt Ideal) arg1.view (Rect.unit (s := S512x1024) ![0, 0] S512x1024.size inb_S512x1024_S512x1024_0_0).toLoadRect (harg1.unread x0)) D := by
  have e := rd_at2 (e := .bf16) (n' := 512) (m' := 1024) harg1 h 0 0 inb_S512x1024_S512x1024_0_0
  simp only [Nat.zero_add] at e
  exact e

theorem cols_q (h : At2 (α := EReal) x1 Q) (j : ℕ) (inb : ∀ a, (![0, j] : Fin 2 → ℕ) a + S512x1024.size a ≤ S512x4096.size a) :
    At2 (α := EReal) (View.readAt (Elt Ideal) arg2.view (Rect.unit (s := S512x4096) ![0, j] S512x1024.size inb).toLoadRect (harg2.unread x1)) fun r a => Q r (j + a) := by
  have e := rd_at2 (e := .bf16) (n' := 512) (m' := 1024) harg2 h 0 j inb
  simp only [Nat.zero_add] at e
  exact e

variable (hd : At2 (α := EReal) x0 D) (hq : At2 (α := EReal) x1 Q) (hw : ∀ y : S4x1024x1024.Idx, (x2 y : EReal) = W (1024 * (y 0).val + (y 1).val) (y 2).val)

include hd hq hw in
theorem dp_of {L : List (View.Piece (Elt Ideal) S512x4096 .bf16)} (hcov : ∀ y, ∃ p ∈ L, y ∈ p.1.set)
    (e : L = [⟨Rect.unit ![0, 3072] S512x1024.size inb_S512x4096_S512x1024_0_3072, k0_pay1 (F := Ideal) (k0_pay15 (k0_pay3 (View.readAt (Elt Ideal) arg1.view (Rect.unit (s := S512x1024) ![0, 0] S512x1024.size inb_S512x1024_S512x1024_0_0).toLoadRect (harg1.unread x0)))
            (View.readAt (Elt Ideal) arg2.view (Rect.unit (s := S512x4096) ![0, 3072] S512x1024.size inb_S512x4096_S512x1024_0_3072).toLoadRect (harg2.unread x1))
            (View.readAt (Elt Ideal) arg3.view (Rect.unit (s := S4x1024x1024) ![3, 0, 0] S1x1024x1024.size inb_S4x1024x1024_S1x1024x1024_3_0_0).toLoadRect (harg3.unread x2)))⟩,
      ⟨Rect.unit ![0, 2048] S512x1024.size inb_S512x4096_S512x1024_0_2048, k0_pay12 (F := Ideal) (k0_pay3 (View.readAt (Elt Ideal) arg1.view (Rect.unit (s := S512x1024) ![0, 0] S512x1024.size inb_S512x1024_S512x1024_0_0).toLoadRect (harg1.unread x0)))
            (k0_pay10 (View.readAt (Elt Ideal) arg2.view (Rect.unit (s := S512x4096) ![0, 2048] S512x1024.size inb_S512x4096_S512x1024_0_2048).toLoadRect (harg2.unread x1)))
            (View.readAt (Elt Ideal) arg3.view (Rect.unit (s := S4x1024x1024) ![2, 0, 0] S1x1024x1024.size inb_S4x1024x1024_S1x1024x1024_2_0_0).toLoadRect (harg3.unread x2))⟩,
      ⟨Rect.unit ![0, 1024] S512x1024.size inb_S512x4096_S512x1024_0_1024, k0_pay9 (F := Ideal) (k0_pay3 (View.readAt (Elt Ideal) arg1.view (Rect.unit (s := S512x1024) ![0, 0] S512x1024.size inb_S512x1024_S512x1024_0_0).toLoadRect (harg1.unread x0)))
            (k0_pay7 (View.readAt (Elt Ideal) arg2.view (Rect.unit (s := S512x4096) ![0, 1024] S512x1024.size inb_S512x4096_S512x1024_0_1024).toLoadRect (harg2.unread x1)))
            (View.readAt (Elt Ideal) arg3.view (Rect.unit (s := S4x1024x1024) ![1, 0, 0] S1x1024x1024.size inb_S4x1024x1024_S1x1024x1024_1_0_0).toLoadRect (harg3.unread x2))⟩,
      ⟨Rect.unit ![0, 0] S512x1024.size inb_S512x4096_S512x1024_0_0, k0_pay6 (F := Ideal) (View.readAt (Elt Ideal) arg1.view (Rect.unit (s := S512x1024) ![0, 0] S512x1024.size inb_S512x1024_S512x1024_0_0).toLoadRect (harg1.unread x0))
            (View.readAt (Elt Ideal) arg2.view (Rect.unit (s := S512x4096) ![0, 0] S512x1024.size inb_S512x4096_S512x1024_0_0).toLoadRect (harg2.unread x1))
            (View.readAt (Elt Ideal) arg3.view (Rect.unit (s := S4x1024x1024) ![0, 0, 0] S1x1024x1024.size inb_S4x1024x1024_S1x1024x1024_0_0_0).toLoadRect (harg3.unread x2))⟩]) :
    At2 (α := EReal) (dpOf (F := Ideal) L) (tileDp D Q W) := by
  have d := whole_df arg1 harg1 x0 hd
  refine dp_out ?_ ?_ ?_ ?_ L e hcov
  · refine at2_mono (pay6 d (cols_q arg2 harg2 x1 hq 0 _) (rd_mat harg3 hw 0 _)) fun r c _ _ => ?_
    simp only [tileDp, Nat.mul_zero, Nat.zero_add]
  · refine at2_mono (pay9 d (cols_q arg2 harg2 x1 hq 1024 _) (rd_mat harg3 hw 1 _)) fun r c _ _ => ?_
    simp only [tileDp, Nat.mul_one, Nat.zero_add]
  · refine at2_mono (pay12 d (cols_q arg2 harg2 x1 hq 2048 _) (rd_mat harg3 hw 2 _)) fun r c _ _ => ?_
    simp only [tileDp, Nat.zero_add, Nat.reduceMul]
  · refine at2_mono (pay15 d (cols_q arg2 harg2 x1 hq 3072 _) (rd_mat harg3 hw 3 _)) fun r c _ _ => ?_
    simp only [tileDp, Nat.zero_add, Nat.reduceMul]

include hd hq hw in
theorem dp_first_val (h0 : first i) (h7 : ¬last i) :
    At2 (α := EReal) (dpOf (F := Ideal) (runFirst c i arg1 harg1 arg2 harg2 arg3 harg3 arg4 harg4 h0 h7 x0 x1 x2).1) (tileDp D Q W) :=
  dp_of arg1 harg1 arg2 harg2 arg3 harg3 x0 x1 x2 hd hq hw (dp_first c i arg1 harg1 arg2 harg2 arg3 harg3 arg4 harg4 x0 x1 x2 h0 h7) rfl

include hd hq hw in
theorem dp_mid_val (h0 : ¬first i) (h7 : ¬last i) :
    At2 (α := EReal) (dpOf (F := Ideal) (runMid c i arg1 harg1 arg2 harg2 arg3 harg3 arg4 harg4 h0 h7 x0 x1 x2 s).1) (tileDp D Q W) :=
  dp_of arg1 harg1 arg2 harg2 arg3 harg3 x0 x1 x2 hd hq hw (dp_mid c i arg1 harg1 arg2 harg2 arg3 harg3 arg4 harg4 x0 x1 x2 s h0 h7) rfl

include hd hq hw in
theorem dp_last_val (h0 : ¬first i) (h7 : last i) :
    At2 (α := EReal) (dpOf (F := Ideal) (runLast c i arg1 harg1 arg2 harg2 arg3 harg3 arg4 harg4 h0 h7 x0 x1 x2 s g).1) (tileDp D Q W) :=
  dp_of arg1 harg1 arg2 harg2 arg3 harg3 x0 x1 x2 hd hq hw (dp_last c i arg1 harg1 arg2 harg2 arg3 harg3 arg4 harg4 x0 x1 x2 s g h0 h7) rfl

/-- The slabs of a scratch that holds `S`. -/
def Parts (X : Vec Ideal S4x2x512x1024 .f32) (S : ℕ → ℕ → EReal) : Prop := ∀ j, j < 4 → Part X j fun a c => S (1024 * j + a) c

theorem scr_whole : accM.IsWhole := Memref.isWhole_whole cc0_scratch0

variable (v : View sig .tc .vmem S4x2x512x1024 .f32) (B : v.ty.Contents (Elt Ideal)) (hs : Parts s S)

include hd hq hs in
theorem slab0 : Slab (k0_pay5 (F := Ideal) (View.readAt (Elt Ideal) arg1.view (Rect.unit (s := S512x1024) ![0, 0] S512x1024.size inb_S512x1024_S512x1024_0_0).toLoadRect (harg1.unread x0))
    (View.readAt (Elt Ideal) arg2.view (Rect.unit (s := S512x4096) ![0, 0] S512x1024.size inb_S512x4096_S512x1024_0_0).toLoadRect (harg2.unread x1))
    (View.readAt (Elt Ideal) accM.view (Rect.unit (s := S4x2x512x1024) ![0, 0, 0, 0] S1x2x512x1024.size inb_S4x2x512x1024_S1x2x512x1024_0_0_0_0).toLoadRect (scr_whole.unread s))) (tileDw D Q S 0) := by
  have e := pay5 (whole_df arg1 harg1 x0 hd) (cols_q arg2 harg2 x1 hq 0 inb_S512x4096_S512x1024_0_0) (rd_part scr_whole (hs 0 (by omega)) inb_S4x2x512x1024_S1x2x512x1024_0_0_0_0)
  exact e
include hd hq hs in
theorem slab1 : Slab (k0_pay8 (F := Ideal) (View.readAt (Elt Ideal) arg1.view (Rect.unit (s := S512x1024) ![0, 0] S512x1024.size inb_S512x1024_S512x1024_0_0).toLoadRect (harg1.unread x0))
    (k0_pay7 (View.readAt (Elt Ideal) arg2.view (Rect.unit (s := S512x4096) ![0, 1024] S512x1024.size inb_S512x4096_S512x1024_0_1024).toLoadRect (harg2.unread x1)))
    (View.readAt (Elt Ideal) accM.view (Rect.unit (s := S4x2x512x1024) ![1, 0, 0, 0] S1x2x512x1024.size inb_S4x2x512x1024_S1x2x512x1024_1_0_0_0).toLoadRect (scr_whole.unread s))) (tileDw D Q S 1) := by
  have e := pay8 (whole_df arg1 harg1 x0 hd) (cols_q arg2 harg2 x1 hq 1024 inb_S512x4096_S512x1024_0_1024) (rd_part scr_whole (hs 1 (by omega)) inb_S4x2x512x1024_S1x2x512x1024_1_0_0_0)
  exact e
include hd hq hs in
theorem slab2 : Slab (k0_pay11 (F := Ideal) (View.readAt (Elt Ideal) arg1.view (Rect.unit (s := S512x1024) ![0, 0] S512x1024.size inb_S512x1024_S512x1024_0_0).toLoadRect (harg1.unread x0))
    (View.readAt (Elt Ideal) arg2.view (Rect.unit (s := S512x4096) ![0, 2048] S512x1024.size inb_S512x4096_S512x1024_0_2048).toLoadRect (harg2.unread x1))
    (View.readAt (Elt Ideal) accM.view (Rect.unit (s := S4x2x512x1024) ![2, 0, 0, 0] S1x2x512x1024.size inb_S4x2x512x1024_S1x2x512x1024_2_0_0_0).toLoadRect (scr_whole.unread s))) (tileDw D Q S 2) := by
  have e := pay11 (whole_df arg1 harg1 x0 hd) (cols_q arg2 harg2 x1 hq 2048 inb_S512x4096_S512x1024_0_2048) (rd_part scr_whole (hs 2 (by omega)) inb_S4x2x512x1024_S1x2x512x1024_2_0_0_0)
  exact e
include hd hq hs in
theorem slab3 : Slab (k0_pay14 (F := Ideal) (View.readAt (Elt Ideal) arg1.view (Rect.unit (s := S512x1024) ![0, 0] S512x1024.size inb_S512x1024_S512x1024_0_0).toLoadRect (harg1.unread x0))
    (View.readAt (Elt Ideal) arg2.view (Rect.unit (s := S512x4096) ![0, 3072] S512x1024.size inb_S512x4096_S512x1024_0_3072).toLoadRect (harg2.unread x1))
    (View.readAt (Elt Ideal) accM.view (Rect.unit (s := S4x2x512x1024) ![3, 0, 0, 0] S1x2x512x1024.size inb_S4x2x512x1024_S1x2x512x1024_3_0_0_0).toLoadRect (scr_whole.unread s))) (tileDw D Q S 3) := by
  have e := pay14 (whole_df arg1 harg1 x0 hd) (cols_q arg2 harg2 x1 hq 3072 inb_S512x4096_S512x1024_0_3072) (rd_part scr_whole (hs 3 (by omega)) inb_S4x2x512x1024_S1x2x512x1024_3_0_0_0)
  exact e

/-- Four slabs stored one after another. -/
theorem four {w0 w1 w2 w3 : Vec Ideal S1x2x512x1024 .f32} {f : ℕ → ℕ → ℕ → EReal} (h0 : Slab w0 (f 0)) (h1 : Slab w1 (f 1)) (h2 : Slab w2 (f 2)) (h3 : Slab w3 (f 3))
    (L : List (View.Piece (Elt Ideal) S4x2x512x1024 .f32)) (j : ℕ) (hj : j < 4) :
    Part (rdw v B (⟨Rect.unit ![3, 0, 0, 0] S1x2x512x1024.size inb_S4x2x512x1024_S1x2x512x1024_3_0_0_0, w3⟩ :: ⟨Rect.unit ![2, 0, 0, 0] S1x2x512x1024.size inb_S4x2x512x1024_S1x2x512x1024_2_0_0_0, w2⟩
      :: ⟨Rect.unit ![1, 0, 0, 0] S1x2x512x1024.size inb_S4x2x512x1024_S1x2x512x1024_1_0_0_0, w1⟩ :: ⟨Rect.unit ![0, 0, 0, 0] S1x2x512x1024.size inb_S4x2x512x1024_S1x2x512x1024_0_0_0_0, w0⟩ :: L)) j (f j) := by
  obtain rfl | rfl | rfl | rfl := lt4 hj
  · exact part_skip v B (part_skip v B (part_skip v B (part_hit v B h0 L 0 _) (by omega) w1 _) (by omega) w2 _) (by omega) w3 _
  · exact part_skip v B (part_skip v B (part_hit v B h1 _ 1 _) (by omega) w2 _) (by omega) w3 _
  · exact part_skip v B (part_hit v B h2 _ 2 _) (by omega) w3 _
  · exact part_hit v B h3 _ 3 _

include hd hq hs in
theorem acc_mid_val (h0 : ¬first i) (h7 : ¬last i) (j : ℕ) (hj : j < 4) :
    Part (accOf (F := Ideal) (runMid c i arg1 harg1 arg2 harg2 arg3 harg3 arg4 harg4 h0 h7 x0 x1 x2 s).2.1) j (tileDw D Q S j) :=
  four accV accV.junk (slab0 arg1 harg1 arg2 harg2 x0 x1 s hd hq hs) (slab1 arg1 harg1 arg2 harg2 x0 x1 s hd hq hs) (slab2 arg1 harg1 arg2 harg2 x0 x1 s hd hq hs) (slab3 arg1 harg1 arg2 harg2 x0 x1 s hd hq hs) [] j hj

include hd hq hs in
theorem acc_last_val (h0 : ¬first i) (h7 : last i) (j : ℕ) (hj : j < 4) :
    Part (accOf (F := Ideal) (runLast c i arg1 harg1 arg2 harg2 arg3 harg3 arg4 harg4 h0 h7 x0 x1 x2 s g).2.1) j (tileDw D Q S j) :=
  four accV accV.junk (slab0 arg1 harg1 arg2 harg2 x0 x1 s hd hq hs) (slab1 arg1 harg1 arg2 harg2 x0 x1 s hd hq hs) (slab2 arg1 harg1 arg2 harg2 x0 x1 s hd hq hs) (slab3 arg1 harg1 arg2 harg2 x0 x1 s hd hq hs) [] j hj

/-! ## The first point: the scratch begins at zero -/

theorem pay2_zero (y : S4x2x512x1024.Idx) : (k0_pay2 (F := Ideal) y : EReal) = 0 := by
  refine (congrFun (shapeCast_self (broadcast S4x2x512x1024 (Scalar.ofBits .f32 0x00000000#32 : Ideal .f32)) shapeCasts_S4x2x512x1024_S4x2x512x1024) y).trans ?_
  exact w_zero32

/-- The zero that the first point stores. -/
abbrev zeroPiece : View.Piece (Elt Ideal) S4x2x512x1024 .f32 := ⟨Rect.unit ![0, 0, 0, 0] S4x2x512x1024.size inb_S4x2x512x1024_S4x2x512x1024_0_0_0_0, k0_pay2 (F := Ideal)⟩

theorem zero_cov (L : List (View.Piece (Elt Ideal) S4x2x512x1024 .f32)) (hL : zeroPiece ∈ L) (y : S4x2x512x1024.Idx) : ∃ p ∈ L, y ∈ p.1.set :=
  cov_last (S := S4x2x512x1024) (by funext a; fin_cases a <;> rfl) inb_S4x2x512x1024_S4x2x512x1024_0_0_0_0 (k0_pay2 (F := Ideal)) L hL y

theorem zero_part (j : ℕ) : Part (rdw accV accV.junk [zeroPiece]) j fun _ _ => 0 := part_whole accV accV.junk pay2_zero [] j _

theorem mem1 : zeroPiece ∈ runFirst.sl.HS_1 (F := Ideal) := List.mem_cons_self
theorem mem2 : zeroPiece ∈ runFirst.sl.HS_2 (F := Ideal) c arg1 harg1 arg2 harg2 x0 x1 := List.mem_cons_of_mem _ mem1
theorem mem3 : zeroPiece ∈ runFirst.sl.HS_3 (F := Ideal) c arg1 harg1 arg2 harg2 x0 x1 := List.mem_cons_of_mem _ (mem2 c arg1 harg1 arg2 harg2 x0 x1)
theorem mem4 : zeroPiece ∈ runFirst.sl.HS_4 (F := Ideal) c arg1 harg1 arg2 harg2 x0 x1 := List.mem_cons_of_mem _ (mem3 c arg1 harg1 arg2 harg2 x0 x1)

theorem left2 (j : ℕ) (hj : 0 < j) : Part (rdw accV accV.junk (runFirst.sl.HS_2 (F := Ideal) c arg1 harg1 arg2 harg2 x0 x1)) j fun _ _ => 0 := by
  unfold runFirst.sl.HS_2
  exact part_skip accV accV.junk (zero_part j) (by omega) _ _
theorem left3 (j : ℕ) (hj : 1 < j) : Part (rdw accV accV.junk (runFirst.sl.HS_3 (F := Ideal) c arg1 harg1 arg2 harg2 x0 x1)) j fun _ _ => 0 := by
  unfold runFirst.sl.HS_3
  exact part_skip accV accV.junk (left2 c arg1 harg1 arg2 harg2 x0 x1 j (by omega)) (by omega) _ _
theorem left4 (j : ℕ) (hj : 2 < j) : Part (rdw accV accV.junk (runFirst.sl.HS_4 (F := Ideal) c arg1 harg1 arg2 harg2 x0 x1)) j fun _ _ => 0 := by
  unfold runFirst.sl.HS_4
  exact part_skip accV accV.junk (left3 c arg1 harg1 arg2 harg2 x0 x1 j (by omega)) (by omega) _ _

theorem load1 : Slab (runFirst.sl.v8 (F := Ideal) c) fun _ _ => 0 := by
  unfold runFirst.sl.v8
  exact slab_readCov accV (zero_part 0) (zero_cov _ mem1) inb_S4x2x512x1024_S1x2x512x1024_0_0_0_0
theorem load2 : Slab (runFirst.sl.v29 (F := Ideal) c arg1 harg1 arg2 harg2 x0 x1) fun _ _ => 0 := by
  unfold runFirst.sl.v29
  exact slab_readCov accV (left2 c arg1 harg1 arg2 harg2 x0 x1 1 (by omega)) (zero_cov _ (mem2 c arg1 harg1 arg2 harg2 x0 x1)) inb_S4x2x512x1024_S1x2x512x1024_1_0_0_0
theorem load3 : Slab (runFirst.sl.v50 (F := Ideal) c arg1 harg1 arg2 harg2 x0 x1) fun _ _ => 0 := by
  unfold runFirst.sl.v50
  exact slab_readCov accV (left3 c arg1 harg1 arg2 harg2 x0 x1 2 (by omega)) (zero_cov _ (mem3 c arg1 harg1 arg2 harg2 x0 x1)) inb_S4x2x512x1024_S1x2x512x1024_2_0_0_0
theorem load4 : Slab (runFirst.sl.v71 (F := Ideal) c arg1 harg1 arg2 harg2 x0 x1) fun _ _ => 0 := by
  unfold runFirst.sl.v71
  exact slab_readCov accV (left4 c arg1 harg1 arg2 harg2 x0 x1 3 (by omega)) (zero_cov _ (mem4 c arg1 harg1 arg2 harg2 x0 x1)) inb_S4x2x512x1024_S1x2x512x1024_3_0_0_0

include hd hq in
theorem acc_first_val (h0 : first i) (h7 : ¬last i) (j : ℕ) (hj : j < 4) :
    Part (accOf (F := Ideal) (runFirst c i arg1 harg1 arg2 harg2 arg3 harg3 arg4 harg4 h0 h7 x0 x1 x2).2.1) j (tileDw D Q (fun _ _ => 0) j) := by
  have d := whole_df arg1 harg1 x0 hd
  have s0 := pay5 d (cols_q arg2 harg2 x1 hq 0 inb_S512x4096_S512x1024_0_0) (load1 c)
  have s1 := pay8 d (cols_q arg2 harg2 x1 hq 1024 inb_S512x4096_S512x1024_0_1024) (load2 c arg1 harg1 arg2 harg2 x0 x1)
  have s2 := pay11 d (cols_q arg2 harg2 x1 hq 2048 inb_S512x4096_S512x1024_0_2048) (load3 c arg1 harg1 arg2 harg2 x0 x1)
  have s3 := pay14 d (cols_q arg2 harg2 x1 hq 3072 inb_S512x4096_S512x1024_0_3072) (load4 c arg1 harg1 arg2 harg2 x0 x1)
  exact four accV accV.junk (f := tileDw D Q fun _ _ => 0) s0 s1 s2 s3 [zeroPiece] j hj

/-! ## The last point: the copies take each slab as it is complete -/

include hd hq hs in
theorem out_last_val (h0 : ¬first i) (h7 : last i) (j : ℕ) (hj : j < 4) :
    Part (outM.view.read (Elt Ideal) (runLast c i arg1 harg1 arg2 harg2 arg3 harg3 arg4 harg4 h0 h7 x0 x1 x2 s g).2.2.1) j (tileDw D Q S j) := by
  have s0 := slab0 arg1 harg1 arg2 harg2 x0 x1 s hd hq hs
  have s1 := slab1 arg1 harg1 arg2 harg2 x0 x1 s hd hq hs
  have s2 := slab2 arg1 harg1 arg2 harg2 x0 x1 s hd hq hs
  have s3 := slab3 arg1 harg1 arg2 harg2 x0 x1 s hd hq hs
  have p0 := part_hit accM.view (scr_whole.unread s) s0 [] 0 inb_S4x2x512x1024_S1x2x512x1024_0_0_0_0
  have p1 := part_hit accM.view (scr_whole.unread s) s1 (runLast.sl.HS_1 (F := Ideal) c arg1 harg1 arg2 harg2 x0 x1 s) 1 inb_S4x2x512x1024_S1x2x512x1024_1_0_0_0
  have p2 := part_hit accM.view (scr_whole.unread s) s2 (runLast.sl.HS_2 (F := Ideal) c arg1 harg1 arg2 harg2 x0 x1 s) 2 inb_S4x2x512x1024_S1x2x512x1024_2_0_0_0
  have p3 := part_hit accM.view (scr_whole.unread s) s3 (runLast.sl.HS_3 (F := Ideal) c arg1 harg1 arg2 harg2 x0 x1 s) 3 inb_S4x2x512x1024_S1x2x512x1024_3_0_0_0
  have d0 : ∀ y, (runLast.sl.dma5 (F := Ideal) c arg1 harg1 arg2 harg2 x0 x1 s y : EReal) = tileDw D Q S 0 (512 * (y 0).val + (y 1).val) (y 2).val := by
    unfold runLast.sl.dma5; exact slab_squeezed (M := accM) p0 _ _ _
  have d1 : ∀ y, (runLast.sl.dma12 (F := Ideal) c arg1 harg1 arg2 harg2 x0 x1 s y : EReal) = tileDw D Q S 1 (512 * (y 0).val + (y 1).val) (y 2).val := by
    unfold runLast.sl.dma12; exact slab_squeezed (M := accM) p1 _ _ _
  have d2 : ∀ y, (runLast.sl.dma19 (F := Ideal) c arg1 harg1 arg2 harg2 x0 x1 s y : EReal) = tileDw D Q S 2 (512 * (y 0).val + (y 1).val) (y 2).val := by
    unfold runLast.sl.dma19; exact slab_squeezed (M := accM) p2 _ _ _
  have d3 : ∀ y, (runLast.sl.dma26 (F := Ideal) c arg1 harg1 arg2 harg2 x0 x1 s y : EReal) = tileDw D Q S 3 (512 * (y 0).val + (y 1).val) (y 2).val := by
    unfold runLast.sl.dma26; exact slab_squeezed (M := accM) p3 _ _ _
  unfold runLast
  dsimp only
  exact four_copied outM.view d0 d1 d2 d3 _ _ _ _ _ _ _ _ j hj

end Point

end Cert.Fc2

end
-- ==== Proof.Fc2Run.lean ====
/-
  The launch of the fc2 gradient kernel: the proof data of its pipeline, the obligation of its body at each grid
  point from the three runs, and what every final state holds.
-/
module

public import proofs.«01_k».proof.Proof.Fc2Data
public import Idealize.ShloMosaic.Lib.Claim

@[expose] public section

set_option maxRecDepth 16384

noncomputable section

namespace Cert.Fc2

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Before the first point what the launch hands over; after a point the scratch and the result at what it left. -/
def inv (c : Dev nD) : (n : ℕ) → n ≤ cfg0.N → sProp 𝕄
  | 0, _ => Pipeline.ΦDRG cells spec0 ∅ written (V m) (V m) c
  | n + 1, hn => iprop(owns (c : Thread nD τ) accM fullShare (after m c n hn).2.1 ∗ (∃ r, prngReg c r) ∗ cells0 c ∗ emp ∗ held c outM (after m c n hn).2.2)

theorem inv_zero (c : Dev nD) (n : ℕ) (h : n ≤ cfg0.N) (hz : n = 0) :
    inv m c n h = Pipeline.ΦDRG cells spec0 ∅ written (V m) (V m) c := by
  subst hz; rfl
theorem inv_succ (c : Dev nD) (n : ℕ) (hn : n < cfg0.N) :
    inv m c (n + 1) hn = iprop(owns (c : Thread nD τ) accM fullShare (after m c n hn).2.1 ∗ (∃ r, prngReg c r) ∗ cells0 c ∗ emp ∗ held c outM (after m c n hn).2.2) := rfl
theorem inv_pos (c : Dev nD) (n : ℕ) (h : n ≤ cfg0.N) (hz : n ≠ 0) :
    inv m c n h = iprop(owns (c : Thread nD τ) accM fullShare (after m c (n - 1) (by omega)).2.1 ∗ (∃ r, prngReg c r) ∗ cells0 c ∗ emp ∗ held c outM (after m c (n - 1) (by omega)).2.2) := by
  cases n with
  | zero => exact absurd rfl hz
  | succ n => rfl

/-- The proof data: each input's buffer keeps its block, the output's ends at `dp`'s block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (after m c t.val t.isLt).1
  Φ t := inv m c t.val (Nat.le_of_lt_succ t.isLt)
  q _ := fullShare
  owed _ := 0

theorem array (c : Dev nD) (w : Fin cfg0.W) : (dats m 0 c).A w = V m c (Pipeline.arrRef spec0 w) := by dsimp only [dats]
theorem inv_at (c : Dev nD) (t : Fin cfg0.N) : (dats m 0 c).Φ t.castSucc = inv m c t.val (Nat.le_of_lt t.isLt) := by
  dsimp only [dats]; exact Pipeline.Dat.Φ_castSucc (inv m c) t
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = (after m c t.val t.isLt).1 := by dsimp only [dats]

/-! ## The body's obligation -/

abbrev pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))
abbrev post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

set_option maxHeartbeats 4000000 in
theorem body (c : Dev nD) (t : Fin cfg0.N) :
    pre m c t ⊢ wp frame (wpE (defs₀ (F := F)) Variants.none c none) Set.univ (bodyAt0 t) (fun _ => post m c t) := by
  unfold bodyAt0
  simp only [pre, post, before_0 m (dats m 0 c) (array m c 0) (left_0 m c), before_1 m (dats m 0 c) (array m c 1) (left_1 m c), before_2 m (dats m 0 c) (array m c 2) (left_2 m c)]
  rw [show (dats m 0 c).Φ t.succ = inv m c (t.val + 1) t.isLt from rfl, inv_succ, inv_at, left_0, left_1, left_2, left_3]
  unfold Dat.owesAt Pipeline.owesWithin
  rw [show (dats m 0 c).owed t.castSucc = 0 from rfl, show (dats m 0 c).owed t.succ = 0 from rfl]
  have hN : t.val < 8 := lt_of_lt_of_eq t.isLt N_0
  by_cases h0 : t.val = 0
  · have h7 : t.val ≠ 7 := by omega
    rw [inv_zero m c _ _ h0, inv_eq, after_first m c t h0 h7]
    dsimp only
    iintro ⟨⟨HS, Hg, Hq, -, Hh⟩, ⟨%W, -, HW⟩, ⟨%d0, H0⟩, ⟨%d1, H1⟩, ⟨%d2, H2⟩, ⟨%d3, H3⟩⟩
    iapply ((pFirst m c t h0 h7).2.2 W _)
    isplitl [H0]; · iexact H0
    isplitl [H1]; · iexact H1
    isplitl [H2]; · iexact H2
    isplitl [H3]; · iexists _; iexact H3
    isplitl [HS]; · iexact HS
    isplitl [HW]; · iexact HW
    iintro ⟨H0, H1, H2, ⟨%e3, H3⟩, ⟨%es, HS⟩, ⟨%W', HW'⟩⟩
    isplitl [HS Hg Hq Hh]
    · isplitl [HS]
      · unfold owns; iexists _; isplitr
        swap; · iexact HS
        ipureintro; exact View.read_writes_of_cover _ _ _ _ _ (acc_first c _ _ _ _ _ _ _ _ _ _ _ _ _ _)
      isplitl [Hg]; · iexact Hg
      isplitl [Hq]; · iexact Hq
      isplitr; · iempintro
      iexact Hh
    isplitl [HW']
    · iexists W'; isplitr; · ipureintro; exact fun _ _ => Or.inl trivial
      iexact HW'
    isplitl [H0]; · iexact H0
    isplitl [H1]; · iexact H1
    isplitl [H2]; · iexact H2
    unfold owns; iexists _; isplitr
    swap; · iexact H3
    ipureintro; exact View.read_writes_of_cover _ _ _ _ _ (dp_first c _ _ _ _ _ _ _ _ _ _ _ _ _ _)
  · by_cases h7 : t.val = 7
    · rw [inv_pos m c _ _ h0, kept m c (t.val - 1) _ (by omega), after_last m c t h0 h7]
      dsimp only
      iintro ⟨⟨HS, Hg, Hq, -, Hh⟩, ⟨%W, -, HW⟩, ⟨%d0, H0⟩, ⟨%d1, H1⟩, ⟨%d2, H2⟩, ⟨%d3, H3⟩⟩
      iapply ((pLast m c t h0 h7 (accBefore m c t)).2.2.2 W _)
      isplitl [H0]; · iexact H0
      isplitl [H1]; · iexact H1
      isplitl [H2]; · iexact H2
      isplitl [H3]; · iexists _; iexact H3
      isplitl [HS]; · iexact HS
      isplitl [Hq]; · iexact Hq
      isplitl [Hh]; · iexact Hh
      isplitl [HW]; · iexact HW
      iintro ⟨H0, H1, H2, ⟨%e3, H3⟩, ⟨%es, HS⟩, Hq, Hh, ⟨%W', HW'⟩⟩
      isplitl [HS Hg Hq Hh]
      · isplitl [HS]
        · unfold owns; iexists _; isplitr
          swap; · iexact HS
          ipureintro; exact View.read_writes_of_cover _ _ _ _ _ (acc_last c _ _ _ _ _ _ _ _ _ _ _ _ _ _ _ _)
        isplitl [Hg]; · iexact Hg
        isplitl [Hq]; · iexact Hq
        isplitr; · iempintro
        iexact Hh
      isplitl [HW']
      · iexists W'; isplitr; · ipureintro; exact fun _ _ => Or.inl trivial
        iexact HW'
      isplitl [H0]; · iexact H0
      isplitl [H1]; · iexact H1
      isplitl [H2]; · iexact H2
      unfold owns; iexists _; isplitr
      swap; · iexact H3
      ipureintro; exact View.read_writes_of_cover _ _ _ _ _ (dp_last c _ _ _ _ _ _ _ _ _ _ _ _ _ _ _ _)
    · rw [inv_pos m c _ _ h0, kept m c (t.val - 1) _ (by omega), after_mid m c t h0 h7]
      dsimp only
      iintro ⟨⟨HS, Hg, Hq, -, Hh⟩, ⟨%W, -, HW⟩, ⟨%d0, H0⟩, ⟨%d1, H1⟩, ⟨%d2, H2⟩, ⟨%d3, H3⟩⟩
      iapply ((pMid m c t h0 h7 (accBefore m c t)).2.2 W _)
      isplitl [H0]; · iexact H0
      isplitl [H1]; · iexact H1
      isplitl [H2]; · iexact H2
      isplitl [H3]; · iexists _; iexact H3
      isplitl [HS]; · iexact HS
      isplitl [HW]; · iexact HW
      iintro ⟨H0, H1, H2, ⟨%e3, H3⟩, ⟨%es, HS⟩, ⟨%W', HW'⟩⟩
      isplitl [HS Hg Hq Hh]
      · isplitl [HS]
        · unfold owns; iexists _; isplitr
          swap; · iexact HS
          ipureintro; exact View.read_writes_of_cover _ _ _ _ _ (acc_mid c _ _ _ _ _ _ _ _ _ _ _ _ _ _ _)
        isplitl [Hg]; · iexact Hg
        isplitl [Hq]; · iexact Hq
        isplitr; · iempintro
        iexact Hh
      isplitl [HW']
      · iexists W'; isplitr; · ipureintro; exact fun _ _ => Or.inl trivial
        iexact HW'
      isplitl [H0]; · iexact H0
      isplitl [H1]; · iexact H1
      isplitl [H2]; · iexact H2
      unfold owns; iexists _; isplitr
      swap; · iexact H3
      ipureintro; exact View.read_writes_of_cover _ _ _ _ _ (dp_mid c _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

/-! ## The launch -/

/-- The unscoped buffers after the launch: the result at what the last point left in it. -/
def final (c : Dev nD) : (b : Ref sig .tc) → Buf (Elt F) ((c : Thread nD τ).loc b) :=
  Function.update (V m c) main_v5_1 (after m c 7 (by rw [show cfg0.N = 8 from N_0]; omega)).2.2
theorem final_out (c : Dev nD) : final m c main_v5_1 = (after m c 7 (by rw [show cfg0.N = 8 from N_0]; omega)).2.2 := by
  unfold final; rw [Function.update_self]

theorem enter (c : Dev nD) : Pipeline.ΦDRG cells spec0 ∅ written (V m) (V m) c ⊢ (dats m 0 c).Φ 0 := by
  rw [show (dats m 0 c).Φ 0 = inv m c 0 (Nat.zero_le _) from rfl, inv_zero m c 0 _ rfl]

theorem leave (c : Dev nD) : (dats m 0 c).Φ (Fin.last cfg0.N) ⊢ Pipeline.ΦDRG cells spec0 ∅ written (V m) (final m) c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 8 := N_0; omega), inv_eq, final_out]
  iintro ⟨HS, Hg, Hq, -, Hh⟩
  isplitl [HS]; · iexists _; iexact HS
  isplitl [Hg]; · iexact Hg
  isplitl [Hq]; · iexact Hq
  isplitr; · iempintro
  iexact Hh

set_option backward.isDefEq.respectTransparency.types false in
/-- Every fair execution ends with the arrays as the proof data has them, the result as the last point left it,
    every other buffer as the launch found it, and the semaphores at zero. -/
theorem run_quiet : θ_run defs (onTc (τ := τ) (main (F := F))) (s₀ m ρ) (fun r => Pipeline.FramePostRG cfgs (dats m) 0 written (V m) (final m) r ∧ r.2.sem = fun _ => 0) :=
  Pipeline.θ_run_frame_dmaRG (Q' := _) cfgs (dats m) (0 : Fin 1) launch0 cells defs₀ Variants.none cells_own ∅ written (Finset.empty_subset _) written_sub m ρ main
    (hbody := fun c => (obligation m c).loose) (hshare := fun c => (dats m 0 c).share_full fun _ => rfl)
    (howed := fun _ _ => rfl) (V := V m) (hmain := hmain m Variants.none) (hA := array m) (G := final m)
    (hin := enter m) (hout := leave m)

theorem run : θ_run defs (onTc (τ := τ) (main (F := F))) (s₀ m ρ) (Pipeline.FramePostRG cfgs (dats m) 0 written (V m) (final m)) :=
  (θ_run defs _ _).mono (fun _ h => h.1) (run_quiet m ρ)

/-- The arguments end as they began, and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1.toR c).1 0).trans (((dats m 0 c).arrAt_in 0 rfl _).trans ((array m c 0).trans (V_main_arg0 m c))),
      ((h.1.toR c).2 main_arg1 (Finset.mem_sdiff.2 ⟨Pipeline.mem_restRefs_of main_arg1 (by decide) (by decide), by decide⟩)).trans (V_main_arg1 m c),
      ((h.1.toR c).2 main_arg2 (Finset.mem_sdiff.2 ⟨Pipeline.mem_restRefs_of main_arg2 (by decide) (by decide), by decide⟩)).trans (V_main_arg2 m c)⟩, h.2⟩) (run_quiet m ρ)

end Cert.Fc2

end
-- ==== Proof.Fc2Value.lean ====
/- What the fc2 gradient kernel leaves: the windows in terms of the arguments, the scratch after each grid point, and the
   two arrays at the end. -/
module

public import proofs.«01_k».proof.Proof.Fc2Tile
public import proofs.«01_k».proof.Proof.Fc2Run
public import Idealize.ShloMosaic.Lib.Pipeline.ValueKit
public import Idealize.ShloMosaic.Lib.Claim

@[expose] public section

set_option maxRecDepth 16384

noncomputable section

namespace Cert.Fc2

open Cert.Kernel2Ideal Cert.Kernel2Ideal.Gen Cert.Arr
open Idealize.ShloMosaic Idealize.ShloMosaic.TcCoe Idealize.ShloMosaic.ValueIdx Idealize.ShloMosaic.Tactic
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0, 0] := (by decide +kernel : ∀ t : Fin grid0.N, win0_2.index t = ![0, 0, 0])
theorem index3 : ∀ t : Fin cfg0.N, win0_3.index t = ![t.val, 0] := (by decide +kernel : ∀ t : Fin grid0.N, win0_3.index t = ![t.val, 0])

/-- 4096 rows seen as four slabs. -/
theorem at_slabs {p : (⟨2, ![4096, 1024]⟩ : Shape).Idx → EReal} {W : ℕ → ℕ → EReal} (hp : At2 p W) (h : (⟨2, ![4096, 1024]⟩ : Shape).ShapeCasts ⟨3, ![4, 1024, 1024]⟩)
    (i : (⟨3, ![4, 1024, 1024]⟩ : Shape).Idx) : shapeCast ⟨3, ![4, 1024, 1024]⟩ p h i = W (1024 * (i 0).val + (i 1).val) (i 2).val := by
  have e0 : (i 0).val < 4 := (i 0).isLt
  have e1 : (i 1).val < 1024 := (i 1).isLt
  refine (shapeCast_apply p h i (ValueIdx.ix2 ⟨1024 * (i 0).val + (i 1).val, by omega⟩ (i 2)) ?_).trans (hp _)
  rw [Shape.rowMajor_val_two, Shape.rowMajor_val_three]
  show (1024 * (i 0).val + (i 1).val) * 1024 + (i 2).val = ((i 0).val * 1024 + (i 1).val) * 1024 + (i 2).val
  omega

attribute [local irreducible] runFirst runMid runLast dpOf accOf after tileDp tileDw

section Blocks

variable (m : (ℓ : Loc nD τ sig) → Buf (Elt Ideal) ℓ) (c : Dev nD) (t : Fin cfg0.N) {D P W : ℕ → ℕ → EReal}

theorem blk0 (h : At2 (α := EReal) (m ((c : Thread nD τ).loc main_arg0) : Vec Ideal ⟨2, ![4096, 1024]⟩ .bf16) D) :
    At2 (α := EReal) (n := 512) (m := 1024) (iblk m c 0 t) fun r k => D (512 * t.val + r) k := fun y => by
  have e : iblk m c 0 t y = V m c main_arg0 (((cfg0.win 0).blk t).view.emb y) := by blk_simp [iblk]
  rw [e, V_main_arg0]
  refine (h _).trans ?_
  blk_simp [index0 t]
  first | done | (congr 2 <;> omega)

/-- The window of the squares finds `max p 0` squared. -/
theorem V_v2 : (V m c main_v2 : Vec Ideal S4096x4096 .bf16) = truncf (F := Ideal) .bf16 (mulf (F := Ideal)
      (maximumf (F := Ideal) (m ((c : Thread nD τ).loc main_arg1)) (broadcastInDim S4096x4096 ![] bcast_S_S4096x4096 (constant (F := Ideal) S_ .f32 0x00000000#32)))
      (maximumf (F := Ideal) (m ((c : Thread nD τ).loc main_arg1)) (broadcastInDim S4096x4096 ![] bcast_S_S4096x4096 (constant (F := Ideal) S_ .f32 0x00000000#32)))) bitsLt_bf16_f32 := by
  show StableHlo.after [hostOps0, hostOps0_1].flatten (fun b => m (c, b)) (Proc.tc.devRef main_v2) = _
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

/-- The window of the weights finds them as four slabs. -/
theorem V_v4 : (V m c main_v4 : Vec Ideal S4x1024x1024 .bf16) = truncf (F := Ideal) .bf16
      (shapeCast S4x1024x1024 (m ((c : Thread nD τ).loc main_arg2) : Vec Ideal S4096x1024 .f32) shapeCasts_S4096x1024_S4x1024x1024) bitsLt_bf16_f32 := by
  show StableHlo.after [hostOps0, hostOps0_1].flatten (fun b => m (c, b)) (Proc.tc.devRef main_v4) = _
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results <;> rfl

theorem sq_at (h : At2 (α := EReal) (m ((c : Thread nD τ).loc main_arg1) : Vec Ideal ⟨2, ![4096, 4096]⟩ .f32) P) :
    At2 (α := EReal) (n := 4096) (m := 4096) (V m c main_v2) (sq P) := fun i => by
  rw [V_v2]
  pointwise
  rw [h i]
  rfl

theorem slab_at (h : At2 (α := EReal) (m ((c : Thread nD τ).loc main_arg2) : Vec Ideal ⟨2, ![4096, 1024]⟩ .f32) W) (i : S4x1024x1024.Idx) :
    (V m c main_v4 : Vec Ideal S4x1024x1024 .bf16) i = W (1024 * (i 0).val + (i 1).val) (i 2).val := by
  rw [V_v4]
  exact at_slabs h shapeCasts_S4096x1024_S4x1024x1024 i

theorem blk1 (h : At2 (α := EReal) (m ((c : Thread nD τ).loc main_arg1) : Vec Ideal ⟨2, ![4096, 4096]⟩ .f32) P) :
    At2 (α := EReal) (n := 512) (m := 4096) (iblk m c 1 t) fun r f => sq P (512 * t.val + r) f := fun y => by
  have e : iblk m c 1 t y = V m c main_v2 (((cfg0.win 1).blk t).view.emb y) := by blk_simp [iblk]
  rw [e]
  refine (sq_at m c h _).trans ?_
  blk_simp [index1 t]
  first | done | (congr 2 <;> omega)

theorem blk2 (h : At2 (α := EReal) (m ((c : Thread nD τ).loc main_arg2) : Vec Ideal ⟨2, ![4096, 1024]⟩ .f32) W) (y : S4x1024x1024.Idx) :
    (iblk m c 2 t : Vec Ideal S4x1024x1024 .bf16) y = W (1024 * (y 0).val + (y 1).val) (y 2).val := by
  have e : iblk m c 2 t y = V m c main_v4 (((cfg0.win 2).blk t).view.emb y) := by blk_simp [iblk]
  rw [e]
  refine (slab_at m c h _).trans ?_
  blk_simp [index2 t]
  first | done | (congr 2 <;> omega)

variable (hd : At2 (α := EReal) (m ((c : Thread nD τ).loc main_arg0) : Vec Ideal ⟨2, ![4096, 1024]⟩ .bf16) D)
  (hp : At2 (α := EReal) (m ((c : Thread nD τ).loc main_arg1) : Vec Ideal ⟨2, ![4096, 4096]⟩ .f32) P)
  (hw : At2 (α := EReal) (m ((c : Thread nD τ).loc main_arg2) : Vec Ideal ⟨2, ![4096, 1024]⟩ .f32) W)

theorem step_eq (n j a k : ℕ) :
    tileDw (fun r k => D (512 * n + r) k) (fun r f => sq P (512 * n + r) f) (dwf D P n) j a k = dwf D P (n + 1) (1024 * j + a) k := by
  unfold tileDw; rfl

include hd hp in
/-- The scratch after each point. -/
theorem scr_at : ∀ (n : ℕ) (hn : n < cfg0.N), Parts (after m c n hn).2.1 (dwf D P (n + 1))
  | 0, hn => fun j hj => by
    have h := acc_first_val c (grid0.coords (⟨0, hn⟩ : Fin cfg0.N)) (st0 ⟨0, hn⟩) (hst0 ⟨0, hn⟩) (st1 ⟨0, hn⟩) (hst1 ⟨0, hn⟩) (st2 ⟨0, hn⟩) (hst2 ⟨0, hn⟩) (st3 ⟨0, hn⟩) (hst3 ⟨0, hn⟩)
      (iblk m c 0 ⟨0, hn⟩) (iblk m c 1 ⟨0, hn⟩) (iblk m c 2 ⟨0, hn⟩) (blk0 m c ⟨0, hn⟩ hd) (blk1 m c ⟨0, hn⟩ hp)
      ((first_iff ⟨0, hn⟩).2 rfl) (fun h => absurd ((last_iff ⟨0, hn⟩).1 h) (by show (0 : ℕ) ≠ 7; omega)) j hj
    rw [after_first m c ⟨0, hn⟩ rfl (by show (0 : ℕ) ≠ 7; omega)]
    exact fun y hy => (h y hy).trans (step_eq 0 j _ _)
  | n + 1, hn => fun j hj => by
    have ih := scr_at n (Nat.lt_of_succ_lt hn)
    have h0 : ¬first (grid0.coords (⟨n + 1, hn⟩ : Fin cfg0.N)) := fun h => absurd ((first_iff ⟨n + 1, hn⟩).1 h) (Nat.succ_ne_zero n)
    by_cases h7 : n + 1 = 7
    · have h := acc_last_val c (grid0.coords (⟨n + 1, hn⟩ : Fin cfg0.N)) (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
        (iblk m c 0 ⟨n + 1, hn⟩) (iblk m c 1 ⟨n + 1, hn⟩) (iblk m c 2 ⟨n + 1, hn⟩) (after m c n (Nat.lt_of_succ_lt hn)).2.1 (V m c main_v5_1) (blk0 m c ⟨n + 1, hn⟩ hd) (blk1 m c ⟨n + 1, hn⟩ hp) ih
        h0 ((last_iff ⟨n + 1, hn⟩).2 h7) j hj
      rw [after_last m c ⟨n + 1, hn⟩ (Nat.succ_ne_zero n) h7]
      exact fun y hy => (h y hy).trans (step_eq (n + 1) j _ _)
    · have h := acc_mid_val c (grid0.coords (⟨n + 1, hn⟩ : Fin cfg0.N)) (st0 ⟨n + 1, hn⟩) (hst0 ⟨n + 1, hn⟩) (st1 ⟨n + 1, hn⟩) (hst1 ⟨n + 1, hn⟩) (st2 ⟨n + 1, hn⟩) (hst2 ⟨n + 1, hn⟩) (st3 ⟨n + 1, hn⟩) (hst3 ⟨n + 1, hn⟩)
        (iblk m c 0 ⟨n + 1, hn⟩) (iblk m c 1 ⟨n + 1, hn⟩) (iblk m c 2 ⟨n + 1, hn⟩) (after m c n (Nat.lt_of_succ_lt hn)).2.1 (blk0 m c ⟨n + 1, hn⟩ hd) (blk1 m c ⟨n + 1, hn⟩ hp) ih
        h0 (fun h => h7 ((last_iff ⟨n + 1, hn⟩).1 h)) j hj
      rw [after_mid m c ⟨n + 1, hn⟩ (Nat.succ_ne_zero n) h7]
      exact fun y hy => (h y hy).trans (step_eq (n + 1) j _ _)

include hd hp hw in
/-- The block of `dp` after each point. -/
theorem dp_at_tile : At2 (α := EReal) (after m c t.val t.isLt).1 (tileDp (fun r k => D (512 * t.val + r) k) (fun r f => sq P (512 * t.val + r) f) W) := by
  by_cases h0 : t.val = 0
  · have h7 : t.val ≠ 7 := by omega
    rw [after_first m c t h0 h7]
    exact dp_first_val c (grid0.coords t) (st0 t) (hst0 t) (st1 t) (hst1 t) (st2 t) (hst2 t) (st3 t) (hst3 t) (iblk m c 0 t) (iblk m c 1 t) (iblk m c 2 t)
      (blk0 m c t hd) (blk1 m c t hp) (blk2 m c t hw) ((first_iff t).2 h0) (fun h => h7 ((last_iff t).1 h))
  · by_cases h7 : t.val = 7
    · rw [after_last m c t h0 h7]
      exact dp_last_val c (grid0.coords t) (st0 t) (hst0 t) (st1 t) (hst1 t) (st2 t) (hst2 t) (st3 t) (hst3 t) (iblk m c 0 t) (iblk m c 1 t) (iblk m c 2 t) (accBefore m c t) (V m c main_v5_1)
        (blk0 m c t hd) (blk1 m c t hp) (blk2 m c t hw) (fun h => h0 ((first_iff t).1 h)) ((last_iff t).2 h7)
    · rw [after_mid m c t h0 h7]
      exact dp_mid_val c (grid0.coords t) (st0 t) (hst0 t) (st1 t) (hst1 t) (st2 t) (hst2 t) (st3 t) (hst3 t) (iblk m c 0 t) (iblk m c 1 t) (iblk m c 2 t) (accBefore m c t)
        (blk0 m c t hd) (blk1 m c t hp) (blk2 m c t hw) (fun h => h0 ((first_iff t).1 h)) (fun h => h7 ((last_iff t).1 h))

include hd hp hw in
theorem dp_at : At2 (α := EReal) (after m c t.val t.isLt).1 fun r f => dpf D P W (512 * t.val + r) f := fun y =>
  (dp_at_tile m c t hd hp hw y).trans (by unfold tileDp dpf; rfl)

include hd hp in
/-- What the last point leaves in the result. -/
theorem out_at (y : S4x2x512x1024.Idx) : (final m c main_v5_1 : Vec Ideal S4x2x512x1024 .f32) y = dwf D P 8 (1024 * (y 0).val + (512 * (y 1).val + (y 2).val)) (y 3).val := by
  have hn : 7 < cfg0.N := by rw [show cfg0.N = 8 from N_0]; omega
  have h0 : (⟨7, hn⟩ : Fin cfg0.N).val ≠ 0 := by show (7 : ℕ) ≠ 0; omega
  have h := out_last_val c (grid0.coords (⟨7, hn⟩ : Fin cfg0.N)) (st0 ⟨7, hn⟩) (hst0 ⟨7, hn⟩) (st1 ⟨7, hn⟩) (hst1 ⟨7, hn⟩) (st2 ⟨7, hn⟩) (hst2 ⟨7, hn⟩) (st3 ⟨7, hn⟩) (hst3 ⟨7, hn⟩)
    (iblk m c 0 ⟨7, hn⟩) (iblk m c 1 ⟨7, hn⟩) (iblk m c 2 ⟨7, hn⟩) (accBefore m c ⟨7, hn⟩) (V m c main_v5_1) (blk0 m c ⟨7, hn⟩ hd) (blk1 m c ⟨7, hn⟩ hp) (scr_at m c hd hp 6 (Nat.lt_of_succ_lt hn))
    (fun h => h0 ((first_iff ⟨7, hn⟩).1 h)) ((last_iff ⟨7, hn⟩).2 rfl) (y 0).val (y 0).isLt y rfl
  have e := after_last m c ⟨7, hn⟩ h0 rfl
  rw [final_out m c]
  have e' : (after m c 7 hn).2.2 = _ := congrArg (fun q => q.2.2) e
  refine (congrFun e' y).trans ?_
  exact h.trans (step_eq 7 (y 0).val _ _)

include hd hp hw in
/-- `dp`'s array at the end. -/
theorem dp_end : At2 (α := EReal) (n := 4096) (m := 4096) ((dats m 0 c).arrAt 3 cfg0.N) (dpf D P W) := by
  refine congrFun ((dats m 0 c).arrAt_eq_of_covers 3 (fun i => dpf D P W (i 0).val (i 1).val) (by decide +kernel) fun t hf y => ?_)
  blk_simp [index3 t]
  rw [left_3]
  refine (dp_at m c t hd hp hw y).trans ?_
  exact congrArg (fun x : ℕ => dpf D P W (x + (y 0).val) (y 1).val) (Nat.mul_comm 512 t.val)

end Blocks

end Cert.Fc2

end
-- ==== Proof.Fc2Ref.lean ====
/- The reference's two results for the fc2 gradient, entry by entry, are what the kernel leaves. -/
module

public import proofs.«01_k».proof.Proof.Fc2Arr
public import proofs.«01_k».proof.Proof.Gen.Reference2Ideal.Read

@[expose] public section

noncomputable section

namespace Cert.Fc2

open Cert.Arr Cert.Reference2Ideal Cert.Reference2Ideal.Read
open Idealize.ShloMosaic Idealize.ShloMosaic.TcCoe Idealize.ShloMosaic.Tactic
open scoped BigOperators

/-- The root of a square of a number that is not negative. -/
theorem sqrt_sq (p : EReal) : Ideal.sqrt (max p 0 * max p 0) = max p 0 := by
  induction p using EReal.rec with
  | bot => rw [max_eq_right bot_le, mul_zero]; show (if (0 : ℝ) < 0 then (⊥ : EReal) else (Real.sqrt 0 : EReal)) = 0; simp
  | top => rw [max_eq_left le_top, EReal.top_mul_top]; rfl
  | coe x =>
    have e : max (x : EReal) 0 = ((max x 0 : ℝ) : EReal) := (EReal.coe_strictMono.monotone.map_max (a := x) (b := 0)).symm
    rw [e, ← EReal.coe_mul]
    show (if max x 0 * max x 0 < 0 then (⊥ : EReal) else (Real.sqrt (max x 0 * max x 0) : EReal)) = _
    rw [if_neg (not_lt.2 (mul_self_nonneg _)), Real.sqrt_mul_self (le_max_right x 0)]

/-- Twice a sum. -/
theorem twice_sum (g : ℕ → EReal) : ∀ n : ℕ, ∑ k ∈ Finset.range n, 2 * g k = 2 * ∑ k ∈ Finset.range n, g k
  | 0 => by simp
  | n + 1 => by
    have h0 : (0 : EReal) ≤ 2 := by norm_num
    have h1 : (2 : EReal) ≠ ⊤ := EReal.coe_ne_top 2
    rw [Finset.sum_range_succ, Finset.sum_range_succ, twice_sum g n, EReal.left_distrib_of_nonneg_of_ne_top h0 h1]

/-- The kernel's gradient with respect to `p` is the derivative of the squared rectifier. -/
theorem dp_alg (p : EReal) (d w : ℕ → EReal) :
    (∑ k ∈ Finset.range 1024, d k * 2 * w k) * Ideal.sqrt (max p 0 * max p 0)
      = if 0 < p then (∑ k ∈ Finset.range 1024, d k * w k) * (2 * max p 0) else 0 := by
  rw [sqrt_sq, Finset.sum_congr rfl fun k _ => (show d k * 2 * w k = 2 * (d k * w k) by rw [mul_comm (d k) 2, mul_assoc]), twice_sum]
  by_cases h : 0 < p
  · rw [if_pos h, mul_comm 2 (∑ k ∈ Finset.range 1024, d k * w k), mul_assoc]
  · rw [if_neg h, max_eq_right (not_lt.1 h), mul_zero]

theorem dw_alg (D P : ℕ → ℕ → EReal) (f k : ℕ) : ∀ T : ℕ, dwf D P T f k = ∑ r ∈ Finset.range (512 * T), sq P r f * D r k
  | 0 => rfl
  | T + 1 => by
    show dwf D P T f k + _ = _
    rw [dw_alg D P f k T, Nat.mul_succ, Finset.sum_range_add]

theorem ogt_select (p a : EReal) : Scalar.select (Ideal.cmp .ogt p 0) a 0 = if 0 < p then a else 0 := by
  unfold Scalar.select Ideal.cmp
  by_cases h : 0 < p <;> simp [h]

theorem w_two32 : (Ideal.ofBits .f32 0x40000000#32 : EReal) = 2 := by
  simp [Ideal.ofBits, Ideal.ieee, -EReal.coe_mul]; norm_num
  rfl

variable {x0 : Vec Ideal ⟨2, ![4096, 1024]⟩ .bf16} {x1 : Vec Ideal ⟨2, ![4096, 4096]⟩ .f32} {x2 : Vec Ideal ⟨2, ![4096, 1024]⟩ .f32} {D P W : ℕ → ℕ → EReal}

theorem ref_dp (hd : At2 (α := EReal) x0 D) (hp : At2 (α := EReal) x1 P) (hw : At2 (α := EReal) x2 W) :
    At2 (α := EReal) (val_main_v15 (F := Ideal) x0 x1 x2) (dpf D P W) := fun i => by
  rw [val_main_v15_apply, val_main_v14_apply, val_main_v2_apply, val_main_v12_apply, val_main_v11_apply, val_main_v6_apply, val_main_v0_apply,
    val_main_v13_apply, val_main_v5_apply, val_main_v1_apply, val_main_call0_v0_apply]
  simp only [val_main_v8_apply]
  show Scalar.select (Ideal.cmp .ogt (x1 i) (Ideal.ofBits .f32 0x00000000#32))
    ((∑ k : Fin 1024, x0 (lidx_main_v11 i k) * x2 (ridx_main_v11 i k)) * ((Ideal.ofBits .f32 0x40000000#32 : EReal) * max (x1 i) (Ideal.ofBits .f32 0x00000000#32)))
    (Ideal.ofBits .f32 0x00000000#32) = _
  rw [Ideal.ofBits_zero_f32, w_two32, ogt_select, hp i]
  have e : (∑ k : Fin 1024, (x0 (lidx_main_v11 i k) * x2 (ridx_main_v11 i k) : EReal)) = ∑ k ∈ Finset.range 1024, D (i 0).val k * W (i 1).val k :=
    (Finset.sum_congr rfl fun k _ => congrArg₂ (fun a b : EReal => a * b) (hd (lidx_main_v11 i k)) (hw (ridx_main_v11 i k))).trans
      (Fin.sum_univ_eq_sum_range (fun k => D (i 0).val k * W (i 1).val k) 1024)
  rw [e]
  exact (dp_alg _ _ _).symm

theorem ref_dw (hd : At2 (α := EReal) x0 D) (hp : At2 (α := EReal) x1 P) (i : S4x2x512x1024.Idx) :
    (val_main_v16 (F := Ideal) x0 x1 i : EReal) = dwf D P 8 (1024 * (i 0).val + (512 * (i 1).val + (i 2).val)) (i 3).val := by
  rw [val_main_v16_apply, val_main_v10_apply, val_main_v9_apply]
  simp only [val_main_v8_apply, val_main_v4_apply, val_main_v0_apply, val_main_call0_v0_apply]
  show (∑ k : Fin 4096, (x0 (lidx_main_v9 (idx_main_v10 (idx_main_v16 i)) k) * (max (x1 (ridx_main_v9 (idx_main_v10 (idx_main_v16 i)) k)) (Ideal.ofBits .f32 0x00000000#32)
    * max (x1 (ridx_main_v9 (idx_main_v10 (idx_main_v16 i)) k)) (Ideal.ofBits .f32 0x00000000#32)) : EReal)) = _
  rw [Ideal.ofBits_zero_f32, dw_alg]
  have h0 : (i 0).val < 4 := (i 0).isLt
  have h1 : (i 1).val < 2 := (i 1).isLt
  have h2 : (i 2).val < 512 := (i 2).isLt
  have h3 : (i 3).val < 1024 := (i 3).isLt
  have er : ((((i 0).val * 2 + (i 1).val) * 512 + (i 2).val) * 1024 + (i 3).val) / 1024 = 1024 * (i 0).val + (512 * (i 1).val + (i 2).val) := by omega
  have ec : ((((i 0).val * 2 + (i 1).val) * 512 + (i 2).val) * 1024 + (i 3).val) % 1024 = (i 3).val := by omega
  refine Eq.trans (Finset.sum_congr rfl fun k _ => ?_) (Fin.sum_univ_eq_sum_range (fun r => sq P r (1024 * (i 0).val + (512 * (i 1).val + (i 2).val)) * D r (i 3).val) 4096)
  have a : (x0 (lidx_main_v9 (idx_main_v10 (idx_main_v16 i)) k) : EReal) = D k.val (i 3).val := (hd _).trans (congrArg (D k.val) ec)
  have b : (x1 (ridx_main_v9 (idx_main_v10 (idx_main_v16 i)) k) : EReal) = P k.val (1024 * (i 0).val + (512 * (i 1).val + (i 2).val)) := (hp _).trans (congrArg (P k.val) er)
  rw [a, b, mul_comm]
  rfl

end Cert.Fc2

end
-- ==== Proof.Fc2Claim.lean ====
/- The value claim of the fc2 gradient: the kernel's two results and the reference's are the same extended real numbers. -/
module

public import proofs.«01_k».proof.Defs
public import proofs.«01_k».proof.Proof.Fc2Value
public import proofs.«01_k».proof.Proof.Fc2Ref
public import proofs.«01_k».proof.Proof.Gen.Reference2Ideal.Run
public import proofs.«01_k».proof.Proof.Gen.Reference2Ideal

@[expose] public section

noncomputable section

namespace Cert.Fc2

open Cert.Arr Idealize.ShloMosaic Idealize.ShloMosaic.TcCoe Idealize.SL.Sem
open Idealize.ShloMosaic.Pipeline (Dat)

/-- Every matrix is a function of its row and column. -/
theorem exists_at2 {n m : ℕ} (v : (⟨2, ![n, m]⟩ : Shape).Idx → EReal) : ∃ f : ℕ → ℕ → EReal, At2 v f := by
  refine ⟨fun r c => if h : r < n ∧ c < m then v (ValueIdx.ix2 ⟨r, h.1⟩ ⟨c, h.2⟩) else 0, fun i => ?_⟩
  have h : (i 0).val < n ∧ (i 1).val < m := ⟨(i 0).isLt, (i 1).isLt⟩
  show v i = dite _ _ _
  rw [dif_pos h]
  refine congrArg v ?_
  funext a
  match a with
  | ⟨0, _⟩ => rfl
  | ⟨1, _⟩ => rfl

/-- The kernel's run, with both result arrays named. -/
theorem run_named (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v5_0) = (dats m 0 c).arrAt 3 Cert.Kernel2Ideal.cfg0.N
      ∧ r.2.mem ((c.tc : Thread Cert.Kernel2Ideal.nD Cert.Kernel2Ideal.τ).loc Cert.Kernel2Ideal.main_v5_1) = final m c Cert.Kernel2Ideal.main_v5_1
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)) :=
  (θ_run Cert.Kernel2Ideal.defs _ _).mono (fun r h c => ⟨(h.1.toR c).1 3, h.1.written c (by decide : Cert.Kernel2Ideal.main_v5_1 ∈ written), h.2.1 c⟩)
    (θ_run_and (run m g) (frame m g))

/-- For all arguments the kernel and the reference end with the same two arrays. -/
theorem value : Cert.algebraic_Kernel2Ideal_Reference2Ideal (hKernel2Ideal := Cert.Kernel2Ideal.Gen.facts)
    (hReference2Ideal := Cert.Reference2Ideal.Gen.facts) := fun m g m' g' _ hag => by
  refine ⟨fun c => (dats m 0 c).arrAt 3 Cert.Kernel2Ideal.cfg0.N, fun c => final m c Cert.Kernel2Ideal.main_v5_1, run_named m g, ?_⟩
  refine (θ_run Cert.Reference2Ideal.defs _ _).mono (fun r h c => ?_) (Cert.Reference2Ideal.Value.run (F := Ideal) m' g')
  obtain ⟨e0, e1, e2⟩ := hag c
  obtain ⟨D, hd⟩ := exists_at2 (n := 4096) (m := 1024) (m ((c.tc : Thread Cert.Kernel2Ideal.nD Cert.Kernel2Ideal.τ).loc Cert.Kernel2Ideal.main_arg0))
  obtain ⟨P, hp⟩ := exists_at2 (n := 4096) (m := 4096) (m ((c.tc : Thread Cert.Kernel2Ideal.nD Cert.Kernel2Ideal.τ).loc Cert.Kernel2Ideal.main_arg1))
  obtain ⟨W, hw⟩ := exists_at2 (n := 4096) (m := 1024) (m ((c.tc : Thread Cert.Kernel2Ideal.nD Cert.Kernel2Ideal.τ).loc Cert.Kernel2Ideal.main_arg2))
  obtain ⟨h0, h1, hk⟩ := h c
  refine ⟨?_, ?_, hk⟩
  · refine (h0.trans (Cert.Reference2Ideal.Read.val_main_v15_eq _ _ _)).trans ?_
    rw [e0, e1, e2]
    funext i
    exact (ref_dp hd hp hw i).trans (dp_end m c hd hp hw i).symm
  · refine (h1.trans (Cert.Reference2Ideal.Read.val_main_v16_eq _ _)).trans ?_
    rw [e0, e1]
    funext i
    exact (ref_dw hd hp i).trans (out_at m c hd hp i).symm

end Cert.Fc2

end
-- ==== Proof.Fc1.lean ====
/- The MLP's first product: the kernel leaves the square of the rectified product, which is what the reference computes. -/
module

public import proofs.«01_k».proof.Defs
public import proofs.«01_k».proof.Proof.Fc2Claim
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Fc1

open Cert.Kernel3Ideal Cert.Kernel3Ideal.Gen Cert.Arr Cert.Fc2
open Idealize.ShloMosaic Idealize.ShloMosaic.TcCoe Idealize.ShloMosaic.ValueIdx Idealize.ShloMosaic.Tactic Idealize.SL.Sem
open scoped BigOperators

/-- An entry of the first product. -/
def pre (H W : ℕ → ℕ → EReal) (r f : ℕ) : EReal := ∑ k ∈ Finset.range 1024, H r k * W k f

/-- A load of a rectangle reads at the offsets. -/
theorem ld2 {n m n' m' : ℕ} {e : EltTy} {X : Vec Ideal ⟨2, ![n, m]⟩ e} {f : ℕ → ℕ → Elt Ideal e} (hX : At2 X f) (o p : ℕ)
    (inb : ∀ a, (![o, p] : Fin 2 → ℕ) a + (![n', m'] : Fin 2 → ℕ) a ≤ (⟨2, ![n, m]⟩ : Shape).size a) :
    At2 (n := n') (m := m') (View.ld (Val := Elt Ideal) X (Rect.unit (s := ⟨2, ![n, m]⟩) ![o, p] ![n', m'] inb)) fun r c => f (o + r) (p + c) := fun j => by
  refine (hX _).trans ?_
  have u : ∀ a : Fin 2, (((Rect.unit (s := ⟨2, ![n, m]⟩) ![o, p] ![n', m'] inb).emb j) a).val = (![o, p] : Fin 2 → ℕ) a + (j a).val :=
    fun a => congrArg ((![o, p] : Fin 2 → ℕ) a + ·) (Nat.one_mul (j a).val)
  exact congrArg₂ f (u 0) (u 1)

/-- A load of one of four weight blocks, seen as a matrix. -/
theorem ld_mat {X : Vec Ideal S4x1024x1024 .bf16} {G : ℕ → ℕ → ℕ → EReal} (hX : ∀ y : S4x1024x1024.Idx, (X y : EReal) = G (y 0).val (y 1).val (y 2).val) (j : ℕ)
    (inb : ∀ a, (![j, 0, 0] : Fin 3 → ℕ) a + S1x1024x1024.size a ≤ S4x1024x1024.size a) (h : S1x1024x1024.ShapeCasts S1024x1024) :
    At2 (α := EReal) (shapeCast S1024x1024 (View.ld (Val := Elt Ideal) X (Rect.unit (s := S4x1024x1024) ![j, 0, 0] S1x1024x1024.size inb)) h) (G j) := fun i => by
  refine (shapeCast_dropUnit_apply ![1024, 1024] _ h i).trans ((hX _).trans ?_)
  show G (j + 1 * 0) (0 + 1 * (i 0).val) (0 + 1 * (i 1).val) = _
  simp only [Nat.mul_zero, Nat.add_zero, Nat.zero_add, Nat.one_mul]

theorem zero_word : (Scalar.ofBits .f32 0x00000000#32 : Ideal .f32) = (0 : EReal) := by
  show Ideal.ofBits .f32 0x00000000#32 = _
  exact Ideal.ofBits_zero_f32

section Tile

variable {h0 : Vec Ideal S512x1024 .bf16} {w : Vec Ideal S1x1024x1024 .bf16} {H W : ℕ → ℕ → EReal}

theorem part (hh : At2 (α := EReal) h0 H) (hw : At2 (α := EReal) (shapeCast S1024x1024 w shapeCasts_S1x1024x1024_S1024x1024) W) :
    At2 (α := EReal) (k0_pay2 (F := Ideal) h0 w) (Fc2.sq (pre H W)) := fun i => by
  have e := at2_dot (n := 512) (m := 1024) (K := 1024) (φ := .bf16) (ψ := .bf16) hh hw dot_S512x1024_S1024x1024_S512x1024_1_0_0_1_n_n none rfl rfl
    (fun r _ k => H r k) (fun _ c k => W k c) (fun _ _ => rfl) (fun _ _ => rfl)
  have z := zero_word
  exact congrArg₂ (fun a b : EReal => max a b * max a b) (e i) z

end Tile

theorem tile {x0 : Vec Ideal S512x1024 .bf16} {x1 : Vec Ideal S4x1024x1024 .bf16} {H W : ℕ → ℕ → EReal} (hh : At2 (α := EReal) x0 H)
    (hw : ∀ y : S4x1024x1024.Idx, (x1 y : EReal) = W (y 1).val (1024 * (y 0).val + (y 2).val)) :
    At2 (α := EReal) (out0_2 (F := Ideal) x0 x1) (Fc2.sq (pre H W)) := fun i => by
  have l0 : At2 (α := EReal) (View.ld (Val := Elt Ideal) x0 r0_0) H := by
    have e := ld2 (e := .bf16) (n' := 512) (m' := 1024) hh 0 0 inb_S512x1024_S512x1024_0_0
    simp only [Nat.zero_add] at e
    exact e
  have lw := fun j inb => ld_mat (G := fun j k c => W k (1024 * j + c)) hw j inb shapeCasts_S1x1024x1024_S1024x1024
  unfold out0_2
  refine View.canon_apply_of_pieces (Val := Elt Ideal) (fun y : S512x4096.Idx => Fc2.sq (pre H W) (y 0).val (y 1).val) _ ?_ i (cover0_2 _ _ _ _ i)
  intro p hp
  simp only [List.mem_cons, List.not_mem_nil, or_false] at hp
  rcases hp with rfl | rfl | rfl | rfl
  · exact fun x => At2.piece 0 3072 (at2_mono (part l0 (lw 3 inb_S4x1024x1024_S1x1024x1024_3_0_0)) fun r c _ _ => by simp only [Fc2.sq, pre, Nat.zero_add, Nat.reduceMul]) inb_S512x4096_S512x1024_0_3072 x
  · exact fun x => At2.piece 0 2048 (at2_mono (part l0 (lw 2 inb_S4x1024x1024_S1x1024x1024_2_0_0)) fun r c _ _ => by simp only [Fc2.sq, pre, Nat.zero_add, Nat.reduceMul]) inb_S512x4096_S512x1024_0_2048 x
  · exact fun x => At2.piece 0 1024 (at2_mono (part l0 (lw 1 inb_S4x1024x1024_S1x1024x1024_1_0_0)) fun r c _ _ => by simp only [Fc2.sq, pre, Nat.zero_add, Nat.reduceMul]) inb_S512x4096_S512x1024_0_1024 x
  · exact fun x => At2.piece 0 0 (at2_mono (part l0 (lw 0 inb_S4x1024x1024_S1x1024x1024_0_0_0)) fun r c _ _ => by simp only [Fc2.sq, pre, Nat.zero_add, Nat.reduceMul]) inb_S512x4096_S512x1024_0_0 x

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])

/-- The columns in four blocks of 1024, the blocks outermost. -/
theorem at_blocks {p : (⟨2, ![1024, 4096]⟩ : Shape).Idx → EReal} {W : ℕ → ℕ → EReal} (hp : At2 p W) (h : (⟨2, ![1024, 4096]⟩ : Shape).ShapeCasts ⟨3, ![1024, 4, 1024]⟩)
    (h' : Shape.Transposes ⟨3, ![1024, 4, 1024]⟩ [1, 0, 2] ⟨3, ![4, 1024, 1024]⟩) (i : (⟨3, ![4, 1024, 1024]⟩ : Shape).Idx) :
    transpose ⟨3, ![4, 1024, 1024]⟩ [1, 0, 2] (shapeCast ⟨3, ![1024, 4, 1024]⟩ p h) h' i = W (i 1).val (1024 * (i 0).val + (i 2).val) := by
  have e0 : (i 0).val < 4 := (i 0).isLt
  have e2 : (i 2).val < 1024 := (i 2).isLt
  refine (transpose_apply [1, 0, 2] _ h' i (ValueIdx.ix3 (i 1) (i 0) (i 2)) (fun a => by match a with | ⟨0, _⟩ => rfl | ⟨1, _⟩ => rfl | ⟨2, _⟩ => rfl)).trans ?_
  refine (shapeCast_apply p h _ (ValueIdx.ix2 (i 1) ⟨1024 * (i 0).val + (i 2).val, by omega⟩) ?_).trans (hp _)
  rw [Shape.rowMajor_val_two, Shape.rowMajor_val_three]
  show (i 1).val * 4096 + (1024 * (i 0).val + (i 2).val) = ((i 1).val * 4 + (i 0).val) * 1024 + (i 2).val
  omega

section Blocks

variable (m : (ℓ : Loc nD τ sig) → Buf (Elt Ideal) ℓ) (c : Dev nD) (t : Fin cfg0.N) {H W : ℕ → ℕ → EReal}
  (hh : At2 (α := EReal) (m ((c : Thread nD τ).loc main_arg0) : Vec Ideal ⟨2, ![4096, 1024]⟩ .bf16) H)
  (hw : At2 (α := EReal) (m ((c : Thread nD τ).loc main_arg1) : Vec Ideal ⟨2, ![1024, 4096]⟩ .f32) W)

include hh in
theorem blk0 : At2 (α := EReal) (n := 512) (m := 1024) (iblk m c 0 t) fun r k => H (512 * t.val + r) k := fun y => by
  have e : iblk m c 0 t y = V m c main_arg0 (((cfg0.win 0).blk t).view.emb y) := by blk_simp [iblk]
  rw [e, V_main_arg0]
  refine (hh _).trans ?_
  blk_simp [index0 t]
  first | done | (congr 2 <;> omega)

theorem V_v2 : (V m c main_v2 : Vec Ideal S4x1024x1024 .bf16) = truncf (F := Ideal) .bf16 (transpose S4x1024x1024 [1, 0, 2]
      (shapeCast S1024x4x1024 (m ((c : Thread nD τ).loc main_arg1) : Vec Ideal S1024x4096 .f32) shapeCasts_S1024x4096_S1024x4x1024) transposes_S1024x4x1024_S4x1024x1024_1_0_2) bitsLt_bf16_f32 := by
  show StableHlo.after [hostOps0].flatten (fun b => m (c, b)) (Proc.tc.devRef main_v2) = _
  simp only [hostOps0, List.flatten_cons, List.flatten_nil, List.append_nil, List.cons_append, List.nil_append]
  after_results <;> rfl

include hw in
theorem blk1 (y : S4x1024x1024.Idx) : (iblk m c 1 t : Vec Ideal S4x1024x1024 .bf16) y = W (y 1).val (1024 * (y 0).val + (y 2).val) := by
  have e : iblk m c 1 t y = V m c main_v2 (((cfg0.win 1).blk t).view.emb y) := by blk_simp [iblk]
  rw [e, V_v2]
  refine (at_blocks hw shapeCasts_S1024x4096_S1024x4x1024 transposes_S1024x4x1024_S4x1024x1024_1_0_2 _).trans ?_
  blk_simp [index1 t]
  first | done | (congr 2 <;> omega)

include hh hw in
/-- The result array at the end. -/
theorem q_end : At2 (α := EReal) (n := 4096) (m := 4096) ((dats m 0 c).arrAt 2 cfg0.N) (Fc2.sq (pre H W)) := by
  refine congrFun ((dats m 0 c).arrAt_eq_of_covers 2 (fun i => Fc2.sq (pre H W) (i 0).val (i 1).val) (by decide +kernel) fun t hf y => ?_)
  blk_simp [index2 t]
  rw [after0_2]
  refine (tile (blk0 m c t hh) (blk1 m c t hw) y).trans ?_
  exact congrArg (fun x : ℕ => Fc2.sq (pre H W) (x + (y 0).val) (y 1).val) (Nat.mul_comm 512 t.val)

end Blocks

section Ref

open Cert.Reference3Ideal.Read

variable {x0 : Vec Ideal ⟨2, ![4096, 1024]⟩ .bf16} {x1 : Vec Ideal ⟨2, ![1024, 4096]⟩ .f32} {H W : ℕ → ℕ → EReal}

theorem ref_q (hh : At2 (α := EReal) x0 H) (hw : At2 (α := EReal) x1 W) : At2 (α := EReal) (val_main_v4 (F := Ideal) x0 x1) (Fc2.sq (pre H W)) := fun i => by
  rw [val_main_v4_apply, val_main_v3_apply, val_main_v2_apply, val_main_v1_apply]
  simp only [val_main_v0_apply, val_main_call0_v0_apply]
  show max (∑ k : Fin 1024, x0 (lidx_main_v1 i k) * x1 (ridx_main_v1 i k) : EReal) (Ideal.ofBits .f32 0x00000000#32)
    * max (∑ k : Fin 1024, x0 (lidx_main_v1 i k) * x1 (ridx_main_v1 i k) : EReal) (Ideal.ofBits .f32 0x00000000#32) = _
  have e : (∑ k : Fin 1024, (x0 (lidx_main_v1 i k) * x1 (ridx_main_v1 i k) : EReal)) = pre H W (i 0).val (i 1).val :=
    (Finset.sum_congr rfl fun k _ => congrArg₂ (fun a b : EReal => a * b) (hh (lidx_main_v1 i k)) (hw (ridx_main_v1 i k))).trans
      (Fin.sum_univ_eq_sum_range (fun k => H (i 0).val k * W k (i 1).val) 1024)
  rw [Ideal.ofBits_zero_f32, e]
  rfl

end Ref

/-- For all arguments the kernel and the reference end with the same array. -/
theorem value : Cert.algebraic_Kernel3Ideal_Reference3Ideal (hKernel3Ideal := Cert.Kernel3Ideal.Gen.facts)
    (hReference3Ideal := Cert.Reference3Ideal.Gen.facts) := fun m g m' g' _ hag => by
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run (F := Ideal) m' g')
  obtain ⟨e0, e1⟩ := hag c
  obtain ⟨H, hh⟩ := exists_at2 (n := 4096) (m := 1024) (m ((c.tc : Thread Cert.Kernel3Ideal.nD Cert.Kernel3Ideal.τ).loc Cert.Kernel3Ideal.main_arg0))
  obtain ⟨W, hw⟩ := exists_at2 (n := 1024) (m := 4096) (m ((c.tc : Thread Cert.Kernel3Ideal.nD Cert.Kernel3Ideal.τ).loc Cert.Kernel3Ideal.main_arg1))
  obtain ⟨h0, hk⟩ := h c
  refine ⟨?_, hk⟩
  refine (h0.trans (Cert.Reference3Ideal.Read.val_main_v4_eq _ _)).trans ?_
  rw [e0, e1]
  funext i
  exact (ref_q hh hw i).trans (q_end m c hh hw i).symm

end Cert.Fc1

end
-- ==== Proof.HeadAlg.lean ====
/- The last residual, its loss and its gradients over the extended reals, and the rules that bring the reference's order of operations to
   the kernel's. -/
module

public import proofs.«01_k».proof.Proof.Fc2Ref
public import proofs.«01_k».proof.Proof.Words

@[expose] public section

noncomputable section

namespace Cert.Head

open Idealize.ShloMosaic Cert.Arr
open scoped BigOperators

/-- A factor that is a real number and not negative comes out of a sum. -/
theorem sum_scale {x : ℝ} (hx : 0 ≤ x) (g : ℕ → EReal) : ∀ n : ℕ, ∑ k ∈ Finset.range n, (x : EReal) * g k = (x : EReal) * ∑ k ∈ Finset.range n, g k
  | 0 => by simp
  | n + 1 => by
    rw [Finset.sum_range_succ, Finset.sum_range_succ, sum_scale hx g n,
      EReal.left_distrib_of_nonneg_of_ne_top (EReal.coe_nonneg.2 hx) (EReal.coe_ne_top x)]

/-- A number added to itself. -/
theorem add_self (y : EReal) : y + y = 2 * y := by
  induction y with
  | bot => rw [EReal.bot_add]; exact (EReal.mul_bot_of_pos (by norm_num)).symm
  | top => rw [EReal.top_add_top]; exact (EReal.mul_top_of_pos (by norm_num)).symm
  | coe y =>
    rw [← EReal.coe_add, ← two_mul, EReal.coe_mul]
    rfl

theorem mul_self_nonneg' (y : EReal) : 0 ≤ y * y := by
  induction y with
  | bot => rw [EReal.bot_mul_bot]; exact le_top
  | top => rw [EReal.top_mul_top]; exact le_top
  | coe y => rw [← EReal.coe_mul]; exact EReal.coe_nonneg.2 (mul_self_nonneg y)

section Spec

variable (f X T : ℕ → ℕ → EReal) (G : ℕ → EReal)

/-- The mean square of a row, and a little more. -/
def ms (r : ℕ) : EReal := (∑ k ∈ Finset.range 1024, f r k * f r k) * ((1 / 1024 : ℝ) : EReal) + ((Spec.eps : ℝ) : EReal)

/-- One over the root of it. -/
def rt (r : ℕ) : EReal := Ideal.rsqrt (ms f r)

/-- The normalised row. -/
def fh (r c : ℕ) : EReal := f r c * rt f r

/-- The residual against the target. -/
def err (r c : ℕ) : EReal := X r c + fh f r c * G c - T r c

/-- The residual's gradient. -/
def dy (r c : ℕ) : EReal := err f X T G r c * ((1 / 1024 : ℝ) : EReal)

/-- A row's part of the loss, before the half. -/
def sqe (r : ℕ) : EReal := (∑ k ∈ Finset.range 1024, err f X T G r k * err f X T G r k) * ((1 / 1024 : ℝ) : EReal)

/-- The gradient of the second product. -/
def df (r c : ℕ) : EReal :=
  rt f r * (dy f X T G r c * G c - fh f r c * ((∑ k ∈ Finset.range 1024, dy f X T G r k * G k * fh f r k) * ((1 / 1024 : ℝ) : EReal)))

/-- A row's part of the gain's gradient. -/
def ds (r c : ℕ) : EReal := dy f X T G r c * fh f r c

end Spec

theorem eps_pos : 0 < Spec.eps := by unfold Spec.eps; norm_num

/-- The mean square is positive, and infinite or a real number. -/
theorem ms_cases (f : ℕ → ℕ → EReal) (r : ℕ) : ms f r = ⊤ ∨ ∃ v : ℝ, 0 < v ∧ ms f r = (v : EReal) := by
  have h0 : 0 ≤ ∑ k ∈ Finset.range 1024, f r k * f r k := Finset.sum_nonneg fun k _ => mul_self_nonneg' _
  unfold ms
  generalize (∑ k ∈ Finset.range 1024, f r k * f r k) = y at h0
  induction y with
  | bot => exact absurd h0 (by simp)
  | top =>
    left
    rw [EReal.top_mul_of_pos (EReal.coe_pos.2 (by norm_num)), EReal.top_add_coe]
  | coe y =>
    refine Or.inr ⟨y * (1 / 1024) + Spec.eps, ?_, by push_cast; rfl⟩
    have := eps_pos
    have h1 : 0 ≤ y := EReal.coe_nonneg.1 h0
    positivity

/-- The gradient through the root mean square, in the two orders. -/
theorem df_alg (f g : ℕ → ℕ → EReal) (r c : ℕ) :
    rt f r * (g r c - fh f r c * ((∑ k ∈ Finset.range 1024, g r k * fh f r k) * ((1 / 1024 : ℝ) : EReal)))
      = (g r c * rt f r + f r c * ((∑ k ∈ Finset.range 1024, f r k * g r k) * (((-(1 / 2) : ℝ) : EReal) * Ideal.div (rt f r) (ms f r)) * ((1 / 1024 : ℝ) : EReal)))
        + (∑ k ∈ Finset.range 1024, f r k * g r k) * (((-(1 / 2) : ℝ) : EReal) * Ideal.div (rt f r) (ms f r)) * ((1 / 1024 : ℝ) : EReal) * f r c := by
  unfold fh
  rcases ms_cases f r with h | ⟨v, hv, h⟩
  · have e : rt f r = 0 := by unfold rt; rw [h]; rfl
    have e2 : Ideal.div 0 ⊤ = 0 := by simp [Ideal.div]
    rw [h, e, e2]
    simp
  · have e : rt f r = (((Real.sqrt v)⁻¹ : ℝ) : EReal) := by unfold rt; rw [h, coe_rsqrt v hv]
    have hp : 0 < (Real.sqrt v)⁻¹ := inv_pos.2 (Real.sqrt_pos.2 hv)
    have es : (∑ k ∈ Finset.range 1024, g r k * (f r k * (((Real.sqrt v)⁻¹ : ℝ) : EReal)))
        = (((Real.sqrt v)⁻¹ : ℝ) : EReal) * ∑ k ∈ Finset.range 1024, f r k * g r k := by
      rw [← sum_scale hp.le]
      exact Finset.sum_congr rfl fun k _ => by rw [← mul_assoc, mul_comm, mul_comm (g r k)]
    rw [h, e, coe_div _ _ hv.ne', es]
    generalize (∑ k ∈ Finset.range 1024, f r k * g r k) = S
    have hv2 : v = ((Real.sqrt v)⁻¹)⁻¹ * ((Real.sqrt v)⁻¹)⁻¹ := by rw [inv_inv, Real.mul_self_sqrt hv.le]
    generalize (Real.sqrt v)⁻¹ = ρ at hp hv2
    have ev : ρ / v = ρ * ρ * ρ := by rw [hv2]; field_simp
    rw [ev]
    have e1 : S * (((-(1 / 2) : ℝ) : EReal) * ((ρ * ρ * ρ : ℝ) : EReal)) * ((1 / 1024 : ℝ) : EReal) = -(((ρ * ρ * ρ / 2048 : ℝ) : EReal) * S) := by
      rw [mul_assoc, ← EReal.coe_mul, ← EReal.coe_mul, mul_comm, ← EReal.neg_mul, ← EReal.coe_neg]
      congr 2
      ring
    have e2 : ∀ y : EReal, f r c * -y = -(f r c * y) := fun y => by rw [mul_comm, EReal.neg_mul, mul_comm]
    rw [e1, EReal.neg_mul, mul_comm _ (f r c), e2, add_assoc, add_self, sub_eq_add_neg,
      EReal.left_distrib_of_nonneg_of_ne_top (EReal.coe_nonneg.2 hp.le) (EReal.coe_ne_top ρ), mul_comm (ρ : EReal) (g r c)]
    refine congrArg _ ?_
    have n2 : ∀ a y : EReal, a * -y = -(a * y) := fun a y => by rw [mul_comm, EReal.neg_mul, mul_comm]
    rw [n2, n2]
    refine congrArg _ ?_
    have t : (2 : EReal) = ((2 : ℝ) : EReal) := rfl
    rw [t]
    have l : (ρ : EReal) * (f r c * (ρ : EReal) * ((ρ : EReal) * S * ((1 / 1024 : ℝ) : EReal)))
        = ((ρ : EReal) * (ρ : EReal) * (ρ : EReal) * ((1 / 1024 : ℝ) : EReal)) * (f r c * S) := by ac_rfl
    have l2 : ((2 : ℝ) : EReal) * (f r c * (((ρ * ρ * ρ / 2048 : ℝ) : EReal) * S)) = (((2 : ℝ) : EReal) * ((ρ * ρ * ρ / 2048 : ℝ) : EReal)) * (f r c * S) := by ac_rfl
    rw [l, l2, ← EReal.coe_mul, ← EReal.coe_mul, ← EReal.coe_mul, ← EReal.coe_mul]
    congr 2
    ring

/-- The residual's gradient in the reference's order. -/
theorem dy_alg (e : EReal) : ((1 / 2048 : ℝ) : EReal) * (2 * e) = e * ((1 / 1024 : ℝ) : EReal) := by
  have t : (2 : EReal) = ((2 : ℝ) : EReal) := rfl
  rw [t, ← mul_assoc, ← EReal.coe_mul, mul_comm]
  congr 2
  norm_num

/-- The second product. -/
def prod (Q W : ℕ → ℕ → EReal) (r c : ℕ) : EReal := ∑ k ∈ Finset.range 4096, Q r k * W k c

/-- The gain: the gate's row times the norm's gain. -/
def gain (M : ℕ → ℕ → EReal) (N : ℕ → EReal) (c : ℕ) : EReal := M 5 c * N c

end Cert.Head

end
-- ==== Proof.HeadTile.lean ====
/- What the body of the second product and the loss leaves in each result's block, over the extended reals. -/
module

public import proofs.«01_k».proof.Proof.HeadAlg
public import proofs.«01_k».proof.Proof.Reads
public import proofs.«01_k».proof.Proof.Accum
public import proofs.«01_k».proof.Proof.Gen.Kernel4Ideal.Frame

@[expose] public section

set_option maxRecDepth 16384

noncomputable section

namespace Cert.Head

open Cert.Kernel4Ideal Cert.Kernel4Ideal.Gen Cert.Arr
open Idealize.ShloMosaic Idealize.ShloMosaic.ValueIdx Idealize.ShloMosaic.TcCoe Idealize.ShloMosaic.Tactic
open scoped BigOperators

/-- The sums along the rows of extended reals, kept as a column. -/
theorem rowSumE {n m : ℕ} {φ : FTy} {a : FVec Ideal ⟨2, ![n, m]⟩ φ} {f : ℕ → ℕ → EReal} (ha : At2 a f) (acc : BitVec φ.bits)
    (h : Shape.Reduces ⟨2, ![n, m]⟩ [1] ⟨1, ![n]⟩) (hφ : FKind.Formats φ) (hacc : acc = FKind.add.neutral φ hφ)
    (hc : Shape.ShapeCasts ⟨1, ![n]⟩ ⟨2, ![n, 1]⟩) :
    At2 (shapeCast ⟨2, ![n, 1]⟩ (multiReduction .add [1] ⟨1, ![n]⟩ a acc h hφ hacc) hc) fun r _ => ∑ c ∈ Finset.range m, f r c := fun j => by
  rw [shapeCast_apply _ hc j (ValueIdx.ix1 (j 0)) (by
    have j1 := idx2_lt1 j
    rw [Shape.rowMajor_val_one, Shape.rowMajor_val_two]
    show (j 0).val = (j 0).val * 1 + (j 1).val
    omega)]
  rw [Ideal.multiReduction_add_single]
  have e : ∀ q : Fin m, a (h.lift (ValueIdx.ix1 (j 0)) q) = f (j 0).val q.val := fun q => by
    rw [ha]
    have e0 : (h.lift (ValueIdx.ix1 (j 0)) q 0).val = (j 0).val := rfl
    have e1 : (h.lift (ValueIdx.ix1 (j 0)) q 1).val = q.val := rfl
    rw [e0, e1]
  exact (Finset.sum_congr rfl fun q _ => e q).trans (Fin.sum_univ_eq_sum_range (fun q => f (j 0).val q) m)

theorem w_1024 : (Scalar.ofBits .f32 0x44800000#32 : Ideal .f32) = ((1024 : ℝ) : EReal) := by
  show Ideal.ofBits .f32 0x44800000#32 = _
  simp [Ideal.ofBits, Ideal.ieee, -EReal.coe_mul]; norm_num

theorem w_over1024 : (Scalar.ofBits .f32 0x3A800000#32 : Ideal .f32) = ((1 / 1024 : ℝ) : EReal) := by
  show Ideal.ofBits .f32 0x3A800000#32 = _
  simp [Ideal.ofBits, Ideal.ieee, -EReal.coe_mul]; norm_num

theorem w_half : (Scalar.ofBits .f32 0x3F000000#32 : Ideal .f32) = ((1 / 2 : ℝ) : EReal) := Words.w_half
theorem w_eps : (Scalar.ofBits .f32 0x358637BD#32 : Ideal .f32) = ((Spec.eps : ℝ) : EReal) := Words.w_eps

/-- Division by the row's length. -/
theorem over1024 (x : EReal) : Ideal.div x (Scalar.ofBits .f32 0x44800000#32 : Ideal .f32) = x * ((1 / 1024 : ℝ) : EReal) := by
  rw [w_1024, Ideal.div_coe (by norm_num)]

section Pay

variable {f X T : ℕ → ℕ → EReal} {G M N S : ℕ → EReal} {L : EReal} {g : FVec Ideal S1x1024 .f32} {v v26 : FVec Ideal S512x1024 .f32}
  {x t : Vec Ideal S512x1024 .f32}

theorem p4 {a b : Vec Ideal S1x1024 .f32} (ha : At2 (α := EReal) a fun _ => M) (hb : At2 (α := EReal) b fun _ => N) :
    At2 (α := EReal) (k0_pay4 (F := Ideal) a b) fun _ c => M c * N c := fun i =>
  congrArg₂ (fun a b : EReal => a * b) (ha i) (hb.cast shapeCasts_S1x1024_S1x1024 i)

theorem p5 {Q W : ℕ → ℕ → EReal} {q0 q1 q2 q3 : Vec Ideal S512x1024 .bf16} {w0 w1 w2 w3 : Vec Ideal S1x1024x1024 .bf16}
    (h0 : At2 (α := EReal) q0 fun r k => Q r (1024 * 0 + k)) (h1 : At2 (α := EReal) q1 fun r k => Q r (1024 * 1 + k))
    (h2 : At2 (α := EReal) q2 fun r k => Q r (1024 * 2 + k)) (h3 : At2 (α := EReal) q3 fun r k => Q r (1024 * 3 + k))
    (k0 : Fc2.Mat w0 fun k c => W (1024 * 0 + k) c) (k1 : Fc2.Mat w1 fun k c => W (1024 * 1 + k) c)
    (k2 : Fc2.Mat w2 fun k c => W (1024 * 2 + k) c) (k3 : Fc2.Mat w3 fun k c => W (1024 * 3 + k) c) :
    At2 (α := EReal) (k0_pay5 (F := Ideal) q0 w0 q1 w1 q2 w2 q3 w3) fun r c => ∑ k ∈ Finset.range 4096, Q r k * W k c := fun i => by
  have P : ∀ {q : Vec Ideal S512x1024 .bf16} {w : Vec Ideal S1x1024x1024 .bf16} (j : ℕ), At2 (α := EReal) q (fun r k => Q r (1024 * j + k)) → Fc2.Mat w (fun k c => W (1024 * j + k) c) →
      At2 (n := 512) (m := 1024) (α := EReal) (matmul (φ₁ := .bf16) (φ₂ := .bf16) dot_S512x1024_S1024x1024_S512x1024_1_0_0_1_n_n none q (shapeCast (α := Ideal .bf16) S1024x1024 w shapeCasts_S1x1024x1024_S1024x1024) (constant S512x1024 .f32 0x00000000#32))
        fun r c => ∑ k ∈ Finset.range 1024, Q r (1024 * j + k) * W (1024 * j + k) c := fun {q w} j hq hw => by
    have hw' : At2 (n := 1024) (m := 1024) (α := EReal) (shapeCast (α := Ideal .bf16) S1024x1024 w shapeCasts_S1x1024x1024_S1024x1024) fun k c => W (1024 * j + k) c := fun i =>
      (shapeCast_dropUnit_apply ![1024, 1024] w shapeCasts_S1x1024x1024_S1024x1024 i).trans (hw _)
    exact Fc2.at2_dot (n := 512) (m := 1024) (K := 1024) (φ := .bf16) (ψ := .bf16) hq hw'
      dot_S512x1024_S1024x1024_S512x1024_1_0_0_1_n_n none rfl rfl (fun r _ k => Q r (1024 * j + k)) (fun _ c k => W (1024 * j + k) c) (fun _ _ => rfl) (fun _ _ => rfl)
  have e := Cert.Tile.sum_tiles 1024 (fun k => Q (i 0).val k * W k (i 1).val) 4
  simp only [Finset.sum_range_succ _ 3, Finset.sum_range_succ _ 2, Finset.sum_range_succ _ 1, Finset.sum_range_one] at e
  exact (congrArg₂ (fun a b : EReal => a + b) (congrArg₂ (fun a b : EReal => a + b) (congrArg₂ (fun a b : EReal => a + b) (P 0 h0 k0 i) (P 1 h1 k1 i)) (P 2 h2 k2 i)) (P 3 h3 k3 i)).trans e

theorem p6 (hv : At2 (α := EReal) v f) : At2 (α := EReal) (mulf (F := Ideal) (φ := .f32) v v) fun r c => f r c * f r c := fun i =>
  congrArg₂ (fun a b : EReal => a * b) (hv i) (hv i)

theorem p7 (h26 : At2 (α := EReal) v26 fun r c => f r c * f r c) : At2 (α := EReal) (k0_pay7 (F := Ideal) v26) fun r _ => rt f r := fun i => by
  have e := rowSumE (n := 512) (m := 1024) (φ := .f32) h26 0x00000000#32 reduces_S512x1024_S512 (.inl rfl) rfl shapeCasts_S512_S512x1 i
  show Ideal.rsqrt (Ideal.div (_ : EReal) (Scalar.ofBits .f32 0x44800000#32 : Ideal .f32) + (Scalar.ofBits .f32 0x358637BD#32 : Ideal .f32) : EReal) = _
  rw [over1024, w_eps]
  exact congrArg (fun y : EReal => Ideal.rsqrt (y * ((1 / 1024 : ℝ) : EReal) + ((Spec.eps : ℝ) : EReal))) e

theorem p8 (hv : At2 (α := EReal) v f) (h26 : At2 (α := EReal) v26 fun r c => f r c * f r c) : At2 (α := EReal) (k0_pay8 (F := Ideal) v v26) (fh f) := fun i =>
  congrArg₂ (fun a b : EReal => a * b) (hv i) ((p7 h26).ofCol broadcasts_S512x1_S512x1024 i)

theorem p9 (hg : At2 (α := EReal) g fun _ => G) (hv : At2 (α := EReal) v f) (h26 : At2 (α := EReal) v26 fun r c => f r c * f r c)
    (hx : At2 (α := EReal) x X) (ht : At2 (α := EReal) t T) : At2 (α := EReal) (k0_pay9 (F := Ideal) g v v26 x t) (err f X T G) := fun i =>
  congrArg₂ (fun a b : EReal => a - b) (congrArg₂ (fun a b : EReal => a + b) (hx i) (congrArg₂ (fun a b : EReal => a * b) (p8 hv h26 i) (hg.ofRow broadcasts_S1x1024_S512x1024 i))) (ht i)

theorem p11 (hg : At2 (α := EReal) g fun _ => G) (hv : At2 (α := EReal) v f) (h26 : At2 (α := EReal) v26 fun r c => f r c * f r c)
    (hx : At2 (α := EReal) x X) (ht : At2 (α := EReal) t T) : At2 (α := EReal) (k0_pay11 (F := Ideal) g v v26 x t) (dy f X T G) := fun i =>
  congrArg₂ (fun a b : EReal => a * b) (p9 hg hv h26 hx ht i) w_over1024

theorem p10 {a : Vec Ideal S1x1 .f32} (ha : At2 (α := EReal) a fun _ _ => L) (hg : At2 (α := EReal) g fun _ => G) (hv : At2 (α := EReal) v f)
    (h26 : At2 (α := EReal) v26 fun r c => f r c * f r c) (hx : At2 (α := EReal) x X) (ht : At2 (α := EReal) t T) :
    At2 (α := EReal) (k0_pay10 (F := Ideal) g v v26 x t a) fun _ _ => L + ((1 / 2 : ℝ) : EReal) * ∑ r ∈ Finset.range 512, sqe f X T G r := fun i => by
  have h9 := p9 hg hv h26 hx ht
  have e := rowSumE (n := 512) (m := 1024) (φ := .f32) (p6 h9) 0x00000000#32 reduces_S512x1024_S512 (.inl rfl) rfl shapeCasts_S512_S512x1
  have d : At2 (α := EReal) (divf (F := Ideal) (φ := .f32) (shapeCast S512x1 (multiReduction .add [1] S512 (mulf (k0_pay9 (F := Ideal) g v v26 x t) (k0_pay9 (F := Ideal) g v v26 x t)) 0x00000000#32 reduces_S512x1024_S512 (.inl rfl) rfl) shapeCasts_S512_S512x1)
      (broadcast S512x1 (Scalar.ofBits .f32 0x44800000#32))) fun r _ => sqe f X T G r := fun j =>
    (over1024 _).trans (congrArg (fun y : EReal => y * ((1 / 1024 : ℝ) : EReal)) (e j))
  have s := colSumE (n := 512) (m := 1) (φ := .f32) d 0x00000000#32 reduces_S512x1_S1 (.inl rfl) rfl shapeCasts_S1_S1x1 i
  exact congrArg₂ (fun a b : EReal => a + b) (ha.cast shapeCasts_S1x1_S1x1 i) (congrArg₂ (fun a b : EReal => a * b) w_half s)

theorem p12 {a : Vec Ideal S1x1024 .f32} (ha : At2 (α := EReal) a fun _ => S) (hg : At2 (α := EReal) g fun _ => G) (hv : At2 (α := EReal) v f)
    (h26 : At2 (α := EReal) v26 fun r c => f r c * f r c) (hx : At2 (α := EReal) x X) (ht : At2 (α := EReal) t T) :
    At2 (α := EReal) (k0_pay12 (F := Ideal) g v v26 x t a) fun _ c => S c + ∑ r ∈ Finset.range 512, ds f X T G r c := fun i => by
  have d : At2 (α := EReal) (mulf (F := Ideal) (φ := .f32) (k0_pay11 (F := Ideal) g v v26 x t) (k0_pay8 (F := Ideal) v v26)) (ds f X T G) := fun j =>
    congrArg₂ (fun a b : EReal => a * b) (p11 hg hv h26 hx ht j) (p8 hv h26 j)
  exact congrArg₂ (fun a b : EReal => a + b) (ha.cast shapeCasts_S1x1024_S1x1024 i) (colSumE (n := 512) (m := 1024) (φ := .f32) d 0x00000000#32 reduces_S512x1024_S1024 (.inl rfl) rfl shapeCasts_S1024_S1x1024 i)

theorem p1 {r : FVec Ideal S512x1 .f32} {h d : FVec Ideal S512x1024 .f32} (hg : At2 (α := EReal) g fun _ => G) (hr : At2 (α := EReal) r fun r _ => rt f r) (hh : At2 (α := EReal) h (fh f))
    (hd : At2 (α := EReal) d (dy f X T G)) : At2 (α := EReal) (k0_pay1 (F := Ideal) g r h d) (df f X T G) := fun i => by
  have e66 : At2 (α := EReal) (mulf (F := Ideal) (φ := .f32) d (broadcastTo S512x1024 g broadcasts_S1x1024_S512x1024)) fun r c => dy f X T G r c * G c := fun j =>
    congrArg₂ (fun a b : EReal => a * b) (hd j) (hg.ofRow broadcasts_S1x1024_S512x1024 j)
  have e67 : At2 (α := EReal) (mulf (F := Ideal) (φ := .f32) (mulf (F := Ideal) (φ := .f32) d (broadcastTo S512x1024 g broadcasts_S1x1024_S512x1024)) h) fun r c => dy f X T G r c * G c * fh f r c := fun j =>
    congrArg₂ (fun a b : EReal => a * b) (e66 j) (hh j)
  have e69 := rowSumE (n := 512) (m := 1024) (φ := .f32) e67 0x00000000#32 reduces_S512x1024_S512 (.inl rfl) rfl shapeCasts_S512_S512x1
  have e71 : At2 (α := EReal) (divf (F := Ideal) (φ := .f32) (shapeCast S512x1 (multiReduction .add [1] S512 (mulf (F := Ideal) (φ := .f32) (mulf (F := Ideal) (φ := .f32) d (broadcastTo S512x1024 g broadcasts_S1x1024_S512x1024)) h) 0x00000000#32 reduces_S512x1024_S512 (.inl rfl) rfl) shapeCasts_S512_S512x1)
      (broadcast S512x1 (Scalar.ofBits .f32 0x44800000#32))) fun r _ => (∑ k ∈ Finset.range 1024, dy f X T G r k * G k * fh f r k) * ((1 / 1024 : ℝ) : EReal) := fun j =>
    (over1024 _).trans (congrArg (fun y : EReal => y * ((1 / 1024 : ℝ) : EReal)) (e69 j))
  exact congrArg₂ (fun a b : EReal => a * b) (hr.ofCol broadcasts_S512x1_S512x1024 i)
    (congrArg₂ (fun a b : EReal => a - b) (e66 i) (congrArg₂ (fun a b : EReal => a * b) (hh i) (e71.ofCol broadcasts_S512x1_S512x1024 i)))

end Pay

/-- A block that one store covers. -/
theorem out_whole {n m : ℕ} {e : EltTy} {sig : RefSig} {κ : Kind} {sp : Space} (v : View sig κ sp ⟨2, ![n, m]⟩ e) {w : Vec Ideal ⟨2, ![n, m]⟩ e} {f : ℕ → ℕ → Elt Ideal e} (hw : At2 w f)
    (L : List (View.Piece (Elt Ideal) ⟨2, ![n, m]⟩ e)) (inb : ∀ a, (![0, 0] : Fin 2 → ℕ) a + (⟨2, ![n, m]⟩ : Shape).size a ≤ (⟨2, ![n, m]⟩ : Shape).size a) :
    At2 (v.read (Elt Ideal) (v.writes (Elt Ideal) v.junk ((⟨Rect.unit (s := ⟨2, ![n, m]⟩) ![0, 0] (⟨2, ![n, m]⟩ : Shape).size inb, w⟩ : View.Piece (Elt Ideal) ⟨2, ![n, m]⟩ e) :: L))) f := by
  rw [View.read_writes_junk_eq_canon, View.canon_cons_unit_zero (Val := Elt Ideal) (by funext a; fin_cases a <;> rfl) inb w L]
  exact hw

/-- A load of a whole block. -/
theorem rd_whole {n m : ℕ} {e : EltTy} {sig : RefSig} {κ : Kind} {sp : Space} {a : Memref sig κ sp ⟨2, ![n, m]⟩ e} (ha : a.IsWhole) {X : Vec Ideal ⟨2, ![n, m]⟩ e} {f : ℕ → ℕ → Elt Ideal e} (hX : At2 X f)
    (inb : ∀ a, (![0, 0] : Fin 2 → ℕ) a + (![n, m] : Fin 2 → ℕ) a ≤ (⟨2, ![n, m]⟩ : Shape).size a) :
    At2 (n := n) (m := m) (View.readAt (Elt Ideal) a.view (Rect.unit (s := ⟨2, ![n, m]⟩) ![0, 0] ![n, m] inb).toLoadRect (ha.unread X)) f := by
  have h := Fc2.rd_at2 ha hX 0 0 inb
  simp only [Nat.zero_add] at h
  exact h

/-- What a grid point's blocks hold: its rows of the arguments, the gate's row and the gain, and the four weight blocks. -/
structure Blocks (Q X T M W : ℕ → ℕ → EReal) (N : ℕ → EReal) (x0 : Vec Ideal S512x4096 .bf16) (x1 x2 : Vec Ideal S512x1024 .f32) (x3 : Vec Ideal S6x1024 .f32) (x4 : Vec Ideal S1x1024 .f32)
    (x5 : Vec Ideal S4x1024x1024 .bf16) : Prop where
  h0 : At2 (α := EReal) x0 Q
  h1 : At2 (α := EReal) x1 X
  h2 : At2 (α := EReal) x2 T
  h3 : At2 (α := EReal) x3 M
  h4 : At2 (α := EReal) x4 fun _ => N
  h5 : ∀ y : S4x1024x1024.Idx, (x5 y : EReal) = W (1024 * (y 0).val + (y 1).val) (y 2).val

namespace CaseA

variable {c : Dev nD} {i : grid0.Coords} {arg1 : Memref sig .tc .vmem S512x4096 .bf16} {harg1 : arg1.IsWhole} {arg2 : Memref sig .tc .vmem S512x1024 .f32} {harg2 : arg2.IsWhole} {arg3 : Memref sig .tc .vmem S512x1024 .f32} {harg3 : arg3.IsWhole} {arg4 : Memref sig .tc .vmem S6x1024 .f32} {harg4 : arg4.IsWhole} {arg5 : Memref sig .tc .vmem S1x1024 .f32} {harg5 : arg5.IsWhole} {arg6 : Memref sig .tc .vmem S4x1024x1024 .bf16} {harg6 : arg6.IsWhole} {arg7 : Memref sig .tc .vmem S512x1024 .f32} {harg7 : arg7.IsWhole} {arg8 : Memref sig .tc .vmem S512x1024 .bf16} {harg8 : arg8.IsWhole} {arg9 : Memref sig .tc .vmem S1x1 .f32} {harg9 : arg9.IsWhole} {arg10 : Memref sig .tc .vmem S1x1024 .f32} {harg10 : arg10.IsWhole} {hc0 : cond0_0 i}
  {x0 : Vec Ideal S512x4096 .bf16} {x1 : Vec Ideal S512x1024 .f32} {x2 : Vec Ideal S512x1024 .f32} {x3 : Vec Ideal S6x1024 .f32} {x4 : Vec Ideal S1x1024 .f32} {x5 : Vec Ideal S4x1024x1024 .bf16}
  {Q X T M W : ℕ → ℕ → EReal} {N : ℕ → EReal} (H : Blocks Q X T M W N x0 x1 x2 x3 x4 x5)

include H

theorem g : At2 (α := EReal) (kernelRun0_A.sl.r (F := Ideal) c arg4 harg4 arg5 harg5 x3 x4) fun _ => gain M N :=
  p4 (M := M 5) (Fc2.at2_mono (Fc2.rd_at2 harg4 H.h3 5 0 inb_S6x1024_S1x1024_5_0) fun r k hr _ => by rw [show 5 + r = 5 by omega, Nat.zero_add]) (rd_whole harg5 H.h4 inb_S1x1024_S1x1024_0_0)

theorem f : At2 (α := EReal) (kernelRun0_A.sl.r_1 (F := Ideal) c arg1 harg1 arg6 harg6 x0 x5) (prod Q W) :=
  p5 (Fc2.at2_mono (Fc2.rd_at2 harg1 H.h0 0 0 inb_S512x4096_S512x1024_0_0) fun r k _ _ => by simp only [Nat.zero_add, Nat.mul_zero])
    (Fc2.at2_mono (Fc2.rd_at2 harg1 H.h0 0 1024 inb_S512x4096_S512x1024_0_1024) fun r k _ _ => by simp only [Nat.zero_add, Nat.mul_one])
    (Fc2.at2_mono (Fc2.rd_at2 harg1 H.h0 0 2048 inb_S512x4096_S512x1024_0_2048) fun r k _ _ => by simp only [Nat.zero_add, Nat.reduceMul])
    (Fc2.at2_mono (Fc2.rd_at2 harg1 H.h0 0 3072 inb_S512x4096_S512x1024_0_3072) fun r k _ _ => by simp only [Nat.zero_add, Nat.reduceMul])
    (Fc2.rd_mat harg6 H.h5 0 inb_S4x1024x1024_S1x1024x1024_0_0_0) (Fc2.rd_mat harg6 H.h5 1 inb_S4x1024x1024_S1x1024x1024_1_0_0)
    (Fc2.rd_mat harg6 H.h5 2 inb_S4x1024x1024_S1x1024x1024_2_0_0) (Fc2.rd_mat harg6 H.h5 3 inb_S4x1024x1024_S1x1024x1024_3_0_0)

theorem ff : At2 (α := EReal) (kernelRun0_A.sl.r_2 (F := Ideal) c arg1 harg1 arg6 harg6 x0 x5) fun r k => prod Q W r k * prod Q W r k := p6 (f H)

theorem r : At2 (α := EReal) (kernelRun0_A.sl.r_3 (F := Ideal) c arg1 harg1 arg6 harg6 x0 x5) fun r _ => rt (prod Q W) r := p7 (ff H)

theorem h : At2 (α := EReal) (kernelRun0_A.sl.r_4 (F := Ideal) c arg1 harg1 arg6 harg6 x0 x5) (fh (prod Q W)) := p8 (f H) (ff H)

theorem d : At2 (α := EReal) (kernelRun0_A.sl.r_5 (F := Ideal) c arg1 harg1 arg2 harg2 arg3 harg3 arg4 harg4 arg5 harg5 arg6 harg6 x0 x1 x2 x3 x4 x5) (dy (prod Q W) X T (gain M N)) :=
  p11 (g H) (f H) (ff H) (rd_whole harg2 H.h1 inb_S512x1024_S512x1024_0_0) (rd_whole harg3 H.h2 inb_S512x1024_S512x1024_0_0)

theorem z8 : At2 (α := EReal) (kernelRun0_A.sl.v42 (F := Ideal) c arg9) fun _ _ => 0 := fun i => by
  have e := congrFun (readCov_whole (n := 1) (m := 1) arg9.view (k0_pay2 (F := Ideal)) inb_S1x1_S1x1_0_0) i
  exact e.trans Fc2.w_zero32

theorem out_6 : At2 (α := EReal) (out0_A_6 (F := Ideal) c i arg1 harg1 arg2 harg2 arg3 harg3 arg4 harg4 arg5 harg5 arg6 harg6 arg7 harg7 arg8 harg8 arg9 harg9 arg10 harg10 hc0 x0 x1 x2 x3 x4 x5) (dy (prod Q W) X T (gain M N)) := by
  unfold out0_A_6 kernelRun0_A
  exact out_whole (e := .f32) _ (d H) _ _

theorem out_7 : At2 (α := EReal) (out0_A_7 (F := Ideal) c i arg1 harg1 arg2 harg2 arg3 harg3 arg4 harg4 arg5 harg5 arg6 harg6 arg7 harg7 arg8 harg8 arg9 harg9 arg10 harg10 hc0 x0 x1 x2 x3 x4 x5) (df (prod Q W) X T (gain M N)) := by
  unfold out0_A_7 kernelRun0_A
  exact out_whole (e := .bf16) _ (p1 (g H) (r H) (h H) (d H)) _ _

theorem out_8 : At2 (α := EReal) (out0_A_8 (F := Ideal) c i arg1 harg1 arg2 harg2 arg3 harg3 arg4 harg4 arg5 harg5 arg6 harg6 arg7 harg7 arg8 harg8 arg9 harg9 arg10 harg10 hc0 x0 x1 x2 x3 x4 x5) fun _ _ => 0 + ((1 / 2 : ℝ) : EReal) * ∑ r ∈ Finset.range 512, sqe (prod Q W) X T (gain M N) r := by
  unfold out0_A_8 kernelRun0_A
  exact out_whole (e := .f32) _ (p10 (z8 H) (g H) (f H) (ff H) (rd_whole harg2 H.h1 inb_S512x1024_S512x1024_0_0) (rd_whole harg3 H.h2 inb_S512x1024_S512x1024_0_0)) _ _

theorem s : At2 (α := EReal) (kernelRun0_A.sl.r_6 (F := Ideal) c arg1 harg1 arg2 harg2 arg3 harg3 arg4 harg4 arg5 harg5 arg6 harg6 arg10 x0 x1 x2 x3 x4 x5)
    fun _ k => 0 + ∑ r ∈ Finset.range 512, ds (prod Q W) X T (gain M N) r k := by
  have z : At2 (α := EReal) (kernelRun0_A.sl.v58 (F := Ideal) c arg10) fun _ _ => 0 := fun i => by
    have e := congrFun (readCov_whole (n := 1) (m := 1024) arg10.view (k0_pay3 (F := Ideal)) inb_S1x1024_S1x1024_0_0) i
    exact e.trans Fc2.w_zero32
  exact p12 (S := fun _ => 0) z (g H) (f H) (ff H) (rd_whole harg2 H.h1 inb_S512x1024_S512x1024_0_0) (rd_whole harg3 H.h2 inb_S512x1024_S512x1024_0_0)

theorem out_9 : At2 (α := EReal) (out0_A_9 (F := Ideal) c i arg1 harg1 arg2 harg2 arg3 harg3 arg4 harg4 arg5 harg5 arg6 harg6 arg7 harg7 arg8 harg8 arg9 harg9 arg10 harg10 hc0 x0 x1 x2 x3 x4 x5) fun _ k => 0 + ∑ r ∈ Finset.range 512, ds (prod Q W) X T (gain M N) r k := by
  unfold out0_A_9 kernelRun0_A
  exact out_whole (e := .f32) _ (s H) _ _

end CaseA

namespace CaseB

variable {c : Dev nD} {i : grid0.Coords} {arg1 : Memref sig .tc .vmem S512x4096 .bf16} {harg1 : arg1.IsWhole} {arg2 : Memref sig .tc .vmem S512x1024 .f32} {harg2 : arg2.IsWhole} {arg3 : Memref sig .tc .vmem S512x1024 .f32} {harg3 : arg3.IsWhole} {arg4 : Memref sig .tc .vmem S6x1024 .f32} {harg4 : arg4.IsWhole} {arg5 : Memref sig .tc .vmem S1x1024 .f32} {harg5 : arg5.IsWhole} {arg6 : Memref sig .tc .vmem S4x1024x1024 .bf16} {harg6 : arg6.IsWhole} {arg7 : Memref sig .tc .vmem S512x1024 .f32} {harg7 : arg7.IsWhole} {arg8 : Memref sig .tc .vmem S512x1024 .bf16} {harg8 : arg8.IsWhole} {arg9 : Memref sig .tc .vmem S1x1 .f32} {harg9 : arg9.IsWhole} {arg10 : Memref sig .tc .vmem S1x1024 .f32} {harg10 : arg10.IsWhole} {hc0 : ¬cond0_0 i}
  {x0 : Vec Ideal S512x4096 .bf16} {x1 : Vec Ideal S512x1024 .f32} {x2 : Vec Ideal S512x1024 .f32} {x3 : Vec Ideal S6x1024 .f32} {x4 : Vec Ideal S1x1024 .f32} {x5 : Vec Ideal S4x1024x1024 .bf16} {xo8 : Vec Ideal S1x1 .f32} {xo9 : Vec Ideal S1x1024 .f32}
  {Q X T M W : ℕ → ℕ → EReal} {N : ℕ → EReal} (H : Blocks Q X T M W N x0 x1 x2 x3 x4 x5)

include H

theorem g : At2 (α := EReal) (kernelRun0_B.sl.r (F := Ideal) c arg4 harg4 arg5 harg5 x3 x4) fun _ => gain M N :=
  p4 (M := M 5) (Fc2.at2_mono (Fc2.rd_at2 harg4 H.h3 5 0 inb_S6x1024_S1x1024_5_0) fun r k hr _ => by rw [show 5 + r = 5 by omega, Nat.zero_add]) (rd_whole harg5 H.h4 inb_S1x1024_S1x1024_0_0)

theorem f : At2 (α := EReal) (kernelRun0_B.sl.r_1 (F := Ideal) c arg1 harg1 arg6 harg6 x0 x5) (prod Q W) :=
  p5 (Fc2.at2_mono (Fc2.rd_at2 harg1 H.h0 0 0 inb_S512x4096_S512x1024_0_0) fun r k _ _ => by simp only [Nat.zero_add, Nat.mul_zero])
    (Fc2.at2_mono (Fc2.rd_at2 harg1 H.h0 0 1024 inb_S512x4096_S512x1024_0_1024) fun r k _ _ => by simp only [Nat.zero_add, Nat.mul_one])
    (Fc2.at2_mono (Fc2.rd_at2 harg1 H.h0 0 2048 inb_S512x4096_S512x1024_0_2048) fun r k _ _ => by simp only [Nat.zero_add, Nat.reduceMul])
    (Fc2.at2_mono (Fc2.rd_at2 harg1 H.h0 0 3072 inb_S512x4096_S512x1024_0_3072) fun r k _ _ => by simp only [Nat.zero_add, Nat.reduceMul])
    (Fc2.rd_mat harg6 H.h5 0 inb_S4x1024x1024_S1x1024x1024_0_0_0) (Fc2.rd_mat harg6 H.h5 1 inb_S4x1024x1024_S1x1024x1024_1_0_0)
    (Fc2.rd_mat harg6 H.h5 2 inb_S4x1024x1024_S1x1024x1024_2_0_0) (Fc2.rd_mat harg6 H.h5 3 inb_S4x1024x1024_S1x1024x1024_3_0_0)

theorem ff : At2 (α := EReal) (kernelRun0_B.sl.r_2 (F := Ideal) c arg1 harg1 arg6 harg6 x0 x5) fun r k => prod Q W r k * prod Q W r k := p6 (f H)

theorem r : At2 (α := EReal) (kernelRun0_B.sl.r_3 (F := Ideal) c arg1 harg1 arg6 harg6 x0 x5) fun r _ => rt (prod Q W) r := p7 (ff H)

theorem h : At2 (α := EReal) (kernelRun0_B.sl.r_4 (F := Ideal) c arg1 harg1 arg6 harg6 x0 x5) (fh (prod Q W)) := p8 (f H) (ff H)

theorem d : At2 (α := EReal) (kernelRun0_B.sl.r_5 (F := Ideal) c arg1 harg1 arg2 harg2 arg3 harg3 arg4 harg4 arg5 harg5 arg6 harg6 x0 x1 x2 x3 x4 x5) (dy (prod Q W) X T (gain M N)) :=
  p11 (g H) (f H) (ff H) (rd_whole harg2 H.h1 inb_S512x1024_S512x1024_0_0) (rd_whole harg3 H.h2 inb_S512x1024_S512x1024_0_0)

theorem out_6 : At2 (α := EReal) (out0_B_6 (F := Ideal) c i arg1 harg1 arg2 harg2 arg3 harg3 arg4 harg4 arg5 harg5 arg6 harg6 arg7 harg7 arg8 harg8 arg9 harg9 arg10 harg10 hc0 x0 x1 x2 x3 x4 x5 xo8 xo9) (dy (prod Q W) X T (gain M N)) := by
  unfold out0_B_6 kernelRun0_B
  exact out_whole (e := .f32) _ (d H) _ _

theorem out_7 : At2 (α := EReal) (out0_B_7 (F := Ideal) c i arg1 harg1 arg2 harg2 arg3 harg3 arg4 harg4 arg5 harg5 arg6 harg6 arg7 harg7 arg8 harg8 arg9 harg9 arg10 harg10 hc0 x0 x1 x2 x3 x4 x5 xo8 xo9) (df (prod Q W) X T (gain M N)) := by
  unfold out0_B_7 kernelRun0_B
  exact out_whole (e := .bf16) _ (p1 (g H) (r H) (h H) (d H)) _ _

theorem out_8 {L : EReal} (ho : At2 (α := EReal) xo8 fun _ _ => L) : At2 (α := EReal) (out0_B_8 (F := Ideal) c i arg1 harg1 arg2 harg2 arg3 harg3 arg4 harg4 arg5 harg5 arg6 harg6 arg7 harg7 arg8 harg8 arg9 harg9 arg10 harg10 hc0 x0 x1 x2 x3 x4 x5 xo8 xo9) fun _ _ => L + ((1 / 2 : ℝ) : EReal) * ∑ r ∈ Finset.range 512, sqe (prod Q W) X T (gain M N) r := by
  unfold out0_B_8 kernelRun0_B
  exact out_whole (e := .f32) _ (p10 (rd_whole harg9 ho inb_S1x1_S1x1_0_0) (g H) (f H) (ff H) (rd_whole harg2 H.h1 inb_S512x1024_S512x1024_0_0) (rd_whole harg3 H.h2 inb_S512x1024_S512x1024_0_0)) _ _

theorem out_9 {S : ℕ → EReal} (ho : At2 (α := EReal) xo9 fun _ => S) : At2 (α := EReal) (out0_B_9 (F := Ideal) c i arg1 harg1 arg2 harg2 arg3 harg3 arg4 harg4 arg5 harg5 arg6 harg6 arg7 harg7 arg8 harg8 arg9 harg9 arg10 harg10 hc0 x0 x1 x2 x3 x4 x5 xo8 xo9) fun _ k => S k + ∑ r ∈ Finset.range 512, ds (prod Q W) X T (gain M N) r k := by
  unfold out0_B_9 kernelRun0_B
  exact out_whole (e := .f32) _ (p12 (rd_whole harg10 ho inb_S1x1024_S1x1024_0_0) (g H) (f H) (ff H) (rd_whole harg2 H.h1 inb_S512x1024_S512x1024_0_0) (rd_whole harg3 H.h2 inb_S512x1024_S512x1024_0_0)) _ _

end CaseB

end Cert.Head

end
-- ==== Proof.HeadRef.lean ====
/- The reference's results for the second product and the loss, entry by entry. -/
module

public import proofs.«01_k».proof.Proof.HeadAlg
public import proofs.«01_k».proof.Proof.Gen.Reference4Ideal.Read
public import Idealize.ShloMosaic.Lib.ValueIdxRank1

@[expose] public section

set_option maxRecDepth 16384

noncomputable section

namespace Cert.Head

open Cert.Arr Cert.Reference4Ideal Cert.Reference4Ideal.Read
open Idealize.ShloMosaic Idealize.ShloMosaic.TcCoe Idealize.ShloMosaic.Tactic
open scoped BigOperators

theorem b_1024 : (Ideal.ofBits .f32 0x44800000#32 : EReal) = ((1024 : ℝ) : EReal) := by
  simp [Ideal.ofBits, Ideal.ieee, -EReal.coe_mul]; norm_num

theorem b_half : (Ideal.ofBits .f32 0x3F000000#32 : EReal) = ((1 / 2 : ℝ) : EReal) := Words.w_half
theorem b_one : (Ideal.ofBits .f32 0x3F800000#32 : EReal) = ((1 : ℝ) : EReal) := Words.w_one

theorem b_mhalf : (Ideal.ofBits .f32 0xBF000000#32 : EReal) = ((-(1 / 2) : ℝ) : EReal) := by
  simp [Ideal.ofBits, Ideal.ieee, -EReal.coe_mul]; norm_num

theorem div1024 (x : EReal) : Ideal.div x (Ideal.ofBits .f32 0x44800000#32 : EReal) = x * ((1 / 1024 : ℝ) : EReal) := by
  rw [b_1024, Ideal.div_coe (by norm_num)]

variable {x0 : Vec Ideal ⟨2, ![4096, 4096]⟩ .bf16} {x1 x2 : Vec Ideal ⟨2, ![4096, 1024]⟩ .f32} {x3 : Vec Ideal ⟨2, ![6, 1024]⟩ .f32} {x4 : Vec Ideal ⟨1, ![1024]⟩ .f32}
  {x5 : Vec Ideal ⟨2, ![4096, 1024]⟩ .f32} {Q X T M W : ℕ → ℕ → EReal} {N : ℕ → EReal}

/-- The reference's arguments, entry by entry. -/
structure Args (Q X T M W : ℕ → ℕ → EReal) (N : ℕ → EReal) (x0 : Vec Ideal ⟨2, ![4096, 4096]⟩ .bf16) (x1 x2 : Vec Ideal ⟨2, ![4096, 1024]⟩ .f32) (x3 : Vec Ideal ⟨2, ![6, 1024]⟩ .f32)
    (x4 : Vec Ideal ⟨1, ![1024]⟩ .f32) (x5 : Vec Ideal ⟨2, ![4096, 1024]⟩ .f32) : Prop where
  h0 : At2 (α := EReal) x0 Q
  h1 : At2 (α := EReal) x1 X
  h2 : At2 (α := EReal) x2 T
  h3 : At2 (α := EReal) x3 M
  h4 : ∀ i : (⟨1, ![1024]⟩ : Shape).Idx, (x4 i : EReal) = N (i 0).val
  h5 : At2 (α := EReal) x5 W

variable (H : Args Q X T M W N x0 x1 x2 x3 x4 x5)

include H

theorem r1 : At2 (n := 4096) (m := 1024) (α := EReal) (val_main_v1 (F := Ideal) x0 x5) (prod Q W) := fun i => by
  rw [val_main_v1_apply]
  simp only [val_main_v0_apply]
  exact (Finset.sum_congr rfl fun k _ => congrArg₂ (fun a b : EReal => a * b) (H.h0 (lidx_main_v1 i k)) (H.h5 (ridx_main_v1 i k))).trans
    (Fin.sum_univ_eq_sum_range (fun k => Q (i 0).val k * W k (i 1).val) 4096)

theorem r11 : At2 (n := 4096) (m := 1) (α := EReal) (val_main_v11 (F := Ideal) x0 x5) fun r _ => ms (prod Q W) r := fun i => by
  rw [val_main_v11_apply, val_main_v9_apply, val_main_v7_apply, val_main_v6_apply, val_main_v10_apply, val_main_v8_apply]
  simp only [val_main_v5_apply]
  show Ideal.div ((Ideal.ofBits .f32 0x00000000#32 : EReal) + (∑ k : Fin 1024, (val_main_v1 (F := Ideal) x0 x5 (idx_main_v6 (idx_main_v7 i) k) * val_main_v1 (F := Ideal) x0 x5 (idx_main_v6 (idx_main_v7 i) k) : EReal)))
    (Ideal.ofBits .f32 0x44800000#32 : EReal) + (Ideal.ofBits .f32 0x358637BD#32 : EReal) = _
  rw [div1024, Ideal.ofBits_zero_f32, zero_add]
  have e : (∑ k : Fin 1024, (val_main_v1 (F := Ideal) x0 x5 (idx_main_v6 (idx_main_v7 i) k) * val_main_v1 (F := Ideal) x0 x5 (idx_main_v6 (idx_main_v7 i) k) : EReal))
      = ∑ k ∈ Finset.range 1024, prod Q W (i 0).val k * prod Q W (i 0).val k :=
    (Finset.sum_congr rfl fun k _ => congrArg₂ (fun a b : EReal => a * b) (r1 H _) (r1 H _)).trans (Fin.sum_univ_eq_sum_range (fun k => prod Q W (i 0).val k * prod Q W (i 0).val k) 1024)
  rw [e]
  exact congrArg (fun y : EReal => (∑ k ∈ Finset.range 1024, prod Q W (i 0).val k * prod Q W (i 0).val k) * ((1 / 1024 : ℝ) : EReal) + y) Words.w_eps

theorem r12 : At2 (n := 4096) (m := 1) (α := EReal) (val_main_v12 (F := Ideal) x0 x5) fun r _ => rt (prod Q W) r := fun i =>
  congrArg Ideal.rsqrt (r11 H i)

theorem r15 : At2 (n := 4096) (m := 1) (α := EReal) (val_main_v15 (F := Ideal) x0 x5)
    fun r _ => ((-(1 / 2) : ℝ) : EReal) * Ideal.div (rt (prod Q W) r) (ms (prod Q W) r) := fun i => by
  rw [val_main_v15_apply, val_main_v14_apply]
  exact congrArg₂ (fun a b : EReal => a * b) b_mhalf (congrArg₂ Ideal.div (r12 H i) (r11 H i))

theorem r17 : At2 (n := 4096) (m := 1024) (α := EReal) (val_main_v17 (F := Ideal) x0 x5) (fh (prod Q W)) := fun i => by
  rw [val_main_v17_apply, val_main_v16_apply]
  exact congrArg₂ (fun a b : EReal => a * b) (r1 H i) (r12 H (idx_main_v16 i))

theorem r18 : At2 (n := 1) (m := 1024) (α := EReal) (val_main_v18 (F := Ideal) x3 x4) fun _ c => gain M N c := fun i => by
  rw [val_main_v18_apply, val_main_v4_apply, val_main_v3_apply, val_main_v2_apply]
  refine congrArg₂ (fun a b : EReal => a * b) ((H.h3 _).trans (congrArg₂ M ?_ ?_)) (H.h4 (idx_main_v18 i))
  · rfl
  · exact Nat.mod_eq_of_lt (i 1).isLt

theorem r22 : At2 (n := 4096) (m := 1024) (α := EReal) (val_main_v22 (F := Ideal) x0 x1 x2 x3 x4 x5) (err (prod Q W) X T (gain M N)) := fun i => by
  rw [val_main_v22_apply, val_main_v21_apply, val_main_v20_apply, val_main_v19_apply]
  exact congrArg₂ (fun a b : EReal => a - b) (congrArg₂ (fun a b : EReal => a + b) (H.h1 i) (congrArg₂ (fun a b : EReal => a * b) (r17 H i) (r18 H (idx_main_v19 i)))) (H.h2 i)

/-- The first result: the gradient of the loss with respect to the block's output. -/
theorem r36 : At2 (n := 4096) (m := 1024) (α := EReal) (val_main_v36 (F := Ideal) x0 x1 x2 x3 x4 x5) (dy (prod Q W) X T (gain M N)) := fun i => by
  rw [val_main_v36_apply, val_main_v35_apply, val_main_v34_apply, val_main_v32_apply, val_main_v31_apply, val_main_v33_apply, val_main_v25_apply, val_main_v24_apply]
  show Ideal.div ((Ideal.ofBits .f32 0x3F000000#32 : EReal) * (Ideal.ofBits .f32 0x3F800000#32 : EReal)) (Ideal.ofBits .f32 0x44800000#32 : EReal)
    * ((Ideal.ofBits .f32 0x40000000#32 : EReal) * (val_main_v22 (F := Ideal) x0 x1 x2 x3 x4 x5 i : EReal)) = _
  rw [div1024, b_half, b_one, Fc2.w_two32, r22 H i, ← EReal.coe_mul, ← EReal.coe_mul]
  exact (congrArg (fun a : ℝ => (a : EReal) * (2 * _)) (by norm_num)).trans (dy_alg _)

/-- The third result: half the sum of the rows' mean squares. -/
theorem r58 (i : (⟨2, ![1, 1]⟩ : Shape).Idx) : (val_main_v58 (F := Ideal) x0 x1 x2 x3 x4 x5 i : EReal)
    = ((1 / 2 : ℝ) : EReal) * ∑ r ∈ Finset.range 4096, sqe (prod Q W) X T (gain M N) r := by
  have e28 : ∀ j : S4096.Idx, (val_main_v28 (F := Ideal) x0 x1 x2 x3 x4 x5 j : EReal) = sqe (prod Q W) X T (gain M N) (j 0).val := fun j => by
    rw [val_main_v28_apply, val_main_v26_apply, val_main_v27_apply]
    simp only [val_main_v23_apply]
    show Ideal.div ((Ideal.ofBits .f32 0x00000000#32 : EReal) + (∑ k : Fin 1024, (val_main_v22 (F := Ideal) x0 x1 x2 x3 x4 x5 (idx_main_v26 j k) * val_main_v22 (F := Ideal) x0 x1 x2 x3 x4 x5 (idx_main_v26 j k) : EReal)))
      (Ideal.ofBits .f32 0x44800000#32 : EReal) = _
    rw [div1024, Ideal.ofBits_zero_f32, zero_add]
    exact congrArg (fun y : EReal => y * ((1 / 1024 : ℝ) : EReal)) ((Finset.sum_congr rfl fun k _ => congrArg₂ (fun a b : EReal => a * b) (r22 H _) (r22 H _)).trans
      (Fin.sum_univ_eq_sum_range (fun k => err (prod Q W) X T (gain M N) (j 0).val k * err (prod Q W) X T (gain M N) (j 0).val k) 1024))
  have e30 : ∀ j : S_.Idx, (val_main_v30 (F := Ideal) x0 x1 x2 x3 x4 x5 j : EReal) = ((1 / 2 : ℝ) : EReal) * ∑ r ∈ Finset.range 4096, sqe (prod Q W) X T (gain M N) r := fun j => by
    rw [val_main_v30_apply, val_main_v29_apply]
    show (Ideal.ofBits .f32 0x3F000000#32 : EReal) * ((Ideal.ofBits .f32 0x00000000#32 : EReal) + (∑ j : S4096.Idx, (val_main_v28 (F := Ideal) x0 x1 x2 x3 x4 x5 j : EReal))) = _
    rw [b_half, Ideal.ofBits_zero_f32, zero_add, Finset.sum_congr rfl fun j _ => e28 j]
    refine congrArg (fun y : EReal => ((1 / 2 : ℝ) : EReal) * y) ?_
    rw [← Fin.sum_univ_eq_sum_range]
    exact Fintype.sum_equiv (ValueIdx.idxEquiv1 (n := 4096)) _ _ fun j => rfl
  exact e30 _

/-- The fourth result: the gradient with respect to the gain, as a row. -/
theorem r59 : At2 (n := 1) (m := 1024) (α := EReal) (val_main_v59 (F := Ideal) x0 x1 x2 x3 x4 x5)
    fun _ c => ∑ r ∈ Finset.range 4096, ds (prod Q W) X T (gain M N) r c := fun i => by
  rw [val_main_v59_apply, val_main_v42_apply]
  simp only [val_main_v39_apply, val_main_v38_apply, val_main_v37_apply]
  show (Ideal.ofBits .f32 0x00000000#32 : EReal) + (∑ k : Fin 1, ((Ideal.ofBits .f32 0x00000000#32 : EReal) + ∑ q : Fin 4096,
    (val_main_v17 (F := Ideal) x0 x5 (idx_main_v38 (idx_main_v39 (idx_main_v42 (idx_main_v59 i) k)) q) * val_main_v36 (F := Ideal) x0 x1 x2 x3 x4 x5 (idx_main_v38 (idx_main_v39 (idx_main_v42 (idx_main_v59 i) k)) q) : EReal))) = _
  rw [Ideal.ofBits_zero_f32, zero_add, Fin.sum_univ_one, zero_add]
  refine (Finset.sum_congr rfl fun q _ => (congrArg₂ (fun a b : EReal => a * b) (r17 H _) (r36 H _)).trans (mul_comm _ _)).trans ?_
  have h0 : (i 0).val < 1 := (i 0).isLt
  show (∑ q : Fin 4096, ds (prod Q W) X T (gain M N) q.val (0 * 1024 + ((i 0).val * 1024 + (i 1).val))) = _
  rw [show 0 * 1024 + ((i 0).val * 1024 + (i 1).val) = (i 1).val by omega]
  exact Fin.sum_univ_eq_sum_range (fun r => ds (prod Q W) X T (gain M N) r (i 1).val) 4096

theorem r41 : At2 (n := 4096) (m := 1024) (α := EReal) (val_main_v41 (F := Ideal) x0 x1 x2 x3 x4 x5) fun r c => dy (prod Q W) X T (gain M N) r c * gain M N c := fun i => by
  rw [val_main_v41_apply, val_main_v40_apply]
  exact congrArg₂ (fun a b : EReal => a * b) (r36 H i) (r18 H (idx_main_v40 i))

theorem r45 : At2 (n := 4096) (m := 1) (α := EReal) (val_main_v45 (F := Ideal) x0 x1 x2 x3 x4 x5)
    fun r _ => ∑ k ∈ Finset.range 1024, prod Q W r k * (dy (prod Q W) X T (gain M N) r k * gain M N k) := fun i => by
  rw [val_main_v45_apply, val_main_v44_apply]
  simp only [val_main_v43_apply]
  show (Ideal.ofBits .f32 0x00000000#32 : EReal) + (∑ k : Fin 1024, (val_main_v1 (F := Ideal) x0 x5 (idx_main_v44 (idx_main_v45 i) k) * val_main_v41 (F := Ideal) x0 x1 x2 x3 x4 x5 (idx_main_v44 (idx_main_v45 i) k) : EReal)) = _
  rw [Ideal.ofBits_zero_f32, zero_add]
  refine (Finset.sum_congr rfl fun k _ => congrArg₂ (fun a b : EReal => a * b) (r1 H _) (r41 H _)).trans ?_
  have h1 : (i 1).val < 1 := (i 1).isLt
  show (∑ k : Fin 1024, prod Q W ((i 0).val * 1 + (i 1).val) k.val * (dy (prod Q W) X T (gain M N) ((i 0).val * 1 + (i 1).val) k.val * gain M N k.val)) = _
  rw [show (i 0).val * 1 + (i 1).val = (i 0).val by omega]
  exact (Fin.sum_univ_eq_sum_range (fun k => prod Q W (i 0).val k * (dy (prod Q W) X T (gain M N) (i 0).val k * gain M N k)) 1024)

theorem r50 : At2 (n := 4096) (m := 1) (α := EReal) (val_main_v50 (F := Ideal) x0 x1 x2 x3 x4 x5)
    fun r _ => (∑ k ∈ Finset.range 1024, prod Q W r k * (dy (prod Q W) X T (gain M N) r k * gain M N k))
      * (((-(1 / 2) : ℝ) : EReal) * Ideal.div (rt (prod Q W) r) (ms (prod Q W) r)) * ((1 / 1024 : ℝ) : EReal) := fun i => by
  rw [val_main_v50_apply, val_main_v48_apply, val_main_v49_apply]
  show Ideal.div ((val_main_v45 (F := Ideal) x0 x1 x2 x3 x4 x5 i : EReal) * (val_main_v15 (F := Ideal) x0 x5 i : EReal)) (Ideal.ofBits .f32 0x44800000#32 : EReal) = _
  rw [div1024, r45 H i, r15 H i]

theorem r52 : At2 (n := 4096) (m := 1024) (α := EReal) (val_main_v52 (F := Ideal) x0 x1 x2 x3 x4 x5)
    fun r _ => (∑ k ∈ Finset.range 1024, prod Q W r k * (dy (prod Q W) X T (gain M N) r k * gain M N k))
      * (((-(1 / 2) : ℝ) : EReal) * Ideal.div (rt (prod Q W) r) (ms (prod Q W) r)) * ((1 / 1024 : ℝ) : EReal) := fun i => by
  rw [val_main_v52_apply, val_main_v51_apply]
  show (Ideal.ofBits .f32 0x00000000#32 : EReal) + (∑ k : Fin 1, (val_main_v50 (F := Ideal) x0 x1 x2 x3 x4 x5 (idx_main_v51 (idx_main_v52 i) k) : EReal)) = _
  rw [Ideal.ofBits_zero_f32, zero_add, Fin.sum_univ_one]
  exact r50 H _

/-- The second result: the gradient with respect to the second product. -/
theorem r57 : At2 (n := 4096) (m := 1024) (α := EReal) (val_main_v57 (F := Ideal) x0 x1 x2 x3 x4 x5) (df (prod Q W) X T (gain M N)) := fun i => by
  rw [val_main_v57_apply, val_main_v56_apply, val_main_v54_apply, val_main_v47_apply, val_main_v53_apply, val_main_v55_apply, val_main_v46_apply]
  refine Eq.trans ?_ (df_alg (prod Q W) (fun r c => dy (prod Q W) X T (gain M N) r c * gain M N c) (i 0).val (i 1).val).symm
  exact congrArg₂ (fun a b : EReal => a + b) (congrArg₂ (fun a b : EReal => a + b) (congrArg₂ (fun a b : EReal => a * b) (r41 H i) (r12 H (idx_main_v46 i)))
    (congrArg₂ (fun a b : EReal => a * b) (r1 H i) (r52 H i))) (congrArg₂ (fun a b : EReal => a * b) (r52 H i) (r1 H i))

end Cert.Head

end
-- ==== Proof.HeadClaim.lean ====
/- The second product and the loss: the four arrays the kernel leaves are what the reference computes. -/
module

public import proofs.«01_k».proof.Defs
public import proofs.«01_k».proof.Proof.Fc2Claim
public import proofs.«01_k».proof.Proof.HeadTile
public import proofs.«01_k».proof.Proof.HeadRef
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.Head

open Cert.Kernel4Ideal Cert.Kernel4Ideal.Gen Cert.Arr
open Idealize.ShloMosaic Idealize.ShloMosaic.TcCoe Idealize.ShloMosaic.ValueIdx Idealize.ShloMosaic.Tactic Idealize.SL.Sem
open scoped BigOperators

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0, 0] := (by decide +kernel : ∀ t : Fin grid0.N, win0_5.index t = ![0, 0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

/-- The last grid point. -/
def lastPoint : Fin cfg0.N := ⟨7, by show 7 < 8; decide⟩

/-- A vector as a function of the position. -/
theorem exists_at1 (x : Vec Ideal ⟨1, ![1024]⟩ .f32) : ∃ N : ℕ → EReal, ∀ i : (⟨1, ![1024]⟩ : Shape).Idx, (x i : EReal) = N (i 0).val :=
  ⟨fun n => if h : n < 1024 then x (ValueIdx.ix1 ⟨n, h⟩) else 0, fun i => by
    have h : (i 0).val < 1024 := (i 0).isLt
    show x i = if h : (i 0).val < 1024 then x (ValueIdx.ix1 ⟨(i 0).val, h⟩) else 0
    rw [dif_pos h]
    exact congrArg x (ValueIdx.eq_ix1 i)⟩

section Blocks

variable (m : (ℓ : Loc nD τ sig) → Buf (Elt Ideal) ℓ) (c : Dev nD) (t : Fin cfg0.N)

theorem V_v0 : (V m c main_v0 : Vec Ideal S1x1024 .f32) = shapeCast S1x1024 (m ((c : Thread nD τ).loc main_arg4) : Vec Ideal S1024 .f32) shapeCasts_S1024_S1x1024 := by
  show StableHlo.after hostOps0 (fun b => m (c, b)) (Proc.tc.devRef main_v0) = _
  simp only [hostOps0]
  after_results <;> rfl

theorem V_v2 : (V m c main_v2 : Vec Ideal S4x1024x1024 .bf16) = truncf (F := Ideal) .bf16
      (shapeCast S4x1024x1024 (m ((c : Thread nD τ).loc main_arg5) : Vec Ideal S4096x1024 .f32) shapeCasts_S4096x1024_S4x1024x1024) bitsLt_bf16_f32 := by
  show StableHlo.after hostOps0 (fun b => m (c, b)) (Proc.tc.devRef main_v2) = _
  simp only [hostOps0]
  after_results <;> rfl

/-- A vector seen as a row. -/
theorem row_at {p : (⟨1, ![1024]⟩ : Shape).Idx → EReal} {N : ℕ → EReal} (hp : ∀ i : (⟨1, ![1024]⟩ : Shape).Idx, p i = N (i 0).val) (h : (⟨1, ![1024]⟩ : Shape).ShapeCasts ⟨2, ![1, 1024]⟩)
    (i : (⟨2, ![1, 1024]⟩ : Shape).Idx) : shapeCast ⟨2, ![1, 1024]⟩ p h i = N (i 1).val := by
  refine (shapeCast_apply p h i (ValueIdx.ix1 (i 1)) ?_).trans (hp _)
  have h0 : (i 0).val < 1 := (i 0).isLt
  rw [Shape.rowMajor_val_one, Shape.rowMajor_val_two]
  show (i 1).val = (i 0).val * 1024 + (i 1).val
  omega

variable {Q X T M W : ℕ → ℕ → EReal} {N : ℕ → EReal}
  (A : Args Q X T M W N (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)))

include A

theorem blk0 : At2 (α := EReal) (n := 512) (m := 4096) (iblk m c 0 t) fun r k => Q (512 * t.val + r) k := fun y => by
  have e : iblk m c 0 t y = V m c main_arg0 (((cfg0.win 0).blk t).view.emb y) := by blk_simp [iblk]
  rw [e, V_main_arg0]
  refine (A.h0 _).trans ?_
  blk_simp [index0 t]
  first | done | (congr 2 <;> omega)

theorem blk1 : At2 (α := EReal) (n := 512) (m := 1024) (iblk m c 1 t) fun r k => X (512 * t.val + r) k := fun y => by
  have e : iblk m c 1 t y = V m c main_arg1 (((cfg0.win 1).blk t).view.emb y) := by blk_simp [iblk]
  rw [e, V_main_arg1]
  refine (A.h1 _).trans ?_
  blk_simp [index1 t]
  first | done | (congr 2 <;> omega)

theorem blk2 : At2 (α := EReal) (n := 512) (m := 1024) (iblk m c 2 t) fun r k => T (512 * t.val + r) k := fun y => by
  have e : iblk m c 2 t y = V m c main_arg2 (((cfg0.win 2).blk t).view.emb y) := by blk_simp [iblk]
  rw [e, V_main_arg2]
  refine (A.h2 _).trans ?_
  blk_simp [index2 t]
  first | done | (congr 2 <;> omega)

theorem blk3 : At2 (α := EReal) (n := 6) (m := 1024) (iblk m c 3 t) M := fun y => by
  have e : iblk m c 3 t y = V m c main_arg3 (((cfg0.win 3).blk t).view.emb y) := by blk_simp [iblk]
  rw [e, V_main_arg3]
  refine (A.h3 _).trans ?_
  blk_simp [index3 t]
  first | done | (congr 2 <;> omega)

theorem blk4 : At2 (α := EReal) (n := 1) (m := 1024) (iblk m c 4 t) fun _ => N := fun y => by
  have e : iblk m c 4 t y = V m c main_v0 (((cfg0.win 4).blk t).view.emb y) := by blk_simp [iblk]
  rw [e, V_v0]
  refine (row_at A.h4 shapeCasts_S1024_S1x1024 _).trans ?_
  blk_simp [index4 t]
  first | done | (congr 2 <;> omega)

theorem blk5 (y : S4x1024x1024.Idx) : (iblk m c 5 t : Vec Ideal S4x1024x1024 .bf16) y = W (1024 * (y 0).val + (y 1).val) (y 2).val := by
  have e : iblk m c 5 t y = V m c main_v2 (((cfg0.win 5).blk t).view.emb y) := by blk_simp [iblk]
  rw [e, V_v2]
  refine (Fc2.at_slabs A.h5 shapeCasts_S4096x1024_S4x1024x1024 _).trans ?_
  blk_simp [index5 t]
  first | done | (congr 2 <;> omega)

theorem blocks : Blocks (fun r k => Q (512 * t.val + r) k) (fun r k => X (512 * t.val + r) k) (fun r k => T (512 * t.val + r) k) M W N
    (iblk m c 0 t) (iblk m c 1 t) (iblk m c 2 t) (iblk m c 3 t) (iblk m c 4 t) (iblk m c 5 t) :=
  ⟨blk0 m c t A, blk1 m c t A, blk2 m c t A, blk3 m c t A, blk4 m c t A, blk5 m c t A⟩

theorem at6 : At2 (α := EReal) (n := 512) (m := 1024) (outsAt0 m c t.val t.isLt).1 fun r k => dy (prod Q W) X T (gain M N) (512 * t.val + r) k := by
  by_cases h0 : t.val % 8 = 0
  · have e := congrArg (fun p => p.1) (outsAt0_A m c t h0)
    dsimp only at e
    rw [e]
    exact CaseA.out_6 (blocks m c t A)
  · have e := congrArg (fun p => p.1) (outsAt0_B m c t h0)
    dsimp only at e
    rw [e]
    exact CaseB.out_6 (blocks m c t A)

theorem at7 : At2 (α := EReal) (n := 512) (m := 1024) (outsAt0 m c t.val t.isLt).2.1 fun r k => df (prod Q W) X T (gain M N) (512 * t.val + r) k := by
  by_cases h0 : t.val % 8 = 0
  · have e := congrArg (fun p => p.2.1) (outsAt0_A m c t h0)
    dsimp only at e
    rw [e]
    exact CaseA.out_7 (blocks m c t A)
  · have e := congrArg (fun p => p.2.1) (outsAt0_B m c t h0)
    dsimp only at e
    rw [e]
    exact CaseB.out_7 (blocks m c t A)

theorem at8 : ∀ (n : ℕ) (h : n < cfg0.N), At2 (α := EReal) (n := 1) (m := 1) (outsAt0 m c n h).2.2.1
    fun _ _ => ∑ p ∈ Finset.range (n + 1), ((1 / 2 : ℝ) : EReal) * ∑ r ∈ Finset.range 512, sqe (prod Q W) X T (gain M N) (512 * p + r)
  | 0, h => fun y => by
    have e := congrArg (fun p => p.2.2.1) (outsAt0_A m c ⟨0, h⟩ rfl)
    dsimp only at e
    rw [e]
    refine Eq.trans (CaseA.out_8 (blocks m c ⟨0, h⟩ A) y) ?_
    dsimp only
    rw [zero_add, Finset.sum_range_one]
    rfl
  | n + 1, h => fun y => by
    have h0 : ¬ (n + 1) % 8 = 0 := by have : n + 1 < 8 := h; omega
    have e := congrArg (fun p => p.2.2.1) (outsAt0_B m c ⟨n + 1, h⟩ h0)
    dsimp only at e
    rw [e]
    refine Eq.trans (CaseB.out_8 (blocks m c ⟨n + 1, h⟩ A) (at8 n (Nat.lt_of_succ_lt h)) y) ?_
    dsimp only
    rw [Finset.sum_range_succ _ (n + 1)]
    rfl

theorem at9 : ∀ (n : ℕ) (h : n < cfg0.N), At2 (α := EReal) (n := 1) (m := 1024) (outsAt0 m c n h).2.2.2
    fun _ k => ∑ p ∈ Finset.range (n + 1), ∑ r ∈ Finset.range 512, ds (prod Q W) X T (gain M N) (512 * p + r) k
  | 0, h => fun y => by
    have e := congrArg (fun p => p.2.2.2) (outsAt0_A m c ⟨0, h⟩ rfl)
    dsimp only at e
    rw [e]
    refine Eq.trans (CaseA.out_9 (blocks m c ⟨0, h⟩ A) y) ?_
    dsimp only
    rw [zero_add, Finset.sum_range_one]
    rfl
  | n + 1, h => fun y => by
    have h0 : ¬ (n + 1) % 8 = 0 := by have : n + 1 < 8 := h; omega
    have e := congrArg (fun p => p.2.2.2) (outsAt0_B m c ⟨n + 1, h⟩ h0)
    dsimp only at e
    rw [e]
    refine Eq.trans (CaseB.out_9 (blocks m c ⟨n + 1, h⟩ A)
      (S := fun k => ∑ p ∈ Finset.range (n + 1), ∑ r ∈ Finset.range 512, ds (prod Q W) X T (gain M N) (512 * p + r) k) (at9 n (Nat.lt_of_succ_lt h)) y) ?_
    dsimp only
    rw [Finset.sum_range_succ _ (n + 1)]
    rfl

/-! ## The result arrays at the end -/

theorem end6 : At2 (α := EReal) (n := 4096) (m := 1024) ((dats m 0 c).arrAt 6 cfg0.N) (dy (prod Q W) X T (gain M N)) := by
  refine congrFun ((dats m 0 c).arrAt_eq_of_covers 6 (fun i => dy (prod Q W) X T (gain M N) (i 0).val (i 1).val) (by decide +kernel) fun t hf y => ?_)
  blk_simp [index6 t]
  rw [after0_6]
  refine (at6 m c t A y).trans ?_
  exact congrArg (fun x : ℕ => dy (prod Q W) X T (gain M N) (x + (y 0).val) (y 1).val) (Nat.mul_comm 512 t.val)

theorem end7 : At2 (α := EReal) (n := 4096) (m := 1024) ((dats m 0 c).arrAt 7 cfg0.N) (df (prod Q W) X T (gain M N)) := by
  refine congrFun ((dats m 0 c).arrAt_eq_of_covers 7 (fun i => df (prod Q W) X T (gain M N) (i 0).val (i 1).val) (by decide +kernel) fun t hf y => ?_)
  blk_simp [index7 t]
  rw [after0_7]
  refine (at7 m c t A y).trans ?_
  exact congrArg (fun x : ℕ => df (prod Q W) X T (gain M N) (x + (y 0).val) (y 1).val) (Nat.mul_comm 512 t.val)

theorem end8 : At2 (α := EReal) (n := 1) (m := 1) ((dats m 0 c).arrAt 8 cfg0.N)
    fun _ _ => ((1 / 2 : ℝ) : EReal) * ∑ r ∈ Finset.range 4096, sqe (prod Q W) X T (gain M N) r := by
  refine congrFun ((dats m 0 c).arrAt_eq_of_after_last 8 lastPoint (by decide +kernel) (fun _ => (((1 / 2 : ℝ) : EReal) * ∑ r ∈ Finset.range 4096, sqe (prod Q W) X T (gain M N) r : EReal)) fun j => ?_)
  blk_simp
  rw [after0_8]
  refine (at8 m c A 7 lastPoint.isLt _).trans ?_
  dsimp only
  rw [sum_scale (by norm_num)]
  exact congrArg (fun y : EReal => ((1 / 2 : ℝ) : EReal) * y) (Cert.Tile.sum_tiles 512 (fun r => sqe (prod Q W) X T (gain M N) r) 8)

theorem end9 : At2 (α := EReal) (n := 1) (m := 1024) ((dats m 0 c).arrAt 9 cfg0.N)
    fun _ k => ∑ r ∈ Finset.range 4096, ds (prod Q W) X T (gain M N) r k := by
  refine congrFun ((dats m 0 c).arrAt_eq_of_after_last 9 lastPoint (by decide +kernel) (fun i => (∑ r ∈ Finset.range 4096, ds (prod Q W) X T (gain M N) r (i 1).val : EReal)) fun j => ?_)
  blk_simp
  rw [after0_9]
  refine (at9 m c A 7 lastPoint.isLt _).trans ?_
  exact Cert.Tile.sum_tiles 512 (fun r => ds (prod Q W) X T (gain M N) r (j 1).val) 8

end Blocks

/-- For all arguments the kernel and the reference end with the same four arrays. -/
theorem value : Cert.algebraic_Kernel4Ideal_Reference4Ideal (hKernel4Ideal := Cert.Kernel4Ideal.Gen.facts)
    (hReference4Ideal := Cert.Reference4Ideal.Gen.facts) := fun m g m' g' _ hag => by
  refine ⟨fun c => (dats m 0 c).arrAt 6 cfg0.N, fun c => (dats m 0 c).arrAt 7 cfg0.N, fun c => (dats m 0 c).arrAt 8 cfg0.N, fun c => (dats m 0 c).arrAt 9 cfg0.N,
    Cert.Kernel4Ideal.Value.run_blocks m g, ?_⟩
  refine (θ_run Cert.Reference4Ideal.defs _ _).mono (fun r h c => ?_) (Cert.Reference4Ideal.Value.run (F := Ideal) m' g')
  obtain ⟨e0, e1, e2, e3, e4, e5⟩ := hag c
  obtain ⟨Q, h0⟩ := Fc2.exists_at2 (n := 4096) (m := 4096) (m ((c.tc : Thread Cert.Kernel4Ideal.nD Cert.Kernel4Ideal.τ).loc Cert.Kernel4Ideal.main_arg0))
  obtain ⟨X, h1⟩ := Fc2.exists_at2 (n := 4096) (m := 1024) (m ((c.tc : Thread Cert.Kernel4Ideal.nD Cert.Kernel4Ideal.τ).loc Cert.Kernel4Ideal.main_arg1))
  obtain ⟨T, h2⟩ := Fc2.exists_at2 (n := 4096) (m := 1024) (m ((c.tc : Thread Cert.Kernel4Ideal.nD Cert.Kernel4Ideal.τ).loc Cert.Kernel4Ideal.main_arg2))
  obtain ⟨M, h3⟩ := Fc2.exists_at2 (n := 6) (m := 1024) (m ((c.tc : Thread Cert.Kernel4Ideal.nD Cert.Kernel4Ideal.τ).loc Cert.Kernel4Ideal.main_arg3))
  obtain ⟨N, h4⟩ := exists_at1 (m ((c.tc : Thread Cert.Kernel4Ideal.nD Cert.Kernel4Ideal.τ).loc Cert.Kernel4Ideal.main_arg4))
  obtain ⟨W, h5⟩ := Fc2.exists_at2 (n := 4096) (m := 1024) (m ((c.tc : Thread Cert.Kernel4Ideal.nD Cert.Kernel4Ideal.τ).loc Cert.Kernel4Ideal.main_arg5))
  have A : Args Q X T M W N (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) :=
    ⟨h0, h1, h2, h3, h4, h5⟩
  obtain ⟨q0, q1, q2, q3, hk⟩ := h c
  refine ⟨?_, ?_, ?_, ?_, hk⟩
  · refine (q0.trans (Cert.Reference4Ideal.Read.val_main_v36_eq _ _ _ _ _ _)).trans ?_
    rw [e0, e1, e2, e3, e4, e5]
    funext i
    exact (r36 A i).trans (end6 m c A i).symm
  · refine (q1.trans (Cert.Reference4Ideal.Read.val_main_v57_eq m' c)).trans ?_
    rw [e0, e1, e2, e3, e4, e5]
    funext i
    exact (r57 A i).trans (end7 m c A i).symm
  · refine (q2.trans (Cert.Reference4Ideal.Read.val_main_v58_eq _ _ _ _ _ _)).trans ?_
    rw [e0, e1, e2, e3, e4, e5]
    funext i
    exact (r58 A i).trans (end8 m c A i).symm
  · refine (q3.trans (Cert.Reference4Ideal.Read.val_main_v59_eq _ _ _ _ _ _)).trans ?_
    rw [e0, e1, e2, e3, e4, e5]
    funext i
    exact (r59 A i).trans (end9 m c A i).symm

end Cert.Head

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Fc2BitsRun
public import proofs.«01_k».proof.Proof.Fc2Claim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Fc1
public import proofs.«01_k».proof.Proof.HeadClaim
public import Idealize.ShloMosaic.Adequacy
public import Idealize.ShloMosaic.Init

@[expose] public section

noncomputable section

namespace Cert.Proof

open Idealize.ShloMosaic Idealize.SL.Sem Cert.Kernel

/-- The reference is a straight line of host operations and has no semaphore: its frame is its run, read at the arguments. -/
theorem frame_r : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- The two named constants of gelu's derivative are the exact products they stand for. -/
theorem named : Cert.preserves_Kernel_KernelIdeal :=
  ⟨IdealRules.named_const.statement Cert.KernelIdeal.κ "k0_k1" .f32 0x3D122279#32 _ rfl,
    IdealRules.named_const.statement Cert.KernelIdeal.κ "three_k0_k1" .f32 0x3DDB33B6#32 _ rfl⟩

/-- The reference of the fc2 gradient is a straight line of host operations too. -/
theorem frame_r2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The reference of the first product is a straight line of host operations. -/
theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The reference of the second product and the loss is a straight line of host operations. -/
theorem frame_r4 : Cert.quiescent_Reference4Ideal := fun m ρ _ =>
  (θ_run Cert.Reference4Ideal.defs _ _).mono (fun r h => ⟨fun c => (h c).2.2.2.2,
      Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Fc2Bits.frame m ρ, fun m ρ _ => Cert.Fc2.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  named, Cert.Value.value, trivial, Cert.Fc2.value,
  trivial, Cert.Fc1.value, trivial, Cert.Head.value⟩

end Cert.Proof

end
